-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_KernelIdeal_in_range_finite_head [hPre_in_range_finite_head : Cert.Pre_in_range_finite_head.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite_head [hPre_in_range_finite_head : Cert.Pre_in_range_finite_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_in_range_finite_head [hKernelIdeal : Cert.KernelIdeal.Facts] [hPre_in_range_finite_head : Cert.Pre_in_range_finite_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite_head m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_range_finite_head [hReferenceIdeal : Cert.ReferenceIdeal.Facts] [hPre_in_range_finite_head : Cert.Pre_in_range_finite_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.bf16_pack.Statement Cert.KernelIdeal.S64x32

def algebraic_KernelIdeal_ReferenceIdeal_pre_in_range_finite_head [hKernelIdeal : Cert.KernelIdeal.Facts] [hReferenceIdeal : Cert.ReferenceIdeal.Facts] [hPre_in_range_finite_head : Cert.Pre_in_range_finite_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v34)) (v5 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_v35) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite_head : Cert.Pre_in_range_finite_head.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite_head (hKernelIdeal := hKernelIdeal) (hPre_in_range_finite_head := hPre_in_range_finite_head)
    ∧ quiescent_ReferenceIdeal (hReferenceIdeal := hReferenceIdeal)
    ∧ quiescent_ReferenceIdeal_pre_in_range_finite_head (hReferenceIdeal := hReferenceIdeal) (hPre_in_range_finite_head := hPre_in_range_finite_head)
    ∧ preserves_Kernel_KernelIdeal
    ∧ algebraic_KernelIdeal_ReferenceIdeal_pre_in_range_finite_head (hKernelIdeal := hKernelIdeal) (hReferenceIdeal := hReferenceIdeal) (hPre_in_range_finite_head := hPre_in_range_finite_head)
-- ==== Pre_in_range.lean ====
abbrev S1024x50 : Shape := ⟨2, ![1024, 50]⟩
abbrev S1024 : Shape := ⟨1, ![1024]⟩
abbrev S100000x128 : Shape := ⟨2, ![100000, 128]⟩
abbrev S64x32 : Shape := ⟨2, ![64, 32]⟩
abbrev S160 : Shape := ⟨1, ![160]⟩
abbrev S160x512 : Shape := ⟨2, ![160, 512]⟩
abbrev S128x512 : Shape := ⟨2, ![128, 512]⟩
abbrev S512 : Shape := ⟨1, ![512]⟩
abbrev S256x128 : Shape := ⟨2, ![256, 128]⟩
abbrev S128 : Shape := ⟨1, ![128]⟩
abbrev S128x48 : Shape := ⟨2, ![128, 48]⟩
abbrev S48 : Shape := ⟨1, ![48]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn_part1 {F : FTy → Type} [FloatOps F] (main_arg2 : IVec S1024x50 32) (main_v12 : IVec S_ 1) (main_v14 : IVec S1024x50 1) (main_v15 : IVec S1024x50 32) : IVec S_ 1 :=
  let main_v16 : IVec S1024x50 1 := cmpi .slt main_arg2 main_v15
  let main_v17 : IVec S1024x50 1 := andi main_v14 main_v16
  let main_c_7 : IVec S_ 1 := constantI S_ 1 1#1
  let main_v18 : IVec S_ 1 := (fun x v => Host.reduce IntOp.andi x v reducesTo_S1024x50_S_d0_1 h_S_) main_v17 main_c_7
  let main_v19 : IVec S_ 1 := andi main_v12 main_v18
  main_v19

def fn {F : FTy → Type} [FloatOps F] (main_arg0 : IVec S1024x50 32) (main_arg1 : IVec S1024x50 32) (main_arg2 : IVec S1024x50 32) (main_arg3 : IVec S1024 32) (main_arg4 : FVec F S100000x128 .f32) (main_arg5 : FVec F S64x32 .f32) (main_arg6 : FVec F S160 .f32) (main_arg7 : FVec F S160 .f32) (main_arg8 : FVec F S160x512 .f32) (main_arg9 : FVec F S128x512 .f32) (main_arg10 : FVec F S512 .f32) (main_arg11 : FVec F S160x512 .f32) (main_arg12 : FVec F S128x512 .f32) (main_arg13 : FVec F S512 .f32) (main_arg14 : FVec F S256x128 .f32) (main_arg15 : FVec F S128 .f32) (main_arg16 : FVec F S128x48 .f32) (main_arg17 : FVec F S48 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_c_2 : IVec S_ 32 := constantI S_ 32 0#32
  let main_v6 : IVec S1024x50 32 := broadcastInDim S1024x50 ![] bcast_S_S1024x50 main_c_2
  let main_v7 : IVec S1024x50 1 := cmpi .sge main_arg1 main_v6
  let main_c_3 : IVec S_ 32 := constantI S_ 32 64#32
  let main_v8 : IVec S1024x50 32 := broadcastInDim S1024x50 ![] bcast_S_S1024x50 main_c_3
  let main_v9 : IVec S1024x50 1 := cmpi .slt main_arg1 main_v8
  let main_v10 : IVec S1024x50 1 := andi main_v7 main_v9
  let main_c_4 : IVec S_ 1 := constantI S_ 1 1#1
  let main_v11 : IVec S_ 1 := (fun x v => Host.reduce IntOp.andi x v reducesTo_S1024x50_S_d0_1 h_S_) main_v10 main_c_4
  let main_v12 : IVec S_ 1 := andi main_v5 main_v11
  let main_c_5 : IVec S_ 32 := constantI S_ 32 0#32
  let main_v13 : IVec S1024x50 32 := broadcastInDim S1024x50 ![] bcast_S_S1024x50 main_c_5
  let main_v14 : IVec S1024x50 1 := cmpi .sge main_arg2 main_v13
  let main_c_6 : IVec S_ 32 := constantI S_ 32 48#32
  let main_v15 : IVec S1024x50 32 := broadcastInDim S1024x50 ![] bcast_S_S1024x50 main_c_6
  fn_part1 (F := F) main_arg2 main_v12 main_v14 main_v15
-- ==== Pre_in_range_finite_head.lean ====
abbrev S1024x50 : Shape := ⟨2, ![1024, 50]⟩
abbrev S1024 : Shape := ⟨1, ![1024]⟩
abbrev S100000x128 : Shape := ⟨2, ![100000, 128]⟩
abbrev S64x32 : Shape := ⟨2, ![64, 32]⟩
abbrev S160 : Shape := ⟨1, ![160]⟩
abbrev S160x512 : Shape := ⟨2, ![160, 512]⟩
abbrev S128x512 : Shape := ⟨2, ![128, 512]⟩
abbrev S512 : Shape := ⟨1, ![512]⟩
abbrev S256x128 : Shape := ⟨2, ![256, 128]⟩
abbrev S128 : Shape := ⟨1, ![128]⟩
abbrev S128x48 : Shape := ⟨2, ![128, 48]⟩
abbrev S48 : Shape := ⟨1, ![48]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_

variable [Facts]

def fn_part2 {F : FTy → Type} [FloatOps F] (main_arg17 : FVec F S48 .f32) (main_v29 : IVec S_ 1) (main_v32 : IVec S128x48 1) (main_c_12 : IVec S_ 1) : IVec S_ 1 :=
  let main_v33 : IVec S_ 1 := (fun x v => Host.reduce IntOp.andi x v reducesTo_S128x48_S_d0_1 h_S_) main_v32 main_c_12
  let main_v34 : IVec S_ 1 := andi main_v29 main_v33
  let main_v35 : FVec F S48 .f32 := Host.absf main_arg17
  let main_cst_13 : FVec F S_ .f32 := constant S_ .f32 0x7F800000#32
  let main_v36 : FVec F S48 .f32 := broadcastInDim S48 ![] bcast_S_S48 main_cst_13
  let main_v37 : IVec S48 1 := cmpf .olt main_v35 main_v36
  let main_c_14 : IVec S_ 1 := constantI S_ 1 1#1
  let main_v38 : IVec S_ 1 := (fun x v => Host.reduce IntOp.andi x v reducesTo_S48_S_d0 h_S_) main_v37 main_c_14
  let main_v39 : IVec S_ 1 := andi main_v34 main_v38
  main_v39

def fn_part1 {F : FTy → Type} [FloatOps F] (main_arg2 : IVec S1024x50 32) (main_arg14 : FVec F S256x128 .f32) (main_arg15 : FVec F S128 .f32) (main_arg16 : FVec F S128x48 .f32) (main_arg17 : FVec F S48 .f32) (main_v12 : IVec S_ 1) (main_v14 : IVec S1024x50 1) (main_v15 : IVec S1024x50 32) : IVec S_ 1 :=
  let main_v16 : IVec S1024x50 1 := cmpi .slt main_arg2 main_v15
  let main_v17 : IVec S1024x50 1 := andi main_v14 main_v16
  let main_c_7 : IVec S_ 1 := constantI S_ 1 1#1
  let main_v18 : IVec S_ 1 := (fun x v => Host.reduce IntOp.andi x v reducesTo_S1024x50_S_d0_1 h_S_) main_v17 main_c_7
  let main_v19 : IVec S_ 1 := andi main_v12 main_v18
  let main_v20 : FVec F S256x128 .f32 := Host.absf main_arg14
  let main_cst : FVec F S_ .f32 := constant S_ .f32 0x7F800000#32
  let main_v21 : FVec F S256x128 .f32 := broadcastInDim S256x128 ![] bcast_S_S256x128 main_cst
  let main_v22 : IVec S256x128 1 := cmpf .olt main_v20 main_v21
  let main_c_8 : IVec S_ 1 := constantI S_ 1 1#1
  let main_v23 : IVec S_ 1 := (fun x v => Host.reduce IntOp.andi x v reducesTo_S256x128_S_d0_1 h_S_) main_v22 main_c_8
  let main_v24 : IVec S_ 1 := andi main_v19 main_v23
  let main_v25 : FVec F S128 .f32 := Host.absf main_arg15
  let main_cst_9 : FVec F S_ .f32 := constant S_ .f32 0x7F800000#32
  let main_v26 : FVec F S128 .f32 := broadcastInDim S128 ![] bcast_S_S128 main_cst_9
  let main_v27 : IVec S128 1 := cmpf .olt main_v25 main_v26
  let main_c_10 : IVec S_ 1 := constantI S_ 1 1#1
  let main_v28 : IVec S_ 1 := (fun x v => Host.reduce IntOp.andi x v reducesTo_S128_S_d0 h_S_) main_v27 main_c_10
  let main_v29 : IVec S_ 1 := andi main_v24 main_v28
  let main_v30 : FVec F S128x48 .f32 := Host.absf main_arg16
  let main_cst_11 : FVec F S_ .f32 := constant S_ .f32 0x7F800000#32
  let main_v31 : FVec F S128x48 .f32 := broadcastInDim S128x48 ![] bcast_S_S128x48 main_cst_11
  let main_v32 : IVec S128x48 1 := cmpf .olt main_v30 main_v31
  let main_c_12 : IVec S_ 1 := constantI S_ 1 1#1
  fn_part2 (F := F) main_arg17 main_v29 main_v32 main_c_12

def fn {F : FTy → Type} [FloatOps F] (main_arg0 : IVec S1024x50 32) (main_arg1 : IVec S1024x50 32) (main_arg2 : IVec S1024x50 32) (main_arg3 : IVec S1024 32) (main_arg4 : FVec F S100000x128 .f32) (main_arg5 : FVec F S64x32 .f32) (main_arg6 : FVec F S160 .f32) (main_arg7 : FVec F S160 .f32) (main_arg8 : FVec F S160x512 .f32) (main_arg9 : FVec F S128x512 .f32) (main_arg10 : FVec F S512 .f32) (main_arg11 : FVec F S160x512 .f32) (main_arg12 : FVec F S128x512 .f32) (main_arg13 : FVec F S512 .f32) (main_arg14 : FVec F S256x128 .f32) (main_arg15 : FVec F S128 .f32) (main_arg16 : FVec F S128x48 .f32) (main_arg17 : FVec F S48 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_c_2 : IVec S_ 32 := constantI S_ 32 0#32
  let main_v6 : IVec S1024x50 32 := broadcastInDim S1024x50 ![] bcast_S_S1024x50 main_c_2
  let main_v7 : IVec S1024x50 1 := cmpi .sge main_arg1 main_v6
  let main_c_3 : IVec S_ 32 := constantI S_ 32 64#32
  let main_v8 : IVec S1024x50 32 := broadcastInDim S1024x50 ![] bcast_S_S1024x50 main_c_3
  let main_v9 : IVec S1024x50 1 := cmpi .slt main_arg1 main_v8
  let main_v10 : IVec S1024x50 1 := andi main_v7 main_v9
  let main_c_4 : IVec S_ 1 := constantI S_ 1 1#1
  let main_v11 : IVec S_ 1 := (fun x v => Host.reduce IntOp.andi x v reducesTo_S1024x50_S_d0_1 h_S_) main_v10 main_c_4
  let main_v12 : IVec S_ 1 := andi main_v5 main_v11
  let main_c_5 : IVec S_ 32 := constantI S_ 32 0#32
  let main_v13 : IVec S1024x50 32 := broadcastInDim S1024x50 ![] bcast_S_S1024x50 main_c_5
  let main_v14 : IVec S1024x50 1 := cmpi .sge main_arg2 main_v13
  let main_c_6 : IVec S_ 32 := constantI S_ 32 48#32
  let main_v15 : IVec S1024x50 32 := broadcastInDim S1024x50 ![] bcast_S_S1024x50 main_c_6
  fn_part1 (F := F) main_arg2 main_arg14 main_arg15 main_arg16 main_arg17 main_v12 main_v14 main_v15
-- ==== Kernel.lean ====
abbrev S1024x50 : Shape := ⟨2, ![1024, 50]⟩
abbrev S1024 : Shape := ⟨1, ![1024]⟩
abbrev S100000x128 : Shape := ⟨2, ![100000, 128]⟩
abbrev S64x32 : Shape := ⟨2, ![64, 32]⟩
abbrev S160 : Shape := ⟨1, ![160]⟩
abbrev S160x512 : Shape := ⟨2, ![160, 512]⟩
abbrev S128x512 : Shape := ⟨2, ![128, 512]⟩
abbrev S512 : Shape := ⟨1, ![512]⟩
abbrev S256x128 : Shape := ⟨2, ![256, 128]⟩
abbrev S128 : Shape := ⟨1, ![128]⟩
abbrev S128x48 : Shape := ⟨2, ![128, 48]⟩
abbrev S48 : Shape := ⟨1, ![48]⟩
abbrev S50x1024 : Shape := ⟨2, ![50, 1024]⟩
abbrev S51200 : Shape := ⟨1, ![51200]⟩
abbrev S51200x128 : Shape := ⟨2, ![51200, 128]⟩
abbrev S1600 : Shape := ⟨1, ![1600]⟩
abbrev S200x128 : Shape := ⟨2, ![200, 128]⟩
abbrev S_ : Shape := ⟨0, ![]⟩
abbrev S200 : Shape := ⟨1, ![200]⟩
abbrev S25x2048x1 : Shape := ⟨3, ![25, 2048, 1]⟩
abbrev S1x160 : Shape := ⟨2, ![1, 160]⟩
abbrev S51200x160 : Shape := ⟨2, ![51200, 160]⟩
abbrev S2048x128 : Shape := ⟨2, ![2048, 128]⟩
abbrev S1x2048x1 : Shape := ⟨3, ![1, 2048, 1]⟩
abbrev S2048x160 : Shape := ⟨2, ![2048, 160]⟩
abbrev S2048x1 : Shape := ⟨2, ![2048, 1]⟩
abbrev S2048x64 : Shape := ⟨2, ![2048, 64]⟩
abbrev S2048x32 : Shape := ⟨2, ![2048, 32]⟩
abbrev S2048 : Shape := ⟨1, ![2048]⟩
abbrev S50x1024x160 : Shape := ⟨3, ![50, 1024, 160]⟩
abbrev S1x160x512 : Shape := ⟨3, ![1, 160, 512]⟩
abbrev S2x160x512 : Shape := ⟨3, ![2, 160, 512]⟩
abbrev S1x128x512 : Shape := ⟨3, ![1, 128, 512]⟩
abbrev S2x128x512 : Shape := ⟨3, ![2, 128, 512]⟩
abbrev S1x512 : Shape := ⟨2, ![1, 512]⟩
abbrev S2x512 : Shape := ⟨2, ![2, 512]⟩
abbrev S2x1x512 : Shape := ⟨3, ![2, 1, 512]⟩
abbrev S50x1024x256 : Shape := ⟨3, ![50, 1024, 256]⟩
abbrev S1x1024x160 : Shape := ⟨3, ![1, 1024, 160]⟩
abbrev S1x1x512 : Shape := ⟨3, ![1, 1, 512]⟩
abbrev S1x1024x128 : Shape := ⟨3, ![1, 1024, 128]⟩
abbrev S1024x128 : Shape := ⟨2, ![1024, 128]⟩
abbrev S1024x160 : Shape := ⟨2, ![1024, 160]⟩
abbrev S1024x512 : Shape := ⟨2, ![1024, 512]⟩
abbrev S51200x256 : Shape := ⟨2, ![51200, 256]⟩
abbrev S1x128 : Shape := ⟨2, ![1, 128]⟩
abbrev S1x48 : Shape := ⟨2, ![1, 48]⟩
abbrev S1x1024 : Shape := ⟨2, ![1, 1024]⟩
abbrev S51200x48 : Shape := ⟨2, ![51200, 48]⟩
abbrev S1x1 : Shape := ⟨2, ![1, 1]⟩
abbrev S2048x256 : Shape := ⟨2, ![2048, 256]⟩
abbrev S2048x48 : Shape := ⟨2, ![2048, 48]⟩
abbrev S1 : Shape := ⟨1, ![1]⟩
abbrev S1x1x1 : Shape := ⟨3, ![1, 1, 1]⟩
abbrev S1x1x1024 : Shape := ⟨3, ![1, 1, 1024]⟩
abbrev S1024x50x256 : Shape := ⟨3, ![1024, 50, 256]⟩
abbrev S50x1024x48 : Shape := ⟨3, ![50, 1024, 48]⟩
abbrev S1024x50x48 : Shape := ⟨3, ![1024, 50, 48]⟩

abbrev nBuf : Table → Nat
  | .hbm => 58
  | .local .tc .vmem => 39
  | .local .scVector .vmem => 5
  | _ => 0

abbrev bufTy : (tb : Table) → Fin (nBuf tb) → BufTy
  | .hbm, ⟨0, _⟩ => ⟨S1024x50, .i32⟩
  | .hbm, ⟨1, _⟩ => ⟨S1024x50, .i32⟩
  | .hbm, ⟨2, _⟩ => ⟨S1024x50, .i32⟩
  | .hbm, ⟨3, _⟩ => ⟨S1024, .i32⟩
  | .hbm, ⟨4, _⟩ => ⟨S100000x128, .f32⟩
  | .hbm, ⟨5, _⟩ => ⟨S64x32, .f32⟩
  | .hbm, ⟨6, _⟩ => ⟨S160, .f32⟩
  | .hbm, ⟨7, _⟩ => ⟨S160, .f32⟩
  | .hbm, ⟨8, _⟩ => ⟨S160x512, .f32⟩
  | .hbm, ⟨9, _⟩ => ⟨S128x512, .f32⟩
  | .hbm, ⟨10, _⟩ => ⟨S512, .f32⟩
  | .hbm, ⟨11, _⟩ => ⟨S160x512, .f32⟩
  | .hbm, ⟨12, _⟩ => ⟨S128x512, .f32⟩
  | .hbm, ⟨13, _⟩ => ⟨S512, .f32⟩
  | .hbm, ⟨14, _⟩ => ⟨S256x128, .f32⟩
  | .hbm, ⟨15, _⟩ => ⟨S128, .f32⟩
  | .hbm, ⟨16, _⟩ => ⟨S128x48, .f32⟩
  | .hbm, ⟨17, _⟩ => ⟨S48, .f32⟩
  | .hbm, ⟨18, _⟩ => ⟨S50x1024, .i32⟩
  | .hbm, ⟨19, _⟩ => ⟨S51200, .i32⟩
  | .hbm, ⟨20, _⟩ => ⟨S51200x128, .f32⟩
  | .hbm, ⟨21, _⟩ => ⟨S50x1024, .i32⟩
  | .hbm, ⟨22, _⟩ => ⟨S25x2048x1, .i32⟩
  | .hbm, ⟨23, _⟩ => ⟨S1x160, .f32⟩
  | .hbm, ⟨24, _⟩ => ⟨S1x160, .f32⟩
  | .hbm, ⟨25, _⟩ => ⟨S51200x160, .f32⟩
  | .hbm, ⟨26, _⟩ => ⟨S50x1024x160, .f32⟩
  | .hbm, ⟨27, _⟩ => ⟨S1x160x512, .f32⟩
  | .hbm, ⟨28, _⟩ => ⟨S1x160x512, .f32⟩
  | .hbm, ⟨29, _⟩ => ⟨S2x160x512, .f32⟩
  | .hbm, ⟨30, _⟩ => ⟨S1x128x512, .f32⟩
  | .hbm, ⟨31, _⟩ => ⟨S1x128x512, .f32⟩
  | .hbm, ⟨32, _⟩ => ⟨S2x128x512, .f32⟩
  | .hbm, ⟨33, _⟩ => ⟨S1x512, .f32⟩
  | .hbm, ⟨34, _⟩ => ⟨S1x512, .f32⟩
  | .hbm, ⟨35, _⟩ => ⟨S2x512, .f32⟩
  | .hbm, ⟨36, _⟩ => ⟨S2x1x512, .f32⟩
  | .hbm, ⟨37, _⟩ => ⟨S50x1024x256, .f32⟩
  | .hbm, ⟨38, _⟩ => ⟨S50x1024, .i32⟩
  | .hbm, ⟨39, _⟩ => ⟨S25x2048x1, .i32⟩
  | .hbm, ⟨40, _⟩ => ⟨S25x2048x1, .i32⟩
  | .hbm, ⟨41, _⟩ => ⟨S51200x256, .f32⟩
  | .hbm, ⟨42, _⟩ => ⟨S1x128, .f32⟩
  | .hbm, ⟨43, _⟩ => ⟨S1x48, .f32⟩
  | .hbm, ⟨44, _⟩ => ⟨S1x1024, .i32⟩
  | .hbm, ⟨45, _⟩ => ⟨S51200x48, .f32⟩
  | .hbm, ⟨46, _⟩ => ⟨S25x2048x1, .i32⟩
  | .hbm, ⟨47, _⟩ => ⟨S1x1, .f32⟩
  | .hbm, ⟨48, _⟩ => ⟨S1x1, .i32⟩
  | .hbm, ⟨49, _⟩ => ⟨S1x1, .i32⟩
  | .hbm, ⟨50, _⟩ => ⟨S1024x50x256, .f32⟩
  | .hbm, ⟨51, _⟩ => ⟨S50x1024, .i32⟩
  | .hbm, ⟨52, _⟩ => ⟨S1024x50, .i32⟩
  | .hbm, ⟨53, _⟩ => ⟨S50x1024x48, .f32⟩
  | .hbm, ⟨54, _⟩ => ⟨S1024x50x48, .f32⟩
  | .hbm, ⟨55, _⟩ => ⟨S_, .f32⟩
  | .hbm, ⟨56, _⟩ => ⟨S_, .i32⟩
  | .hbm, ⟨57, _⟩ => ⟨S_, .i32⟩
  | .local .tc .vmem, ⟨0, _⟩ => ⟨S2048x128, .f32⟩
  | .local .tc .vmem, ⟨1, _⟩ => ⟨S2048x128, .f32⟩
  | .local .tc .vmem, ⟨2, _⟩ => ⟨S1x2048x1, .i32⟩
  | .local .tc .vmem, ⟨3, _⟩ => ⟨S1x2048x1, .i32⟩
  | .local .tc .vmem, ⟨4, _⟩ => ⟨S64x32, .f32⟩
  | .local .tc .vmem, ⟨5, _⟩ => ⟨S1x160, .f32⟩
  | .local .tc .vmem, ⟨6, _⟩ => ⟨S1x160, .f32⟩
  | .local .tc .vmem, ⟨7, _⟩ => ⟨S2048x160, .f32⟩
  | .local .tc .vmem, ⟨8, _⟩ => ⟨S2048x160, .f32⟩
  | .local .tc .vmem, ⟨9, _⟩ => ⟨S1x1024x160, .f32⟩
  | .local .tc .vmem, ⟨10, _⟩ => ⟨S1x1024x160, .f32⟩
  | .local .tc .vmem, ⟨11, _⟩ => ⟨S1x160x512, .f32⟩
  | .local .tc .vmem, ⟨12, _⟩ => ⟨S1x160x512, .f32⟩
  | .local .tc .vmem, ⟨13, _⟩ => ⟨S1x128x512, .f32⟩
  | .local .tc .vmem, ⟨14, _⟩ => ⟨S1x128x512, .f32⟩
  | .local .tc .vmem, ⟨15, _⟩ => ⟨S1x1x512, .f32⟩
  | .local .tc .vmem, ⟨16, _⟩ => ⟨S1x1x512, .f32⟩
  | .local .tc .vmem, ⟨17, _⟩ => ⟨S1x1024x128, .f32⟩
  | .local .tc .vmem, ⟨18, _⟩ => ⟨S1x1024x128, .f32⟩
  | .local .tc .vmem, ⟨19, _⟩ => ⟨S1024x128, .f32⟩
  | .local .tc .vmem, ⟨20, _⟩ => ⟨S1024x128, .f32⟩
  | .local .tc .vmem, ⟨21, _⟩ => ⟨S2048x256, .f32⟩
  | .local .tc .vmem, ⟨22, _⟩ => ⟨S2048x256, .f32⟩
  | .local .tc .vmem, ⟨23, _⟩ => ⟨S256x128, .f32⟩
  | .local .tc .vmem, ⟨24, _⟩ => ⟨S1x128, .f32⟩
  | .local .tc .vmem, ⟨25, _⟩ => ⟨S128x48, .f32⟩
  | .local .tc .vmem, ⟨26, _⟩ => ⟨S1x48, .f32⟩
  | .local .tc .vmem, ⟨27, _⟩ => ⟨S1x2048x1, .i32⟩
  | .local .tc .vmem, ⟨28, _⟩ => ⟨S1x2048x1, .i32⟩
  | .local .tc .vmem, ⟨29, _⟩ => ⟨S1x2048x1, .i32⟩
  | .local .tc .vmem, ⟨30, _⟩ => ⟨S1x2048x1, .i32⟩
  | .local .tc .vmem, ⟨31, _⟩ => ⟨S1x1024, .i32⟩
  | .local .tc .vmem, ⟨32, _⟩ => ⟨S2048x48, .f32⟩
  | .local .tc .vmem, ⟨33, _⟩ => ⟨S2048x48, .f32⟩
  | .local .tc .vmem, ⟨34, _⟩ => ⟨S1x2048x1, .i32⟩
  | .local .tc .vmem, ⟨35, _⟩ => ⟨S1x2048x1, .i32⟩
  | .local .tc .vmem, ⟨36, _⟩ => ⟨S1x1, .f32⟩
  | .local .tc .vmem, ⟨37, _⟩ => ⟨S1x1, .i32⟩
  | .local .tc .vmem, ⟨38, _⟩ => ⟨S1x1, .i32⟩
  | .local .scVector .vmem, ⟨0, _⟩ => ⟨S1600, .i32⟩
  | .local .scVector .vmem, ⟨1, _⟩ => ⟨S200x128, .f32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 46 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTables nBuf rfl bufTy 4 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev main_v27_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_arg4_scv : Ref sig .scVector := ⟨.hbm, 4, rfl⟩
abbrev main_v1_scv : Ref sig .scVector := ⟨.hbm, 19, rfl⟩
abbrev main_v2_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc3_stg9_0 : Ref sig .tc := ⟨.vmem, 34, rfl⟩
abbrev cc3_stg9_1 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg12_0 : Ref sig .tc := ⟨.vmem, 38, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem8_0 : DmaSem sig := 39
abbrev cc3_sem8_1 : DmaSem sig := 40
abbrev cc3_sem9_0 : DmaSem sig := 41
abbrev cc3_sem9_1 : DmaSem sig := 42
abbrev cc3_sem10_0 : DmaSem sig := 43
abbrev cc3_sem11_0 : DmaSem sig := 44
abbrev cc3_sem12_0 : DmaSem sig := 45
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
def k0_off2 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v13 : BitVec 32 := Scalar.addi v2 c0_i32_11
  let c0_i32_12 : BitVec 32 := 0#32
  ![v13.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 50], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c49_i32 : BitVec 32 := 49#32
  let v1 : BitVec 32 := Scalar.subi c49_i32 arg1
  let v2 : BitVec 32 := Scalar.select v0 arg1 v1
  let c0_i32_0 : BitVec 32 := 0#32
  let c0_i32_1 : BitVec 32 := 0#32
  let c0_i32_2 : BitVec 32 := 0#32
  ![v2.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c49_i32 : BitVec 32 := 49#32
  let v1 : BitVec 32 := Scalar.subi c49_i32 arg1
  let v2 : BitVec 32 := Scalar.select v0 arg1 v1
  let c0_i32_0 : BitVec 32 := 0#32
  let c0_i32_1 : BitVec 32 := 0#32
  ![v2.toNat, c0_i32_0.toNat, arg0.toNat]

abbrev stage2_0 : Fin 2 → Memref sig .tc .vmem S1x1024x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x160x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![25], ![false]⟩

def k3_cond1 (i : grid3.Coords) : BitVec 1 :=
  let arg0 : BitVec 32 := BitVec.ofNat 32 (i 0).val
  let c0_i32_33 : BitVec 32 := 0#32
  let v78 : BitVec 1 := Scalar.cmpi .eq arg0 c0_i32_33
  let v79 : BitVec 32 := Scalar.extui v78
  let c0_i32_34 : BitVec 32 := 0#32
  let v80 : BitVec 1 := Scalar.cmpi .ne v79 c0_i32_34
  v80

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x48 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x48 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x2048x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x2048x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1024 .i32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x48 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x2048x1 .i32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .i32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .i32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F]
-- ==== ReferenceIdeal.lean ====
abbrev S1024x50 : Shape := ⟨2, ![1024, 50]⟩
abbrev S1024 : Shape := ⟨1, ![1024]⟩
abbrev S100000x128 : Shape := ⟨2, ![100000, 128]⟩
abbrev S64x32 : Shape := ⟨2, ![64, 32]⟩
abbrev S160 : Shape := ⟨1, ![160]⟩
abbrev S160x512 : Shape := ⟨2, ![160, 512]⟩
abbrev S128x512 : Shape := ⟨2, ![128, 512]⟩
abbrev S512 : Shape := ⟨1, ![512]⟩
abbrev S256x128 : Shape := ⟨2, ![256, 128]⟩
abbrev S128 : Shape := ⟨1, ![128]⟩
abbrev S128x48 : Shape := ⟨2, ![128, 48]⟩
abbrev S48 : Shape := ⟨1, ![48]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x50x32 : Shape := ⟨3, ![1024, 50, 32]⟩
abbrev S1024x50x160 : Shape := ⟨3, ![1024, 50, 160]⟩
abbrev S1x1x160 : Shape := ⟨3, ![1, 1, 160]⟩
abbrev S50x1024x160 : Shape := ⟨3, ![50, 1024, 160]⟩
abbrev S1024x128 : Shape := ⟨2, ![1024, 128]⟩
abbrev S50x1024x128 : Shape := ⟨3, ![50, 1024, 128]⟩
abbrev S1x1024x160 : Shape := ⟨3, ![1, 1024, 160]⟩
abbrev S1024x160 : Shape := ⟨2, ![1024, 160]⟩
abbrev S1024x512 : Shape := ⟨2, ![1024, 512]⟩
abbrev S1x512 : Shape := ⟨2, ![1, 512]⟩
abbrev S1x1024x128 : Shape := ⟨3, ![1, 1024, 128]⟩
abbrev S1024x50x256 : Shape := ⟨3, ![1024, 50, 256]⟩
abbrev S51200x256 : Shape := ⟨2, ![51200, 256]⟩
abbrev S51200x128 : Shape := ⟨2, ![51200, 128]⟩
abbrev S1x128 : Shape := ⟨2, ![1, 128]⟩
abbrev S51200x48 : Shape := ⟨2, ![51200, 48]⟩
abbrev S1x48 : Shape := ⟨2, ![1, 48]⟩
abbrev S1024x50x48 : Shape := ⟨3, ![1024, 50, 48]⟩
abbrev S51200 : Shape := ⟨1, ![51200]⟩
abbrev S51200x1 : Shape := ⟨2, ![51200, 1]⟩
abbrev S51200x1x1 : Shape := ⟨3, ![51200, 1, 1]⟩

abbrev nBuf : Space → Nat
  | .hbm => 333
  | .vmem => 0
  | .smem => 0
  | _ => 0

abbrev hbmTy0_0 (i : Nat) : BufTy := match i % 128 with
  | 0 => ⟨S1024x50, .i32⟩
  | 1 => ⟨S1024x50, .i32⟩
  | 2 => ⟨S1024x50, .i32⟩
  | 3 => ⟨S1024, .i32⟩
  | 4 => ⟨S100000x128, .f32⟩
  | 5 => ⟨S64x32, .f32⟩
  | 6 => ⟨S160, .f32⟩
  | 7 => ⟨S160, .f32⟩
  | 8 => ⟨S160x512, .f32⟩
  | 9 => ⟨S128x512, .f32⟩
  | 10 => ⟨S512, .f32⟩
  | 11 => ⟨S160x512, .f32⟩
  | 12 => ⟨S128x512, .f32⟩
  | 13 => ⟨S512, .f32⟩
  | 14 => ⟨S256x128, .f32⟩
  | 15 => ⟨S128, .f32⟩
  | 16 => ⟨S128x48, .f32⟩
  | 17 => ⟨S48, .f32⟩
  | 18 => ⟨S_, .i32⟩
  | 19 => ⟨S1024x50, .i32⟩
  | 20 => ⟨S1024x50, .i1⟩
  | 21 => ⟨S_, .i32⟩
  | 22 => ⟨S1024x50, .i32⟩
  | 23 => ⟨S1024x50, .i32⟩
  | 24 => ⟨S1024x50, .i32⟩
  | 25 => ⟨S1024x50x1, .i32⟩
  | 26 => ⟨S1, .i32⟩
  | 27 => ⟨S_, .i32⟩
  | 28 => ⟨S1024x50x1, .i32⟩
  | 29 => ⟨S1024x50x1, .i1⟩
  | 30 => ⟨S1x1x1, .i32⟩
  | 31 => ⟨S1024x50x1, .i32⟩
  | 32 => ⟨S1024x50x1, .i1⟩
  | 33 => ⟨S1024x50x1, .i1⟩
  | 34 => ⟨S_, .i1⟩
  | 35 => ⟨S1024x50, .i1⟩
  | 36 => ⟨S1024x50x128, .f32⟩
  | 37 => ⟨S1024x50x128, .i1⟩
  | 38 => ⟨S_, .f32⟩
  | 39 => ⟨S1024x50x128, .f32⟩
  | 40 => ⟨S1024x50x128, .f32⟩
  | 41 => ⟨S_, .i32⟩
  | 42 => ⟨S1024x50, .i32⟩
  | 43 => ⟨S1024x50, .i1⟩
  | 44 => ⟨S_, .i32⟩
  | 45 => ⟨S1024x50, .i32⟩
  | 46 => ⟨S1024x50, .i32⟩
  | 47 => ⟨S1024x50, .i32⟩
  | 48 => ⟨S1024x50x1, .i32⟩
  | 49 => ⟨S1, .i32⟩
  | 50 => ⟨S_, .i32⟩
  | 51 => ⟨S1024x50x1, .i32⟩
  | 52 => ⟨S1024x50x1, .i1⟩
  | 53 => ⟨S1x1x1, .i32⟩
  | 54 => ⟨S1024x50x1, .i32⟩
  | 55 => ⟨S1024x50x1, .i1⟩
  | 56 => ⟨S1024x50x1, .i1⟩
  | 57 => ⟨S_, .i1⟩
  | 58 => ⟨S1024x50, .i1⟩
  | 59 => ⟨S1024x50x32, .f32⟩
  | 60 => ⟨S1024x50x32, .i1⟩
  | 61 => ⟨S_, .f32⟩
  | 62 => ⟨S1024x50x32, .f32⟩
  | 63 => ⟨S1024x50x32, .f32⟩
  | 64 => ⟨S1024x50x160, .f32⟩
  | 65 => ⟨S_, .f32⟩
  | 66 => ⟨S1024x50, .f32⟩
  | 67 => ⟨S1024x50x1, .f32⟩
  | 68 => ⟨S_, .f32⟩
  | 69 => ⟨S1024x50x1, .f32⟩
  | 70 => ⟨S1024x50x1, .f32⟩
  | 71 => ⟨S_, .i32⟩
  | 72 => ⟨S_, .f32⟩
  | 73 => ⟨S1024x50, .f32⟩
  | 74 => ⟨S1024x50x1, .f32⟩
  | 75 => ⟨S_, .f32⟩
  | 76 => ⟨S1024x50x1, .f32⟩
  | 77 => ⟨S1024x50x1, .f32⟩
  | 78 => ⟨S1024x50x160, .f32⟩
  | 79 => ⟨S1024x50x160, .f32⟩
  | 80 => ⟨S1024x50x160, .f32⟩
  | 81 => ⟨S_, .f32⟩
  | 82 => ⟨S_, .f32⟩
  | 83 => ⟨S_, .f32⟩
  | 84 => ⟨S_, .f32⟩
  | 85 => ⟨S1024x50, .f32⟩
  | 86 => ⟨S1024x50x1, .f32⟩
  | 87 => ⟨S1024x50x1, .f32⟩
  | 88 => ⟨S1024x50x1, .f32⟩
  | 89 => ⟨S_, .f32⟩
  | 90 => ⟨S_, .i1⟩
  | 91 => ⟨S_, .f32⟩
  | 92 => ⟨S_, .f32⟩
  | 93 => ⟨S1024x50x1, .f32⟩
  | 94 => ⟨S1024x50x1, .f32⟩
  | 95 => ⟨S1024x50x160, .f32⟩
  | 96 => ⟨S1024x50x160, .f32⟩
  | 97 => ⟨S_, .f32⟩
  | 98 => ⟨S1024x50x1, .f32⟩
  | 99 => ⟨S1024x50x1, .f32⟩
  | 100 => ⟨S1024x50x1, .f32⟩
  | 101 => ⟨S1024x50x160, .f32⟩
  | 102 => ⟨S1024x50x160, .f32⟩
  | 103 => ⟨S1x1x160, .f32⟩
  | 104 => ⟨S1024x50x160, .f32⟩
  | 105 => ⟨S1024x50x160, .f32⟩
  | 106 => ⟨S1x1x160, .f32⟩
  | 107 => ⟨S1024x50x160, .f32⟩
  | 108 => ⟨S1024x50x160, .f32⟩
  | 109 => ⟨S50x1024x160, .f32⟩
  | 110 => ⟨S_, .f32⟩
  | 111 => ⟨S1024x128, .f32⟩
  | 112 => ⟨S_, .f32⟩
  | 113 => ⟨S1024x128, .f32⟩
  | 114 => ⟨S_, .f32⟩
  | 115 => ⟨S50x1024x128, .f32⟩
  | 116 => ⟨S_, .i32⟩
  | 117 => ⟨S50x1024x160, .f32⟩
  | 118 => ⟨S160x512, .f32⟩
  | 119 => ⟨S128x512, .f32⟩
  | 120 => ⟨S512, .f32⟩
  | 121 => ⟨S_, .i32⟩
  | 122 => ⟨S1024x128, .f32⟩
  | 123 => ⟨S1024x128, .f32⟩
  | 124 => ⟨S50x1024x128, .f32⟩
  | 125 => ⟨S_, .i32⟩
  | 126 => ⟨S_, .i1⟩
  | 127 => ⟨S_, .i32⟩
  | _ => ⟨S1024x50, .i32⟩

abbrev hbmTy0_1 (i : Nat) : BufTy := match i % 128 with
  | 0 => ⟨S_, .i32⟩
  | 1 => ⟨S1x1024x160, .f32⟩
  | 2 => ⟨S1024x160, .f32⟩
  | 3 => ⟨S1024x512, .f32⟩
  | 4 => ⟨S1024x512, .f32⟩
  | 5 => ⟨S1024x512, .f32⟩
  | 6 => ⟨S1x512, .f32⟩
  | 7 => ⟨S1024x512, .f32⟩
  | 8 => ⟨S1024x512, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S_, .f32⟩
  | 19 => ⟨S1024x128, .f32⟩
  | 20 => ⟨S1024x128, .f32⟩
  | 21 => ⟨S1024x128, .f32⟩
  | 22 => ⟨S1024x128, .f32⟩
  | 23 => ⟨S_, .f32⟩
  | 24 => ⟨S1024x128, .f32⟩
  | 25 => ⟨S1024x128, .f32⟩
  | 26 => ⟨S_, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S_, .f32⟩
  | 36 => ⟨S1024x128, .f32⟩
  | 37 => ⟨S1024x128, .f32⟩
  | 38 => ⟨S1024x128, .f32⟩
  | 39 => ⟨S1024x128, .f32⟩
  | 40 => ⟨S1024x128, .f32⟩
  | 41 => ⟨S1024x128, .f32⟩
  | 42 => ⟨S1024x128, .f32⟩
  | 43 => ⟨S1x1024x128, .f32⟩
  | 44 => ⟨S_, .i32⟩
  | 45 => ⟨S_, .i32⟩
  | 46 => ⟨S50x1024x128, .f32⟩
  | 47 => ⟨S_, .i32⟩
  | 48 => ⟨S_, .i32⟩
  | 49 => ⟨S1024x50x128, .f32⟩
  | 50 => ⟨S50x1024x160, .f32⟩
  | 51 => ⟨S_, .f32⟩
  | 52 => ⟨S1024x128, .f32⟩
  | 53 => ⟨S_, .f32⟩
  | 54 => ⟨S1024x128, .f32⟩
  | 55 => ⟨S_, .f32⟩
  | 56 => ⟨S50x1024x128, .f32⟩
  | 57 => ⟨S_, .i32⟩
  | 58 => ⟨S50x1024x160, .f32⟩
  | 59 => ⟨S160x512, .f32⟩
  | 60 => ⟨S128x512, .f32⟩
  | 61 => ⟨S512, .f32⟩
  | 62 => ⟨S_, .i32⟩
  | 63 => ⟨S1024x128, .f32⟩
  | 64 => ⟨S1024x128, .f32⟩
  | 65 => ⟨S50x1024x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x1024x160, .f32⟩
  | 75 => ⟨S1024x160, .f32⟩
  | 76 => ⟨S1024x512, .f32⟩
  | 77 => ⟨S1024x512, .f32⟩
  | 78 => ⟨S1024x512, .f32⟩
  | 79 => ⟨S1x512, .f32⟩
  | 80 => ⟨S1024x512, .f32⟩
  | 81 => ⟨S1024x512, .f32⟩
  | 82 => ⟨S1024x128, .f32⟩
  | 83 => ⟨S1024x128, .f32⟩
  | 84 => ⟨S1024x128, .f32⟩
  | 85 => ⟨S1024x128, .f32⟩
  | 86 => ⟨S1024x128, .f32⟩
  | 87 => ⟨S1024x128, .f32⟩
  | 88 => ⟨S_, .f32⟩
  | 89 => ⟨S1024x128, .f32⟩
  | 90 => ⟨S1024x128, .f32⟩
  | 91 => ⟨S_, .f32⟩
  | 92 => ⟨S1024x128, .f32⟩
  | 93 => ⟨S1024x128, .f32⟩
  | 94 => ⟨S1024x128, .f32⟩
  | 95 => ⟨S1024x128, .f32⟩
  | 96 => ⟨S_, .f32⟩
  | 97 => ⟨S1024x128, .f32⟩
  | 98 => ⟨S1024x128, .f32⟩
  | 99 => ⟨S_, .f32⟩
  | 100 => ⟨S1024x128, .f32⟩
  | 101 => ⟨S1024x128, .f32⟩
  | 102 => ⟨S1024x128, .f32⟩
  | 103 => ⟨S1024x128, .f32⟩
  | 104 => ⟨S1024x128, .f32⟩
  | 105 => ⟨S_, .f32⟩
  | 106 => ⟨S1024x128, .f32⟩
  | 107 => ⟨S1024x128, .f32⟩
  | 108 => ⟨S_, .f32⟩
  | 109 => ⟨S1024x128, .f32⟩
  | 110 => ⟨S1024x128, .f32⟩
  | 111 => ⟨S1024x128, .f32⟩
  | 112 => ⟨S1024x128, .f32⟩
  | 113 => ⟨S1024x128, .f32⟩
  | 114 => ⟨S1024x128, .f32⟩
  | 115 => ⟨S1024x128, .f32⟩
  | 116 => ⟨S1x1024x128, .f32⟩
  | 117 => ⟨S_, .i32⟩
  | 118 => ⟨S_, .i32⟩
  | 119 => ⟨S50x1024x128, .f32⟩
  | 120 => ⟨S_, .i32⟩
  | 121 => ⟨S_, .i32⟩
  | 122 => ⟨S1024x50x128, .f32⟩
  | 123 => ⟨S1024x50x256, .f32⟩
  | 124 => ⟨S51200x256, .f32⟩
  | 125 => ⟨S51200x128, .f32⟩
  | 126 => ⟨S1x128, .f32⟩
  | 127 => ⟨S51200x128, .f32⟩
  | _ => ⟨S1024x50, .i32⟩

abbrev hbmTy0_2 (i : Nat) : BufTy := match i % 128 with
  | 0 => ⟨S51200x128, .f32⟩
  | 1 => ⟨S_, .f32⟩
  | 2 => ⟨S51200x128, .f32⟩
  | 3 => ⟨S51200x128, .i1⟩
  | 4 => ⟨S_, .f32⟩
  | 5 => ⟨S51200x128, .f32⟩
  | 6 => ⟨S51200x128, .f32⟩
  | 7 => ⟨S51200x128, .f32⟩
  | 8 => ⟨S51200x48, .f32⟩
  | 9 => ⟨S1x48, .f32⟩
  | 10 => ⟨S51200x48, .f32⟩
  | 11 => ⟨S51200x48, .f32⟩
  | 12 => ⟨S1024x50x48, .f32⟩
  | 13 => ⟨S_, .i32⟩
  | 14 => ⟨S1024x50, .i32⟩
  | 15 => ⟨S1024x50, .i1⟩
  | 16 => ⟨S51200, .i1⟩
  | 17 => ⟨S_, .f32⟩
  | 18 => ⟨S51200, .f32⟩
  | 19 => ⟨S_, .f32⟩
  | 20 => ⟨S51200, .f32⟩
  | 21 => ⟨S51200, .f32⟩
  | 22 => ⟨S51200x1, .f32⟩
  | 23 => ⟨S51200x48, .f32⟩
  | 24 => ⟨S51200x48, .f32⟩
  | 25 => ⟨S51200x48, .f32⟩
  | 26 => ⟨S_, .f32⟩
  | 27 => ⟨S51200, .f32⟩
  | 28 => ⟨S51200x1, .f32⟩
  | 29 => ⟨S51200x1, .f32⟩
  | 30 => ⟨S51200x48, .f32⟩
  | 31 => ⟨S51200x48, .f32⟩
  | 32 => ⟨S51200, .i32⟩
  | 33 => ⟨S51200x1, .i32⟩
  | 34 => ⟨S_, .i32⟩
  | 35 => ⟨S51200x1, .i32⟩
  | 36 => ⟨S51200x1, .i1⟩
  | 37 => ⟨S_, .i32⟩
  | 38 => ⟨S51200x1, .i32⟩
  | 39 => ⟨S51200x1, .i32⟩
  | 40 => ⟨S51200x1, .i32⟩
  | 41 => ⟨S51200x1x1, .i32⟩
  | 42 => ⟨S1, .i32⟩
  | 43 => ⟨S_, .i32⟩
  | 44 => ⟨S51200x1x1, .i32⟩
  | 45 => ⟨S51200x1x1, .i1⟩
  | 46 => ⟨S1x1x1, .i32⟩
  | 47 => ⟨S51200x1x1, .i32⟩
  | 48 => ⟨S51200x1x1, .i1⟩
  | 49 => ⟨S51200x1x1, .i1⟩
  | 50 => ⟨S_, .i1⟩
  | 51 => ⟨S51200x1, .i1⟩
  | 52 => ⟨S51200x1, .f32⟩
  | 53 => ⟨S_, .f32⟩
  | 54 => ⟨S51200x1, .f32⟩
  | 55 => ⟨S51200x1, .f32⟩
  | 56 => ⟨S51200, .f32⟩
  | 57 => ⟨S51200, .f32⟩
  | 58 => ⟨S51200, .f32⟩
  | 59 => ⟨S51200, .f32⟩
  | 60 => ⟨S_, .f32⟩
  | 61 => ⟨S_, .f32⟩
  | 62 => ⟨S_, .f32⟩
  | 63 => ⟨S_, .f32⟩
  | 64 => ⟨S51200x48, .i32⟩
  | 65 => ⟨S_, .f32⟩
  | 66 => ⟨S_, .i32⟩
  | 67 => ⟨S51200, .f32⟩
  | 68 => ⟨S51200, .i32⟩
  | 69 => ⟨S1024x50, .i32⟩
  | 70 => ⟨S_, .i32⟩
  | 71 => ⟨S_, .i32⟩
  | 72 => ⟨S1024x50, .i1⟩
  | 73 => ⟨S1024x50, .i1⟩
  | 74 => ⟨S1024x50, .i32⟩
  | 75 => ⟨S_, .i32⟩
  | 76 => ⟨S_, .i32⟩
  | _ => ⟨S1024x50, .i32⟩

abbrev hbmTy (i : Nat) : BufTy := match i / 128 with
  | 0 => hbmTy0_0 i
  | 1 => hbmTy0_1 i
  | 2 => hbmTy0_2 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v1 : Ref sig .tc := ⟨.hbm, 63, rfl⟩
abbrev main_v2 : Ref sig .tc := ⟨.hbm, 64, rfl⟩
abbrev main_cst : Ref sig .tc := ⟨.hbm, 65, rfl⟩
abbrev main_v3 : Ref sig .tc := ⟨.hbm, 66, rfl⟩
abbrev main_v4 : Ref sig .tc := ⟨.hbm, 67, rfl⟩
abbrev main_cst_0 : Ref sig .tc := ⟨.hbm, 68, rfl⟩
abbrev main_v5 : Ref sig .tc := ⟨.hbm, 69, rfl⟩
abbrev main_v6 : Ref sig .tc := ⟨.hbm, 70, rfl⟩
abbrev main_c : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_cst_1 : Ref sig .tc := ⟨.hbm, 82, rfl⟩
abbrev main_call2_v8 : Ref sig .tc := ⟨.hbm, 83, rfl⟩
abbrev main_call2_cst_2 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_cst_3 : Ref sig .tc := ⟨.hbm, 89, rfl⟩
abbrev main_call2_v13 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v7 : Ref sig .tc := ⟨.hbm, 94, rfl⟩
abbrev main_v8 : Ref sig .tc := ⟨.hbm, 95, rfl⟩
abbrev main_v9 : Ref sig .tc := ⟨.hbm, 96, rfl⟩
abbrev main_cst_1 : Ref sig .tc := ⟨.hbm, 97, rfl⟩
abbrev main_v10 : Ref sig .tc := ⟨.hbm, 98, rfl⟩
abbrev main_v11 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_cst_2 : Ref sig .tc := ⟨.hbm, 110, rfl⟩
abbrev main_v22 : Ref sig .tc := ⟨.hbm, 111, rfl⟩
abbrev main_cst_3 : Ref sig .tc := ⟨.hbm, 112, rfl⟩
abbrev main_v23 : Ref sig .tc := ⟨.hbm, 113, rfl⟩
abbrev main_cst_4 : Ref sig .tc := ⟨.hbm, 114, rfl⟩
abbrev main_v24 : Ref sig .tc := ⟨.hbm, 115, rfl⟩
abbrev main_c_5 : Ref sig .tc := ⟨.hbm, 116, rfl⟩
abbrev main_v25_0 : Ref sig .tc := ⟨.hbm, 117, rfl⟩
abbrev main_v25_1 : Ref sig .tc := ⟨.hbm, 118, rfl⟩
abbrev main_v25_2 : Ref sig .tc := ⟨.hbm, 119, rfl⟩
abbrev main_v25_3 : Ref sig .tc := ⟨.hbm, 120, rfl⟩
abbrev main_v25_4 : Ref sig .tc := ⟨.hbm, 121, rfl⟩
abbrev main_v25_5 : Ref sig .tc := ⟨.hbm, 122, rfl⟩
abbrev main_v25_6 : Ref sig .tc := ⟨.hbm, 123, rfl⟩
abbrev main_v25_7 : Ref sig .tc := ⟨.hbm, 124, rfl⟩
abbrev main_while0c_c_24 : Ref sig .tc := ⟨.hbm, 125, rfl⟩
abbrev main_while0c_v69 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_v0 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_cst_24 : Ref sig .tc := ⟨.hbm, 143, rfl⟩
abbrev main_while0b_v82 : Ref sig .tc := ⟨.hbm, 144, rfl⟩
abbrev main_while0b_v83 : Ref sig .tc := ⟨.hbm, 145, rfl⟩
abbrev main_while0b_cst_25 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_cst_26 : Ref sig .tc := ⟨.hbm, 151, rfl⟩
abbrev main_while0b_v88 : Ref sig .tc := ⟨.hbm, 152, rfl⟩
abbrev main_while0b_v89 : Ref sig .tc := ⟨.hbm, 153, rfl⟩
abbrev main_while0b_cst_27 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_cst_28 : Ref sig .tc := ⟨.hbm, 160, rfl⟩
abbrev main_while0b_v95 : Ref sig .tc := ⟨.hbm, 161, rfl⟩
abbrev main_while0b_v96 : Ref sig .tc := ⟨.hbm, 162, rfl⟩
abbrev main_while0b_cst_29 : Ref sig .tc := ⟨.hbm, 163, rfl⟩
abbrev main_while0b_v97 : Ref sig .tc := ⟨.hbm, 164, rfl⟩
abbrev main_while0b_v98 : Ref sig .tc := ⟨.hbm, 165, rfl⟩
abbrev main_while0b_v99 : Ref sig .tc := ⟨.hbm, 166, rfl⟩
abbrev main_while0b_v100 : Ref sig .tc := ⟨.hbm, 167, rfl⟩
abbrev main_while0b_v101 : Ref sig .tc := ⟨.hbm, 168, rfl⟩
abbrev main_while0b_v102 : Ref sig .tc := ⟨.hbm, 169, rfl⟩
abbrev main_while0b_v103 : Ref sig .tc := ⟨.hbm, 170, rfl⟩
abbrev main_while0b_call4_v0 : Ref sig .tc := ⟨.hbm, 171, rfl⟩
abbrev main_while0b_call4_c : Ref sig .tc := ⟨.hbm, 172, rfl⟩
abbrev main_while0b_call4_c_0 : Ref sig .tc := ⟨.hbm, 173, rfl⟩
abbrev main_while0b_v104 : Ref sig .tc := ⟨.hbm, 174, rfl⟩
abbrev main_while0b_c_30 : Ref sig .tc := ⟨.hbm, 175, rfl⟩
abbrev main_while0b_v105 : Ref sig .tc := ⟨.hbm, 176, rfl⟩
abbrev main_v26 : Ref sig .tc := ⟨.hbm, 177, rfl⟩
abbrev main_v27 : Ref sig .tc := ⟨.hbm, 178, rfl⟩
abbrev main_cst_6 : Ref sig .tc := ⟨.hbm, 179, rfl⟩
abbrev main_v28 : Ref sig .tc := ⟨.hbm, 180, rfl⟩
abbrev main_cst_7 : Ref sig .tc := ⟨.hbm, 181, rfl⟩
abbrev main_v29 : Ref sig .tc := ⟨.hbm, 182, rfl⟩
abbrev main_cst_8 : Ref sig .tc := ⟨.hbm, 183, rfl⟩
abbrev main_v30 : Ref sig .tc := ⟨.hbm, 184, rfl⟩
abbrev main_c_9 : Ref sig .tc := ⟨.hbm, 185, rfl⟩
abbrev main_v31_0 : Ref sig .tc := ⟨.hbm, 186, rfl⟩
abbrev main_v31_1 : Ref sig .tc := ⟨.hbm, 187, rfl⟩
abbrev main_v31_2 : Ref sig .tc := ⟨.hbm, 188, rfl⟩
abbrev main_v31_3 : Ref sig .tc := ⟨.hbm, 189, rfl⟩
abbrev main_v31_4 : Ref sig .tc := ⟨.hbm, 190, rfl⟩
abbrev main_v31_5 : Ref sig .tc := ⟨.hbm, 191, rfl⟩
abbrev main_v31_6 : Ref sig .tc := ⟨.hbm, 192, rfl⟩
abbrev main_v31_7 : Ref sig .tc := ⟨.hbm, 193, rfl⟩
abbrev main_while1c_c_24 : Ref sig .tc := ⟨.hbm, 194, rfl⟩
abbrev main_while1c_v69 : Ref sig .tc := ⟨.hbm, 195, rfl⟩
abbrev main_while1b_c_24 : Ref sig .tc := ⟨.hbm, 196, rfl⟩
abbrev main_while1b_v69 : Ref sig .tc := ⟨.hbm, 197, rfl⟩
abbrev main_while1b_c_25 : Ref sig .tc := ⟨.hbm, 198, rfl⟩
abbrev main_while1b_v70 : Ref sig .tc := ⟨.hbm, 199, rfl⟩
abbrev main_while1b_call5_c : Ref sig .tc := ⟨.hbm, 200, rfl⟩
abbrev main_while1b_call5_c_0 : Ref sig .tc := ⟨.hbm, 201, rfl⟩
abbrev main_while1b_call5_v0 : Ref sig .tc := ⟨.hbm, 202, rfl⟩
abbrev main_while1b_v71 : Ref sig .tc := ⟨.hbm, 203, rfl⟩
abbrev main_while1b_v72 : Ref sig .tc := ⟨.hbm, 204, rfl⟩
abbrev main_while1b_v73 : Ref sig .tc := ⟨.hbm, 205, rfl⟩
abbrev main_while1b_v74 : Ref sig .tc := ⟨.hbm, 206, rfl⟩
abbrev main_while1b_v75 : Ref sig .tc := ⟨.hbm, 207, rfl⟩
abbrev main_while1b_v76 : Ref sig .tc := ⟨.hbm, 208, rfl⟩
abbrev main_while1b_v77 : Ref sig .tc := ⟨.hbm, 209, rfl⟩
abbrev main_while1b_v78 : Ref sig .tc := ⟨.hbm, 210, rfl⟩
abbrev main_while1b_v79 : Ref sig .tc := ⟨.hbm, 211, rfl⟩
abbrev main_while1b_v80 : Ref sig .tc := ⟨.hbm, 212, rfl⟩
abbrev main_while1b_v81 : Ref sig .tc := ⟨.hbm, 213, rfl⟩
abbrev main_while1b_v82 : Ref sig .tc := ⟨.hbm, 214, rfl⟩
abbrev main_while1b_v83 : Ref sig .tc := ⟨.hbm, 215, rfl⟩
abbrev main_while1b_cst_26 : Ref sig .tc := ⟨.hbm, 216, rfl⟩
abbrev main_while1b_v84 : Ref sig .tc := ⟨.hbm, 217, rfl⟩
abbrev main_while1b_v85 : Ref sig .tc := ⟨.hbm, 218, rfl⟩
abbrev main_while1b_cst_27 : Ref sig .tc := ⟨.hbm, 219, rfl⟩
abbrev main_while1b_v86 : Ref sig .tc := ⟨.hbm, 220, rfl⟩
abbrev main_while1b_v87 : Ref sig .tc := ⟨.hbm, 221, rfl⟩
abbrev main_while1b_v88 : Ref sig .tc := ⟨.hbm, 222, rfl⟩
abbrev main_while1b_v89 : Ref sig .tc := ⟨.hbm, 223, rfl⟩
abbrev main_while1b_cst_28 : Ref sig .tc := ⟨.hbm, 224, rfl⟩
abbrev main_while1b_v90 : Ref sig .tc := ⟨.hbm, 225, rfl⟩
abbrev main_while1b_v91 : Ref sig .tc := ⟨.hbm, 226, rfl⟩
abbrev main_while1b_cst_29 : Ref sig .tc := ⟨.hbm, 227, rfl⟩
abbrev main_while1b_v92 : Ref sig .tc := ⟨.hbm, 228, rfl⟩
abbrev main_while1b_v93 : Ref sig .tc := ⟨.hbm, 229, rfl⟩
abbrev main_while1b_v94 : Ref sig .tc := ⟨.hbm, 230, rfl⟩
abbrev main_while1b_v95 : Ref sig .tc := ⟨.hbm, 231, rfl⟩
abbrev main_while1b_v96 : Ref sig .tc := ⟨.hbm, 232, rfl⟩
abbrev main_while1b_cst_30 : Ref sig .tc := ⟨.hbm, 233, rfl⟩
abbrev main_while1b_v97 : Ref sig .tc := ⟨.hbm, 234, rfl⟩
abbrev main_while1b_v98 : Ref sig .tc := ⟨.hbm, 235, rfl⟩
abbrev main_while1b_cst_31 : Ref sig .tc := ⟨.hbm, 236, rfl⟩
abbrev main_while1b_v99 : Ref sig .tc := ⟨.hbm, 237, rfl⟩
abbrev main_while1b_v100 : Ref sig .tc := ⟨.hbm, 238, rfl⟩
abbrev main_while1b_v101 : Ref sig .tc := ⟨.hbm, 239, rfl⟩
abbrev main_while1b_v102 : Ref sig .tc := ⟨.hbm, 240, rfl⟩
abbrev main_while1b_v103 : Ref sig .tc := ⟨.hbm, 241, rfl⟩
abbrev main_while1b_v104 : Ref sig .tc := ⟨.hbm, 242, rfl⟩
abbrev main_while1b_v105 : Ref sig .tc := ⟨.hbm, 243, rfl⟩
abbrev main_while1b_call6_v0 : Ref sig .tc := ⟨.hbm, 244, rfl⟩
abbrev main_while1b_call6_c : Ref sig .tc := ⟨.hbm, 245, rfl⟩
abbrev main_while1b_call6_c_0 : Ref sig .tc := ⟨.hbm, 246, rfl⟩
abbrev main_while1b_v106 : Ref sig .tc := ⟨.hbm, 247, rfl⟩
abbrev main_while1b_c_32 : Ref sig .tc := ⟨.hbm, 248, rfl⟩
abbrev main_while1b_v107 : Ref sig .tc := ⟨.hbm, 249, rfl⟩
abbrev main_v32 : Ref sig .tc := ⟨.hbm, 250, rfl⟩
abbrev main_v33 : Ref sig .tc := ⟨.hbm, 251, rfl⟩
abbrev main_v34 : Ref sig .tc := ⟨.hbm, 252, rfl⟩
abbrev main_v35 : Ref sig .tc := ⟨.hbm, 253, rfl⟩
abbrev main_v36 : Ref sig .tc := ⟨.hbm, 254, rfl⟩
abbrev main_v37 : Ref sig .tc := ⟨.hbm, 255, rfl⟩
abbrev main_v38 : Ref sig .tc := ⟨.hbm, 256, rfl⟩
abbrev main_cst_10 : Ref sig .tc := ⟨.hbm, 257, rfl⟩
abbrev main_v39 : Ref sig .tc := ⟨.hbm, 258, rfl⟩
abbrev main_v40 : Ref sig .tc := ⟨.hbm, 259, rfl⟩
abbrev main_cst_11 : Ref sig .tc := ⟨.hbm, 260, rfl⟩
abbrev main_v41 : Ref sig .tc := ⟨.hbm, 261, rfl⟩
abbrev main_v42 : Ref sig .tc := ⟨.hbm, 262, rfl⟩
abbrev main_v43 : Ref sig .tc := ⟨.hbm, 263, rfl⟩
abbrev main_v44 : Ref sig .tc := ⟨.hbm, 264, rfl⟩
abbrev main_v45 : Ref sig .tc := ⟨.hbm, 265, rfl⟩
abbrev main_v46 : Ref sig .tc := ⟨.hbm, 266, rfl⟩
abbrev main_v47 : Ref sig .tc := ⟨.hbm, 267, rfl⟩
abbrev main_v48 : Ref sig .tc := ⟨.hbm, 268, rfl⟩
abbrev main_c_12 : Ref sig .tc := ⟨.hbm, 269, rfl⟩
abbrev main_v49 : Ref sig .tc := ⟨.hbm, 270, rfl⟩
abbrev main_v50 : Ref sig .tc := ⟨.hbm, 271, rfl⟩
abbrev main_v51 : Ref sig .tc := ⟨.hbm, 272, rfl⟩
abbrev main_call8_cst : Ref sig .tc := ⟨.hbm, 273, rfl⟩
abbrev main_call8_v0 : Ref sig .tc := ⟨.hbm, 274, rfl⟩
abbrev main_call8_cst_0 : Ref sig .tc := ⟨.hbm, 275, rfl⟩
abbrev main_call8_v1 : Ref sig .tc := ⟨.hbm, 276, rfl⟩
abbrev main_call8_v2 : Ref sig .tc := ⟨.hbm, 277, rfl⟩
abbrev main_call8_v3 : Ref sig .tc := ⟨.hbm, 278, rfl⟩
abbrev main_call8_v4 : Ref sig .tc := ⟨.hbm, 279, rfl⟩
abbrev main_call8_v5 : Ref sig .tc := ⟨.hbm, 280, rfl⟩
abbrev main_call8_v6 : Ref sig .tc := ⟨.hbm, 281, rfl⟩
abbrev main_call8_cst_1 : Ref sig .tc := ⟨.hbm, 282, rfl⟩
abbrev main_call8_v7 : Ref sig .tc := ⟨.hbm, 283, rfl⟩
abbrev main_call8_v8 : Ref sig .tc := ⟨.hbm, 284, rfl⟩
abbrev main_call8_v9 : Ref sig .tc := ⟨.hbm, 285, rfl⟩
abbrev main_call8_v10 : Ref sig .tc := ⟨.hbm, 286, rfl⟩
abbrev main_v52 : Ref sig .tc := ⟨.hbm, 287, rfl⟩
abbrev main_v53 : Ref sig .tc := ⟨.hbm, 288, rfl⟩
abbrev main_v54 : Ref sig .tc := ⟨.hbm, 289, rfl⟩
abbrev main_call9_c : Ref sig .tc := ⟨.hbm, 290, rfl⟩
abbrev main_call9_v0 : Ref sig .tc := ⟨.hbm, 291, rfl⟩
abbrev main_call9_v1 : Ref sig .tc := ⟨.hbm, 292, rfl⟩
abbrev main_call9_c_0 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_call9_v5 : Ref sig .tc := ⟨.hbm, 297, rfl⟩
abbrev main_call9_c_1 : Ref sig .tc := ⟨.hbm, 298, rfl⟩
abbrev main_call9_c_2 : Ref sig .tc := ⟨.hbm, 299, rfl⟩
abbrev main_call9_v6 : Ref sig .tc := ⟨.hbm, 300, rfl⟩
abbrev main_call9_v7 : Ref sig .tc := ⟨.hbm, 301, rfl⟩
abbrev main_call9_v8 : Ref sig .tc := ⟨.hbm, 302, rfl⟩
abbrev main_call9_v9 : Ref sig .tc := ⟨.hbm, 303, rfl⟩
abbrev main_call9_v10 : Ref sig .tc := ⟨.hbm, 304, rfl⟩
abbrev main_call9_v11 : Ref sig .tc := ⟨.hbm, 305, rfl⟩
abbrev main_call9_c_3 : Ref sig .tc := ⟨.hbm, 306, rfl⟩
abbrev main_call9_v12 : Ref sig .tc := ⟨.hbm, 307, rfl⟩
abbrev main_call9_v13 : Ref sig .tc := ⟨.hbm, 308, rfl⟩
abbrev main_call9_cst : Ref sig .tc := ⟨.hbm, 309, rfl⟩
abbrev main_call9_v14 : Ref sig .tc := ⟨.hbm, 310, rfl⟩
abbrev main_v55 : Ref sig .tc := ⟨.hbm, 311, rfl⟩
abbrev main_v56 : Ref sig .tc := ⟨.hbm, 312, rfl⟩
abbrev main_v57 : Ref sig .tc := ⟨.hbm, 313, rfl⟩
abbrev main_v58 : Ref sig .tc := ⟨.hbm, 314, rfl⟩
abbrev main_v59 : Ref sig .tc := ⟨.hbm, 315, rfl⟩
abbrev main_cst_13 : Ref sig .tc := ⟨.hbm, 316, rfl⟩
abbrev main_v60 : Ref sig .tc := ⟨.hbm, 317, rfl⟩
abbrev main_cst_14 : Ref sig .tc := ⟨.hbm, 318, rfl⟩
abbrev main_v61 : Ref sig .tc := ⟨.hbm, 319, rfl⟩
abbrev main_call10_v0 : Ref sig .tc := ⟨.hbm, 320, rfl⟩
abbrev main_call10_cst : Ref sig .tc := ⟨.hbm, 321, rfl⟩
abbrev main_call10_c : Ref sig .tc := ⟨.hbm, 322, rfl⟩
abbrev main_call10_v1_0 : Ref sig .tc := ⟨.hbm, 323, rfl⟩
abbrev main_v62 : Ref sig .tc := ⟨.hbm, 324, rfl⟩
abbrev main_v63 : Ref sig .tc := ⟨.hbm, 325, rfl⟩
abbrev main_c_15 : Ref sig .tc := ⟨.hbm, 326, rfl⟩
abbrev main_v64 : Ref sig .tc := ⟨.hbm, 327, rfl⟩
abbrev main_v65 : Ref sig .tc := ⟨.hbm, 328, rfl⟩
abbrev main_v66 : Ref sig .tc := ⟨.hbm, 329, rfl⟩
abbrev main_v67 : Ref sig .tc := ⟨.hbm, 330, rfl⟩
abbrev main_c_16 : Ref sig .tc := ⟨.hbm, 331, rfl⟩
abbrev main_v68 : Ref sig .tc := ⟨.hbm, 332, rfl⟩

abbrev nD : Nat := 1
abbrev τ : Topo := Topo.v7x

variable {F : FTy → Type} [FloatOps F]

abbrev main_while0_count : Scf.Loop 32 := ⟨0#32, 50#32, 1#32⟩

abbrev main_while1_count : Scf.Loop 32 := ⟨0#32, 50#32, 1#32⟩
-- ==== Proof.Pre.lean ====
/-
  What the preconditions say of the words, the tags, the labels and the weights of the head.
-/
module

public import proofs.«01_k».proof.Proof.Gen.Pre_in_range
public import proofs.«01_k».proof.Pre_in_range_finite_head
public import Idealize.ShloMosaic.Lib.Claim
public import Idealize.ShloMosaic.Lib.ReduceAll
public import Idealize.ShloMosaic.Lib.Pointwise

@[expose] public section

noncomputable section

namespace Cert.Proof

/-- The shapes of the second precondition fit together. -/
instance headFacts : Cert.Pre_in_range_finite_head.Facts where
  bcast_S_S1024x50 := by decide
  reducesTo_S1024x50_S_d0_1 := by decide
  h_S_ := by decide
  bcast_S_S256x128 := by decide
  reducesTo_S256x128_S_d0_1 := by decide
  bcast_S_S128 := by decide
  reducesTo_S128_S_d0 := by decide
  bcast_S_S128x48 := by decide
  reducesTo_S128x48_S_d0_1 := by decide
  bcast_S_S48 := by decide
  reducesTo_S48_S_d0 := by decide

open Cert.Pre_in_range Cert.Pre_in_range.Gen
open Idealize.ShloMosaic Idealize.SL.Sem

variable {F : FTy → Type} [FloatOps F]

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
theorem andi_one {p q : BitVec 1} (h : IntOp.andi p q = 1#1) : p = 1#1 ∧ q = 1#1 := by
  revert h; revert p q; decide

/-- At least zero and below a bound that is not negative, read as a natural number. -/
theorem lt_of_range (b : BitVec 32) (hb : b.toNat < 2 ^ 31) (v : BitVec 32) (e : IntOp.andi (IntOp.cmpi .sge v 0#32) (IntOp.cmpi .slt v b) = 1#1) :
    v.toNat < b.toNat := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  simp only [Nat.reducePow] at hb
  split_ifs at e <;> omega

variable {a0 a1 a2 : IVec S1024x50 32} {a3 : IVec S1024 32} {a4 : FVec F S100000x128 .f32} {a5 : FVec F S64x32 .f32} {a6 a7 : FVec F S160 .f32}
  {a8 : FVec F S160x512 .f32} {a9 : FVec F S128x512 .f32} {a10 : FVec F S512 .f32} {a11 : FVec F S160x512 .f32} {a12 : FVec F S128x512 .f32}
  {a13 : FVec F S512 .f32} {a14 : FVec F S256x128 .f32} {a15 : FVec F S128 .f32} {a16 : FVec F S128x48 .f32} {a17 : FVec F S48 .f32}

/-- The words, the tags and the labels are in range. -/
theorem pre_range (h : Cert.Pre_in_range.fn a0 a1 a2 a3 a4 a5 a6 a7 a8 a9 a10 a11 a12 a13 a14 a15 a16 a17 = fun _ => 1#1) :
    ((∀ i, (a0 i).toNat < 100000) ∧ ∀ i, (a1 i).toNat < 64) ∧ ∀ i, (a2 i).toNat < 48 := by
  have : Subsingleton Cert.Pre_in_range.S_.Idx := ⟨fun a b => funext fun k => k.elim0⟩
  have h1 := andi_one (congrFun h (fun a => a.elim0))
  have h2 := andi_one h1.1
  exact ⟨⟨fun i => lt_of_range 100000#32 (by decide) _ (Host.reduce_andi_all _ _ _ _ _ h2.1 i),
    fun i => lt_of_range 64#32 (by decide) _ (Host.reduce_andi_all _ _ _ _ _ h2.2 i)⟩,
    fun i => lt_of_range 48#32 (by decide) _ (Host.reduce_andi_all _ _ _ _ _ h1.2 i)⟩

/-- A number whose size is below the largest is neither end of the line. -/
theorem real_of_abs (x : Ideal .f32) (h : FloatOps.cmpf (F := Ideal) (φ := .f32) .olt (FloatOps.hostAbsf (F := Ideal) (φ := .f32) x) (Scalar.ofBits (F := Ideal) .f32 0x7F800000#32) = 1#1) :
    x ≠ (⊤ : EReal) ∧ x ≠ (⊥ : EReal) := by
  have e : @Eq EReal (Scalar.ofBits (F := Ideal) .f32 0x7F800000#32) ⊤ := by
    show Ideal.ofBits .f32 0x7F800000#32 = ⊤
    simp [Ideal.ofBits, Ideal.ieee]
  rw [e, Ideal.hostAbsf_def, Ideal.absf_def, Ideal.cmpf_def] at h
  rw [Ideal.cmp, ofBool_eq_one] at h
  have h' : max x (-x) < (⊤ : EReal) := of_decide_eq_true h
  have h2 := (le_max_right _ _).trans_lt h'
  refine ⟨((le_max_left _ _).trans_lt h').ne, fun e => ?_⟩
  rw [e] at h2
  simp at h2

section
variable {a0 a1 a2 : IVec S1024x50 32} {a3 : IVec S1024 32} {a4 : FVec Ideal S100000x128 .f32} {a5 : FVec Ideal S64x32 .f32} {a6 a7 : FVec Ideal S160 .f32}
  {a8 : FVec Ideal S160x512 .f32} {a9 : FVec Ideal S128x512 .f32} {a10 : FVec Ideal S512 .f32} {a11 : FVec Ideal S160x512 .f32} {a12 : FVec Ideal S128x512 .f32}
  {a13 : FVec Ideal S512 .f32} {a14 : FVec Ideal Cert.Pre_in_range_finite_head.S256x128 .f32} {a15 : FVec Ideal Cert.Pre_in_range_finite_head.S128 .f32} {a16 : FVec Ideal Cert.Pre_in_range_finite_head.S128x48 .f32} {a17 : FVec Ideal Cert.Pre_in_range_finite_head.S48 .f32}

/-- The words, the tags and the labels are in range, and the head's weights are real. -/
theorem pre_head (h : Cert.Pre_in_range_finite_head.fn a0 a1 a2 a3 a4 a5 a6 a7 a8 a9 a10 a11 a12 a13 a14 a15 a16 a17 = fun _ => 1#1) :
    (((∀ i, (a0 i).toNat < 100000) ∧ ∀ i, (a1 i).toNat < 64) ∧ ∀ i, (a2 i).toNat < 48) ∧
      ((∀ i, a14 i ≠ (⊤ : EReal) ∧ a14 i ≠ (⊥ : EReal)) ∧ ∀ i, a15 i ≠ (⊤ : EReal) ∧ a15 i ≠ (⊥ : EReal)) ∧
      (∀ i, a16 i ≠ (⊤ : EReal) ∧ a16 i ≠ (⊥ : EReal)) ∧ ∀ i, a17 i ≠ (⊤ : EReal) ∧ a17 i ≠ (⊥ : EReal) := by
  have : Subsingleton Cert.Pre_in_range_finite_head.S_.Idx := ⟨fun a b => funext fun k => k.elim0⟩
  have h1 := andi_one (congrFun h (fun a => a.elim0))
  have h2 := andi_one h1.1
  have h3 := andi_one h2.1
  have h4 := andi_one h3.1
  have h5 := andi_one h4.1
  have h6 := andi_one h5.1
  exact ⟨⟨⟨fun i => lt_of_range 100000#32 (by decide) _ (Host.reduce_andi_all _ _ _ _ _ h6.1 i),
    fun i => lt_of_range 64#32 (by decide) _ (Host.reduce_andi_all _ _ _ _ _ h6.2 i)⟩,
    fun i => lt_of_range 48#32 (by decide) _ (Host.reduce_andi_all _ _ _ _ _ h5.2 i)⟩,
    ⟨fun i => real_of_abs _ (Host.reduce_andi_all _ _ _ _ _ h4.2 i), fun i => real_of_abs _ (Host.reduce_andi_all _ _ _ _ _ h3.2 i)⟩,
    fun i => real_of_abs _ (Host.reduce_andi_all _ _ _ _ _ h2.2 i), fun i => real_of_abs _ (Host.reduce_andi_all _ _ _ _ _ h1.2 i)⟩
end

end Cert.Proof

end
-- ==== Proof.Base.lean ====
/-
  The set-up shared by the proofs about the idealized kernel: the program as the launch theorem of the
  SparseCore library sees it, the resource algebra (the handshakes' rounds, the pipelines' rounds, the
  transfers' counters), and the embeddings into it.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The pipelines' labels over the program's own. -/
abbrev ΛP : Labels := Pipeline.Sig Λ₀ (Fin 3) fun p => (pcfgs (F := F) p).Adm
/-- The SparseCore launch. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
abbrev UU : Type := (UH × UP) × Counters

abbrev MM (F : FTy → Type) : Type := MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

instance EP_landsIn : (EP (F := F)).LandsIn (upEmb : UEmb _ (MT nD τ sig (HIx 1) (Elt F) ℕ UU ℕ)) := by
  unfold EP; infer_instance
instance EH_landsIn : (EH (F := F)).LandsIn (upEmb : UEmb _ (MT nD τ sig (HIx 1) (Elt F) ℕ UU ℕ)) := by
  unfold EH; infer_instance

end Cert.Proof.KI
-- ==== Proof.Gather.lean ====
/-
  The SparseCore call: 32 tasks (two SparseCores, sixteen vector subcores each). A task copies its 1600 row
  numbers into its index buffer, and in eight chunks of 200 gathers the table's rows they name into one of four
  buffers and copies the buffer to its place in the result. What a task leaves in its part of the result is said
  outright: row `n` of the result is the row of the table that word `n` of the list names.
-/
module

public import proofs.«01_k».proof.Proof.Base

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev iLoc (d : Dev nD) : Loc nD τ sig := (SparseCore.T d).loc main_v1
abbrev xLoc (d : Dev nD) : Loc nD τ sig := (SparseCore.T d).loc main_arg4
abbrev oLoc (d : Dev nD) : Loc nD τ sig := (SparseCore.T d).loc main_v2

local notation "xV" => (Memref.whole Cert.KernelIdeal.main_arg4_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S51200 EltTy.i32)
local notation "oV" => (Memref.whole Cert.KernelIdeal.main_v2_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S1600 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

/-- Element `(r, k)` of the table, the row number reduced to the table's size. -/
def tabIx (r : ℕ) (k : Fin 128) : S100000x128.Idx :=
  fun | 0 => (⟨r % 100000, Nat.mod_lt _ (by decide)⟩ : Fin 100000) | 1 => k | ⟨_ + 2, h⟩ => absurd h (Nat.not_lt.2 (Nat.le_add_left _ _))
/-- Element `n` of the list. -/
def lstIx (n : Fin 51200) : S51200.Idx :=
  fun | 0 => n | ⟨_ + 1, h⟩ => absurd h (Nat.not_lt.2 (Nat.le_add_left _ _))

/-- The gathered rows: row `n` is the row of the table that the list's word `n` names. -/
def gathered (tab : S100000x128.Idx → Elt F .f32) (lst : S51200.Idx → BitVec 32) : S51200x128.Idx → Elt F .f32 :=
  fun j => tab (tabIx (lst (lstIx (j 0))).toNat (j 1))

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The task's words of the list. -/
abbrev iSl (L : grid0.Coords) : Memref sig .scVector .hbm S1600 .i32 :=
  (iV).slice (Rect.unit (s := S51200) (k0_off1 L) S1600.size (k0_off1_inb L)) (fun _ => rfl)
/-- Chunk `c` of the task's part of the result. -/
abbrev oSl (L : grid0.Coords) (c : Fin 8) : Memref sig .scVector .hbm S200x128 .f32 :=
  (oV).slice (Rect.unit (s := S51200x128) (k0_off2 L (BitVec.ofNat 32 (200 * c.val))) S200x128.size (k0_off2_inb L c)) (fun _ => rfl)

abbrev csem (k : Nat) (hk : k < 46 := by decide) : DmaSem sig := ⟨k, hk⟩
abbrev dcell (d : Dev nD) (L : grid0.Coords) (k : Fin 9) : GSem nD τ sig := (VT d L, .dma (csem k.val (by omega)))

/-- The nine cells at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0)

variable (tab : Buf (Elt F) ((xV).view.loc (VT d L))) (lst : Buf (Elt F) ((iV).view.loc (VT d L)))
  (q : PosShare TreeShare)

/-- What the run is handed: every word of the list names a row. -/
def ListOK (lst : S51200.Idx → BitVec 32) : Prop := ∀ j, (lst j).toNat < 100000

/-- What the index copy lands: the task's words. -/
abbrev LPAY : S1600.Idx → Elt F .i32 := ReadAs.same.apply ((iSl L).view.read (Elt F) lst)

omit [FloatOps F] in
theorem LPAY_apply (j : S1600.Idx) : LPAY d L lst j = lst ((Rect.unit (s := S51200) (k0_off1 L) S1600.size (k0_off1_inb L)).emb j) := by
  show (iSl L).view.read (Elt F) lst j = _
  rw [View.read_apply]; rfl

omit [FloatOps F] in
/-- A word of a window of the index buffer, once the index copy has landed. -/
theorem list_word (g0 : Buf (Elt F) ((lV).view.loc (VT d L))) (off : Fin 1 → Nat) (hk : ∀ a, off a + S200.size a ≤ S1600.size a) (x : S200.Idx) :
    View.read (Elt F) ((lV).slice (Rect.unit (s := S1600) off S200.size hk) (fun _ => rfl)).view
        ((lV).view.writes (Elt F) g0 [⟨Rect.whole cc0_scratch0.ty.shape, LPAY d L lst⟩]) x
      = lst ((Rect.unit (s := S51200) (k0_off1 L) S1600.size (k0_off1_inb L)).emb ((Rect.unit (s := S1600) off S200.size hk).emb x)) := by
  have e : View.read (Elt F) ((lV).slice (Rect.unit (s := S1600) off S200.size hk) (fun _ => rfl)).view
        ((lV).view.writes (Elt F) g0 [⟨Rect.whole cc0_scratch0.ty.shape, LPAY d L lst⟩]) x
      = View.read (Elt F) (lV).view ((lV).view.writes (Elt F) g0 [⟨Rect.whole cc0_scratch0.ty.shape, LPAY d L lst⟩])
          ((Rect.unit (s := S1600) off S200.size hk).emb x) := by
    rw [View.read_apply, View.read_apply]; rfl
  rw [e, View.read_writes_whole, LPAY_apply]

omit [FloatOps F] in
theorem list_inb (hl : ListOK lst) (g0 : Buf (Elt F) ((lV).view.loc (VT d L))) (pay : S1600.Idx → Elt F .i32) (hpay : pay = LPAY d L lst)
    (off : Fin 1 → Nat) (hk : ∀ a, off a + S200.size a ≤ S1600.size a) :
    ∀ x, (View.read (Elt F) ((lV).slice (Rect.unit (s := S1600) off S200.size hk) (fun _ => rfl)).view
        ((lV).view.writes (Elt F) g0 [⟨Rect.whole cc0_scratch0.ty.shape, pay⟩]) x).toNat < 100000 := by
  subst hpay; intro x; rw [list_word]; exact hl _

omit [FloatOps F] in
theorem tabIx_zero (r : ℕ) (k : Fin 128) : (tabIx r k 0).val = r % 100000 := rfl
omit [FloatOps F] in
theorem tabIx_one (r : ℕ) (k : Fin 128) : (tabIx r k 1).val = k.val := rfl

omit [FloatOps F] in
/-- The table's slice is the table. -/
theorem tab_read (j : S100000x128.Idx) :
    View.read (Elt F) ((xV).slice (Rect.unit (s := S100000x128) ![0, 0] S100000x128.size inb_S100000x128_S100000x128_0_0) (fun _ => rfl)).view tab j = tab j := by
  rw [View.read_apply]
  have h : (Rect.unit (s := S100000x128) ![0, 0] S100000x128.size inb_S100000x128_S100000x128_0_0).emb j = j :=
    funext fun a => Fin.ext (by rw [Rect.emb_apply]; simp only [Rect.unit]; match a with | 0 => simp | 1 => simp)
  exact congrArg tab h

omit [FloatOps F] in
/-- Word `k` of window `c` of the task's words is the word of the list at the place the row has in the result. -/
theorem word_place (c : Fin 8) (hk : ∀ a, (![200 * c.val] : Fin 1 → Nat) a + S200.size a ≤ S1600.size a) (y : S200.Idx) (x : S200x128.Idx) (hr : (y 0).val = (x 0).val) :
    (Rect.unit (s := S51200) (k0_off1 L) S1600.size (k0_off1_inb L)).emb ((Rect.unit (s := S1600) ![200 * c.val] S200.size hk).emb y)
      = lstIx ((Rect.unit (s := S51200x128) (k0_off2 L (BitVec.ofNat 32 (200 * c.val))) S200x128.size (k0_off2_inb L c)).emb x 0) := by
  funext b
  match b with
  | 0 =>
    apply Fin.ext
    show _ = ((Rect.unit (s := S51200x128) (k0_off2 L (BitVec.ofNat 32 (200 * c.val))) S200x128.size (k0_off2_inb L c)).emb x 0).val
    rw [Rect.emb_apply, Rect.emb_apply, Rect.emb_apply]
    simp only [Rect.unit]
    rw [k0_off1_eq, k0_off2_eq, hr]
    simp
    omega

omit [FloatOps F] in
theorem lane_place (c : Fin 8) (x : S200x128.Idx) :
    ((Rect.unit (s := S51200x128) (k0_off2 L (BitVec.ofNat 32 (200 * c.val))) S200x128.size (k0_off2_inb L c)).emb x 1).val = (x 1).val := by
  rw [Rect.emb_apply]
  simp only [Rect.unit]
  rw [k0_off2_eq]
  simp

omit [FloatOps F] in
/-- A gather by rows, element by element: element `x` is the source's at the row that the list's word for row `x 0`
    names and at the lane `x 1`. -/
theorem gather_elt {A N B W : ℕ} {e : EltTy} (hg : (⟨2, ![A, B]⟩ : Shape).Gathers 0 ⟨2, ![N, B]⟩) (g : (⟨2, ![A, B]⟩ : Shape).Idx → Elt F e)
    (idx : (⟨1, ![W]⟩ : Shape).Idx → Elt F .i32) (hn : (⟨1, ![W]⟩ : Shape).numel = (⟨2, ![N, B]⟩ : Shape).size hg.axis')
    (hin : ∀ x, (idx x).toNat < (⟨2, ![A, B]⟩ : Shape).size hg.axis) (x : (⟨2, ![N, B]⟩ : Shape).Idx) (y : (⟨1, ![W]⟩ : Shape).Idx)
    (hy : (y 0).val = (x 0).val) (z : (⟨2, ![A, B]⟩ : Shape).Idx) (hz0 : (z 0).val = (idx y).toNat) (hz1 : (z 1).val = (x 1).val) :
    SparseCore.gatherPayload hg g (SparseCore.rows idx hn hin) x = g z := by
  unfold SparseCore.gatherPayload
  refine congrArg g (funext fun a => Fin.ext ?_)
  match a with
  | 0 =>
    rw [hz0]
    refine (congrArg Fin.val (Shape.Gathers.idx_axis hg (SparseCore.rows idx hn hin) x)).trans ?_
    unfold SparseCore.rows
    have : ((⟨1, ![W]⟩ : Shape).rowMajor.symm ((x hg.axis').cast hn.symm)) = y := by
      rw [Equiv.symm_apply_eq]
      apply Fin.ext
      rw [Shape.rowMajor_val_one, hy]; rfl
    exact congrArg (fun z => (idx z).toNat) this
  | 1 =>
    rw [hz1]
    exact Shape.Gathers.idx_of_ne hg _ x 1 Nat.one_ne_zero

omit [FloatOps F] in
/-- A chunk of the result, written with what the gather delivered, is held at the gathered rows. -/
theorem chunk_pts (f0 : Buf (Elt F) ((oV).view.loc (VT d L))) (c : Fin 8) (pay : S200x128.Idx → Elt F .f32)
    (hpay : ∀ x, pay x = gathered tab lst ((Rect.unit (s := S51200x128) (k0_off2 L (BitVec.ofNat 32 (200 * c.val))) S200x128.size (k0_off2_inb L c)).emb x)) :
    ((oSl L c).view.loc (VT d L) ↦[(oSl L c).view.set]{fullShare} (oSl L c).view.writes (Elt F) f0 [⟨Rect.whole S200x128, pay⟩] : sProp 𝕄)
      = ((oSl L c).view.loc (VT d L) ↦[(oSl L c).view.set]{fullShare} gathered tab lst) := by
  refine pointsTo_congr fun i hi => ?_
  obtain ⟨x, -, rfl⟩ := Finset.mem_map.mp hi
  have h1 := congrFun (View.read_writes_whole (oSl L c).view f0 pay) x
  rw [View.read_apply] at h1
  rw [hpay] at h1
  exact h1

end Tile

end Cert.Proof.KI
-- ==== Proof.Tile.lean ====
/-
  The run of one task of the SparseCore call.
-/
module

public import proofs.«01_k».proof.Proof.Gather

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg4_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S51200 EltTy.i32)
local notation "oV" => (Memref.whole Cert.KernelIdeal.main_v2_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S1600 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

variable [FloatOps F]

section Tile

variable (d : Dev nD) (L : grid0.Coords)
variable (tab : Buf (Elt F) ((xV).view.loc (VT d L))) (lst : Buf (Elt F) ((iV).view.loc (VT d L)))
  (q : PosShare TreeShare)

omit [FloatOps F] in
/-- What the gather of chunk `c` delivers, element by element. -/
theorem chunk_val (hl : ListOK lst) (g0 : Buf (Elt F) ((lV).view.loc (VT d L))) (c : Fin 8) (o : Nat) (ho : o = 200 * c.val)
    (hk : ∀ a, (![o] : Fin 1 → Nat) a + S200.size a ≤ S1600.size a) (pay : S1600.Idx → Elt F .i32) (hpay : pay = LPAY d L lst)
    (hg : S100000x128.Gathers 0 S200x128) (hn : S200.numel = S200x128.size hg.axis')
    (hin : ∀ x, (View.read (Elt F) ((lV).slice (Rect.unit (s := S1600) ![o] S200.size hk) (fun _ => rfl)).view
        ((lV).view.writes (Elt F) g0 [⟨Rect.whole cc0_scratch0.ty.shape, pay⟩]) x).toNat < S100000x128.size hg.axis)
    (x : S200x128.Idx) :
    SparseCore.gatherPayload hg
        (View.read (Elt F) ((xV).slice (Rect.unit (s := S100000x128) ![0, 0] S100000x128.size inb_S100000x128_S100000x128_0_0) (fun _ => rfl)).view tab)
        (SparseCore.rows (View.read (Elt F) ((lV).slice (Rect.unit (s := S1600) ![o] S200.size hk) (fun _ => rfl)).view
          ((lV).view.writes (Elt F) g0 [⟨Rect.whole cc0_scratch0.ty.shape, pay⟩])) hn hin) x
      = gathered tab lst ((Rect.unit (s := S51200x128) (k0_off2 L (BitVec.ofNat 32 (200 * c.val))) S200x128.size (k0_off2_inb L c)).emb x) := by
  subst hpay ho
  let y : S200.Idx := fun | 0 => x 0
  have h4 := word_place L c hk y x rfl
  have h5 := list_word d L lst g0 ![200 * c.val] hk y
  rw [h4] at h5
  have h3 := hl (lstIx ((Rect.unit (s := S51200x128) (k0_off2 L (BitVec.ofNat 32 (200 * c.val))) S200x128.size (k0_off2_inb L c)).emb x 0))
  refine (gather_elt hg _ _ hn hin x y rfl
    (tabIx (lst (lstIx ((Rect.unit (s := S51200x128) (k0_off2 L (BitVec.ofNat 32 (200 * c.val))) S200x128.size (k0_off2_inb L c)).emb x 0))).toNat
      ((Rect.unit (s := S51200x128) (k0_off2 L (BitVec.ofNat 32 (200 * c.val))) S200x128.size (k0_off2_inb L c)).emb x 1)) ?_ ?_).trans ?_
  · exact ((tabIx_zero _ _).trans (Nat.mod_eq_of_lt h3)).trans (congrArg BitVec.toNat h5.symm)
  · exact (tabIx_one _ _).trans (lane_place L c x)
  · exact tab_read d L tab _

omit [FloatOps F] in
/-- Of two whole writes the later one is read back. -/
theorem read_twice {sp : Space} {s : Shape} {e : EltTy} {κ : Kind} (v : View sig κ sp s e) (f : BufTy.Contents (Elt F) v.ty) (x y : s.Idx → Elt F e) :
    View.read (Elt F) v (v.writes (Elt F) f [⟨Rect.whole s, x⟩, ⟨Rect.whole s, y⟩]) = x :=
  View.read_writes_whole v (v.writes (Elt F) f [⟨Rect.whole s, y⟩]) x

set_option maxHeartbeats 1000000 in
theorem tile_run (hl : ListOK lst) (O : CellTallies nD τ sig (HIx 1)) (W : Waits sig (HIx 1))
    (f0 : Buf (Elt F) ((oV).view.loc (VT d L)))
    (g0 : Buf (Elt F) ((lV).view.loc (VT d L))) (t0 : Buf (Elt F) ((b0V).view.loc (VT d L))) (t1 : Buf (Elt F) ((b1V).view.loc (VT d L)))
    (t2 : Buf (Elt F) ((b2V).view.loc (VT d L))) (t3 : Buf (Elt F) ((b3V).view.loc (VT d L))) :
    (iprop(Transfers.MayWaits (VT d L) (default : HIx 1) O
        ∗ ((iSl L).view.loc (VT d L) ↦[(iSl L).view.set]{fullShare} lst)
        ∗ ((xV).view.loc (VT d L) ↦{Transfers.shareTokN q 0} tab)
        ∗ ((xV).view.loc (VT d L) ↦{Transfers.shareTokN q 1} tab)
        ∗ ((xV).view.loc (VT d L) ↦{Transfers.shareTokN q 2} tab)
        ∗ ((xV).view.loc (VT d L) ↦{Transfers.shareTokN q 3} tab)
        ∗ ((oSl L 0).view.loc (VT d L) ↦[(oSl L 0).view.set]{fullShare} f0)
        ∗ ((oSl L 1).view.loc (VT d L) ↦[(oSl L 1).view.set]{fullShare} f0)
        ∗ ((oSl L 2).view.loc (VT d L) ↦[(oSl L 2).view.set]{fullShare} f0)
        ∗ ((oSl L 3).view.loc (VT d L) ↦[(oSl L 3).view.set]{fullShare} f0)
        ∗ ((oSl L 4).view.loc (VT d L) ↦[(oSl L 4).view.set]{fullShare} f0)
        ∗ ((oSl L 5).view.loc (VT d L) ↦[(oSl L 5).view.set]{fullShare} f0)
        ∗ ((oSl L 6).view.loc (VT d L) ↦[(oSl L 6).view.set]{fullShare} f0)
        ∗ ((oSl L 7).view.loc (VT d L) ↦[(oSl L 7).view.set]{fullShare} f0)
        ∗ ((lV).view.loc (VT d L) ↦[(lV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ ((b3V).view.loc (VT d L) ↦[(b3V).view.set]{fullShare} t3)
        ∗ cells0 d L
        ∗ owes (VT d L) O W) : sProp 𝕄)
      ⊢ wp frame (wpE (defs₀ (F := F)) 𝒱₀ (VT d L) none) Set.univ
          (cc0_k L xV (Memref.isWhole_whole _) iV (Memref.isWhole_whole _) oV (Memref.isWhole_whole _)
            lV (Memref.isWhole_whole _) b0V (Memref.isWhole_whole _) b1V (Memref.isWhole_whole _) b2V (Memref.isWhole_whole _)
            b3V (Memref.isWhole_whole _) cc0_scratch5 cc0_scratch6 cc0_scratch7 cc0_scratch8 cc0_scratch9 cc0_scratch10
            cc0_scratch11 cc0_scratch12 cc0_scoped0)
          fun _ => iprop(((iSl L).view.loc (VT d L) ↦[(iSl L).view.set]{fullShare} lst)
            ∗ ((xV).view.loc (VT d L) ↦{Transfers.shareTokN q 0} tab)
            ∗ ((xV).view.loc (VT d L) ↦{Transfers.shareTokN q 1} tab)
            ∗ ((xV).view.loc (VT d L) ↦{Transfers.shareTokN q 2} tab)
            ∗ ((xV).view.loc (VT d L) ↦{Transfers.shareTokN q 3} tab)
            ∗ ((oSl L 0).view.loc (VT d L) ↦[(oSl L 0).view.set]{fullShare} gathered tab lst)
            ∗ ((oSl L 1).view.loc (VT d L) ↦[(oSl L 1).view.set]{fullShare} gathered tab lst)
            ∗ ((oSl L 2).view.loc (VT d L) ↦[(oSl L 2).view.set]{fullShare} gathered tab lst)
            ∗ ((oSl L 3).view.loc (VT d L) ↦[(oSl L 3).view.set]{fullShare} gathered tab lst)
            ∗ ((oSl L 4).view.loc (VT d L) ↦[(oSl L 4).view.set]{fullShare} gathered tab lst)
            ∗ ((oSl L 5).view.loc (VT d L) ↦[(oSl L 5).view.set]{fullShare} gathered tab lst)
            ∗ ((oSl L 6).view.loc (VT d L) ↦[(oSl L 6).view.set]{fullShare} gathered tab lst)
            ∗ ((oSl L 7).view.loc (VT d L) ↦[(oSl L 7).view.set]{fullShare} gathered tab lst)
            ∗ (∃ g, (lV).view.loc (VT d L) ↦[(lV).view.set]{fullShare} g)
            ∗ (∃ g, (b0V).view.loc (VT d L) ↦[(b0V).view.set]{fullShare} g)
            ∗ (∃ g, (b1V).view.loc (VT d L) ↦[(b1V).view.set]{fullShare} g)
            ∗ (∃ g, (b2V).view.loc (VT d L) ↦[(b2V).view.set]{fullShare} g)
            ∗ (∃ g, (b3V).view.loc (VT d L) ↦[(b3V).view.set]{fullShare} g)
            ∗ cells0 d L
            ∗ ∃ W', owes (VT d L) O W') := by
  iintro ⟨#Hmw, HI, HX0, HX1, HX2, HX3, HO0, HO1, HO2, HO3, HO4, HO5, HO6, HO7, HL, HB0, HB1, HB2, HB3, ⟨Hc0, Hc1, Hc2, Hc3, Hc4, Hc5, Hc6, Hc7, Hc8⟩, HO⟩
  sl_unfold [cc0_k]
  sl_exec
  have h0 := fun g => list_inb d L lst hl g (tile_run.sl.dma0 d L lst) rfl ![0] inb_S1600_S200_0
  have h1 := fun g => list_inb d L lst hl g (tile_run.sl.dma0 d L lst) rfl ![200] inb_S1600_S200_200
  have h2 := fun g => list_inb d L lst hl g (tile_run.sl.dma0 d L lst) rfl ![400] inb_S1600_S200_400
  have h3 := fun g => list_inb d L lst hl g (tile_run.sl.dma0 d L lst) rfl ![600] inb_S1600_S200_600
  have h4 := fun g => list_inb d L lst hl g (tile_run.sl.dma0 d L lst) rfl ![800] inb_S1600_S200_800
  have h5 := fun g => list_inb d L lst hl g (tile_run.sl.dma0 d L lst) rfl ![1000] inb_S1600_S200_1000
  have h6 := fun g => list_inb d L lst hl g (tile_run.sl.dma0 d L lst) rfl ![1200] inb_S1600_S200_1200
  have h7 := fun g => list_inb d L lst hl g (tile_run.sl.dma0 d L lst) rfl ![1400] inb_S1600_S200_1400
  sl_exec
  sl_step
  ihave HO0 := (Entails.of_eq (chunk_pts d L tab lst f0 0 (tile_run.sl.dma0_1 d L tab lst t0 h0) fun x => by
    unfold tile_run.sl.dma0_1; rw [ReadAs.apply_same, View.read_writes_whole]; exact chunk_val d L tab lst hl _ 0 0 rfl _ _ rfl _ _ _ x)) $$ HO0
  ihave HO1 := (Entails.of_eq (chunk_pts d L tab lst f0 1 (tile_run.sl.dma0_2 d L tab lst t1 h1) fun x => by
    unfold tile_run.sl.dma0_2; rw [ReadAs.apply_same, View.read_writes_whole]; exact chunk_val d L tab lst hl _ 1 200 rfl _ _ rfl _ _ _ x)) $$ HO1
  ihave HO2 := (Entails.of_eq (chunk_pts d L tab lst f0 2 (tile_run.sl.dma0_3 d L tab lst t2 h2) fun x => by
    unfold tile_run.sl.dma0_3; rw [ReadAs.apply_same, View.read_writes_whole]; exact chunk_val d L tab lst hl _ 2 400 rfl _ _ rfl _ _ _ x)) $$ HO2
  ihave HO3 := (Entails.of_eq (chunk_pts d L tab lst f0 3 (tile_run.sl.dma0_4 d L tab lst t3 h3) fun x => by
    unfold tile_run.sl.dma0_4; rw [ReadAs.apply_same, View.read_writes_whole]; exact chunk_val d L tab lst hl _ 3 600 rfl _ _ rfl _ _ _ x)) $$ HO3
  ihave HO4 := (Entails.of_eq (chunk_pts d L tab lst f0 4 (tile_run.sl.dma0_5 d L tab lst t0 h0 h4) fun x => by
    unfold tile_run.sl.dma0_5; rw [ReadAs.apply_same, read_twice]; exact chunk_val d L tab lst hl _ 4 800 rfl _ _ rfl _ _ _ x)) $$ HO4
  ihave HO5 := (Entails.of_eq (chunk_pts d L tab lst f0 5 (tile_run.sl.dma0_6 d L tab lst t1 h1 h5) fun x => by
    unfold tile_run.sl.dma0_6; rw [ReadAs.apply_same, read_twice]; exact chunk_val d L tab lst hl _ 5 1000 rfl _ _ rfl _ _ _ x)) $$ HO5
  ihave HO6 := (Entails.of_eq (chunk_pts d L tab lst f0 6 (tile_run.sl.dma0_7 d L tab lst t2 h2 h6) fun x => by
    unfold tile_run.sl.dma0_7; rw [ReadAs.apply_same, read_twice]; exact chunk_val d L tab lst hl _ 6 1200 rfl _ _ rfl _ _ _ x)) $$ HO6
  ihave HO7 := (Entails.of_eq (chunk_pts d L tab lst f0 7 (tile_run.sl.dma0_8 d L tab lst t3 h3 h7) fun x => by
    unfold tile_run.sl.dma0_8; rw [ReadAs.apply_same, read_twice]; exact chunk_val d L tab lst hl _ 7 1400 rfl _ _ rfl _ _ _ x)) $$ HO7
  isplitl [HI]; · iexact HI
  isplitl [HX0]; · iexact HX0
  isplitl [HX1]; · iexact HX1
  isplitl [HX2]; · iexact HX2
  isplitl [HX3]; · iexact HX3
  isplitl [HO0]; · iexact HO0
  isplitl [HO1]; · iexact HO1
  isplitl [HO2]; · iexact HO2
  isplitl [HO3]; · iexact HO3
  isplitl [HO4]; · iexact HO4
  isplitl [HO5]; · iexact HO5
  isplitl [HO6]; · iexact HO6
  isplitl [HO7]; · iexact HO7
  isplitl [HL]; · iexists _; iexact HL
  isplitl [HB0]; · iexists _; iexact HB0
  isplitl [HB1]; · iexists _; iexact HB1
  isplitl [HB2]; · iexists _; iexact HB2
  isplitl [HB3]; · iexists _; iexact HB3
  isplitl [Hc0 Hc1 Hc2 Hc3 Hc4 Hc5 Hc6 Hc7 Hc8]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  iexists _; iexact HO
end Tile

end Cert.Proof.KI
-- ==== Proof.Task.lean ====
/-
  The SparseCore call as the launch theorem asks for it: what the handshakes carry, each task's obligation, and the
  pieces of the list, of the table and of the result put together again.
-/
module

public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg4_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S51200 EltTy.i32)
local notation "oV" => (Memref.whole Cert.KernelIdeal.main_v2_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S1600 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

variable [FloatOps F]

/-! ## Shares of the table -/

omit [FloatOps F] in
/-- The share of the table that piece `i` of `2 ^ n` equal pieces is. -/
def piece : (n : ℕ) → PosShare TreeShare → Fin (2 ^ n) → PosShare TreeShare
  | 0, q, _ => q
  | n + 1, q, i => Sum.elim (piece n q.left) (piece n q.right) (finSumFinEquiv.symm (i.cast (by rw [Nat.pow_succ]; omega)))

omit [FloatOps F] in
/-- What is held at a share is held in its pieces. -/
theorem pointsTo_pieces {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{piece n q i} f := by
  induction n with
  | zero => intro q; exact (bigSep_univ_of_subsingleton (0 : Fin 1) (Φ := fun i : Fin (2 ^ 0) => (ℓ ↦[I]{piece 0 q i} f : sProp 𝕄))).symm
  | succ n ih =>
    intro q
    let e : Fin (2 ^ n) ⊕ Fin (2 ^ n) ≃ Fin (2 ^ (n + 1)) := finSumFinEquiv.trans (finCongr (by rw [Nat.pow_succ]; omega))
    have he : ∀ s, piece (n + 1) q (e s) = Sum.elim (piece n q.left) (piece n q.right) s := by
      intro s
      show Sum.elim _ _ (finSumFinEquiv.symm _) = _
      congr 1
      exact (Equiv.symm_apply_eq _).mpr (Fin.ext rfl)
    have h2 := pointsTo_share (nD := nD) (τ := τ) (sig := sig) (Ix := HIx 1) (Val := Elt F) (Name := ℕ) (U := UU) (Lvl := ℕ) (ℓ := ℓ) (I := I) (f := f) (PosShare.mem_left_op_right q)
    rw [BI.Entails.antisymm h2.1 h2.2, ih q.left, ih q.right, bigSep_univ_equiv e, bigSep_univ_sum]
    simp only [he, Sum.elim_inl, Sum.elim_inr]
    rfl

/-! ## The task -/

section Task

variable (d : Dev nD) (L : grid0.Coords)

/-- The task's number. -/
def tno (L : grid0.Coords) : Fin 32 := ⟨2 * (L 1).val + (L 0).val, by have h0 : (L 0).val < 2 := (L 0).isLt; have h1 : (L 1).val < 16 := (L 1).isLt; omega⟩
/-- The task's share of the table. -/
abbrev tq (L : grid0.Coords) : PosShare TreeShare := piece 5 fullShare (tno L)

variable (tab : Buf (Elt F) (xLoc d)) (lst : Buf (Elt F) (iLoc d)) (f : Buf (Elt F) (oLoc d))

/-- What a task is handed and hands back: its words of the list, its share of the table, its eight chunks of the result. -/
abbrev hold (L : grid0.Coords) : sProp 𝕄 :=
  iprop((iLoc d ↦[(iSl L).view.set]{fullShare} lst) ∗ (xLoc d ↦{tq L} tab)
    ∗ bigSep Finset.univ fun c : Fin 8 => oLoc d ↦[(oSl L c).view.set]{fullShare} f)

omit [FloatOps F] in
theorem sep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
theorem mem_dcell (k : Fin 9) : dcell d L k ∈ ownCells (VT d L) :=
  mem_ownCells.mpr ⟨rfl, (show ∀ k : Fin 9, (SemLoc.dma (csem k.val (by omega)) : SemLoc sig).isScoped .scVector = true by decide) k⟩

omit [FloatOps F] in
/-- The nine cells the task uses are among its own. -/
theorem own_cells : (ownSems0 (VT d L) : sProp 𝕄)
    = iprop(cells0 d L ∗ bigSep (ownCells (VT d L) \ Finset.univ.image (dcell d L)) fun g => semVal g 0) := by
  unfold SparseCore.Cfg.ownSems0
  rw [SparseCore.bigSep_sdiff_split' (t := Finset.univ.image (dcell d L)) (Finset.image_subset_iff.mpr fun k _ => mem_dcell d L k),
    SparseCore.bigSep_image_of_injOn (fun a _ b _ h => Fin.ext (by
      have h' := congrArg Prod.snd h
      simp only [SemLoc.dma.injEq] at h'
      exact congrArg (fun s : DmaSem sig => s.val) h'))]
  rw [show (Finset.univ : Finset (Fin 9)) = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The buffers the task uses, in a set. -/
abbrev scr (L : grid0.Coords) : Finset (DevRef τ sig) :=
  {(Proc.scVector (cV L) (jV L)).devRef cc0_scratch0, (Proc.scVector (cV L) (jV L)).devRef cc0_scratch1, (Proc.scVector (cV L) (jV L)).devRef cc0_scratch2,
    (Proc.scVector (cV L) (jV L)).devRef cc0_scratch3, (Proc.scVector (cV L) (jV L)).devRef cc0_scratch4}

omit [FloatOps F] in
/-- The five buffers the task uses are among its own. -/
theorem own_bufs : (ownBufs (VT d L) : sProp 𝕄)
    = iprop(((∃ f, (VT d L).loc cc0_scratch0 ↦{fullShare} f) ∗ (∃ f, (VT d L).loc cc0_scratch1 ↦{fullShare} f) ∗ (∃ f, (VT d L).loc cc0_scratch2 ↦{fullShare} f)
          ∗ (∃ f, (VT d L).loc cc0_scratch3 ↦{fullShare} f) ∗ ∃ f, (VT d L).loc cc0_scratch4 ↦{fullShare} f)
        ∗ bigSep (ownRefs (τ := τ) (.scVector (cV L) (jV L)) \ scr L) fun b => iprop(∃ f, ((d, b) : Loc nD τ sig) ↦{fullShare} f)) := by
  have hi : ∀ a b : Ref sig .scVector, a ≠ b → (Proc.scVector (cV L) (jV L)).devRef a ≠ (Proc.scVector (cV L) (jV L)).devRef b :=
    fun a b h e => h (Proc.devRef_injective _ e)
  unfold SparseCore.Cfg.ownBufs
  have hsub : scr L ⊆ ownRefs (τ := τ) (.scVector (cV L) (jV L)) := by
    intro b hb
    simp only [scr, Finset.mem_insert, Finset.mem_singleton] at hb
    rcases hb with rfl | rfl | rfl | rfl | rfl <;> exact SparseCore.Cfg.mem_ownRefs_of_owner (p := Proc.scVector (cV L) (jV L)) rfl
  refine (SparseCore.bigSep_sdiff_split' (t := scr L) hsub).trans ?_
  unfold scr
  rw [SparseCore.bigSep_insert' (by
      simp only [Finset.mem_insert, Finset.mem_singleton, not_or]
      exact ⟨hi _ _ (by decide), hi _ _ (by decide), hi _ _ (by decide), hi _ _ (by decide)⟩),
    SparseCore.bigSep_insert' (by
      simp only [Finset.mem_insert, Finset.mem_singleton, not_or]
      exact ⟨hi _ _ (by decide), hi _ _ (by decide), hi _ _ (by decide)⟩),
    SparseCore.bigSep_insert' (by
      simp only [Finset.mem_insert, Finset.mem_singleton, not_or]
      exact ⟨hi _ _ (by decide), hi _ _ (by decide)⟩),
    SparseCore.bigSep_insert' (by
      simp only [Finset.mem_singleton]
      exact hi _ _ (by decide)), bigSep_singleton]

omit [FloatOps F] in
theorem whole_set (b : Ref sig .scVector) (g : Buf (Elt F) ((VT d L).loc b)) :
    ((VT d L).loc b ↦{fullShare} g : sProp 𝕄) = ((View.whole b).loc (VT d L) ↦[(View.whole b).set]{fullShare} g) := by
  rw [View.set_whole]

set_option maxHeartbeats 1000000 in
/-- The task's run from what the launch hands it, to what it hands back. -/
theorem task_body (hF : (K (F := F)).Facts) (hl : ListOK lst) (O : CellTallies nD τ sig (HIx 1)) (W : Waits sig (HIx 1)) (hO : ∀ g, O g none = 0) :
    iprop(levAts (K (F := F)).L (K (F := F)).lev ∗ emp ∗ hold d tab lst f L
        ∗ scopedBufs (VT d L) ∗ scopedSems0 (VT d L) ∗ owes (VT d L) O W)
      ⊢ wp frame (wpE (defs₀ (F := F)) 𝒱₀ (VT d L) none) Set.univ
          (cc0_k L (Memref.whole main_arg4_scv) (Memref.isWhole_whole _) (Memref.whole main_v1_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10 cc0_scratch11 cc0_scratch12 cc0_scoped0)
          fun _ => iprop(hold d tab lst (gathered tab lst) L
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), own_cells, own_bufs]
  unfold hold
  rw [sep_eight, sep_eight]
  have ht := Transfers.pointsTo_toks_range (nD := nD) (τ := τ) (sig := sig) (Ix := HIx 1) (Val := Elt F) (Name := ℕ) (U := UU) (Lvl := ℕ) (ℓ := xLoc d) (S := Finset.univ) (f := tab) (tq L) 4
  rw [show Finset.range 4 = {0, 1, 2, 3} by decide, SparseCore.bigSep_insert' (by decide), SparseCore.bigSep_insert' (by decide), SparseCore.bigSep_insert' (by decide),
    bigSep_singleton] at ht
  iintro ⟨#Hlv, -, ⟨HI, HX, HO0, HO1, HO2, HO3, HO4, HO5, HO6, HO7⟩, ⟨⟨⟨%g0, HL⟩, ⟨%t0, HB0⟩, ⟨%t1, HB1⟩, ⟨%t2, HB2⟩, ⟨%t3, HB3⟩⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave HX := ht.1 $$ HX
  icases HX with ⟨HXd, HX0, HX1, HX2, HX3⟩
  ihave HL := (Entails.of_eq (whole_set d L cc0_scratch0 g0)) $$ HL
  ihave HB0 := (Entails.of_eq (whole_set d L cc0_scratch1 t0)) $$ HB0
  ihave HB1 := (Entails.of_eq (whole_set d L cc0_scratch2 t1)) $$ HB1
  ihave HB2 := (Entails.of_eq (whole_set d L cc0_scratch3 t2)) $$ HB2
  ihave HB3 := (Entails.of_eq (whole_set d L cc0_scratch4 t3)) $$ HB3
  iapply (wp_wand_r Idealize.ShloMosaic.frame (wpE (defs₀ (F := F)) 𝒱₀ (VT d L) none) Set.univ)
  isplitl [Hmw HI HX0 HX1 HX2 HX3 HO0 HO1 HO2 HO3 HO4 HO5 HO6 HO7 HL HB0 HB1 HB2 HB3 Hcells HO]
  · iapply (tile_run d L tab lst (tq L) hl O W f g0 t0 t1 t2 t3)
    isplitl [Hmw]; · iexact Hmw
    isplitl [HI]; · iexact HI
    isplitl [HX0]; · iexact HX0
    isplitl [HX1]; · iexact HX1
    isplitl [HX2]; · iexact HX2
    isplitl [HX3]; · iexact HX3
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HL]; · iexact HL
    isplitl [HB0]; · iexact HB0
    isplitl [HB1]; · iexact HB1
    isplitl [HB2]; · iexact HB2
    isplitl [HB3]; · iexact HB3
    isplitl [Hcells]; · iexact Hcells
    iexact HO
  iintro %_ ⟨HI, HX0, HX1, HX2, HX3, HO0, HO1, HO2, HO3, HO4, HO5, HO6, HO7, ⟨%g0', HL⟩, ⟨%t0', HB0⟩, ⟨%t1', HB1⟩, ⟨%t2', HB2⟩, ⟨%t3', HB3⟩, Hcells, %W', HO⟩
  ihave HX := ht.2 $$ [HXd HX0 HX1 HX2 HX3]
  · isplitl [HXd]; · iexact HXd
    isplitl [HX0]; · iexact HX0
    isplitl [HX1]; · iexact HX1
    isplitl [HX2]; · iexact HX2
    iexact HX3
  isplitl [HI HX HO0 HO1 HO2 HO3 HO4 HO5 HO6 HO7]
  · isplitl [HI]; · iexact HI
    isplitl [HX]; · iexact HX
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [HL HB0 HB1 HB2 HB3 Hbufs]
  · isplitl [HL HB0 HB1 HB2 HB3]
    · isplitl [HL]; · iexists g0'; iapply (Entails.of_eq (whole_set d L cc0_scratch0 g0').symm); iexact HL
      isplitl [HB0]; · iexists t0'; iapply (Entails.of_eq (whole_set d L cc0_scratch1 t0').symm); iexact HB0
      isplitl [HB1]; · iexists t1'; iapply (Entails.of_eq (whole_set d L cc0_scratch2 t1').symm); iexact HB1
      isplitl [HB2]; · iexists t2'; iapply (Entails.of_eq (whole_set d L cc0_scratch3 t2').symm); iexact HB2
      iexists t3'; iapply (Entails.of_eq (whole_set d L cc0_scratch4 t3').symm); iexact HB3
    iexact Hbufs
  isplitl [Hcells Hsems]
  · isplitl [Hcells]; · iexact Hcells
    iexact Hsems
  iexists W'; isplitr
  · ipureintro; intro p _
    rcases p.2 with _ | q
    · exact .inr (.inl rfl)
    · exact .inr (.inr (congrArg some (Subsingleton.elim q 0)))
  iexact HO

end Task

/-! ## The call -/

/-- The coordinates of the task on subcore `i` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg4_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9 cc0_scratch10 cc0_scratch11 cc0_scratch12 cc0_scoped0) ⟨⟩ c s := rfl

section Call

variable (tab : (d : Dev nD) → Buf (Elt F) (xLoc d)) (lst : (d : Dev nD) → Buf (Elt F) (iLoc d)) (f : (d : Dev nD) → Buf (Elt F) (oLoc d))

/-- The task of the call on subcore `i` of core `c`. -/
abbrev task (c : Fin ((K (F := F)).nCore 0)) (i : Fin ((K (F := F)).nSub 0)) : grid0.Coords := coordsV ⟨c.val, c.isLt⟩ ⟨i.val, i.isLt⟩

/-- What the handshakes carry: to each core its tasks' pieces, to each task its own. -/
def P : (K (F := F)).Pay (nD := nD) (Val := Elt F) (Name := ℕ) (U := UU) where
  st := fun q d c => match q with | 0 => bigSep Finset.univ fun i : Fin ((K (F := F)).nSub 0) => hold d (tab d) (lst d) (f d) (task c i)
  dn := fun q d c => match q with | 0 => bigSep Finset.univ fun i : Fin ((K (F := F)).nSub 0) => hold d (tab d) (lst d) (gathered (tab d) (lst d)) (task c i)
  go := fun q d c i => match q with | 0 => hold d (tab d) (lst d) (f d) (task c i)
  td := fun q d c i => match q with | 0 => hold d (tab d) (lst d) (gathered (tab d) (lst d)) (task c i)
  x := fun _ _ => iprop(emp)

instance P_storable : (P (F := F) tab lst f).IsStorable where
  st q d c := match q with
    | 0 => (inferInstance : BI.Storable (upEmb : UEmb _ 𝕄) (bigSep Finset.univ fun i : Fin ((K (F := F)).nSub 0) => hold d (tab d) (lst d) (f d) (task c i)))
  dn q d c := match q with
    | 0 => (inferInstance : BI.Storable (upEmb : UEmb _ 𝕄) (bigSep Finset.univ fun i : Fin ((K (F := F)).nSub 0) => hold d (tab d) (lst d) (gathered (tab d) (lst d)) (task c i)))
  go q d c i := match q with | 0 => (inferInstance : BI.Storable (upEmb : UEmb _ 𝕄) (hold d (tab d) (lst d) (f d) (task c i)))
  td q d c i := match q with | 0 => (inferInstance : BI.Storable (upEmb : UEmb _ 𝕄) (hold d (tab d) (lst d) (gathered (tab d) (lst d)) (task c i)))

set_option maxRecDepth 16384 in
theorem tileObl (hF : (K (F := F)).Facts) (hl : ∀ d, ListOK (lst d)) : (K (F := F)).TileObl (D (F := F)) 𝒱 (P tab lst f) v₀ 0 := by
  intro d c i O W hO _ _
  simp only [show (P tab lst f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body d (coordsV ⟨_, hci.1⟩ ⟨_, hci.2⟩) (tab d) (lst d) (f d) hF (hl d) O W hO

theorem vecSplit : (K (F := F)).VecSplit' (P tab lst f) 0 := by
  intro d c
  show (bigSep Finset.univ fun i : Fin ((K (F := F)).nSub 0) => hold d (tab d) (lst d) (f d) (task c i)) ⊢ |={Set.univ}=> iprop(
      (bigSep Finset.univ fun i : Fin ((K (F := F)).nSub 0) => hold d (tab d) (lst d) (f d) (task c i))
      ∗ ((bigSep Finset.univ fun i : Fin ((K (F := F)).nSub 0) => hold d (tab d) (lst d) (gathered (tab d) (lst d)) (task c i))
          -∗ bigSep Finset.univ fun i : Fin ((K (F := F)).nSub 0) => hold d (tab d) (lst d) (gathered (tab d) (lst d)) (task c i)))
  iintro H; imodintro
  isplitl [H]; · iexact H
  iintro H; iexact H

end Call

end Cert.Proof.KI
-- ==== Proof.Pieces.lean ====
/-
  The list, the table and the result of the SparseCore call, cut into the tasks' pieces and put together again.
-/
module

public import proofs.«01_k».proof.Proof.Task

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg4_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S51200 EltTy.i32)
local notation "oV" => (Memref.whole Cert.KernelIdeal.main_v2_scv : Memref Cert.KernelIdeal.sig Kind.scVector Space.hbm Cert.KernelIdeal.S51200x128 EltTy.f32)
local notation "lV" => (Memref.whole Cert.KernelIdeal.cc0_scratch0 : Memref Cert.KernelIdeal.sig Kind.scVector Space.vmem Cert.KernelIdeal.S1600 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

variable [FloatOps F]

/-- The tasks of the call: a core and a subcore. -/
abbrev Tasks : Type := Fin ((K (F := F)).nCore 0) × Fin ((K (F := F)).nSub 0)

/-- A task's words of the list. -/
abbrev iSet (p : Tasks (F := F)) : Finset S51200.Idx := (iSl (coordsV ⟨p.1.val, p.1.isLt⟩ ⟨p.2.val, p.2.isLt⟩)).view.set
/-- A chunk of a task's part of the result. -/
abbrev oSet (p : Tasks (F := F) × Fin 8) : Finset S51200x128.Idx := (oSl (coordsV ⟨p.1.1.val, p.1.1.isLt⟩ ⟨p.1.2.val, p.1.2.isLt⟩) p.2).view.set

omit [FloatOps F] in
theorem task_zero (c : Fin ((K (F := F)).nCore 0)) (i : Fin ((K (F := F)).nSub 0)) : (task (F := F) c i 0).val = c.val := rfl
omit [FloatOps F] in
theorem task_one (c : Fin ((K (F := F)).nCore 0)) (i : Fin ((K (F := F)).nSub 0)) : (task (F := F) c i 1).val = i.val := rfl

omit [FloatOps F] in
theorem mem_iSl (L : grid0.Coords) (j : S51200.Idx) :
    j ∈ (iSl L).view.set ↔ 3200 * (L 1).val + 1600 * (L 0).val ≤ (j 0).val ∧ (j 0).val < 3200 * (L 1).val + 1600 * (L 0).val + 1600 := by
  rw [show (iSl L).view.set = (Rect.unit (s := S51200) (k0_off1 L) S1600.size (k0_off1_inb L)).set from View.set_slice_whole _ _, Rect.mem_set_unit]
  rw [k0_off1_eq]
  exact ⟨fun h => h 0, fun h a => match a with | 0 => h⟩

omit [FloatOps F] in
theorem mem_oSl (L : grid0.Coords) (c : Fin 8) (j : S51200x128.Idx) :
    j ∈ (oSl L c).view.set ↔ 3200 * (L 1).val + 1600 * (L 0).val + 200 * c.val ≤ (j 0).val ∧ (j 0).val < 3200 * (L 1).val + 1600 * (L 0).val + 200 * c.val + 200 := by
  rw [show (oSl L c).view.set = (Rect.unit (s := S51200x128) (k0_off2 L (BitVec.ofNat 32 (200 * c.val))) S200x128.size (k0_off2_inb L c)).set from View.set_slice_whole _ _,
    Rect.mem_set_unit]
  rw [k0_off2_eq]
  exact ⟨fun h => h 0, fun h a => match a with | 0 => h | 1 => ⟨Nat.zero_le _, by have := (j 1).isLt; simpa using this⟩⟩

omit [FloatOps F] in
theorem iSl_disjoint : ∀ p ∈ (Finset.univ : Finset (Tasks (F := F))), ∀ p' ∈ (Finset.univ : Finset (Tasks (F := F))), p ≠ p' →
    Disjoint (iSl (task (F := F) p.1 p.2)).view.set (iSl (task (F := F) p'.1 p'.2)).view.set := by
  rintro ⟨c, i⟩ - ⟨c', i'⟩ - h
  rw [Finset.disjoint_left]
  intro j hj hj'
  rw [mem_iSl] at hj hj'
  rw [task_zero, task_one] at hj hj'
  dsimp only at hj hj'
  have hc : c.val < 2 := c.isLt
  have hc' : c'.val < 2 := c'.isLt
  exact h (Prod.ext (Fin.ext (by show c.val = c'.val; omega)) (Fin.ext (by show i.val = i'.val; omega)))

omit [FloatOps F] in
theorem iSl_cover : (Finset.univ : Finset (Tasks (F := F))).biUnion iSet = Finset.univ := by
  refine Finset.eq_univ_iff_forall.mpr fun j => Finset.mem_biUnion.mpr ?_
  have hj : (j 0).val < 51200 := (j 0).isLt
  refine ⟨(⟨(j 0).val % 3200 / 1600, by show _ < 2; omega⟩, ⟨(j 0).val / 3200, by show _ < 16; omega⟩), Finset.mem_univ _, ?_⟩
  rw [mem_iSl, task_zero, task_one]
  constructor <;> dsimp only <;> omega

omit [FloatOps F] in
theorem oSl_disjoint : ∀ p ∈ (Finset.univ : Finset (Tasks (F := F) × Fin 8)), ∀ p' ∈ (Finset.univ : Finset (Tasks (F := F) × Fin 8)), p ≠ p' →
    Disjoint (oSl (task (F := F) p.1.1 p.1.2) p.2).view.set (oSl (task (F := F) p'.1.1 p'.1.2) p'.2).view.set := by
  rintro ⟨⟨c, i⟩, k⟩ - ⟨⟨c', i'⟩, k'⟩ - h
  rw [Finset.disjoint_left]
  intro j hj hj'
  rw [mem_oSl] at hj hj'
  rw [task_zero, task_one] at hj hj'
  dsimp only at hj hj'
  have hc : c.val < 2 := c.isLt
  have hc' : c'.val < 2 := c'.isLt
  exact h (Prod.ext (Prod.ext (Fin.ext (by show c.val = c'.val; omega)) (Fin.ext (by show i.val = i'.val; omega))) (Fin.ext (by show k.val = k'.val; omega)))

omit [FloatOps F] in
theorem oSl_cover : (Finset.univ : Finset (Tasks (F := F) × Fin 8)).biUnion oSet = Finset.univ := by
  refine Finset.eq_univ_iff_forall.mpr fun j => Finset.mem_biUnion.mpr ?_
  have hj : (j 0).val < 51200 := (j 0).isLt
  refine ⟨((⟨(j 0).val % 3200 / 1600, by show _ < 2; omega⟩, ⟨(j 0).val / 3200, by show _ < 16; omega⟩), ⟨(j 0).val % 1600 / 200, by omega⟩), Finset.mem_univ _, ?_⟩
  rw [mem_oSl, task_zero, task_one]
  constructor <;> dsimp only <;> omega

omit [FloatOps F] in
/-- The tasks by their numbers. -/
def taskEquiv : Tasks (F := F) ≃ Fin (2 ^ 5) where
  toFun p := tno (task (F := F) p.1 p.2)
  invFun n := (⟨n.val % 2, by show _ < 2; omega⟩, ⟨n.val / 2, by show _ < 16; have := n.isLt; omega⟩)
  left_inv := by
    rintro ⟨c, i⟩
    have hc : c.val < 2 := c.isLt
    exact Prod.ext (Fin.ext (by show (2 * i.val + c.val) % 2 = c.val; omega)) (Fin.ext (by show (2 * i.val + c.val) / 2 = i.val; omega))
  right_inv := fun n => Fin.ext (by show 2 * (n.val / 2) + n.val % 2 = n.val; omega)

section Whole

variable (d : Dev nD) (tab : Buf (Elt F) (xLoc d)) (lst : Buf (Elt F) (iLoc d)) (f : Buf (Elt F) (oLoc d))

omit [FloatOps F] in
/-- The list, the table and the result, whole, are the tasks' pieces of them. -/
theorem whole_eq : (iprop((iLoc d ↦{fullShare} lst) ∗ (xLoc d ↦{fullShare} tab) ∗ oLoc d ↦{fullShare} f) : sProp 𝕄)
    = bigSep Finset.univ fun c : Fin ((K (F := F)).nCore 0) => bigSep Finset.univ fun i : Fin ((K (F := F)).nSub 0) => hold d tab lst f (task (F := F) c i) := by
  have hI : (iLoc d ↦{fullShare} lst : sProp 𝕄) = bigSep Finset.univ fun p : Tasks (F := F) => iLoc d ↦[(iSl (task (F := F) p.1 p.2)).view.set]{fullShare} lst := by
    rw [← pointsTo_biUnion Finset.univ (ℓ := iLoc d) iSet iSl_disjoint, iSl_cover]
  have hX : (xLoc d ↦{fullShare} tab : sProp 𝕄) = bigSep Finset.univ fun p : Tasks (F := F) => xLoc d ↦{tq (task (F := F) p.1 p.2)} tab := by
    rw [pointsTo_pieces Finset.univ tab 5 fullShare, bigSep_univ_equiv (taskEquiv (F := F))]; rfl
  have hO : (oLoc d ↦{fullShare} f : sProp 𝕄) = bigSep Finset.univ fun p : Tasks (F := F) => bigSep Finset.univ fun c : Fin 8 =>
      oLoc d ↦[(oSl (task (F := F) p.1 p.2) c).view.set]{fullShare} f := by
    rw [← bigSep_univ_prod (fun p : Tasks (F := F) × Fin 8 => (oLoc d ↦[(oSl (task (F := F) p.1.1 p.1.2) p.2).view.set]{fullShare} f : sProp 𝕄)),
      ← pointsTo_biUnion Finset.univ (ℓ := oLoc d) oSet oSl_disjoint, oSl_cover]
  rw [← bigSep_univ_prod (fun p : Tasks (F := F) => hold d tab lst f (task (F := F) p.1 p.2)), hI, hX, hO]
  unfold hold
  rw [bigSep_sep', bigSep_sep']

end Whole

section Ends

variable (tab : (d : Dev nD) → Buf (Elt F) (xLoc d)) (lst : (d : Dev nD) → Buf (Elt F) (iLoc d)) (f : (d : Dev nD) → Buf (Elt F) (oLoc d))

theorem st_eq (d : Dev nD) : (bigSep Finset.univ fun c : Fin ((K (F := F)).nCore 0) => (P tab lst f).st 0 d c)
    = iprop((iLoc d ↦{fullShare} lst d) ∗ (xLoc d ↦{fullShare} tab d) ∗ oLoc d ↦{fullShare} f d) := (whole_eq d (tab d) (lst d) (f d)).symm
theorem dn_eq (d : Dev nD) : (bigSep Finset.univ fun c : Fin ((K (F := F)).nCore 0) => (P tab lst f).dn 0 d c)
    = iprop((iLoc d ↦{fullShare} lst d) ∗ (xLoc d ↦{fullShare} tab d) ∗ oLoc d ↦{fullShare} gathered (tab d) (lst d)) :=
  (whole_eq d (tab d) (lst d) (gathered (tab d) (lst d))).symm

end Ends

end Cert.Proof.KI
-- ==== Proof.Emb.lean ====
/-
  The embedding call: the word rows a tile gets, with the looked-up tag rows beside them, normalised. What its body
  leaves in the result's buffer at every point of the grid, over what the call finds in its arrays.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.WordCmp

@[expose] public section

set_option maxRecDepth 16384

noncomputable section

namespace Cert.Proof.KI.Emb

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- Between the points: the scoped buffers the call does not stage, untouched. -/
abbrev Φc (c : Dev nD) : sProp 𝕄 := Pipeline.scopedRest (Ix := HIx 1) (Name := ℕ) (U := UU) (Lvl := ℕ) (Val := Elt F) spec1 c

def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem before_0_of {c : Dev nD} (dat : Dat τ (Elt F) (HIx 1) ℕ UU ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg1 c) (hA : dat.A 2 = V c (Proc.devRef .tc (Pipeline.arrRef spec1 2)))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) (HIx 1) ℕ UU ℕ cfg1 c) (hA : dat.A 3 = V c (Proc.devRef .tc (Pipeline.arrRef spec1 3)))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) (HIx 1) ℕ UU ℕ cfg1 c) (hA : dat.A 4 = V c (Proc.devRef .tc (Pipeline.arrRef spec1 4)))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_0 : Rect S1x2048x1 := Rect.unit (s := S1x2048x1) ![0, 0, 0] S1x2048x1.size inb_S1x2048x1_S1x2048x1_0_0_0
abbrev r_1 : Rect S64x32 := Rect.unit (s := S64x32) ![0, 0] S64x32.size inb_S64x32_S64x32_0_0
abbrev r_2 : Rect S2048x128 := Rect.unit (s := S2048x128) ![0, 0] S2048x128.size inb_S2048x128_S2048x128_0_0
abbrev r_3 : Rect S1x160 := Rect.unit (s := S1x160) ![0, 0] S1x160.size inb_S1x160_S1x160_0_0
abbrev r_4 : Rect S2048x160 := Rect.unit (s := S2048x160) ![0, 0] S2048x160.size inb_S2048x160_S2048x160_0_0

/-! ## What the body leaves in each output window's buffer -/

def out5 (x0 : Vec F S2048x128 .f32) (x1 : Vec F S1x2048x1 .i32) (x2 : Vec F S64x32 .f32) (x3 : Vec F S1x160 .f32) (x4 : Vec F S1x160 .f32) : Vec F S2048x160 .f32 :=
  View.canon [⟨r_4, k1_pay1 (k1_pay2 (View.ld x1 r_0) (View.ld x2 r_1) (View.ld x0 r_2)) (View.ld x3 r_3) (View.ld x4 r_3)⟩]

theorem cover5 (p0 : Vec F S2048x160 .f32) (y : S2048x160.Idx) :
    ∃ pc ∈ ([⟨r_4, p0⟩] : List (View.Piece (Elt F) S2048x160 .f32)), y ∈ pc.1.set :=
  View.cover_of_tiled [⟨r_4, p0⟩] S2048x160.size (by rfl) y

/-! ## The body's triple -/

set_option maxHeartbeats 1000000 in
theorem sound_kernel (c : Dev nD) (E : Set ℕ) (i : grid1.Coords) (arg1 : Memref sig .tc .vmem S2048x128 .f32) (harg1 : arg1.IsWhole) (arg2 : Memref sig .tc .vmem S1x2048x1 .i32) (harg2 : arg2.IsWhole) (arg3 : Memref sig .tc .vmem S64x32 .f32) (harg3 : arg3.IsWhole) (arg4 : Memref sig .tc .vmem S1x160 .f32) (harg4 : arg4.IsWhole) (arg5 : Memref sig .tc .vmem S1x160 .f32) (harg5 : arg5.IsWhole) (arg6 : Memref sig .tc .vmem S2048x160 .f32) (harg6 : arg6.IsWhole)
    (x0 : Vec F S2048x128 .f32) (x1 : Vec F S1x2048x1 .i32) (x2 : Vec F S64x32 .f32) (x3 : Vec F S1x160 .f32) (x4 : Vec F S1x160 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) 𝒱₀ c none) E (cc1_body i arg1 harg1 arg2 harg2 arg3 harg3 arg4 harg4 arg5 harg5 arg6 harg6) K := by
  simp only [cc1_body_eq_skeleton]; unfold cc1_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

def dat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Φc c
  q _ := fullShare
  owed _ := 0

theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = out5 (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt none t.succ = (dat V c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) :
    defs₀ (F := F) .tc cfg1.body (cfg1.bodyArgs t (cfg1.slots t)) = bodyAt1 t := by
  rfl

theorem body_obligation (c : Dev nD) : BodyObligation (dat V c) (defs₀ (F := F)) 𝒱₀ none Set.univ := fun t => by
  rw [bigSep_W1, bigSep_W1, defs₀_row]
  exact triple_restated (sound_body V c t) rfl .rfl fun _ => .rfl

end Cert.Proof.KI.Emb
-- ==== Proof.Lstm.lean ====
/- The second call of the TensorCore: the recurrent cell, point by point. -/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.WordCmp
public import Idealize.ShloMosaic.Lib.Pipeline.ValueKit.Acc

@[expose] public section

set_option maxRecDepth 16384

noncomputable section

namespace Cert.Proof.KI.Lstm

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-! ## The recurrent cell, as the payloads of the printed body -/

/-- The cell's new hidden and carried state, from the point's blocks and the state it starts from. -/
def cell (x0 : Vec F S1x1024x160 .f32) (x1 : Vec F S1x160x512 .f32) (x2 : Vec F S1x128x512 .f32) (x3 : Vec F S1x1x512 .f32)
    (s : Vec F S1024x128 .f32 × Vec F S1024x128 .f32) : Vec F S1024x128 .f32 × Vec F S1024x128 .f32 :=
  (k2_pay1 (k2_pay8 x0 x1 s.1 x2 x3 s.2), k2_pay2 (k2_pay7 x0 x1 s.1 x2 x3 s.2))

/-- The block the cell writes out: the new hidden state. -/
def cellOut (x0 : Vec F S1x1024x160 .f32) (x1 : Vec F S1x160x512 .f32) (x2 : Vec F S1x128x512 .f32) (x3 : Vec F S1x1x512 .f32)
    (s : Vec F S1024x128 .f32 × Vec F S1024x128 .f32) : Vec F S1x1024x128 .f32 :=
  k2_pay3 (k2_pay8 x0 x1 s.1 x2 x3 s.2)

/-- The state a direction's first point starts from. -/
def cell0 : Vec F S1024x128 .f32 × Vec F S1024x128 .f32 := (k2_pay4, k2_pay5)

abbrev r_s : Rect S1024x128 := Rect.unit (s := S1024x128) ![0, 0] S1024x128.size inb_S1024x128_S1024x128_0_0
abbrev r_o : Rect S1x1024x128 := Rect.unit (s := S1x1024x128) ![0, 0, 0] S1x1024x128.size inb_S1x1024x128_S1x1024x128_0_0_0

theorem cover_s (p0 : Vec F S1024x128 .f32) (L : List (View.Piece (Elt F) S1024x128 .f32)) (y : S1024x128.Idx) :
    ∃ pc ∈ (⟨r_s, p0⟩ :: L : List (View.Piece (Elt F) S1024x128 .f32)), y ∈ pc.1.set := by
  obtain ⟨pc, hm, hy⟩ := View.cover_of_tiled (Val := Elt F) [⟨r_s, p0⟩] S1024x128.size (by rfl) y
  exact ⟨pc, by rw [List.mem_singleton.mp hm]; exact List.mem_cons_self, hy⟩

theorem cover_o (p0 : Vec F S1x1024x128 .f32) (y : S1x1024x128.Idx) :
    ∃ pc ∈ ([⟨r_o, p0⟩] : List (View.Piece (Elt F) S1x1024x128 .f32)), y ∈ pc.1.set :=
  View.cover_of_tiled [⟨r_o, p0⟩] S1x1024x128.size (by rfl) y

abbrev cond (i : grid2.Coords) : Prop :=
  (Scalar.cmpi .ne (Scalar.extui (Scalar.cmpi .eq (BitVec.ofNat 32 (i 1).val) 0#32)) 0#32 : BitVec 1) = 1#1

/-- Congruence of a function of six arguments. -/
theorem congr6 {A1 A2 A3 A4 A5 A6 B : Type} (f : A1 → A2 → A3 → A4 → A5 → A6 → B) {a1 b1 : A1} {a2 b2 : A2} {a3 b3 : A3}
    {a4 b4 : A4} {a5 b5 : A5} {a6 b6 : A6} (h1 : a1 = b1) (h2 : a2 = b2) (h3 : a3 = b3) (h4 : a4 = b4) (h5 : a5 = b5) (h6 : a6 = b6) :
    f a1 a2 a3 a4 a5 a6 = f b1 b2 b3 b4 b5 b6 := by
  rw [h1, h2, h3, h4, h5, h6]

set_option maxHeartbeats 2000000 in
/-- The body at a point that starts a direction: the state found is anything. -/
theorem sound_first (c : Dev nD) (E : Set ℕ) (i : grid2.Coords) (arg2 : Memref sig .tc .vmem S1x1024x160 .f32) (harg2 : arg2.IsWhole) (arg3 : Memref sig .tc .vmem S1x160x512 .f32) (harg3 : arg3.IsWhole) (arg4 : Memref sig .tc .vmem S1x128x512 .f32) (harg4 : arg4.IsWhole) (arg5 : Memref sig .tc .vmem S1x1x512 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x128 .f32) (harg8 : arg8.IsWhole)
    (hc0 : cond i)
    (x0 : Vec F S1x1024x160 .f32) (x1 : Vec F S1x160x512 .f32) (x2 : Vec F S1x128x512 .f32) (x3 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (cellOut x0 x1 x2 x3 cell0) ∗ owns (c : Thread nD τ) arg7 fullShare (cell x0 x1 x2 x3 cell0).1 ∗ owns (c : Thread nD τ) arg8 fullShare (cell x0 x1 x2 x3 cell0).2) -∗ K ⟨⟩))
      ⊢ wp frame (wpE (defs₀ (F := F)) 𝒱₀ c none) E (cc2_body i arg2 harg2 arg3 harg3 arg4 harg4 arg5 harg5 arg6 harg6 arg7 harg7 arg8 harg8) K := by
  simp only [cc2_body_eq_skeleton]; unfold cc2_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_o _)).trans ?_
    refine (View.canon_cons_unit_lit _ _ _ (by decide)).trans ?_
    exact congrArg k2_pay3 (congr6 k2_pay8 (View.ld_unit_lit _ _ (by decide)) (View.ld_unit_lit _ _ (by decide))
      (View.readCov_unit_lit _ _ _ (by decide)) (View.ld_unit_lit _ _ (by decide)) (View.ld_unit_lit _ _ (by decide))
      (View.readCov_unit_lit _ _ _ (by decide)))
  isplitl [HS0]
  · iexists _; isplitr
    swap; · iexact HS0
    ipureintro
    refine (View.read_writes_eq_canon _ _ _ (cover_s _ _)).trans ?_
    refine (View.canon_cons_unit_lit _ _ _ (by decide)).trans ?_
    exact congrArg k2_pay1 (congr6 k2_pay8 (View.ld_unit_lit _ _ (by decide)) (View.ld_unit_lit _ _ (by decide))
      (View.readCov_unit_lit _ _ _ (by decide)) (View.ld_unit_lit _ _ (by decide)) (View.ld_unit_lit _ _ (by decide))
      (View.readCov_unit_lit _ _ _ (by decide)))
  iexists _; isplitr
  swap; · iexact HS1
  ipureintro
  refine (View.read_writes_eq_canon _ _ _ (cover_s _ _)).trans ?_
  refine (View.canon_cons_unit_lit _ _ _ (by decide)).trans ?_
  exact congrArg k2_pay2 (congr6 k2_pay7 (View.ld_unit_lit _ _ (by decide)) (View.ld_unit_lit _ _ (by decide))
    (View.readCov_unit_lit _ _ _ (by decide)) (View.ld_unit_lit _ _ (by decide)) (View.ld_unit_lit _ _ (by decide))
    (View.readCov_unit_lit _ _ _ (by decide)))

set_option maxHeartbeats 2000000 in
/-- The body at a later point of a direction: it goes on from the state the point before left. -/
theorem sound_next (c : Dev nD) (E : Set ℕ) (i : grid2.Coords) (arg2 : Memref sig .tc .vmem S1x1024x160 .f32) (harg2 : arg2.IsWhole) (arg3 : Memref sig .tc .vmem S1x160x512 .f32) (harg3 : arg3.IsWhole) (arg4 : Memref sig .tc .vmem S1x128x512 .f32) (harg4 : arg4.IsWhole) (arg5 : Memref sig .tc .vmem S1x1x512 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x128 .f32) (harg8 : arg8.IsWhole)
    (hc0 : ¬ cond i)
    (x0 : Vec F S1x1024x160 .f32) (x1 : Vec F S1x160x512 .f32) (x2 : Vec F S1x128x512 .f32) (x3 : Vec F S1x1x512 .f32) (s : Vec F S1024x128 .f32 × Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s.1 ∗ owns (c : Thread nD τ) arg8 fullShare s.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (cellOut x0 x1 x2 x3 s) ∗ owns (c : Thread nD τ) arg7 fullShare (cell x0 x1 x2 x3 s).1 ∗ owns (c : Thread nD τ) arg8 fullShare (cell x0 x1 x2 x3 s).2) -∗ K ⟨⟩))
      ⊢ wp frame (wpE (defs₀ (F := F)) 𝒱₀ c none) E (cc2_body i arg2 harg2 arg3 harg3 arg4 harg4 arg5 harg5 arg6 harg6 arg7 harg7 arg8 harg8) K := by
  simp only [cc2_body_eq_skeleton]; unfold cc2_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  subst hf0 hf1 hf2 hf3
  obtain ⟨s0, s1⟩ := s
  dsimp only at hs0 hs1
  subst hs0 hs1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_o _)).trans ?_
    refine (View.canon_cons_unit_lit _ _ _ (by decide)).trans ?_
    exact congrArg k2_pay3 (congr6 k2_pay8 (View.ld_unit_lit _ _ (by decide)) (View.ld_unit_lit _ _ (by decide))
      (View.ld_unit_lit _ _ (by decide)) (View.ld_unit_lit _ _ (by decide)) (View.ld_unit_lit _ _ (by decide))
      (View.ld_unit_lit _ _ (by decide)))
  isplitl [HS0]
  · iexists _; isplitr
    swap; · iexact HS0
    ipureintro
    refine (View.read_writes_eq_canon _ _ _ (cover_s _ _)).trans ?_
    refine (View.canon_cons_unit_lit _ _ _ (by decide)).trans ?_
    exact congrArg k2_pay1 (congr6 k2_pay8 (View.ld_unit_lit _ _ (by decide)) (View.ld_unit_lit _ _ (by decide))
      (View.ld_unit_lit _ _ (by decide)) (View.ld_unit_lit _ _ (by decide)) (View.ld_unit_lit _ _ (by decide))
      (View.ld_unit_lit _ _ (by decide)))
  iexists _; isplitr
  swap; · iexact HS1
  ipureintro
  refine (View.read_writes_eq_canon _ _ _ (cover_s _ _)).trans ?_
  refine (View.canon_cons_unit_lit _ _ _ (by decide)).trans ?_
  exact congrArg k2_pay2 (congr6 k2_pay7 (View.ld_unit_lit _ _ (by decide)) (View.ld_unit_lit _ _ (by decide))
    (View.ld_unit_lit _ _ (by decide)) (View.ld_unit_lit _ _ (by decide)) (View.ld_unit_lit _ _ (by decide))
    (View.ld_unit_lit _ _ (by decide)))

/-! ## The state from point to point -/

/-- What an input window's buffer holds at a point: its block of the array the call finds. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The state a point starts from: at a direction's first point the cell's first state, else what the point before left. -/
def start (n : ℕ) (s : Vec F S1024x128 .f32 × Vec F S1024x128 .f32) : Vec F S1024x128 .f32 × Vec F S1024x128 .f32 :=
  if n % 50 = 0 then cell0 else s

/-- The state before point `n` (at a direction's first point, what the direction before left). -/
def st (c : Dev nD) : ℕ → Vec F S1024x128 .f32 × Vec F S1024x128 .f32
  | 0 => cell0
  | n + 1 =>
    if h : n < cfg2.N then
      cell (iblk V c 0 ⟨n, h⟩) (iblk V c 1 ⟨n, h⟩) (iblk V c 2 ⟨n, h⟩) (iblk V c 3 ⟨n, h⟩) (start n (st c n))
    else cell0

theorem st_succ (c : Dev nD) (t : Fin cfg2.N) :
    st V c (t.val + 1) = cell (iblk V c 0 t) (iblk V c 1 t) (iblk V c 2 t) (iblk V c 3 t) (start t.val (st V c t.val)) := by
  obtain ⟨n, h⟩ := t
  exact dif_pos h

theorem cond_iff (t : Fin cfg2.N) : cond (grid2.coords t) ↔ t.val % 50 = 0 := by
  have ht : t.val < 100 := lt_of_lt_of_eq t.isLt N_2
  have e1 : (grid2.coords t 1).val = t.val / 1 % 50 := Pipeline.Grid.coords_val t 1 (by decide) rfl
  simp only [cond, e1]
  word_cmp

/-! ## The pipeline's proof data -/

/-- Before point `n`: the two scratch buffers at the state the point before left — at anything where a direction
    starts — and the other scoped buffers the call does not stage, untouched. -/
def Φn (c : Dev nD) (n : ℕ) : sProp 𝕄 :=
  iprop((∃ s : Vec F S1024x128 .f32 × Vec F S1024x128 .f32, ⌜n % 50 = 0 ∨ s = st V c n⌝
      ∗ owns (c : Thread nD τ) (Memref.whole cc2_scratch0) fullShare s.1 ∗ owns (c : Thread nD τ) (Memref.whole cc2_scratch1) fullShare s.2)
    ∗ Pipeline.scopedRestBut (Ix := HIx 1) (Name := ℕ) (U := UU) (Lvl := ℕ) (Val := Elt F) spec2 c [cc2_scratch0, cc2_scratch1])

def dat (c : Dev nD) : Dat τ (Elt F) (HIx 1) ℕ UU ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => cellOut (iblk V c 0 t) (iblk V c 1 t) (iblk V c 2 t) (iblk V c 3 t) (start t.val (st V c t.val))
  Φ t := Φn V c t.val
  q _ := fullShare
  owed _ := 0

theorem A_eq (c : Dev nD) (w : Fin cfg2.W) : (dat V c).A w = V c (Proc.devRef .tc (Pipeline.arrRef spec2 w)) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = cellOut (iblk V c 0 t) (iblk V c 1 t) (iblk V c 2 t) (iblk V c 3 t) (start t.val (st V c t.val)) := by dsimp only [dat]

theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg2.N) : sProp 𝕄 :=
  iprop((dat V c).Φ t.castSucc ∗ (dat V c).owesAt none t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt none t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

theorem sound_body (c : Dev nD) (t : Fin cfg2.N) :
    bodyPre V c t ⊢ wp frame (wpE (defs₀ (F := F)) 𝒱₀ c none) Set.univ (bodyAt2 t) (fun _ => bodyPost V c t) := by
  unfold bodyPre bodyPost bodyAt2
  simp only [before_0, before_1, before_2, before_3]
  rw [show (dat V c).owesAt none t.succ = (dat V c).owesAt none t.castSucc from rfl,
    show (dat V c).Φ t.succ = Φn V c (t.val + 1) from rfl, show (dat V c).Φ t.castSucc = Φn V c t.val from rfl,
    after_0, after_1, after_2, after_3, after_4]
  unfold Φn
  iintro ⟨⟨⟨%s, %hs, HS0, HS1⟩, HR⟩, Ho, ⟨%d0, H0⟩, ⟨%d1, H1⟩, ⟨%d2, H2⟩, ⟨%d3, H3⟩, ⟨%d4, H4⟩⟩
  by_cases h0 : t.val % 50 = 0
  · rw [show start t.val (st V c t.val) = cell0 from if_pos h0]
    iapply (sound_first c Set.univ (grid2.coords t) _ _ _ _ _ _ _ _ _ _ _ _ _ _ ((cond_iff t).mpr h0) (iblk V c 0 t) (iblk V c 1 t) (iblk V c 2 t) (iblk V c 3 t) _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    iintro ⟨H0, H1, H2, H3, H4, HS0, HS1⟩
    isplitl [HS0 HS1 HR]
    · isplitl [HS0 HS1]
      · iexists _
        isplitr
        · ipureintro
          exact Or.inr ((st_succ V c t).trans (congrArg _ (if_pos h0))).symm
        isplitl [HS0]; · iexact HS0
        iexact HS1
      iexact HR
    isplitl [Ho]; · iexact Ho
    isplitl [H0]; · iexact H0
    isplitl [H1]; · iexact H1
    isplitl [H2]; · iexact H2
    isplitl [H3]; · iexact H3
    iexact H4
  · rw [show start t.val (st V c t.val) = st V c t.val from if_neg h0]
    obtain rfl : s = st V c t.val := hs.resolve_left h0
    iapply (sound_next c Set.univ (grid2.coords t) _ _ _ _ _ _ _ _ _ _ _ _ _ _ (fun h => h0 ((cond_iff t).mp h)) (iblk V c 0 t) (iblk V c 1 t) (iblk V c 2 t) (iblk V c 3 t) (st V c t.val) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 HR]
    · isplitl [HS0 HS1]
      · iexists _
        isplitr
        · ipureintro
          exact Or.inr ((st_succ V c t).trans (congrArg _ (if_neg h0))).symm
        isplitl [HS0]; · iexact HS0
        iexact HS1
      iexact HR
    isplitl [Ho]; · iexact Ho
    isplitl [H0]; · iexact H0
    isplitl [H1]; · iexact H1
    isplitl [H2]; · iexact H2
    isplitl [H3]; · iexact H3
    iexact H4

theorem defs₀_row (t : Fin cfg2.N) :
    defs₀ (F := F) .tc cfg2.body (cfg2.bodyArgs t (cfg2.slots t)) = bodyAt2 t := by
  rfl

theorem body_obligation (c : Dev nD) : BodyObligation (dat V c) (defs₀ (F := F)) 𝒱₀ none Set.univ := fun t => by
  rw [bigSep_W2, bigSep_W2, defs₀_row]
  exact triple_restated (sound_body V c t) rfl .rfl fun _ => .rfl

/-- The scoped buffers as the call finds them are the invariant before the first point; -/
theorem hin (c : Dev nD) :
    (Pipeline.scopedRest (Ix := HIx 1) (Name := ℕ) (U := UU) (Lvl := ℕ) (Val := Elt F) spec2 c : sProp 𝕄) ⊢ (dat V c).Φ 0 := by
  rw [show (dat V c).Φ 0 = Φn V c 0 from rfl, scopedRest2_split]
  unfold Φn
  iintro ⟨⟨⟨%f, HS0⟩, ⟨%g, HS1⟩⟩, HR⟩
  isplitl [HS0 HS1]
  · iexists (f, g)
    isplitr
    · ipureintro; exact Or.inl rfl
    rw [owns_whole_eq, owns_whole_eq]
    isplitl [HS0]
    · iexists f; isplitr; · ipureintro; rfl
      iexact HS0
    iexists g; isplitr; · ipureintro; rfl
    iexact HS1
  iexact HR

/-- a whole buffer at named contents is one at some contents, -/
theorem whole_some (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole_eq]
  iintro ⟨%f, -, H⟩
  iexists f
  iexact H

/-- and the invariant after the last point hands them back. -/
theorem hout (c : Dev nD) :
    (dat V c).Φ (Fin.last _) ⊢ (Pipeline.scopedRest (Ix := HIx 1) (Name := ℕ) (U := UU) (Lvl := ℕ) (Val := Elt F) spec2 c : sProp 𝕄) := by
  rw [show (dat V c).Φ (Fin.last _) = Φn V c cfg2.N from rfl, scopedRest2_split]
  unfold Φn
  iintro ⟨⟨%s, -, HS0, HS1⟩, HR⟩
  iapply (sep_mono (sep_mono (whole_some c cc2_scratch0 s.1) (whole_some c cc2_scratch1 s.2)) .rfl)
  isplitl [HS0 HS1]
  · isplitl [HS0]; · iexact HS0
    iexact HS1
  iexact HR

end Cert.Proof.KI.Lstm
-- ==== Proof.Head.lean ====
/- The third call of the TensorCore: the output layers, the loss and the counts, point by point. -/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.WordCmp
public import Idealize.ShloMosaic.Lib.Pipeline.ValueKit.Acc

@[expose] public section

set_option maxRecDepth 16384

noncomputable section

namespace Cert.Proof.KI.Head

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-! ## What the printed body leaves, as its payloads -/

/-- The tile's part of the loss. -/
def lossPart (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) : FVec F S1x1 .f32 :=
  k3_pay10 (k3_pay7 x0 x1 x2 x3 x4) (k3_pay8 x5) x6

/-- The tile's count of words labelled correctly. -/
def corrPart (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) : IVec S1x1 32 :=
  k3_pay13 (k3_pay6 x0 x1 x2 x3 x4) (k3_pay8 x5) x6

/-- The tile's logits, the tags predicted from them, and the three accumulators' next contents. -/
def logits (x0 : Vec F S2048x256 .f32) (x1 : Vec F S256x128 .f32) (x2 : Vec F S1x128 .f32) (x3 : Vec F S128x48 .f32) (x4 : Vec F S1x48 .f32) : Vec F S2048x48 .f32 := k3_pay6 x0 x1 x2 x3 x4
def pred (x0 : Vec F S2048x256 .f32) (x1 : Vec F S256x128 .f32) (x2 : Vec F S1x128 .f32) (x3 : Vec F S128x48 .f32) (x4 : Vec F S1x48 .f32) : Vec F S1x2048x1 .i32 := k3_pay12 (k3_pay6 x0 x1 x2 x3 x4)
def lossNext (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) (l : Vec F S1x1 .f32) : Vec F S1x1 .f32 := k3_pay4 (lossPart x0 x1 x2 x3 x4 x5 x6 x7) l
def corrNext (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) (r : Vec F S1x1 .i32) : Vec F S1x1 .i32 := k3_pay5 (corrPart x0 x1 x2 x3 x4 x5 x6 x7) r
def words (x7 : Vec F S1x1024 .i32) : Vec F S1x1 .i32 := k3_pay3 x7
def loss0 : Vec F S1x1 .f32 := k3_pay1
def corr0 : Vec F S1x1 .i32 := k3_pay2

abbrev r_8 : Rect S2048x48 := Rect.unit (s := S2048x48) ![0, 0] S2048x48.size inb_S2048x48_S2048x48_0_0
abbrev r_9 : Rect S1x2048x1 := Rect.unit (s := S1x2048x1) ![0, 0, 0] S1x2048x1.size inb_S1x2048x1_S1x2048x1_0_0_0
abbrev r_1 : Rect S1x1 := Rect.unit (s := S1x1) ![0, 0] S1x1.size inb_S1x1_S1x1_0_0

theorem cover_8 (p0 : Vec F S2048x48 .f32) (L : List (View.Piece (Elt F) S2048x48 .f32)) (y : S2048x48.Idx) :
    ∃ pc ∈ (⟨r_8, p0⟩ :: L : List (View.Piece (Elt F) S2048x48 .f32)), y ∈ pc.1.set := by
  obtain ⟨pc, hm, hy⟩ := View.cover_of_tiled (Val := Elt F) [⟨r_8, p0⟩] S2048x48.size (by rfl) y
  exact ⟨pc, by rw [List.mem_singleton.mp hm]; exact List.mem_cons_self, hy⟩

theorem cover_9 (p0 : Vec F S1x2048x1 .i32) (L : List (View.Piece (Elt F) S1x2048x1 .i32)) (y : S1x2048x1.Idx) :
    ∃ pc ∈ (⟨r_9, p0⟩ :: L : List (View.Piece (Elt F) S1x2048x1 .i32)), y ∈ pc.1.set := by
  obtain ⟨pc, hm, hy⟩ := View.cover_of_tiled (Val := Elt F) [⟨r_9, p0⟩] S1x2048x1.size (by rfl) y
  exact ⟨pc, by rw [List.mem_singleton.mp hm]; exact List.mem_cons_self, hy⟩

theorem cover_1 (p0 : Vec F S1x1 .f32) (L : List (View.Piece (Elt F) S1x1 .f32)) (y : S1x1.Idx) :
    ∃ pc ∈ (⟨r_1, p0⟩ :: L : List (View.Piece (Elt F) S1x1 .f32)), y ∈ pc.1.set := by
  obtain ⟨pc, hm, hy⟩ := View.cover_of_tiled (Val := Elt F) [⟨r_1, p0⟩] S1x1.size (by rfl) y
  exact ⟨pc, by rw [List.mem_singleton.mp hm]; exact List.mem_cons_self, hy⟩

theorem cover_1i (p0 : Vec F S1x1 .i32) (L : List (View.Piece (Elt F) S1x1 .i32)) (y : S1x1.Idx) :
    ∃ pc ∈ (⟨r_1, p0⟩ :: L : List (View.Piece (Elt F) S1x1 .i32)), y ∈ pc.1.set := by
  obtain ⟨pc, hm, hy⟩ := View.cover_of_tiled (Val := Elt F) [⟨r_1, p0⟩] S1x1.size (by rfl) y
  exact ⟨pc, by rw [List.mem_singleton.mp hm]; exact List.mem_cons_self, hy⟩

/-! Congruence of functions of two, three and five arguments. -/

theorem congr2 {A1 A2 B : Type} (f : A1 → A2 → B) {a1 b1 : A1} {a2 b2 : A2} (h1 : a1 = b1) (h2 : a2 = b2) : f a1 a2 = f b1 b2 := by
  rw [h1, h2]

theorem congr3 {A1 A2 A3 B : Type} (f : A1 → A2 → A3 → B) {a1 b1 : A1} {a2 b2 : A2} {a3 b3 : A3}
    (h1 : a1 = b1) (h2 : a2 = b2) (h3 : a3 = b3) : f a1 a2 a3 = f b1 b2 b3 := by
  rw [h1, h2, h3]

theorem congr5 {A1 A2 A3 A4 A5 B : Type} (f : A1 → A2 → A3 → A4 → A5 → B) {a1 b1 : A1} {a2 b2 : A2} {a3 b3 : A3}
    {a4 b4 : A4} {a5 b5 : A5} (h1 : a1 = b1) (h2 : a2 = b2) (h3 : a3 = b3) (h4 : a4 = b4) (h5 : a5 = b5) :
    f a1 a2 a3 a4 a5 = f b1 b2 b3 b4 b5 := by
  rw [h1, h2, h3, h4, h5]

set_option maxHeartbeats 4000000 in
/-- The body at the first point: the accumulators' buffers found are anything. -/
theorem sound_first (c : Dev nD) (E : Set ℕ) (i : grid3.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x48 .f32) (harg4 : arg4.IsWhole) (arg5 : Memref sig .tc .vmem S1x48 .f32) (harg5 : arg5.IsWhole) (arg6 : Memref sig .tc .vmem S1x2048x1 .i32) (harg6 : arg6.IsWhole) (arg7 : Memref sig .tc .vmem S1x2048x1 .i32) (harg7 : arg7.IsWhole) (arg8 : Memref sig .tc .vmem S1x1024 .i32) (harg8 : arg8.IsWhole) (arg9 : Memref sig .tc .vmem S2048x48 .f32) (harg9 : arg9.IsWhole) (arg10 : Memref sig .tc .vmem S1x2048x1 .i32) (harg10 : arg10.IsWhole) (arg11 : Memref sig .tc .vmem S1x1 .f32) (harg11 : arg11.IsWhole) (arg12 : Memref sig .tc .vmem S1x1 .i32) (harg12 : arg12.IsWhole) (arg13 : Memref sig .tc .vmem S1x1 .i32) (harg13 : arg13.IsWhole)
    (hc0 : k3_cond1 i = 1#1) (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (logits x0 x1 x2 x3 x4) ∗ owns (c : Thread nD τ) arg10 fullShare (pred x0 x1 x2 x3 x4) ∗ owns (c : Thread nD τ) arg11 fullShare (lossNext x0 x1 x2 x3 x4 x5 x6 x7 loss0) ∗ owns (c : Thread nD τ) arg12 fullShare (words x7) ∗ owns (c : Thread nD τ) arg13 fullShare (corrNext x0 x1 x2 x3 x4 x5 x6 x7 corr0)) -∗ K ⟨⟩))
      ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12 arg13 harg13) K := by
  simp only [cc3_body_eq_skeleton]; unfold cc3_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_8 _ _)).trans ?_
    refine (View.canon_cons_unit_lit _ _ _ (by decide)).trans ?_
    exact congr5 (k3_pay6 (F := F)) (View.ld_unit_lit _ _ (by decide)) (View.ld_unit_lit _ _ (by decide)) (View.ld_unit_lit _ _ (by decide)) (View.ld_unit_lit _ _ (by decide)) (View.ld_unit_lit _ _ (by decide))
  isplitl [H9]
  · iexists _; isplitr
    swap; · iexact H9
    ipureintro
    refine (View.read_writes_eq_canon _ _ _ (cover_9 _ _)).trans ?_
    refine (View.canon_cons_unit_lit _ _ _ (by decide)).trans ?_
    exact congrArg k3_pay12 (congr5 (k3_pay6 (F := F)) (View.ld_unit_lit _ _ (by decide)) (View.ld_unit_lit _ _ (by decide)) (View.ld_unit_lit _ _ (by decide)) (View.ld_unit_lit _ _ (by decide)) (View.ld_unit_lit _ _ (by decide)))
  isplitl [H10]
  · iexists _; isplitr
    swap; · iexact H10
    ipureintro
    refine (View.read_writes_eq_canon _ _ _ (cover_1 _ _)).trans ?_
    refine (View.canon_cons_unit_lit _ _ _ (by decide)).trans ?_
    exact congr2 k3_pay4 (congr3 k3_pay10 (congr5 (k3_pay7 (F := F)) (View.ld_unit_lit _ _ (by decide)) (View.ld_unit_lit _ _ (by decide)) (View.ld_unit_lit _ _ (by decide)) (View.ld_unit_lit _ _ (by decide)) (View.ld_unit_lit _ _ (by decide))) (congrArg (k3_pay8 (F := F)) (View.ld_unit_lit _ _ (by decide))) (View.ld_unit_lit _ _ (by decide))) (View.readCov_unit_lit _ _ _ (by decide))
  isplitl [H11]
  · iexists _; isplitr
    swap; · iexact H11
    ipureintro
    refine (View.read_writes_eq_canon _ _ _ (cover_1i _ _)).trans ?_
    refine (View.canon_cons_unit_lit _ _ _ (by decide)).trans ?_
    exact congrArg k3_pay3 (View.ld_unit_lit _ _ (by decide))
  iexists _; isplitr
  swap; · iexact H12
  ipureintro
  refine (View.read_writes_eq_canon _ _ _ (cover_1i _ _)).trans ?_
  refine (View.canon_cons_unit_lit _ _ _ (by decide)).trans ?_
  exact congr2 k3_pay5 (congr3 k3_pay13 (congr5 (k3_pay6 (F := F)) (View.ld_unit_lit _ _ (by decide)) (View.ld_unit_lit _ _ (by decide)) (View.ld_unit_lit _ _ (by decide)) (View.ld_unit_lit _ _ (by decide)) (View.ld_unit_lit _ _ (by decide))) (congrArg (k3_pay8 (F := F)) (View.ld_unit_lit _ _ (by decide))) (View.ld_unit_lit _ _ (by decide))) (View.readCov_unit_lit _ _ _ (by decide))

set_option maxHeartbeats 4000000 in
/-- The body at a later point: it adds to the accumulators, and leaves the count of all words alone. -/
theorem sound_next (c : Dev nD) (E : Set ℕ) (i : grid3.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x48 .f32) (harg4 : arg4.IsWhole) (arg5 : Memref sig .tc .vmem S1x48 .f32) (harg5 : arg5.IsWhole) (arg6 : Memref sig .tc .vmem S1x2048x1 .i32) (harg6 : arg6.IsWhole) (arg7 : Memref sig .tc .vmem S1x2048x1 .i32) (harg7 : arg7.IsWhole) (arg8 : Memref sig .tc .vmem S1x1024 .i32) (harg8 : arg8.IsWhole) (arg9 : Memref sig .tc .vmem S2048x48 .f32) (harg9 : arg9.IsWhole) (arg10 : Memref sig .tc .vmem S1x2048x1 .i32) (harg10 : arg10.IsWhole) (arg11 : Memref sig .tc .vmem S1x1 .f32) (harg11 : arg11.IsWhole) (arg12 : Memref sig .tc .vmem S1x1 .i32) (harg12 : arg12.IsWhole) (arg13 : Memref sig .tc .vmem S1x1 .i32) (harg13 : arg13.IsWhole)
    (hc0 : ¬ k3_cond1 i = 1#1) (x0 : Vec F S2048x256 .f32) (x1 : Vec F S256x128 .f32) (x2 : Vec F S1x128 .f32) (x3 : Vec F S128x48 .f32) (x4 : Vec F S1x48 .f32) (x5 : Vec F S1x2048x1 .i32) (x6 : Vec F S1x2048x1 .i32) (x7 : Vec F S1x1024 .i32) (l : Vec F S1x1 .f32) (n : Vec F S1x1 .i32) (r : Vec F S1x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare l ∗ owns (c : Thread nD τ) arg12 fullShare n ∗ owns (c : Thread nD τ) arg13 fullShare r
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (logits x0 x1 x2 x3 x4) ∗ owns (c : Thread nD τ) arg10 fullShare (pred x0 x1 x2 x3 x4) ∗ owns (c : Thread nD τ) arg11 fullShare (lossNext x0 x1 x2 x3 x4 x5 x6 x7 l) ∗ owns (c : Thread nD τ) arg12 fullShare n ∗ owns (c : Thread nD τ) arg13 fullShare (corrNext x0 x1 x2 x3 x4 x5 x6 x7 r)) -∗ K ⟨⟩))
      ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12 arg13 harg13) K := by
  simp only [cc3_body_eq_skeleton]; unfold cc3_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  subst hf0 hf1 hf2 hf3 hf4 hf5 hf6 hf7 hf10 hf11 hf12
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_8 _ _)).trans ?_
    refine (View.canon_cons_unit_lit _ _ _ (by decide)).trans ?_
    exact congr5 (k3_pay6 (F := F)) (View.ld_unit_lit _ _ (by decide)) (View.ld_unit_lit _ _ (by decide)) (View.ld_unit_lit _ _ (by decide)) (View.ld_unit_lit _ _ (by decide)) (View.ld_unit_lit _ _ (by decide))
  isplitl [H9]
  · iexists _; isplitr
    swap; · iexact H9
    ipureintro
    refine (View.read_writes_eq_canon _ _ _ (cover_9 _ _)).trans ?_
    refine (View.canon_cons_unit_lit _ _ _ (by decide)).trans ?_
    exact congrArg k3_pay12 (congr5 (k3_pay6 (F := F)) (View.ld_unit_lit _ _ (by decide)) (View.ld_unit_lit _ _ (by decide)) (View.ld_unit_lit _ _ (by decide)) (View.ld_unit_lit _ _ (by decide)) (View.ld_unit_lit _ _ (by decide)))
  isplitl [H10]
  · iexists _; isplitr
    swap; · iexact H10
    ipureintro
    refine (View.read_writes_eq_canon _ _ _ (cover_1 _ _)).trans ?_
    refine (View.canon_cons_unit_lit _ _ _ (by decide)).trans ?_
    exact congr2 k3_pay4 (congr3 k3_pay10 (congr5 (k3_pay7 (F := F)) (View.ld_unit_lit _ _ (by decide)) (View.ld_unit_lit _ _ (by decide)) (View.ld_unit_lit _ _ (by decide)) (View.ld_unit_lit _ _ (by decide)) (View.ld_unit_lit _ _ (by decide))) (congrArg (k3_pay8 (F := F)) (View.ld_unit_lit _ _ (by decide))) (View.ld_unit_lit _ _ (by decide))) (View.ld_unit_lit _ _ (by decide))
  isplitl [H11]
  · iexists f11; isplitr; · ipureintro; rfl
    iexact H11
  iexists _; isplitr
  swap; · iexact H12
  ipureintro
  refine (View.read_writes_eq_canon _ _ _ (cover_1i _ _)).trans ?_
  refine (View.canon_cons_unit_lit _ _ _ (by decide)).trans ?_
  exact congr2 k3_pay5 (congr3 k3_pay13 (congr5 (k3_pay6 (F := F)) (View.ld_unit_lit _ _ (by decide)) (View.ld_unit_lit _ _ (by decide)) (View.ld_unit_lit _ _ (by decide)) (View.ld_unit_lit _ _ (by decide)) (View.ld_unit_lit _ _ (by decide))) (congrArg (k3_pay8 (F := F)) (View.ld_unit_lit _ _ (by decide))) (View.ld_unit_lit _ _ (by decide))) (View.ld_unit_lit _ _ (by decide))

/-! ## The accumulators from point to point -/

/-- What an input window's buffer holds at a point: its block of the array the call finds. -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The loss summed over the points before `n`. -/
def loss (c : Dev nD) : ℕ → Vec F S1x1 .f32
  | 0 => loss0
  | n + 1 => if h : n < cfg3.N then lossNext (iblk V c 0 ⟨n, h⟩) (iblk V c 1 ⟨n, h⟩) (iblk V c 2 ⟨n, h⟩) (iblk V c 3 ⟨n, h⟩) (iblk V c 4 ⟨n, h⟩) (iblk V c 5 ⟨n, h⟩) (iblk V c 6 ⟨n, h⟩) (iblk V c 7 ⟨n, h⟩) (loss c n) else loss0

/-- The words labelled correctly, counted over the points before `n`. -/
def corr (c : Dev nD) : ℕ → Vec F S1x1 .i32
  | 0 => corr0
  | n + 1 => if h : n < cfg3.N then corrNext (iblk V c 0 ⟨n, h⟩) (iblk V c 1 ⟨n, h⟩) (iblk V c 2 ⟨n, h⟩) (iblk V c 3 ⟨n, h⟩) (iblk V c 4 ⟨n, h⟩) (iblk V c 5 ⟨n, h⟩) (iblk V c 6 ⟨n, h⟩) (iblk V c 7 ⟨n, h⟩) (corr c n) else corr0

/-- All words, counted at the first point. -/
def total (c : Dev nD) : Vec F S1x1 .i32 := words (iblk V c 7 ⟨0, by rw [show cfg3.N = 25 from N_3]; decide⟩)

theorem loss_succ (c : Dev nD) (t : Fin cfg3.N) : loss V c (t.val + 1) = lossNext (iblk V c 0 t) (iblk V c 1 t) (iblk V c 2 t) (iblk V c 3 t) (iblk V c 4 t) (iblk V c 5 t) (iblk V c 6 t) (iblk V c 7 t) (loss V c t.val) := by
  obtain ⟨n, h⟩ := t
  exact dif_pos h

theorem corr_succ (c : Dev nD) (t : Fin cfg3.N) : corr V c (t.val + 1) = corrNext (iblk V c 0 t) (iblk V c 1 t) (iblk V c 2 t) (iblk V c 3 t) (iblk V c 4 t) (iblk V c 5 t) (iblk V c 6 t) (iblk V c 7 t) (corr V c t.val) := by
  obtain ⟨n, h⟩ := t
  exact dif_pos h

theorem cond_iff (t : Fin cfg3.N) : k3_cond1 (grid3.coords t) = 1#1 ↔ t.val = 0 := by
  have ht : t.val < 25 := lt_of_lt_of_eq t.isLt N_3
  have e0 : (grid3.coords t 0).val = t.val / 1 % 25 := Pipeline.Grid.coords_val t 0 (by decide) rfl
  have h : k3_cond1 (grid3.coords t) = 1#1 ↔ t.val % 25 = 0 := by
    simp only [k3_cond1, e0]
    word_cmp
  rw [h]; omega

/-! ## The pipeline's proof data -/

/-- Between the points: the scoped buffers the call does not stage, untouched. -/
abbrev Φc (c : Dev nD) : sProp 𝕄 := Pipeline.scopedRest (Ix := HIx 1) (Name := ℕ) (U := UU) (Lvl := ℕ) (Val := Elt F) spec3 c

def dat (c : Dev nD) : Dat τ (Elt F) (HIx 1) ℕ UU ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => logits (iblk V c 0 t) (iblk V c 1 t) (iblk V c 2 t) (iblk V c 3 t) (iblk V c 4 t)
    | ⟨9, _⟩ => pred (iblk V c 0 t) (iblk V c 1 t) (iblk V c 2 t) (iblk V c 3 t) (iblk V c 4 t)
    | ⟨10, _⟩ => loss V c (t.val + 1)
    | ⟨11, _⟩ => total V c
    | ⟨12, _⟩ => corr V c (t.val + 1)
  Φ _ := Φc c
  q _ := fullShare
  owed _ := 0

theorem A_eq (c : Dev nD) (w : Fin cfg3.W) : (dat V c).A w = V c (Proc.devRef .tc (Pipeline.arrRef spec3 w)) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = logits (iblk V c 0 t) (iblk V c 1 t) (iblk V c 2 t) (iblk V c 3 t) (iblk V c 4 t) := by dsimp only [dat]
theorem after_9 (c : Dev nD) (t : Fin cfg3.N) : (dat V c).after 9 t = pred (iblk V c 0 t) (iblk V c 1 t) (iblk V c 2 t) (iblk V c 3 t) (iblk V c 4 t) := by dsimp only [dat]
theorem after_10 (c : Dev nD) (t : Fin cfg3.N) : (dat V c).after 10 t = loss V c (t.val + 1) := by dsimp only [dat]
theorem after_11 (c : Dev nD) (t : Fin cfg3.N) : (dat V c).after 11 t = total V c := by dsimp only [dat]
theorem after_12 (c : Dev nD) (t : Fin cfg3.N) : (dat V c).after 12 t = corr V c (t.val + 1) := by dsimp only [dat]

theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg3.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg3.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg3.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg3.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- No accumulator is written back before the last point. -/
theorem no_flush {w : Fin cfg3.W} (h : ∀ t : Fin cfg3.N, (cfg3.win w).flush t = true ↔ t.val % 25 = 24) (t : Fin cfg3.N) (ht : t.val ≠ 0) :
    (cfg3.win w).flush ⟨t.val - 1, Nat.lt_of_le_of_lt (Nat.sub_le _ _) t.isLt⟩ = false := by
  have hN : t.val < 25 := lt_of_lt_of_eq t.isLt N_3
  rw [Bool.eq_false_iff]
  intro hf
  have := (h _).mp hf
  simp only at this
  omega

theorem before_10 (c : Dev nD) (t : Fin cfg3.N) (ht : t.val ≠ 0) (d) : (dat V c).before 10 t d = loss V c t.val :=
  ((dat V c).before_out_kept 10 rfl t ht (no_flush flush3_10 t ht) (fun _ => rfl) (fun _ _ => rfl) d).trans
    ((after_10 V c _).trans (congrArg (loss V c) (Nat.succ_pred_eq_of_ne_zero ht)))
theorem before_12 (c : Dev nD) (t : Fin cfg3.N) (ht : t.val ≠ 0) (d) : (dat V c).before 12 t d = corr V c t.val :=
  ((dat V c).before_out_kept 12 rfl t ht (no_flush flush3_12 t ht) (fun _ => rfl) (fun _ _ => rfl) d).trans
    ((after_12 V c _).trans (congrArg (corr V c) (Nat.succ_pred_eq_of_ne_zero ht)))

theorem idle_11 (t : Fin cfg3.N) : cfg3.idle 11 (cfg3.grid.coords t) = !(k3_cond1 (grid3.coords t) == 1#1) := rfl

theorem before_11 (c : Dev nD) : ∀ (n : ℕ) (t : Fin cfg3.N) (_ : t.val = n + 1) (d), (dat V c).before 11 t d = total V c
  | 0, t, ht, d => by
    have h0 : t.val ≠ 0 := by omega
    rw [(dat V c).before_of_pos 11 t h0 ((cfg3.win 11).fetch_out rfl t), no_flush flush3_11 t h0, if_neg Bool.false_ne_true]
    unfold Dat.left
    have hi : cfg3.idle 11 (cfg3.grid.coords ⟨t.val - 1, Nat.lt_of_le_of_lt (Nat.sub_le _ _) t.isLt⟩) = false := by
      rw [idle_11, (cond_iff _).mpr (show t.val - 1 = 0 by omega)]; rfl
    rw [hi]
    show (dat V c).kept 11 _ d = _
    unfold Dat.kept
    rw [Pipeline.fill_of_clip_none 11 _ (fun _ => rfl) d ((dat V c).after 11 _), Window.fill_cut, after_11]
  | n + 1, t, ht, d => by
    have h0 : t.val ≠ 0 := by omega
    rw [(dat V c).before_of_pos 11 t h0 ((cfg3.win 11).fetch_out rfl t), no_flush flush3_11 t h0, if_neg Bool.false_ne_true]
    unfold Dat.left
    have hi : cfg3.idle 11 (cfg3.grid.coords ⟨t.val - 1, Nat.lt_of_le_of_lt (Nat.sub_le _ _) t.isLt⟩) = true := by
      rw [idle_11, Bool.not_eq_true', beq_eq_false_iff_ne]
      exact fun h => absurd ((cond_iff _).mp h) (show t.val - 1 ≠ 0 by omega)
    rw [hi]
    exact before_11 c n _ (show t.val - 1 = n + 1 by omega) d

/-- The count of all words as the obligation asks for it: the buffer at that count will do at every point. -/
theorem leaves_11 (c : Dev nD) (t : Fin cfg3.N) (d0 : (cfg3.win 11).block.Idx → Elt F (cfg3.win 11).elt) :
    (owns (c : Thread nD τ) (st3_11 t) fullShare (total V c) : sProp 𝕄) ⊢ (dat V c).leavesExact 11 t := by
  by_cases h0 : t.val = 0
  · have hi : cfg3.idle 11 (cfg3.grid.coords t) = false := by
      rw [idle_11, (cond_iff _).mpr h0]; rfl
    unfold Dat.leavesExact
    rw [hi, after_11]
  · have hi : cfg3.idle 11 (cfg3.grid.coords t) = true := by
      rw [idle_11, Bool.not_eq_true', beq_eq_false_iff_ne]
      exact fun h => absurd ((cond_iff _).mp h) h0
    unfold Dat.leavesExact
    rw [hi]
    cases hf : (cfg3.win 11).flush t
    · iintro H
      iexists d0
      rw [before_11 V c (t.val - 1) t (by omega)]
      iexact H
    · dsimp only
      rw [after_11]

/-! ## The body obligation, at a generic point -/

def bodyPre (c : Dev nD) (t : Fin cfg3.N) : sProp 𝕄 :=
  iprop((dat V c).Φ t.castSucc ∗ (dat V c).owesAt none t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d)))

def bodyPost (c : Dev nD) (t : Fin cfg3.N) : sProp 𝕄 :=
  iprop((dat V c).Φ t.succ ∗ (dat V c).owesAt none t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ (dat V c).leavesExact 11 t
    ∗ owns (c : Thread nD τ) (st3_12 t) fullShare ((dat V c).after 12 t))

set_option maxHeartbeats 1000000 in
theorem sound_body (c : Dev nD) (t : Fin cfg3.N) :
    bodyPre V c t ⊢ wp frame (wpE (defs₀ (F := F)) 𝒱₀ c none) Set.univ (bodyAt3 t) (fun _ => bodyPost V c t) := by
  unfold bodyPre bodyPost bodyAt3
  simp only [before_0, before_1, before_2, before_3, before_4, before_5, before_6, before_7]
  rw [show (dat V c).Φ t.succ = (dat V c).Φ t.castSucc from rfl,
    show (dat V c).owesAt none t.succ = (dat V c).owesAt none t.castSucc from rfl,
    after_0, after_1, after_2, after_3, after_4, after_5, after_6, after_7, after_8, after_9, after_10, after_12, loss_succ, corr_succ]
  by_cases h0 : t.val = 0
  · rw [show loss V c t.val = loss0 by rw [h0]; rfl, show corr V c t.val = corr0 by rw [h0]; rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    obtain ⟨tv, ht⟩ := t
    obtain rfl : tv = 0 := h0
    iapply (sound_first c Set.univ (grid3.coords _) _ _ _ _ _ _ _ _ _ _ _ _ _ _ _ _ _ _ _ _ _ _ _ _ _ _ ((cond_iff ⟨0, ht⟩).mpr rfl) (iblk V c 0 ⟨0, ht⟩) (iblk V c 1 ⟨0, ht⟩) (iblk V c 2 ⟨0, ht⟩) (iblk V c 3 ⟨0, ht⟩) (iblk V c 4 ⟨0, ht⟩) (iblk V c 5 ⟨0, ht⟩) (iblk V c 6 ⟨0, ht⟩) (iblk V c 7 ⟨0, ht⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 V c ⟨0, ht⟩ d11); iexact H11
    iexact H12
  · simp only [before_10 V c t h0, before_12 V c t h0, before_11 V c (t.val - 1) t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_next c Set.univ (grid3.coords t) _ _ _ _ _ _ _ _ _ _ _ _ _ _ _ _ _ _ _ _ _ _ _ _ _ _ (fun h => h0 ((cond_iff t).mp h)) (iblk V c 0 t) (iblk V c 1 t) (iblk V c 2 t) (iblk V c 3 t) (iblk V c 4 t) (iblk V c 5 t) (iblk V c 6 t) (iblk V c 7 t) (loss V c t.val) (total V c) (corr V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 V c t d11); iexact H11
    iexact H12

theorem defs₀_row (t : Fin cfg3.N) :
    defs₀ (F := F) .tc cfg3.body (cfg3.bodyArgs t (cfg3.slots t)) = bodyAt3 t := by
  rfl

theorem body_obligation (c : Dev nD) : BodyObligation (dat V c) (defs₀ (F := F)) 𝒱₀ none Set.univ := fun t => by
  rw [bigSep_W3, bigSep_W3, defs₀_row]
  exact triple_restated (sound_body V c t) rfl .rfl fun _ => .rfl

end Cert.Proof.KI.Head
-- ==== Proof.Main.lean ====
/-
  The program's run: the host's five straight lines, the SparseCore call between the first two and the three
  TensorCore calls after it, and what the final memory holds: each buffer's contents, as a valuation computed in order.
-/
module

public import proofs.«01_k».proof.Proof.Pieces
public import proofs.«01_k».proof.Proof.Emb
public import proofs.«01_k».proof.Proof.Lstm
public import proofs.«01_k».proof.Proof.Head
public import Idealize.ShloMosaic.Lib.Pipeline.Frame
public import Idealize.ShloMosaic.Lib.Pipeline.FrameBody
public import Idealize.ShloMosaic.Lib.Pipeline.RegionArraysS

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held after)
open Idealize.ShloMosaic.Pipeline (ucRefs unscopedBufs_held sub_ucRefs afterRegion RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The host's lines -/

/-- The words, turned time-major and laid flat. -/
abbrev opsA : List (HloOp τ sig (Elt F)) :=
  [StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
   StableHlo.reshape main_v0 main_v1 (rfl : (.i32 : EltTy) = .i32) shapeCasts_S50x1024_S51200]

/-- The part-of-speech tags turned time-major and tiled; the scale and the shift as rows. -/
abbrev opsB : List (HloOp τ sig (Elt F)) :=
  [StableHlo.unary main_arg1 main_v3 ((transpose S50x1024 [1, 0] · transposes_S1024x50_S50x1024_1_0) : (⟨S1024x50, .i32⟩ : BufTy).Contents (Elt F) → (⟨S50x1024, .i32⟩ : BufTy).Contents (Elt F)),
   StableHlo.reshape main_v3 main_v4 (rfl : (.i32 : EltTy) = .i32) shapeCasts_S50x1024_S25x2048x1,
   StableHlo.reshape main_arg6 main_v5 (rfl : (.f32 : EltTy) = .f32) shapeCasts_S160_S1x160,
   StableHlo.reshape main_arg7 main_v6 (rfl : (.f32 : EltTy) = .f32) shapeCasts_S160_S1x160]

/-- The embedding re-blocked by time; the weights of the two directions stacked. -/
abbrev opsC : List (HloOp τ sig (Elt F)) :=
  [StableHlo.reshape main_v7 main_v8 (rfl : (.f32 : EltTy) = .f32) shapeCasts_S51200x160_S50x1024x160,
   StableHlo.unary main_arg8 main_v9 (broadcastInDim S1x160x512 ![1, 2] bcast_S160x512_S1x160x512_1_2 : (⟨S160x512, .f32⟩ : BufTy).Contents (Elt F) → (⟨S1x160x512, .f32⟩ : BufTy).Contents (Elt F)),
   StableHlo.unary main_arg11 main_v10 (broadcastInDim S1x160x512 ![1, 2] bcast_S160x512_S1x160x512_1_2 : (⟨S160x512, .f32⟩ : BufTy).Contents (Elt F) → (⟨S1x160x512, .f32⟩ : BufTy).Contents (Elt F)),
   StableHlo.binary main_v9 main_v10 main_v11 ((fun a b => concatenate S2x160x512 0 [⟨S1x160x512, a⟩, ⟨S1x160x512, b⟩] concatenates_S1x160x512_S1x160x512_S2x160x512_d0) : (⟨S1x160x512, .f32⟩ : BufTy).Contents (Elt F) → (⟨S1x160x512, .f32⟩ : BufTy).Contents (Elt F) → (⟨S2x160x512, .f32⟩ : BufTy).Contents (Elt F)),
   StableHlo.unary main_arg9 main_v12 (broadcastInDim S1x128x512 ![1, 2] bcast_S128x512_S1x128x512_1_2 : (⟨S128x512, .f32⟩ : BufTy).Contents (Elt F) → (⟨S1x128x512, .f32⟩ : BufTy).Contents (Elt F)),
   StableHlo.unary main_arg12 main_v13 (broadcastInDim S1x128x512 ![1, 2] bcast_S128x512_S1x128x512_1_2 : (⟨S128x512, .f32⟩ : BufTy).Contents (Elt F) → (⟨S1x128x512, .f32⟩ : BufTy).Contents (Elt F)),
   StableHlo.binary main_v12 main_v13 main_v14 ((fun a b => concatenate S2x128x512 0 [⟨S1x128x512, a⟩, ⟨S1x128x512, b⟩] concatenates_S1x128x512_S1x128x512_S2x128x512_d0) : (⟨S1x128x512, .f32⟩ : BufTy).Contents (Elt F) → (⟨S1x128x512, .f32⟩ : BufTy).Contents (Elt F) → (⟨S2x128x512, .f32⟩ : BufTy).Contents (Elt F)),
   StableHlo.unary main_arg10 main_v15 (broadcastInDim S1x512 ![1] bcast_S512_S1x512_1 : (⟨S512, .f32⟩ : BufTy).Contents (Elt F) → (⟨S1x512, .f32⟩ : BufTy).Contents (Elt F)),
   StableHlo.unary main_arg13 main_v16 (broadcastInDim S1x512 ![1] bcast_S512_S1x512_1 : (⟨S512, .f32⟩ : BufTy).Contents (Elt F) → (⟨S1x512, .f32⟩ : BufTy).Contents (Elt F)),
   StableHlo.binary main_v15 main_v16 main_v17 ((fun a b => concatenate S2x512 0 [⟨S1x512, a⟩, ⟨S1x512, b⟩] concatenates_S1x512_S1x512_S2x512_d0) : (⟨S1x512, .f32⟩ : BufTy).Contents (Elt F) → (⟨S1x512, .f32⟩ : BufTy).Contents (Elt F) → (⟨S2x512, .f32⟩ : BufTy).Contents (Elt F)),
   StableHlo.reshape main_v17 main_v18 (rfl : (.f32 : EltTy) = .f32) shapeCasts_S2x512_S2x1x512]

/-- The labels and the words tiled, the hidden states flat, the biases and the lengths as rows. -/
abbrev opsD : List (HloOp τ sig (Elt F)) :=
  [StableHlo.unary main_arg2 main_v20 ((transpose S50x1024 [1, 0] · transposes_S1024x50_S50x1024_1_0) : (⟨S1024x50, .i32⟩ : BufTy).Contents (Elt F) → (⟨S50x1024, .i32⟩ : BufTy).Contents (Elt F)),
   StableHlo.reshape main_v20 main_v21 (rfl : (.i32 : EltTy) = .i32) shapeCasts_S50x1024_S25x2048x1,
   StableHlo.reshape main_v1 main_v22 (rfl : (.i32 : EltTy) = .i32) shapeCasts_S51200_S25x2048x1,
   StableHlo.reshape main_v19 main_v23 (rfl : (.f32 : EltTy) = .f32) shapeCasts_S50x1024x256_S51200x256,
   StableHlo.reshape main_arg15 main_v24 (rfl : (.f32 : EltTy) = .f32) shapeCasts_S128_S1x128,
   StableHlo.reshape main_arg17 main_v25 (rfl : (.f32 : EltTy) = .f32) shapeCasts_S48_S1x48,
   StableHlo.reshape main_arg3 main_v26 (rfl : (.i32 : EltTy) = .i32) shapeCasts_S1024_S1x1024]

/-- The results, turned batch-major. -/
abbrev opsE : List (HloOp τ sig (Elt F)) :=
  [StableHlo.unary main_v19 main_v28 ((transpose S1024x50x256 [1, 0, 2] · transposes_S50x1024x256_S1024x50x256_1_0_2) : (⟨S50x1024x256, .f32⟩ : BufTy).Contents (Elt F) → (⟨S1024x50x256, .f32⟩ : BufTy).Contents (Elt F)),
   StableHlo.reshape main_v27_1 main_v29 (rfl : (.i32 : EltTy) = .i32) shapeCasts_S25x2048x1_S50x1024,
   StableHlo.unary main_v29 main_v30 ((transpose S1024x50 [1, 0] · transposes_S50x1024_S1024x50_1_0) : (⟨S50x1024, .i32⟩ : BufTy).Contents (Elt F) → (⟨S1024x50, .i32⟩ : BufTy).Contents (Elt F)),
   StableHlo.reshape main_v27_0 main_v31 (rfl : (.f32 : EltTy) = .f32) shapeCasts_S51200x48_S50x1024x48,
   StableHlo.unary main_v31 main_v32 ((transpose S1024x50x48 [1, 0, 2] · transposes_S50x1024x48_S1024x50x48_1_0_2) : (⟨S50x1024x48, .f32⟩ : BufTy).Contents (Elt F) → (⟨S1024x50x48, .f32⟩ : BufTy).Contents (Elt F)),
   StableHlo.reshape main_v27_2 main_v33 (rfl : (.f32 : EltTy) = .f32) shapeCasts_S1x1_S_,
   StableHlo.reshape main_v27_3 main_v34 (rfl : (.i32 : EltTy) = .i32) shapeCasts_S1x1_S_,
   StableHlo.reshape main_v27_4 main_v35 (rfl : (.i32 : EltTy) = .i32) shapeCasts_S1x1_S_]

/-- The program, as the host's lines and the calls between them. -/
theorem main_eq (d : Dev nD) : main (F := F) d = (StableHlo.seq opsA >>= fun _ => sc.run d 0 >>= fun _ => StableHlo.seq opsB >>= fun _ =>
    SparseCore.liftProg (Prog.lift (.customCall (Pipeline.entry 0) ())) >>= fun _ => StableHlo.seq opsC >>= fun _ =>
    SparseCore.liftProg (Prog.lift (.customCall (Pipeline.entry 1) ())) >>= fun _ => StableHlo.seq opsD >>= fun _ =>
    SparseCore.liftProg (Prog.lift (.customCall (Pipeline.entry 2) ())) >>= fun _ => StableHlo.seq opsE >>= fun _ => pure ⟨⟩) := by
  simp only [StableHlo.seq, bind_assoc, pure_bind]
  rfl

/-! ## The contents, in order -/

/-- The launch contents of a device. -/
abbrev V0 (d : Dev nD) : Valuation τ sig (Elt F) := fun b => m (d, b)
/-- What the SparseCore call finds. -/
def WA (d : Dev nD) : Valuation τ sig (Elt F) := after opsA (V0 m d)
/-- The list of the call, the table, and what the result's buffer held. -/
abbrev lstOf (d : Dev nD) : Buf (Elt F) (iLoc d) := WA m d (Proc.devRef .tc main_v1)
abbrev tabOf (d : Dev nD) : Buf (Elt F) (xLoc d) := WA m d (Proc.devRef .tc main_arg4)
abbrev outOf (d : Dev nD) : Buf (Elt F) (oLoc d) := WA m d (Proc.devRef .tc main_v2)
/-- What the SparseCore call leaves. -/
def WB (d : Dev nD) : Valuation τ sig (Elt F) := Function.update (WA m d) (Proc.devRef .tc main_v2) (gathered (tabOf m d) (lstOf m d))
/-- What the embedding call finds, -/
def E0 (d : Dev nD) : Valuation τ sig (Elt F) := after opsB (WB m d)
/-- and leaves. -/
def R0 (d : Dev nD) : Valuation τ sig (Elt F) := afterRegion (Emb.dat (E0 m) d) (E0 m d)
/-- What the recurrence finds, -/
def E1 (d : Dev nD) : Valuation τ sig (Elt F) := after opsC (R0 m d)
/-- and leaves. -/
def R1 (d : Dev nD) : Valuation τ sig (Elt F) := afterRegion (Lstm.dat (E1 m) d) (E1 m d)
/-- What the head finds, -/
def E2 (d : Dev nD) : Valuation τ sig (Elt F) := after opsD (R1 m d)
/-- and leaves. -/
def R2 (d : Dev nD) : Valuation τ sig (Elt F) := afterRegion (Head.dat (E2 m) d) (E2 m d)
/-- What the run ends with. -/
def WE (d : Dev nD) : Valuation τ sig (Elt F) := after opsE (R2 m d)

/-! ## The SparseCore call's buffers -/

/-- The three buffers the call is handed. -/
abbrev callRefs : Finset (DevRef τ sig) := {Proc.devRef .tc main_v1, Proc.devRef .tc main_arg4, Proc.devRef .tc main_v2}

theorem callRefs_sub : callRefs ⊆ ucRefs τ sig := by
  intro b hb
  simp only [callRefs, Finset.mem_insert, Finset.mem_singleton] at hb
  rcases hb with rfl | rfl | rfl <;> exact Finset.mem_filter.mpr ⟨StableHlo.devRef_mem_tcRefs _, by decide⟩

theorem held_call (d : Dev nD) (W : Valuation τ sig (Elt F)) :
    (held (d.tc : Thread nD τ) callRefs W : sProp 𝕄)
      = iprop((iLoc d ↦{fullShare} W (Proc.devRef .tc main_v1)) ∗ (xLoc d ↦{fullShare} W (Proc.devRef .tc main_arg4))
          ∗ oLoc d ↦{fullShare} W (Proc.devRef .tc main_v2)) := by
  unfold held callRefs
  rw [SparseCore.bigSep_insert' (by decide), SparseCore.bigSep_insert' (by decide), bigSep_singleton]

theorem WB_out (d : Dev nD) : WB m d (Proc.devRef .tc main_v2) = gathered (tabOf m d) (lstOf m d) := by
  unfold WB; exact Function.update_self ..
theorem WB_off (d : Dev nD) (b : DevRef τ sig) (hb : b ≠ Proc.devRef .tc main_v2) : WB m d b = WA m d b := by
  unfold WB; exact Function.update_of_ne hb ..

/-- The call's buffers after it, and the rest, are all of the buffers at what the call leaves. -/
theorem held_after (d : Dev nD) :
    iprop(((iLoc d ↦{fullShare} lstOf m d) ∗ (xLoc d ↦{fullShare} tabOf m d) ∗ oLoc d ↦{fullShare} gathered (tabOf m d) (lstOf m d))
        ∗ (held (d.tc : Thread nD τ) (ucRefs τ sig \ callRefs) (WA m d) : sProp 𝕄))
      ⊢ held (d.tc : Thread nD τ) (ucRefs τ sig) (WB m d) := by
  rw [StableHlo.held_sub_split (d.tc : Thread nD τ) callRefs_sub (WB m d), held_call, WB_out,
    WB_off m d (Proc.devRef .tc main_v1) (by decide), WB_off m d (Proc.devRef .tc main_arg4) (by decide),
    StableHlo.held_congr (d.tc : Thread nD τ) (S := ucRefs τ sig \ callRefs) (V := WB m d) (V' := WA m d)
      (fun b hb => WB_off m d b fun h => (Finset.mem_sdiff.mp hb).2 (by rw [h]; decide))]

/-! ## The TensorCore calls -/

abbrev adm : (p : Fin 3) → (pcfgs (F := F) p).Adm := fun q => (cfgs q).toPCfg_adm

/-- The proof data of the three calls, over what each finds. -/
def pdats : (p : Fin 3) → (c : Dev nD) → Pipeline.Dat τ (Elt F) (HIx 1) ℕ UU ℕ (Pipeline.pin (pcfgs (F := F)) adm p) c
  | ⟨0, _⟩ => Emb.dat (E0 m)
  | ⟨1, _⟩ => Lstm.dat (E1 m)
  | ⟨2, _⟩ => Head.dat (E2 m)
  | ⟨_ + 3, h⟩ => absurd h (by omega)

theorem cut (p : Fin 3) : Pipeline.LevelCut (pcfgs (F := F)) adm (none : HIx 1) (K (F := F)).L (K (F := F)).lev p (fun _ : Dev nD => 0) (fun _ => 0) where
  hι _ _ _ := by simp
  hιb _ _ _ := Nat.le_of_eq ((K (F := F)).lev_none _)
  hD _ _ _ h := absurd h (by simp)

theorem owed0 (p : Fin 3) (c : Dev nD) (t : Fin ((Pipeline.pin (pcfgs (F := F)) adm p).N + 1)) : (pdats m p c).owed t = 0 :=
  match p with | ⟨0, _⟩ => rfl | ⟨1, _⟩ => rfl | ⟨2, _⟩ => rfl | ⟨_ + 3, h⟩ => absurd h (by omega)
theorem rec0 (p : Fin 3) (c : Dev nD) : (pdats m p c).recorded 0 = Set.univ :=
  match p with | ⟨0, _⟩ => rfl | ⟨1, _⟩ => rfl | ⟨2, _⟩ => rfl | ⟨_ + 3, h⟩ => absurd h (by omega)
theorem share0 (p : Fin 3) (c : Dev nD) (w : Fin (Pipeline.pin (pcfgs (F := F)) adm p).W) : (pdats m p c).share w = fullShare :=
  match p with
  | ⟨0, _⟩ => (Emb.dat (E0 m) c).share_full (fun _ => rfl) w
  | ⟨1, _⟩ => (Lstm.dat (E1 m) c).share_full (fun _ => rfl) w
  | ⟨2, _⟩ => (Head.dat (E2 m) c).share_full (fun _ => rfl) w
  | ⟨_ + 3, h⟩ => absurd h (by omega)

theorem obl0 (c : Dev nD) : Pipeline.BodyObligationLoose (pdats m 0 c) (defs₀ (F := F)) 𝒱₀ none Set.univ := (Emb.body_obligation (E0 m) c).loose
theorem obl1 (c : Dev nD) : Pipeline.BodyObligationLoose (pdats m 1 c) (defs₀ (F := F)) 𝒱₀ none Set.univ := (Lstm.body_obligation (E1 m) c).loose
theorem obl2 (c : Dev nD) : Pipeline.BodyObligationLoose (pdats m 2 c) (defs₀ (F := F)) 𝒱₀ none Set.univ := (Head.body_obligation (E2 m) c).loose

set_option backward.isDefEq.respectTransparency.types false in
/-- A call's region from its obligation, what its invariant opens and closes with, and what it finds. -/
def region (p : Fin 3) (kit : Pipeline.PLaunchFacts (nD := nD) (τ := τ) (pcfgs (F := F)) p) (hb : ∀ c, Pipeline.BodyObligationLoose (pdats m p c) (defs₀ (F := F)) 𝒱₀ none Set.univ)
    (hin : ∀ c, Pipeline.scopedRest (Pipeline.pin (pcfgs (F := F)) adm p).spec c ⊢ (pdats m p c).Φ 0)
    (hout : ∀ c, (pdats m p c).Φ (Fin.last _) ⊢ Pipeline.scopedRest (Pipeline.pin (pcfgs (F := F)) adm p).spec c)
    (W : Dev nD → Valuation τ sig (Elt F)) (hW : ∀ c w, (pdats m p c).arrAt w 0 = W c (Proc.devRef .tc (Pipeline.arrRef (Pipeline.pin (pcfgs (F := F)) adm p).spec w))) :
    RegionSeg (pcfgs (F := F)) adm (pdats m) (none : HIx 1) defs₀ 𝒱₀ (K (F := F)).L (K (F := F)).lev p :=
  RegionSeg.ofHeldIn (pcfgs (F := F)) adm (pdats m) none defs₀ 𝒱₀ (K (F := F)).L (K (F := F)).lev p (fun _ => 0) (ucRefs τ sig) (fun _ => iprop(emp)) (fun _ => iprop(emp))
    kit rfl hb (owed0 m p) (rec0 m p) (share0 m p)
    (fun c => sep_elim_left.trans (hin c)) (fun c => (hout c).trans (by
      iintro H
      isplitl [H]; · iexact H
      iempintro)) (fun _ => 0) (cut p) (fun _ => iprop(emp)) W hW

theorem hin0 (c : Dev nD) : (Emb.Φc c : sProp 𝕄) ⊢ (Emb.dat (E0 m) c).Φ 0 := Entails.refl _
theorem hout0 (c : Dev nD) : (Emb.dat (E0 m) c).Φ (Fin.last _) ⊢ (Emb.Φc c : sProp 𝕄) := Entails.refl _
theorem hin2 (c : Dev nD) : (Head.Φc c : sProp 𝕄) ⊢ (Head.dat (E2 m) c).Φ 0 := Entails.refl _
theorem hout2 (c : Dev nD) : (Head.dat (E2 m) c).Φ (Fin.last _) ⊢ (Head.Φc c : sProp 𝕄) := Entails.refl _

theorem pinj : Function.Injective (Pipeline.cellOf (nD := nD) (τ := τ) (Pipeline.pin (pcfgs (F := F)) adm)) := launch1.toP.cellOf_inj (adm (F := F))

/-- A region of the program, run: from all the buffers held at what it finds to all of them at what it leaves. -/
theorem region_run (p : Fin 3) (R : RegionSeg (pcfgs (F := F)) adm (pdats m) (none : HIx 1) defs₀ 𝒱₀ (K (F := F)).L (K (F := F)).lev p)
    (W W' : Dev nD → Valuation τ sig (Elt F)) (d : Dev nD)
    (hpre : iprop(held (d.tc : Thread nD τ) (ucRefs τ sig) (W d) ∗ ((∃ Wd, owes (d.tc : Thread nD τ) 0 Wd) ∗ emp ∗ emp)) ⊢ R.pre d)
    (hpost : R.post d ⊢ iprop(held (d.tc : Thread nD τ) (ucRefs τ sig) (W' d) ∗ ((∃ Wd, owes (d.tc : Thread nD τ) 0 Wd) ∗ emp ∗ emp))) :
    iprop(boundary (d.tc : Thread nD τ) ∗ held (d.tc : Thread nD τ) (ucRefs τ sig) (W d) ∗ (∃ Wd, owes (d.tc : Thread nD τ) 0 Wd)
        ∗ levAts (K (F := F)).L (K (F := F)).lev ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (SparseCore.liftProg (Prog.lift (.customCall (Pipeline.entry p) ())))
          fun _ => iprop(boundary (d.tc : Thread nD τ) ∗ held (d.tc : Thread nD τ) (ucRefs τ sig) (W' d) ∗ ∃ Wd, owes (d.tc : Thread nD τ) 0 Wd) := by
  refine (show _ ⊢ (_ : sProp 𝕄) from ?_).trans ((K (F := F)).wp_liftProg (D (F := F)) 𝒱 (SparseCore.T d) Set.univ none _ _)
  have key := RegionSeg.wp (pcfgs (F := F)) adm (pdats m) (none : HIx 1) pinj EP defs₀ 𝒱₀ (K (F := F)).L (K (F := F)).lev R d none
    (fun _ h => nomatch h) (α := PUnit) (fun _ => .ret PUnit.unit) (fun _ => iprop(boundary (d.tc : Thread nD τ) ∗ held (d.tc : Thread nD τ) (ucRefs τ sig) (W' d) ∗ ∃ Wd, owes (d.tc : Thread nD τ) 0 Wd))
  refine (show _ ⊢ (_ : sProp 𝕄) from ?_).trans key
  iintro ⟨Hb, Hh, HO, Hl, Hg, Ht⟩
  isplitr [Hb Hh HO Hl Hg Ht]
  · iintro ⟨Hb, Hp⟩
    rw [wp_ret]
    ihave Hp := hpost $$ Hp
    icases Hp with ⟨Hh, HO, -, -⟩
    imodintro
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitl [Hl]; · iexact Hl
  isplitl [Hg]; · iexact Hg
  iexact Ht

/-- What a device's TensorCore brings to a region beside its buffers, and takes from it. -/
abbrev Gp (p : Fin 3) (d : Dev nD) : sProp 𝕄 :=
  iprop(Pipeline.cellsGhost (Pipeline.pin (pcfgs (F := F)) adm) EP p d ∗ Pipeline.toksInit (Pipeline.pin (pcfgs (F := F)) adm) EP p d)

theorem region_pre (p : Fin 3) (kit : Pipeline.PLaunchFacts (nD := nD) (τ := τ) (pcfgs (F := F)) p) (hb : ∀ c, Pipeline.BodyObligationLoose (pdats m p c) (defs₀ (F := F)) 𝒱₀ none Set.univ)
    (hin : ∀ c, Pipeline.scopedRest (Pipeline.pin (pcfgs (F := F)) adm p).spec c ⊢ (pdats m p c).Φ 0)
    (hout : ∀ c, (pdats m p c).Φ (Fin.last _) ⊢ Pipeline.scopedRest (Pipeline.pin (pcfgs (F := F)) adm p).spec c)
    (W : Dev nD → Valuation τ sig (Elt F)) (hW : ∀ c w, (pdats m p c).arrAt w 0 = W c (Proc.devRef .tc (Pipeline.arrRef (Pipeline.pin (pcfgs (F := F)) adm p).spec w)))
    (hS : Pipeline.arrRefs (pcfgs (F := F) p).spec ⊆ ucRefs τ sig) (d : Dev nD) :
    iprop(held (d.tc : Thread nD τ) (ucRefs τ sig) (W d) ∗ ((∃ Wd, owes (d.tc : Thread nD τ) 0 Wd) ∗ emp ∗ emp)) ⊢ (region m p kit hb hin hout W hW).pre d := by
  unfold region
  exact RegionSeg.ofHeldIn_pre (D := fun _ => 0) (S := ucRefs τ sig) hS (X := fun _ => iprop(emp)) (Y := fun _ => iprop(emp)) (kit := kit) (hK := rfl) (hbody := hb) (howed := owed0 m p) (hrec := rec0 m p) (hshare := share0 m p) (b := fun _ => 0) (hcut := cut p) (R := fun _ => iprop(emp)) (W := W) (hW := hW) d
theorem region_post (p : Fin 3) (kit : Pipeline.PLaunchFacts (nD := nD) (τ := τ) (pcfgs (F := F)) p) (hb : ∀ c, Pipeline.BodyObligationLoose (pdats m p c) (defs₀ (F := F)) 𝒱₀ none Set.univ)
    (hin : ∀ c, Pipeline.scopedRest (Pipeline.pin (pcfgs (F := F)) adm p).spec c ⊢ (pdats m p c).Φ 0)
    (hout : ∀ c, (pdats m p c).Φ (Fin.last _) ⊢ Pipeline.scopedRest (Pipeline.pin (pcfgs (F := F)) adm p).spec c)
    (W : Dev nD → Valuation τ sig (Elt F)) (hW : ∀ c w, (pdats m p c).arrAt w 0 = W c (Proc.devRef .tc (Pipeline.arrRef (Pipeline.pin (pcfgs (F := F)) adm p).spec w)))
    (hS : Pipeline.arrRefs (pcfgs (F := F) p).spec ⊆ ucRefs τ sig) (d : Dev nD) :
    (region m p kit hb hin hout W hW).post d
      ⊢ iprop(held (d.tc : Thread nD τ) (ucRefs τ sig) (afterRegion (pdats m p d) (W d)) ∗ ((∃ Wd, owes (d.tc : Thread nD τ) 0 Wd) ∗ emp ∗ emp)) := by
  unfold region
  exact RegionSeg.ofHeldIn_post (D := fun _ => 0) (S := ucRefs τ sig) hS (X := fun _ => iprop(emp)) (Y := fun _ => iprop(emp)) (kit := kit) (hK := rfl) (hbody := hb) (howed := owed0 m p) (hrec := rec0 m p) (hshare := share0 m p) (b := fun _ => 0) (hcut := cut p) (R := fun _ => iprop(emp)) (W := W) (hW := hW) d

/-- A region run at what its proof data leave. -/
theorem region_run' (p : Fin 3) (kit : Pipeline.PLaunchFacts (nD := nD) (τ := τ) (pcfgs (F := F)) p) (hb : ∀ c, Pipeline.BodyObligationLoose (pdats m p c) (defs₀ (F := F)) 𝒱₀ none Set.univ)
    (hin : ∀ c, Pipeline.scopedRest (Pipeline.pin (pcfgs (F := F)) adm p).spec c ⊢ (pdats m p c).Φ 0)
    (hout : ∀ c, (pdats m p c).Φ (Fin.last _) ⊢ Pipeline.scopedRest (Pipeline.pin (pcfgs (F := F)) adm p).spec c)
    (W : Dev nD → Valuation τ sig (Elt F)) (hW : ∀ c w, (pdats m p c).arrAt w 0 = W c (Proc.devRef .tc (Pipeline.arrRef (Pipeline.pin (pcfgs (F := F)) adm p).spec w)))
    (hS : Pipeline.arrRefs (pcfgs (F := F) p).spec ⊆ ucRefs τ sig) (d : Dev nD) :
    iprop(boundary (d.tc : Thread nD τ) ∗ held (d.tc : Thread nD τ) (ucRefs τ sig) (W d) ∗ (∃ Wd, owes (d.tc : Thread nD τ) 0 Wd)
        ∗ levAts (K (F := F)).L (K (F := F)).lev ∗ Gp p d)
      ⊢ wp frame (wpE ((K (F := F)).defs (D (F := F))) 𝒱 (SparseCore.T d) none) Set.univ
          (SparseCore.liftProg (Prog.lift (.customCall (Pipeline.entry p) ())))
          fun _ => iprop(boundary (d.tc : Thread nD τ) ∗ held (d.tc : Thread nD τ) (ucRefs τ sig) (afterRegion (pdats m p d) (W d)) ∗ ∃ Wd, owes (d.tc : Thread nD τ) 0 Wd) :=
  region_run m p (region m p kit hb hin hout W hW) W (fun d => afterRegion (pdats m p d) (W d)) d (region_pre m p kit hb hin hout W hW hS d) (region_post m p kit hb hin hout W hW hS d)

set_option backward.isDefEq.respectTransparency.types false in
theorem run0 (d : Dev nD) :
    iprop(boundary (d.tc : Thread nD τ) ∗ held (d.tc : Thread nD τ) (ucRefs τ sig) (E0 m d) ∗ (∃ Wd, owes (d.tc : Thread nD τ) 0 Wd)
        ∗ levAts (K (F := F)).L (K (F := F)).lev ∗ Gp 0 d)
      ⊢ wp frame (wpE ((K (F := F)).defs (D (F := F))) 𝒱 (SparseCore.T d) none) Set.univ
          (SparseCore.liftProg (Prog.lift (.customCall (Pipeline.entry 0) ())))
          fun _ => iprop(boundary (d.tc : Thread nD τ) ∗ held (d.tc : Thread nD τ) (ucRefs τ sig) (R0 m d) ∗ ∃ Wd, owes (d.tc : Thread nD τ) 0 Wd) :=
  region_run' m 0 (launch1.toP) (obl0 m) (fun c => hin0 m c) (fun c => hout0 m c) (E0 m) (fun c w => Emb.A_eq (E0 m) c w)
    (Pipeline.arrRefs_sub_ucRefs spec1 (by decide)) d
set_option backward.isDefEq.respectTransparency.types false in
theorem run1 (d : Dev nD) :
    iprop(boundary (d.tc : Thread nD τ) ∗ held (d.tc : Thread nD τ) (ucRefs τ sig) (E1 m d) ∗ (∃ Wd, owes (d.tc : Thread nD τ) 0 Wd)
        ∗ levAts (K (F := F)).L (K (F := F)).lev ∗ Gp 1 d)
      ⊢ wp frame (wpE ((K (F := F)).defs (D (F := F))) 𝒱 (SparseCore.T d) none) Set.univ
          (SparseCore.liftProg (Prog.lift (.customCall (Pipeline.entry 1) ())))
          fun _ => iprop(boundary (d.tc : Thread nD τ) ∗ held (d.tc : Thread nD τ) (ucRefs τ sig) (R1 m d) ∗ ∃ Wd, owes (d.tc : Thread nD τ) 0 Wd) :=
  region_run' m 1 (launch2.toP) (obl1 m) (fun c => Lstm.hin (E1 m) c) (fun c => Lstm.hout (E1 m) c) (E1 m) (fun c w => Lstm.A_eq (E1 m) c w)
    (Pipeline.arrRefs_sub_ucRefs spec2 (by decide)) d
set_option backward.isDefEq.respectTransparency.types false in
theorem run2 (d : Dev nD) :
    iprop(boundary (d.tc : Thread nD τ) ∗ held (d.tc : Thread nD τ) (ucRefs τ sig) (E2 m d) ∗ (∃ Wd, owes (d.tc : Thread nD τ) 0 Wd)
        ∗ levAts (K (F := F)).L (K (F := F)).lev ∗ Gp 2 d)
      ⊢ wp frame (wpE ((K (F := F)).defs (D (F := F))) 𝒱 (SparseCore.T d) none) Set.univ
          (SparseCore.liftProg (Prog.lift (.customCall (Pipeline.entry 2) ())))
          fun _ => iprop(boundary (d.tc : Thread nD τ) ∗ held (d.tc : Thread nD τ) (ucRefs τ sig) (R2 m d) ∗ ∃ Wd, owes (d.tc : Thread nD τ) 0 Wd) :=
  region_run' m 2 (launch3.toP) (obl2 m) (fun c => hin2 m c) (fun c => hout2 m c) (E2 m) (fun c w => Head.A_eq (E2 m) c w)
    (Pipeline.arrRefs_sub_ucRefs spec3 (by decide)) d

/-! ## The launch element -/

/-- What a device's TensorCore is dealt for its three calls. -/
abbrev G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

def uP : UP := initOf (Pipeline.cells (Pipeline.pin (pcfgs (F := F)) adm) pinj) (Pipeline.launchToks (Pipeline.pin (pcfgs (F := F)) adm) pinj)

def u₀ : UU := ((initOf (K (F := F)).hsCells (K (F := F)).hsToks, uP (F := F)), 1)

omit [FloatOps F] in
theorem sep_emp {I : Type} (s : Finset I) : (bigSep s fun _ => iprop(emp)) = (iprop(emp) : sProp 𝕄) := bigSep_emp_const s

theorem fund : (BI.own (EP (uP (F := F))) : sProp 𝕄) ⊢ |==> bigSep Finset.univ (G (F := F)) := by
  refine (Pipeline.fund_ghost (Pipeline.pin (pcfgs (F := F)) adm) EP pinj).trans ?_
  unfold G
  rw [bigSep_sep']

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (tabOf m) (lstOf m) (outOf m)).x q thr) := by
  unfold u₀
  iintro Hu
  ihave H := (ownU_pair ((initOf (K (F := F)).hsCells (K (F := F)).hsToks, uP (F := F)) : UH × UP) (1 : Counters)) $$ Hu
  icases H with ⟨HH, -⟩
  ihave H := (own_pair_emb embL (initOf (K (F := F)).hsCells (K (F := F)).hsToks) (uP (F := F))) $$ HH
  icases H with ⟨HH, HP⟩
  imod fund $$ HP with HG
  imodintro
  isplitl [HH]; · iexact HH
  isplitl [HG]; · iexact HG
  rw [show (bigSep Finset.univ fun thr : Thread nD τ => bigSep Finset.univ fun q : Fin 1 => (P (F := F) (tabOf m) (lstOf m) (outOf m)).x q thr) = bigSep Finset.univ fun _ => iprop(emp) from
    bigSep_congr fun _ _ => bigSep_univ_of_subsingleton (0 : Fin 1), sep_emp]
  iempintro

/-- What a device is dealt, call by call. -/
theorem G_split (d : Dev nD) : (G d : sProp 𝕄) ⊢ iprop(Gp 0 d ∗ Gp 1 d ∗ Gp 2 d) := by
  unfold G Gp
  rw [← bigSep_sep', show (Finset.univ : Finset (Fin 3)) = {0, 1, 2} from rfl, SparseCore.bigSep_insert' (by decide), SparseCore.bigSep_insert' (by decide), bigSep_singleton]

/-! ## The lines' side conditions -/

theorem subA : ∀ op ∈ opsA (F := F), op.bufs ⊆ ucRefs τ sig := fun op h => by
  have hs : (opsA (F := F)).Forall fun op => op.bufs ⊆ StableHlo.tcRefs τ sig := by simp [List.Forall]
  exact sub_ucRefs op (List.forall_iff_forall_mem.mp hs op h)
theorem freshA : ∀ op ∈ opsA (F := F), op.fresh = ∅ := List.forall_iff_forall_mem.mp (StableHlo.forall_fresh_of_map rfl)
theorem subB : ∀ op ∈ opsB (F := F), op.bufs ⊆ ucRefs τ sig := fun op h => by
  have hs : (opsB (F := F)).Forall fun op => op.bufs ⊆ StableHlo.tcRefs τ sig := by simp [List.Forall]
  exact sub_ucRefs op (List.forall_iff_forall_mem.mp hs op h)
theorem freshB : ∀ op ∈ opsB (F := F), op.fresh = ∅ := List.forall_iff_forall_mem.mp (StableHlo.forall_fresh_of_map rfl)
theorem subC : ∀ op ∈ opsC (F := F), op.bufs ⊆ ucRefs τ sig := fun op h => by
  have hs : (opsC (F := F)).Forall fun op => op.bufs ⊆ StableHlo.tcRefs τ sig := by simp [List.Forall]
  exact sub_ucRefs op (List.forall_iff_forall_mem.mp hs op h)
theorem freshC : ∀ op ∈ opsC (F := F), op.fresh = ∅ := List.forall_iff_forall_mem.mp (StableHlo.forall_fresh_of_map rfl)
theorem subD : ∀ op ∈ opsD (F := F), op.bufs ⊆ ucRefs τ sig := fun op h => by
  have hs : (opsD (F := F)).Forall fun op => op.bufs ⊆ StableHlo.tcRefs τ sig := by simp [List.Forall]
  exact sub_ucRefs op (List.forall_iff_forall_mem.mp hs op h)
theorem freshD : ∀ op ∈ opsD (F := F), op.fresh = ∅ := List.forall_iff_forall_mem.mp (StableHlo.forall_fresh_of_map rfl)
theorem subE : ∀ op ∈ opsE (F := F), op.bufs ⊆ ucRefs τ sig := fun op h => by
  have hs : (opsE (F := F)).Forall fun op => op.bufs ⊆ StableHlo.tcRefs τ sig := by simp [List.Forall]
  exact sub_ucRefs op (List.forall_iff_forall_mem.mp hs op h)
theorem freshE : ∀ op ∈ opsE (F := F), op.fresh = ∅ := List.forall_iff_forall_mem.mp (StableHlo.forall_fresh_of_map rfl)

/-! ## @main on the TensorCore -/

omit [FloatOps F] in
theorem open_aux {X Y rest : sProp 𝕄} (h1 : X ⊢ Y) (h2 : Y ⊢ X) : ∃ r : sProp 𝕄, (iprop(X ∗ rest) ⊢ iprop(Y ∗ r)) ∧ (iprop(Y ∗ r) ⊢ iprop(X ∗ rest)) :=
  ⟨rest, sep_mono h1 .rfl, sep_mono h2 .rfl⟩

/-- After the only SparseCore call nothing is owed, and every wait recorded is of a level below the next call's. -/
theorem tcSt_open (d : Dev nD) : ∃ rest : sProp 𝕄, ((K (F := F)).tcSt EH d 1 ⊢ iprop((∃ Wd, owes (d.tc : Thread nD τ) 0 Wd) ∗ rest))
    ∧ (iprop((∃ Wd, owes (d.tc : Thread nD τ) 0 Wd) ∗ rest) ⊢ (K (F := F)).tcSt EH d 1) := by
  unfold SparseCore.Cfg.tcSt
  rw [(K (F := F)).Otc_end d (le_refl 1)]
  refine open_aux ?_ ?_
  rotate_left
  · iintro ⟨%W, HO⟩
    · iexists W
      isplitr
      · ipureintro
        rintro ⟨sm, i⟩ _
        cases i with
        | none => exact Nat.zero_le _
        | some q =>
          refine ((K (F := F)).lev_some_le _ q).trans ?_
          show 8 * q.val + 7 ≤ 8 * 1
          omega
      iexact HO
  · iintro ⟨%W, -, HO⟩
    iexists W; iexact HO

/-- What device `d`'s TensorCore ends holding: its buffers. -/
abbrev FIN (d : Dev nD) : sProp 𝕄 := held (d.tc : Thread nD τ) (ucRefs τ sig) (WE m d)

theorem hmain (κ : GSem nD τ sig → ℕ) (d : Dev nD) :
    iprop((K (F := F)).ctx EH (P (tabOf m) (lstOf m) (outOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨rest, hop, hcl⟩ := tcSt_open (F := F) d
  unfold SparseCore.Cfg.tcRes SparseCore.Cfg.tcEnd
  rw [show (unscopedBufs d (fun b => m ((SparseCore.T d).loc b)) : sProp 𝕄) = held (d.tc : Thread nD τ) (ucRefs τ sig) (V0 m d) from unscopedBufs_held d (V0 m d), main_eq]
  iintro ⟨#Hctx, Hst, ⟨Hb, Hh, Hts, -⟩, HG⟩
  ihave #Hlv := ((K (F := F)).ctx_levAts κ) $$ Hctx
  ihave HG := (G_split d) $$ HG
  icases HG with ⟨Hg0, Hg1, Hg2⟩
  iapply (StableHlo.wp_seq 𝒱 none Set.univ d (ucRefs τ sig) _ opsA subA freshA (V0 m d)) $$ [Hb Hh]
  · isplitl [Hb]; · iexact Hb
    iexact Hh
  iintro ⟨Hb, Hh⟩
  rw [show after opsA (V0 m d) = WA m d from rfl]
  ihave Hh := (Entails.of_eq (StableHlo.held_sub_split (d.tc : Thread nD τ) callRefs_sub (WA m d))) $$ Hh
  icases Hh with ⟨Hc, Hr⟩
  ihave Hc := (Entails.of_eq (held_call d (WA m d))) $$ Hc
  rw [wp_bind]
  iapply ((K (F := F)).wp_run (D (F := F)) 𝒱 (EH := EH) (P := P (tabOf m) (lstOf m) (outOf m)) κ d 0) $$ [Hst Hc Hr Hb Hts Hg0 Hg1 Hg2]
  isplitr; · iexact Hctx
  isplitl [Hst]; · iexact Hst
  isplitl [Hc]
  · rw [st_eq]; iexact Hc
  iintro ⟨Hst, Hdn⟩
  ihave Hdn := (Entails.of_eq (dn_eq (tabOf m) (lstOf m) (outOf m) d)) $$ Hdn
  ihave Hh := (held_after m d) $$ [Hdn Hr]
  · isplitl [Hdn]; · iexact Hdn
    iexact Hr
  ihave Hst := (show (K (F := F)).tcSt EH d ((0 : Fin 1).val + 1) ⊢ _ from hop) $$ Hst
  icases Hst with ⟨HO, Hrest⟩
  iapply (StableHlo.wp_seq 𝒱 none Set.univ d (ucRefs τ sig) _ opsB subB freshB (WB m d)) $$ [Hb Hh]
  · isplitl [Hb]; · iexact Hb
    iexact Hh
  iintro ⟨Hb, Hh⟩
  rw [wp_bind]
  iapply ((run0 m d).trans (wp_wand _ _ _)) $$ [Hb Hh HO Hg0]
  · isplitl [Hb]; · iexact Hb
    isplitl [Hh]; · iexact Hh
    isplitl [HO]; · iexact HO
    isplitr; · iexact Hlv
    iexact Hg0
  iintro %_ ⟨Hb, Hh, HO⟩
  iapply (StableHlo.wp_seq 𝒱 none Set.univ d (ucRefs τ sig) _ opsC subC freshC (R0 m d)) $$ [Hb Hh]
  · isplitl [Hb]; · iexact Hb
    iexact Hh
  iintro ⟨Hb, Hh⟩
  rw [wp_bind]
  iapply ((run1 m d).trans (wp_wand _ _ _)) $$ [Hb Hh HO Hg1]
  · isplitl [Hb]; · iexact Hb
    isplitl [Hh]; · iexact Hh
    isplitl [HO]; · iexact HO
    isplitr; · iexact Hlv
    iexact Hg1
  iintro %_ ⟨Hb, Hh, HO⟩
  iapply (StableHlo.wp_seq 𝒱 none Set.univ d (ucRefs τ sig) _ opsD subD freshD (R1 m d)) $$ [Hb Hh]
  · isplitl [Hb]; · iexact Hb
    iexact Hh
  iintro ⟨Hb, Hh⟩
  rw [wp_bind]
  iapply ((run2 m d).trans (wp_wand _ _ _)) $$ [Hb Hh HO Hg2]
  · isplitl [Hb]; · iexact Hb
    isplitl [Hh]; · iexact Hh
    isplitl [HO]; · iexact HO
    isplitr; · iexact Hlv
    iexact Hg2
  iintro %_ ⟨Hb, Hh, HO⟩
  iapply (StableHlo.wp_seq 𝒱 none Set.univ d (ucRefs τ sig) _ opsE subE freshE (R2 m d)) $$ [Hb Hh]
  · isplitl [Hb]; · iexact Hb
    iexact Hh
  iintro ⟨Hb, Hh⟩
  rw [wp_pure]
  imodintro
  isplitl [HO Hrest]
  · iapply hcl
    isplitl [HO]; · iexact HO
    iexact Hrest
  isplitl [Hh]; · iexact Hh
  isplitl [Hb] <;> iassumption

/-- What the final memory is known to hold. -/
def fq (d : Dev nD) (s' : Phys nD τ sig (Elt F)) : Prop := ∀ b ∈ ucRefs τ sig, s'.mem.mem (d, b) = WE m d b

theorem hfin (d : Dev nD) (s' : Phys nD τ sig (Elt F)) : iprop(FIN m d ∗ SI s') ⊢ (⌜fq m d s'⌝ : sProp 𝕄) := by
  iintro ⟨Hr, HSI⟩
  ihave H := (SI_pointsTo_bufs_agree (st := s') (c := d) (qs := fun _ => fullShare) (F := WE m d) (ucRefs τ sig)) $$ [HSI Hr]
  · isplitl [HSI]; · iexact HSI
    unfold FIN held; iexact Hr
  icases H with %h3
  ipureintro; exact h3

/-! ## The run -/

/-- What a run ends with: every buffer of the host's at the contents computed, every counter at zero. -/
def QC : PUnit × MemSt nD τ sig (Elt F) → Prop := fun r =>
  (∀ (c : Dev nD), ∀ b ∈ ucRefs τ sig, r.2.mem (c, b) = WE m c b) ∧ r.2.sem = fun _ => 0

theorem run_main [∀ e, Nonempty (Elt F e)] (hl : ∀ d, ListOK (lstOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabOf m) (lstOf m) (outOf m)) (A := ∅) kfacts v₀
    (fun q hq => match q with | 0 => nomatch hq)
    (fun q _ => match q with | 0 => tileObl (tabOf m) (lstOf m) (outOf m) kfacts hl)
    (fun q _ => match q with | 0 => SparseCore.Cfg.VecSplit.of_plain (vecSplit (tabOf m) (lstOf m) (outOf m)))
    m ρ main (G (F := F)) (FIN m) (u₀ (F := F)) (sep_elim_left.trans (hu₀ m)) (hmain m ρ) (fq m) (hfin m) (QC m)
    (fun _ h hz => ⟨fun c => h c, hz⟩)

end Cert.Proof.KI
-- ==== Proof.Args.lean ====
/-
  What the run leaves alone: each argument's buffer ends as it started. Each host line writes its own results only, each
  call its own outputs only.
-/
module

public import proofs.«01_k».proof.Proof.Main
public import Idealize.ShloMosaic.Lib.StableHlo.RunRead
public import Idealize.ShloMosaic.Lib.Pipeline.FrameTail

@[expose] public section

set_option maxRecDepth 16384

noncomputable section

namespace Cert.Proof.KI

open Cert.KernelIdeal Cert.KernelIdeal.Gen

open Idealize.ShloMosaic
open Idealize.ShloMosaic.StableHlo (held after)
open Idealize.ShloMosaic.Pipeline (ucRefs afterRegion)
open Idealize.SL.Sem

variable {F : FTy → Type} [FloatOps F]
variable (m : (ℓ : Loc nD τ sig) → Buf (Elt F) ℓ) (ρ : Dev nD → PrngReg)

/-- An operation that writes one reference does not write another. -/
theorem off_one {b x : DevRef τ sig} {S : Finset (DevRef τ sig)} (hx : x ∈ S) (h : b ∉ S) : b ∉ ({x} : Finset (DevRef τ sig)) :=
  fun hb => h (by rw [Finset.mem_singleton.mp hb]; exact hx)

/-- What line A writes. -/
abbrev wrA : Finset (DevRef τ sig) := {Proc.devRef .tc main_v0, Proc.devRef .tc main_v1}
theorem keepA (V : Valuation τ sig (Elt F)) (b : DevRef τ sig) (h : b ∉ wrA) : after opsA V b = V b := by
  refine StableHlo.after_of_forall_not_mem opsA V fun op hop => ?_
  simp only [List.mem_cons, List.not_mem_nil, or_false] at hop
  rcases hop with rfl | rfl
  · exact off_one (x := Proc.devRef .tc main_v0) (by decide) h
  · exact off_one (x := Proc.devRef .tc main_v1) (by decide) h

/-- What line B writes. -/
abbrev wrB : Finset (DevRef τ sig) := {Proc.devRef .tc main_v3, Proc.devRef .tc main_v4, Proc.devRef .tc main_v5, Proc.devRef .tc main_v6}
theorem keepB (V : Valuation τ sig (Elt F)) (b : DevRef τ sig) (h : b ∉ wrB) : after opsB V b = V b := by
  refine StableHlo.after_of_forall_not_mem opsB V fun op hop => ?_
  simp only [List.mem_cons, List.not_mem_nil, or_false] at hop
  rcases hop with rfl | rfl | rfl | rfl
  · exact off_one (x := Proc.devRef .tc main_v3) (by decide) h
  · exact off_one (x := Proc.devRef .tc main_v4) (by decide) h
  · exact off_one (x := Proc.devRef .tc main_v5) (by decide) h
  · exact off_one (x := Proc.devRef .tc main_v6) (by decide) h

/-- What line C writes. -/
abbrev wrC : Finset (DevRef τ sig) := {Proc.devRef .tc main_v8, Proc.devRef .tc main_v9, Proc.devRef .tc main_v10, Proc.devRef .tc main_v11, Proc.devRef .tc main_v12, Proc.devRef .tc main_v13, Proc.devRef .tc main_v14, Proc.devRef .tc main_v15, Proc.devRef .tc main_v16, Proc.devRef .tc main_v17, Proc.devRef .tc main_v18}
theorem keepC (V : Valuation τ sig (Elt F)) (b : DevRef τ sig) (h : b ∉ wrC) : after opsC V b = V b := by
  refine StableHlo.after_of_forall_not_mem opsC V fun op hop => ?_
  simp only [List.mem_cons, List.not_mem_nil, or_false] at hop
  rcases hop with rfl | rfl | rfl | rfl | rfl | rfl | rfl | rfl | rfl | rfl | rfl
  · exact off_one (x := Proc.devRef .tc main_v8) (by decide) h
  · exact off_one (x := Proc.devRef .tc main_v9) (by decide) h
  · exact off_one (x := Proc.devRef .tc main_v10) (by decide) h
  · exact off_one (x := Proc.devRef .tc main_v11) (by decide) h
  · exact off_one (x := Proc.devRef .tc main_v12) (by decide) h
  · exact off_one (x := Proc.devRef .tc main_v13) (by decide) h
  · exact off_one (x := Proc.devRef .tc main_v14) (by decide) h
  · exact off_one (x := Proc.devRef .tc main_v15) (by decide) h
  · exact off_one (x := Proc.devRef .tc main_v16) (by decide) h
  · exact off_one (x := Proc.devRef .tc main_v17) (by decide) h
  · exact off_one (x := Proc.devRef .tc main_v18) (by decide) h

/-- What line D writes. -/
abbrev wrD : Finset (DevRef τ sig) := {Proc.devRef .tc main_v20, Proc.devRef .tc main_v21, Proc.devRef .tc main_v22, Proc.devRef .tc main_v23, Proc.devRef .tc main_v24, Proc.devRef .tc main_v25, Proc.devRef .tc main_v26}
theorem keepD (V : Valuation τ sig (Elt F)) (b : DevRef τ sig) (h : b ∉ wrD) : after opsD V b = V b := by
  refine StableHlo.after_of_forall_not_mem opsD V fun op hop => ?_
  simp only [List.mem_cons, List.not_mem_nil, or_false] at hop
  rcases hop with rfl | rfl | rfl | rfl | rfl | rfl | rfl
  · exact off_one (x := Proc.devRef .tc main_v20) (by decide) h
  · exact off_one (x := Proc.devRef .tc main_v21) (by decide) h
  · exact off_one (x := Proc.devRef .tc main_v22) (by decide) h
  · exact off_one (x := Proc.devRef .tc main_v23) (by decide) h
  · exact off_one (x := Proc.devRef .tc main_v24) (by decide) h
  · exact off_one (x := Proc.devRef .tc main_v25) (by decide) h
  · exact off_one (x := Proc.devRef .tc main_v26) (by decide) h

/-- What line E writes. -/
abbrev wrE : Finset (DevRef τ sig) := {Proc.devRef .tc main_v28, Proc.devRef .tc main_v29, Proc.devRef .tc main_v30, Proc.devRef .tc main_v31, Proc.devRef .tc main_v32, Proc.devRef .tc main_v33, Proc.devRef .tc main_v34, Proc.devRef .tc main_v35}
theorem keepE (V : Valuation τ sig (Elt F)) (b : DevRef τ sig) (h : b ∉ wrE) : after opsE V b = V b := by
  refine StableHlo.after_of_forall_not_mem opsE V fun op hop => ?_
  simp only [List.mem_cons, List.not_mem_nil, or_false] at hop
  rcases hop with rfl | rfl | rfl | rfl | rfl | rfl | rfl | rfl
  · exact off_one (x := Proc.devRef .tc main_v28) (by decide) h
  · exact off_one (x := Proc.devRef .tc main_v29) (by decide) h
  · exact off_one (x := Proc.devRef .tc main_v30) (by decide) h
  · exact off_one (x := Proc.devRef .tc main_v31) (by decide) h
  · exact off_one (x := Proc.devRef .tc main_v32) (by decide) h
  · exact off_one (x := Proc.devRef .tc main_v33) (by decide) h
  · exact off_one (x := Proc.devRef .tc main_v34) (by decide) h
  · exact off_one (x := Proc.devRef .tc main_v35) (by decide) h

theorem keepR0 (d : Dev nD) (r : Ref sig .tc) (h : ∀ w, Pipeline.arrRef spec1 w = r → (cfg1.win w).isOut = false) :
    R0 m d (Proc.devRef .tc r) = E0 m d (Proc.devRef .tc r) := by
  unfold R0; exact Pipeline.afterRegion_keeps (Emb.dat (E0 m) d) (E0 m d) launch1.win.arr_inj (Emb.A_eq (E0 m) d) r h
theorem keepR1 (d : Dev nD) (r : Ref sig .tc) (h : ∀ w, Pipeline.arrRef spec2 w = r → (cfg2.win w).isOut = false) :
    R1 m d (Proc.devRef .tc r) = E1 m d (Proc.devRef .tc r) := by
  unfold R1; exact Pipeline.afterRegion_keeps (Lstm.dat (E1 m) d) (E1 m d) launch2.win.arr_inj (Lstm.A_eq (E1 m) d) r h
theorem keepR2 (d : Dev nD) (r : Ref sig .tc) (h : ∀ w, Pipeline.arrRef spec3 w = r → (cfg3.win w).isOut = false) :
    R2 m d (Proc.devRef .tc r) = E2 m d (Proc.devRef .tc r) := by
  unfold R2; exact Pipeline.afterRegion_keeps (Head.dat (E2 m) d) (E2 m d) launch3.win.arr_inj (Head.A_eq (E2 m) d) r h

/-- No step before the one named writes the buffer. -/
structure Off (r : Ref sig .tc) : Prop where
  a : (Proc.devRef .tc r : DevRef τ sig) ∉ wrA
  s : (Proc.devRef .tc r : DevRef τ sig) ≠ Proc.devRef .tc main_v2
  b : (Proc.devRef .tc r : DevRef τ sig) ∉ wrB
  r0 : ∀ w, Pipeline.arrRef spec1 w = r → (cfg1.win w).isOut = false
  c : (Proc.devRef .tc r : DevRef τ sig) ∉ wrC
  r1 : ∀ w, Pipeline.arrRef spec2 w = r → (cfg2.win w).isOut = false
  d : (Proc.devRef .tc r : DevRef τ sig) ∉ wrD
  r2 : ∀ w, Pipeline.arrRef spec3 w = r → (cfg3.win w).isOut = false
  e : (Proc.devRef .tc r : DevRef τ sig) ∉ wrE

variable {r : Ref sig .tc} (o : Off r) (d : Dev nD)
include o

theorem WA_keep : WA m d (Proc.devRef .tc r) = m (d, Proc.devRef .tc r) := keepA _ _ o.a
theorem WB_keep : WB m d (Proc.devRef .tc r) = m (d, Proc.devRef .tc r) := (WB_off m d _ o.s).trans (WA_keep m o d)
theorem E0_keep : E0 m d (Proc.devRef .tc r) = m (d, Proc.devRef .tc r) := (keepB _ _ o.b).trans (WB_keep m o d)
theorem R0_keep : R0 m d (Proc.devRef .tc r) = m (d, Proc.devRef .tc r) := (keepR0 m d r o.r0).trans (E0_keep m o d)
theorem E1_keep : E1 m d (Proc.devRef .tc r) = m (d, Proc.devRef .tc r) := (keepC _ _ o.c).trans (R0_keep m o d)
theorem R1_keep : R1 m d (Proc.devRef .tc r) = m (d, Proc.devRef .tc r) := (keepR1 m d r o.r1).trans (E1_keep m o d)
theorem E2_keep : E2 m d (Proc.devRef .tc r) = m (d, Proc.devRef .tc r) := (keepD _ _ o.d).trans (R1_keep m o d)
theorem R2_keep : R2 m d (Proc.devRef .tc r) = m (d, Proc.devRef .tc r) := (keepR2 m d r o.r2).trans (E2_keep m o d)
theorem WE_keep : WE m d (Proc.devRef .tc r) = m (d, Proc.devRef .tc r) := (keepE _ _ o.e).trans (R2_keep m o d)

omit o

theorem off0 : Off main_arg0 := by constructor <;> decide
theorem off1 : Off main_arg1 := by constructor <;> decide
theorem off2 : Off main_arg2 := by constructor <;> decide
theorem off3 : Off main_arg3 := by constructor <;> decide
theorem off4 : Off main_arg4 := by constructor <;> decide
theorem off5 : Off main_arg5 := by constructor <;> decide
theorem off6 : Off main_arg6 := by constructor <;> decide
theorem off7 : Off main_arg7 := by constructor <;> decide
theorem off8 : Off main_arg8 := by constructor <;> decide
theorem off9 : Off main_arg9 := by constructor <;> decide
theorem off10 : Off main_arg10 := by constructor <;> decide
theorem off11 : Off main_arg11 := by constructor <;> decide
theorem off12 : Off main_arg12 := by constructor <;> decide
theorem off13 : Off main_arg13 := by constructor <;> decide
theorem off14 : Off main_arg14 := by constructor <;> decide
theorem off15 : Off main_arg15 := by constructor <;> decide
theorem off16 : Off main_arg16 := by constructor <;> decide
theorem off17 : Off main_arg17 := by constructor <;> decide

theorem uc (r : Ref sig .tc) (h : (Proc.devRef .tc r : DevRef τ sig).isScoped = false) : (Proc.devRef .tc r : DevRef τ sig) ∈ ucRefs τ sig :=
  Pipeline.devRef_mem_ucRefs h

variable {m}
theorem QC_arg {s : PUnit × MemSt nD τ sig (Elt F)} (h : QC m s) (c : Dev nD) {r : Ref sig .tc} (o : Off r)
    (hr : (Proc.devRef .tc r : DevRef τ sig).isScoped = false) :
    s.2.mem ((c.tc : Thread nD τ).loc r) = m ((c.tc : Thread nD τ).loc r) := (h.1 c _ (uc r hr)).trans (WE_keep m o c)

/-- Every argument ends as it started. -/
theorem QC_args {s : PUnit × MemSt nD τ sig (Elt F)} (h : QC m s) (c : Dev nD) :
    s.2.mem ((c.tc : Thread nD τ).loc main_arg0) = m ((c.tc : Thread nD τ).loc main_arg0)
    ∧ s.2.mem ((c.tc : Thread nD τ).loc main_arg1) = m ((c.tc : Thread nD τ).loc main_arg1)
    ∧ s.2.mem ((c.tc : Thread nD τ).loc main_arg2) = m ((c.tc : Thread nD τ).loc main_arg2)
    ∧ s.2.mem ((c.tc : Thread nD τ).loc main_arg3) = m ((c.tc : Thread nD τ).loc main_arg3)
    ∧ s.2.mem ((c.tc : Thread nD τ).loc main_arg4) = m ((c.tc : Thread nD τ).loc main_arg4)
    ∧ s.2.mem ((c.tc : Thread nD τ).loc main_arg5) = m ((c.tc : Thread nD τ).loc main_arg5)
    ∧ s.2.mem ((c.tc : Thread nD τ).loc main_arg6) = m ((c.tc : Thread nD τ).loc main_arg6)
    ∧ s.2.mem ((c.tc : Thread nD τ).loc main_arg7) = m ((c.tc : Thread nD τ).loc main_arg7)
    ∧ s.2.mem ((c.tc : Thread nD τ).loc main_arg8) = m ((c.tc : Thread nD τ).loc main_arg8)
    ∧ s.2.mem ((c.tc : Thread nD τ).loc main_arg9) = m ((c.tc : Thread nD τ).loc main_arg9)
    ∧ s.2.mem ((c.tc : Thread nD τ).loc main_arg10) = m ((c.tc : Thread nD τ).loc main_arg10)
    ∧ s.2.mem ((c.tc : Thread nD τ).loc main_arg11) = m ((c.tc : Thread nD τ).loc main_arg11)
    ∧ s.2.mem ((c.tc : Thread nD τ).loc main_arg12) = m ((c.tc : Thread nD τ).loc main_arg12)
    ∧ s.2.mem ((c.tc : Thread nD τ).loc main_arg13) = m ((c.tc : Thread nD τ).loc main_arg13)
    ∧ s.2.mem ((c.tc : Thread nD τ).loc main_arg14) = m ((c.tc : Thread nD τ).loc main_arg14)
    ∧ s.2.mem ((c.tc : Thread nD τ).loc main_arg15) = m ((c.tc : Thread nD τ).loc main_arg15)
    ∧ s.2.mem ((c.tc : Thread nD τ).loc main_arg16) = m ((c.tc : Thread nD τ).loc main_arg16)
    ∧ s.2.mem ((c.tc : Thread nD τ).loc main_arg17) = m ((c.tc : Thread nD τ).loc main_arg17) :=
  ⟨QC_arg h c off0 (by decide), QC_arg h c off1 (by decide), QC_arg h c off2 (by decide), QC_arg h c off3 (by decide), QC_arg h c off4 (by decide), QC_arg h c off5 (by decide), QC_arg h c off6 (by decide), QC_arg h c off7 (by decide), QC_arg h c off8 (by decide), QC_arg h c off9 (by decide), QC_arg h c off10 (by decide), QC_arg h c off11 (by decide), QC_arg h c off12 (by decide), QC_arg h c off13 (by decide), QC_arg h c off14 (by decide), QC_arg h c off15 (by decide), QC_arg h c off16 (by decide), QC_arg h c off17 (by decide)⟩

/-! ## The list the SparseCore call is handed -/

theorem lst_eq (m : (ℓ : Loc nD τ sig) → Buf (Elt F) ℓ) (d : Dev nD) : (lstOf m d : S51200.Idx → BitVec 32)
    = shapeCast S51200 (transpose S50x1024 [1, 0] (m (d, Proc.devRef .tc main_arg0) : S1024x50.Idx → BitVec 32) transposes_S1024x50_S50x1024_1_0) shapeCasts_S50x1024_S51200 := by
  unfold lstOf WA
  after_reads_simp
  rfl

/-- Every word in range, so is every entry of the list. -/
theorem list_ok (m : (ℓ : Loc nD τ sig) → Buf (Elt F) ℓ)
    (hw : ∀ d, ∀ i : S1024x50.Idx, ((m (d, Proc.devRef .tc main_arg0) : S1024x50.Idx → BitVec 32) i).toNat < 100000) (d : Dev nD) : ListOK (lstOf m d) := by
  intro j
  rw [show lstOf m d j = _ from congrFun (lst_eq m d) j]
  unfold shapeCast transpose
  exact hw d _

end Cert.Proof.KI

end
-- ==== Proof.RI.Ops.lean ====
/-
  The reference's host lines, as lists: the lookups and the normalization, the two loops' tests and bodies, the head.
-/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo Idealize.SL.Sem

variable {F : FTy → Type} [FloatOps F]

/-- The two lookups, side by side. -/
abbrev opsP1 : List (HloOp τ sig (Elt F)) :=
  [TRef.nullary main_call0.c (constantI S_ 32 0#32),
   TRef.unary main_call0.c main_call0.v0 (broadcastInDim S1024x50 ![] bcast_S_S1024x50),
   TRef.binary (.of main_arg0 : TRef sig ⟨S1024x50, .i32⟩) main_call0.v0 main_call0.v1 (cmpi .slt),
   TRef.nullary main_call0.c_0 (constantI S_ 32 100000#32),
   TRef.unary main_call0.c_0 main_call0.v2 (broadcastInDim S1024x50 ![] bcast_S_S1024x50),
   TRef.binary (.of main_arg0 : TRef sig ⟨S1024x50, .i32⟩) main_call0.v2 main_call0.v3 addi,
   TRef.ternary main_call0.v1 main_call0.v3 (.of main_arg0 : TRef sig ⟨S1024x50, .i32⟩) main_call0.call0.v0 select,
   TRef.unary main_call0.call0.v0 main_call0.v5 (broadcastInDim S1024x50x1 ![0, 1] bcast_S1024x50_S1024x50x1_0_1),
   TRef.nullary main_call0.c_1 (constantI S1 32 99999#32),
   TRef.nullary main_call0.c_2 (constantI S_ 32 0#32),
   TRef.unary main_call0.c_2 main_call0.v6 (broadcastInDim S1024x50x1 ![] bcast_S_S1024x50x1),
   TRef.binary main_call0.v5 main_call0.v6 main_call0.v7 (cmpi .sge),
   TRef.unary main_call0.c_1 main_call0.v8 (broadcastInDim S1x1x1 ![2] bcast_S1_S1x1x1_2),
   TRef.unary main_call0.v8 main_call0.v9 (broadcastInDim S1024x50x1 ![0, 1, 2] bcast_S1x1x1_S1024x50x1_0_1_2),
   TRef.binary main_call0.v5 main_call0.v9 main_call0.v10 (cmpi .sle),
   TRef.binary main_call0.v7 main_call0.v10 main_call0.v11 andi,
   TRef.nullary main_call0.c_3 (constantI S_ 1 1#1),
   TRef.binary main_call0.v11 main_call0.c_3 main_call0.v12 (fun x v => Host.reduce IntOp.andi x v reducesTo_S1024x50x1_S1024x50_d2 h_S_),
   TRef.binary (.of main_arg4 : TRef sig ⟨S100000x128, .f32⟩) main_call0.v5 main_call0.v13 (fun x i => Host.gather gather_S100000x128_S1024x50x1_S1024x50x128_2_0_n_n_0_2_1128 x i),
   TRef.unary main_call0.v12 main_call0.v14 (broadcastInDim S1024x50x128 ![0, 1] bcast_S1024x50_S1024x50x128_0_1),
   TRef.nullary main_call0.cst (constant S_ .f32 0x7FC00000#32),
   TRef.unary main_call0.cst main_call0.v15 (broadcastInDim S1024x50x128 ![] bcast_S_S1024x50x128),
   TRef.ternary main_call0.v14 main_call0.v13 main_call0.v15 main_call0.v16 select,
   TRef.nullary main_call1.c (constantI S_ 32 0#32),
   TRef.unary main_call1.c main_call1.v0 (broadcastInDim S1024x50 ![] bcast_S_S1024x50),
   TRef.binary (.of main_arg1 : TRef sig ⟨S1024x50, .i32⟩) main_call1.v0 main_call1.v1 (cmpi .slt),
   TRef.nullary main_call1.c_0 (constantI S_ 32 64#32),
   TRef.unary main_call1.c_0 main_call1.v2 (broadcastInDim S1024x50 ![] bcast_S_S1024x50),
   TRef.binary (.of main_arg1 : TRef sig ⟨S1024x50, .i32⟩) main_call1.v2 main_call1.v3 addi,
   TRef.ternary main_call1.v1 main_call1.v3 (.of main_arg1 : TRef sig ⟨S1024x50, .i32⟩) main_call1.call0.v0 select,
   TRef.unary main_call1.call0.v0 main_call1.v5 (broadcastInDim S1024x50x1 ![0, 1] bcast_S1024x50_S1024x50x1_0_1),
   TRef.nullary main_call1.c_1 (constantI S1 32 63#32),
   TRef.nullary main_call1.c_2 (constantI S_ 32 0#32),
   TRef.unary main_call1.c_2 main_call1.v6 (broadcastInDim S1024x50x1 ![] bcast_S_S1024x50x1),
   TRef.binary main_call1.v5 main_call1.v6 main_call1.v7 (cmpi .sge),
   TRef.unary main_call1.c_1 main_call1.v8 (broadcastInDim S1x1x1 ![2] bcast_S1_S1x1x1_2),
   TRef.unary main_call1.v8 main_call1.v9 (broadcastInDim S1024x50x1 ![0, 1, 2] bcast_S1x1x1_S1024x50x1_0_1_2),
   TRef.binary main_call1.v5 main_call1.v9 main_call1.v10 (cmpi .sle),
   TRef.binary main_call1.v7 main_call1.v10 main_call1.v11 andi,
   TRef.nullary main_call1.c_3 (constantI S_ 1 1#1),
   TRef.binary main_call1.v11 main_call1.c_3 main_call1.v12 (fun x v => Host.reduce IntOp.andi x v reducesTo_S1024x50x1_S1024x50_d2 h_S_),
   TRef.binary (.of main_arg5 : TRef sig ⟨S64x32, .f32⟩) main_call1.v5 main_call1.v13 (fun x i => Host.gather gather_S64x32_S1024x50x1_S1024x50x32_2_0_n_n_0_2_132 x i),
   TRef.unary main_call1.v12 main_call1.v14 (broadcastInDim S1024x50x32 ![0, 1] bcast_S1024x50_S1024x50x32_0_1),
   TRef.nullary main_call1.cst (constant S_ .f32 0x7FC00000#32),
   TRef.unary main_call1.cst main_call1.v15 (broadcastInDim S1024x50x32 ![] bcast_S_S1024x50x32),
   TRef.ternary main_call1.v14 main_call1.v13 main_call1.v15 main_call1.v16 select,
   binary main_v0 main_v1 main_v2 ((fun a b => concatenate S1024x50x160 2 [⟨S1024x50x128, a⟩, ⟨S1024x50x32, b⟩] concatenates_S1024x50x128_S1024x50x32_S1024x50x160_d2) : (⟨S1024x50x128, .f32⟩ : BufTy).Contents (Elt F) → (⟨S1024x50x32, .f32⟩ : BufTy).Contents (Elt F) → (⟨S1024x50x160, .f32⟩ : BufTy).Contents (Elt F))]

/-- The normalization of each position over its features. -/
abbrev opsP2 : List (HloOp τ sig (Elt F)) :=
  [nullary main_cst (constant S_ .f32 0x00000000#32),
   binary main_v2 main_cst main_v3 ((fun x v => Host.reduceAdd x v reducesTo_S1024x50x160_S1024x50_d2 h_S_) : (⟨S1024x50x160, .f32⟩ : BufTy).Contents (Elt F) → (⟨S_, .f32⟩ : BufTy).Contents (Elt F) → (⟨S1024x50, .f32⟩ : BufTy).Contents (Elt F)),
   unary main_v3 main_v4 (broadcastInDim S1024x50x1 ![0, 1] bcast_S1024x50_S1024x50x1_0_1 : (⟨S1024x50, .f32⟩ : BufTy).Contents (Elt F) → (⟨S1024x50x1, .f32⟩ : BufTy).Contents (Elt F)),
   nullary main_cst_0 (constant S_ .f32 0x43200000#32),
   unary main_cst_0 main_v5 (broadcastInDim S1024x50x1 ![] bcast_S_S1024x50x1 : (⟨S_, .f32⟩ : BufTy).Contents (Elt F) → (⟨S1024x50x1, .f32⟩ : BufTy).Contents (Elt F)),
   binary main_v4 main_v5 main_v6 (Host.divf : (⟨S1024x50x1, .f32⟩ : BufTy).Contents (Elt F) → (⟨S1024x50x1, .f32⟩ : BufTy).Contents (Elt F) → (⟨S1024x50x1, .f32⟩ : BufTy).Contents (Elt F)),
   nullary main_c (constantI S_ 32 0#32),
   TRef.nullary main_call2.cst (constant S_ .f32 0x00000000#32),
   TRef.binary (.of main_v2 : TRef sig ⟨S1024x50x160, .f32⟩) main_call2.cst main_call2.v0 (fun x v => Host.reduceAdd x v reducesTo_S1024x50x160_S1024x50_d2 h_S_),
   TRef.unary main_call2.v0 main_call2.v1 (broadcastInDim S1024x50x1 ![0, 1] bcast_S1024x50_S1024x50x1_0_1),
   TRef.nullary main_call2.cst_0 (constant S_ .f32 0x43200000#32),
   TRef.unary main_call2.cst_0 main_call2.v2 (broadcastInDim S1024x50x1 ![] bcast_S_S1024x50x1),
   TRef.binary main_call2.v1 main_call2.v2 main_call2.v3 Host.divf,
   TRef.unary main_call2.v3 main_call2.v4 (broadcastInDim S1024x50x160 ![0, 1, 2] bcast_S1024x50x1_S1024x50x160_0_1_2),
   TRef.binary (.of main_v2 : TRef sig ⟨S1024x50x160, .f32⟩) main_call2.v4 main_call2.v5 subf,
   TRef.binary main_call2.v5 main_call2.v5 main_call2.v6 mulf,
   TRef.unary (.of main_c : TRef sig ⟨S_, .i32⟩) main_call2.v7 (sitofp .f32),
   TRef.nullary main_call2.cst_1 (constant S_ .f32 0x43200000#32),
   TRef.binary main_call2.cst_1 main_call2.v7 main_call2.v8 subf,
   TRef.nullary main_call2.cst_2 (constant S_ .f32 0x00000000#32),
   TRef.binary main_call2.v6 main_call2.cst_2 main_call2.v9 (fun x v => Host.reduceAdd x v reducesTo_S1024x50x160_S1024x50_d2 h_S_),
   TRef.unary main_call2.v9 main_call2.v10 (broadcastInDim S1024x50x1 ![0, 1] bcast_S1024x50_S1024x50x1_0_1),
   TRef.unary main_call2.v8 main_call2.v11 (broadcastInDim S1024x50x1 ![] bcast_S_S1024x50x1),
   TRef.binary main_call2.v10 main_call2.v11 main_call2.v12 Host.divf,
   TRef.nullary main_call2.cst_3 (constant S_ .f32 0x00000000#32),
   TRef.binary main_call2.v8 main_call2.cst_3 main_call2.v13 (cmpf .ogt),
   TRef.nullary main_call2.cst_4 (constant S_ .f32 0x7FC00000#32),
   TRef.unary main_call2.cst_4 main_call2.call0.v0 id,
   TRef.unary main_call2.call0.v0 main_call2.call0.v1 (broadcastInDim S1024x50x1 ![] bcast_S_S1024x50x1),
   TRef.ternary main_call2.v13 main_call2.v12 main_call2.call0.v1 main_call2.call0.v2 (fun p a b => select (broadcastInDim S1024x50x1 ![] bcast_S_S1024x50x1 p) a b),
   unary main_v6 main_v8 (broadcastInDim S1024x50x160 ![0, 1, 2] bcast_S1024x50x1_S1024x50x160_0_1_2 : (⟨S1024x50x1, .f32⟩ : BufTy).Contents (Elt F) → (⟨S1024x50x160, .f32⟩ : BufTy).Contents (Elt F)),
   binary main_v2 main_v8 main_v9 (subf : (⟨S1024x50x160, .f32⟩ : BufTy).Contents (Elt F) → (⟨S1024x50x160, .f32⟩ : BufTy).Contents (Elt F) → (⟨S1024x50x160, .f32⟩ : BufTy).Contents (Elt F)),
   nullary main_cst_1 (constant S_ .f32 0x3727C5AC#32),
   unary main_cst_1 main_v10 (broadcastInDim S1024x50x1 ![] bcast_S_S1024x50x1 : (⟨S_, .f32⟩ : BufTy).Contents (Elt F) → (⟨S1024x50x1, .f32⟩ : BufTy).Contents (Elt F)),
   binary main_v7 main_v10 main_v11 (addf : (⟨S1024x50x1, .f32⟩ : BufTy).Contents (Elt F) → (⟨S1024x50x1, .f32⟩ : BufTy).Contents (Elt F) → (⟨S1024x50x1, .f32⟩ : BufTy).Contents (Elt F)),
   unary main_v11 main_v12 (Host.sqrt : (⟨S1024x50x1, .f32⟩ : BufTy).Contents (Elt F) → (⟨S1024x50x1, .f32⟩ : BufTy).Contents (Elt F)),
   unary main_v12 main_v13 (broadcastInDim S1024x50x160 ![0, 1, 2] bcast_S1024x50x1_S1024x50x160_0_1_2 : (⟨S1024x50x1, .f32⟩ : BufTy).Contents (Elt F) → (⟨S1024x50x160, .f32⟩ : BufTy).Contents (Elt F)),
   binary main_v9 main_v13 main_v14 (Host.divf : (⟨S1024x50x160, .f32⟩ : BufTy).Contents (Elt F) → (⟨S1024x50x160, .f32⟩ : BufTy).Contents (Elt F) → (⟨S1024x50x160, .f32⟩ : BufTy).Contents (Elt F)),
   unary main_arg6 main_v15 (broadcastInDim S1x1x160 ![2] bcast_S160_S1x1x160_2 : (⟨S160, .f32⟩ : BufTy).Contents (Elt F) → (⟨S1x1x160, .f32⟩ : BufTy).Contents (Elt F)),
   unary main_v15 main_v16 (broadcastInDim S1024x50x160 ![0, 1, 2] bcast_S1x1x160_S1024x50x160_0_1_2 : (⟨S1x1x160, .f32⟩ : BufTy).Contents (Elt F) → (⟨S1024x50x160, .f32⟩ : BufTy).Contents (Elt F)),
   binary main_v14 main_v16 main_v17 (mulf : (⟨S1024x50x160, .f32⟩ : BufTy).Contents (Elt F) → (⟨S1024x50x160, .f32⟩ : BufTy).Contents (Elt F) → (⟨S1024x50x160, .f32⟩ : BufTy).Contents (Elt F)),
   unary main_arg7 main_v18 (broadcastInDim S1x1x160 ![2] bcast_S160_S1x1x160_2 : (⟨S160, .f32⟩ : BufTy).Contents (Elt F) → (⟨S1x1x160, .f32⟩ : BufTy).Contents (Elt F)),
   unary main_v18 main_v19 (broadcastInDim S1024x50x160 ![0, 1, 2] bcast_S1x1x160_S1024x50x160_0_1_2 : (⟨S1x1x160, .f32⟩ : BufTy).Contents (Elt F) → (⟨S1024x50x160, .f32⟩ : BufTy).Contents (Elt F)),
   binary main_v17 main_v19 main_v20 (addf : (⟨S1024x50x160, .f32⟩ : BufTy).Contents (Elt F) → (⟨S1024x50x160, .f32⟩ : BufTy).Contents (Elt F) → (⟨S1024x50x160, .f32⟩ : BufTy).Contents (Elt F))]

/-- The recurrence forwards: what its loop starts from. -/
abbrev opsP3 : List (HloOp τ sig (Elt F)) :=
  [unary main_v20 main_v21 ((transpose S50x1024x160 [1, 0, 2] · transposes_S1024x50x160_S50x1024x160_1_0_2) : (⟨S1024x50x160, .f32⟩ : BufTy).Contents (Elt F) → (⟨S50x1024x160, .f32⟩ : BufTy).Contents (Elt F)),
   nullary main_cst_2 (constant S_ .f32 0x00000000#32),
   unary main_cst_2 main_v22 (broadcastInDim S1024x128 ![] bcast_S_S1024x128 : (⟨S_, .f32⟩ : BufTy).Contents (Elt F) → (⟨S1024x128, .f32⟩ : BufTy).Contents (Elt F)),
   nullary main_cst_3 (constant S_ .f32 0x00000000#32),
   unary main_cst_3 main_v23 (broadcastInDim S1024x128 ![] bcast_S_S1024x128 : (⟨S_, .f32⟩ : BufTy).Contents (Elt F) → (⟨S1024x128, .f32⟩ : BufTy).Contents (Elt F)),
   nullary main_cst_4 (constant S_ .f32 0x00000000#32),
   unary main_cst_4 main_v24 (broadcastInDim S50x1024x128 ![] bcast_S_S50x1024x128 : (⟨S_, .f32⟩ : BufTy).Contents (Elt F) → (⟨S50x1024x128, .f32⟩ : BufTy).Contents (Elt F)),
   nullary main_c_5 (constantI S_ 32 0#32),
   unary main_v21 main_v25_0 id,
   unary main_arg8 main_v25_1 id,
   unary main_arg9 main_v25_2 id,
   unary main_arg10 main_v25_3 id,
   unary main_c_5 main_v25_4 id,
   unary main_v22 main_v25_5 id,
   unary main_v23 main_v25_6 id,
   unary main_v24 main_v25_7 id]

/-- The test of the first loop. -/
abbrev opsC0 : List (HloOp τ sig (Elt F)) :=
  [nullary main_while0c_c_24 (constantI S_ 32 50#32),
   binary main_v25_4 main_while0c_c_24 main_while0c_v69 (cmpi .slt : (⟨S_, .i32⟩ : BufTy).Contents (Elt F) → (⟨S_, .i32⟩ : BufTy).Contents (Elt F) → (⟨S_, .i1⟩ : BufTy).Contents (Elt F))]

/-- One step forwards. -/
abbrev opsB0 : List (HloOp τ sig (Elt F)) :=
  [TRef.nullary main_while0b_call3.c (constantI S_ 32 0#32),
   TRef.nullary main_while0b_call3.c_0 (constantI S_ 32 0#32),
   TRef.unaryIndexed (.of main_v25_0 : TRef sig ⟨S50x1024x160, .f32⟩) ![(.of main_v25_4 : TRef sig ⟨S_, .i32⟩), main_while0b_call3.c, main_while0b_call3.c_0] main_while0b_call3.v0 (fun x i => Host.dynamicSlice S1x1024x160 x (fun k => (i k (Shape.Idx.first h_S_)).toInt) sliceFits_S50x1024x160_S1x1024x160),
   TRef.reshape main_while0b_call3.v0 main_while0b_call3.v1 (rfl : (.f32 : EltTy) = .f32) shapeCasts_S1x1024x160_S1024x160,
   binary main_while0b_v69 main_v25_1 main_while0b_v70 ((fun l r => Host.dotGeneral dot_S1024x160_S160x512_S1024x512_1_0_0_1_n_n none l r) : (⟨S1024x160, .f32⟩ : BufTy).Contents (Elt F) → (⟨S160x512, .f32⟩ : BufTy).Contents (Elt F) → (⟨S1024x512, .f32⟩ : BufTy).Contents (Elt F)),
   binary main_v25_5 main_v25_2 main_while0b_v71 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
   binary main_while0b_v70 main_while0b_v71 main_while0b_v72 (addf : (⟨S1024x512, .f32⟩ : BufTy).Contents (Elt F) → (⟨S1024x512, .f32⟩ : BufTy).Contents (Elt F) → (⟨S1024x512, .f32⟩ : BufTy).Contents (Elt F)),
   unary main_v25_3 main_while0b_v73 (broadcastInDim S1x512 ![1] bcast_S512_S1x512_1 : (⟨S512, .f32⟩ : BufTy).Contents (Elt F) → (⟨S1x512, .f32⟩ : BufTy).Contents (Elt F)),
   unary main_while0b_v73 main_while0b_v74 (broadcastInDim S1024x512 ![0, 1] bcast_S1x512_S1024x512_0_1 : (⟨S1x512, .f32⟩ : BufTy).Contents (Elt F) → (⟨S1024x512, .f32⟩ : BufTy).Contents (Elt F)),
   binary main_while0b_v72 main_while0b_v74 main_while0b_v75 (addf : (⟨S1024x512, .f32⟩ : BufTy).Contents (Elt F) → (⟨S1024x512, .f32⟩ : BufTy).Contents (Elt F) → (⟨S1024x512, .f32⟩ : BufTy).Contents (Elt F)),
   unary main_while0b_v75 main_while0b_v76 ((extractStridedSlice S1024x128 ![0, 0] · slices_S1024x512_S1024x128_0_0) : (⟨S1024x512, .f32⟩ : BufTy).Contents (Elt F) → (⟨S1024x128, .f32⟩ : BufTy).Contents (Elt F)),
   unary main_while0b_v75 main_while0b_v77 ((extractStridedSlice S1024x128 ![0, 128] · slices_S1024x512_S1024x128_0_128) : (⟨S1024x512, .f32⟩ : BufTy).Contents (Elt F) → (⟨S1024x128, .f32⟩ : BufTy).Contents (Elt F)),
   unary main_while0b_v75 main_while0b_v78 ((extractStridedSlice S1024x128 ![0, 256] · slices_S1024x512_S1024x128_0_256) : (⟨S1024x512, .f32⟩ : BufTy).Contents (Elt F) → (⟨S1024x128, .f32⟩ : BufTy).Contents (Elt F)),
   unary main_while0b_v75 main_while0b_v79 ((extractStridedSlice S1024x128 ![0, 384] · slices_S1024x512_S1024x128_0_384) : (⟨S1024x512, .f32⟩ : BufTy).Contents (Elt F) → (⟨S1024x128, .f32⟩ : BufTy).Contents (Elt F)),
   unary main_while0b_v76 main_while0b_v80 (Host.negf : (⟨S1024x128, .f32⟩ : BufTy).Contents (Elt F) → (⟨S1024x128, .f32⟩ : BufTy).Contents (Elt F)),
   unary main_while0b_v80 main_while0b_v81 (Host.exp : (⟨S1024x128, .f32⟩ : BufTy).Contents (Elt F) → (⟨S1024x128, .f32⟩ : BufTy).Contents (Elt F)),
   nullary main_while0b_cst_24 (constant S_ .f32 0x3F800000#32),
   unary main_while0b_cst_24 main_while0b_v82 (broadcastInDim S1024x128 ![] bcast_S_S1024x128 : (⟨S_, .f32⟩ : BufTy).Contents (Elt F) → (⟨S1024x128, .f32⟩ : BufTy).Contents (Elt F)),
   binary main_while0b_v82 main_while0b_v81 main_while0b_v83 (addf : (⟨S1024x128, .f32⟩ : BufTy).Contents (Elt F) → (⟨S1024x128, .f32⟩ : BufTy).Contents (Elt F) → (⟨S1024x128, .f32⟩ : BufTy).Contents (Elt F)),
   nullary main_while0b_cst_25 (constant S_ .f32 0x3F800000#32),
   unary main_while0b_cst_25 main_while0b_v84 (broadcastInDim S1024x128 ![] bcast_S_S1024x128 : (⟨S_, .f32⟩ : BufTy).Contents (Elt F) → (⟨S1024x128, .f32⟩ : BufTy).Contents (Elt F)),
   binary main_while0b_v84 main_while0b_v83 main_while0b_v85 (Host.divf : (⟨S1024x128, .f32⟩ : BufTy).Contents (Elt F) → (⟨S1024x128, .f32⟩ : BufTy).Contents (Elt F) → (⟨S1024x128, .f32⟩ : BufTy).Contents (Elt F)),
   unary main_while0b_v77 main_while0b_v86 (Host.negf : (⟨S1024x128, .f32⟩ : BufTy).Contents (Elt F) → (⟨S1024x128, .f32⟩ : BufTy).Contents (Elt F)),
   unary main_while0b_v86 main_while0b_v87 (Host.exp : (⟨S1024x128, .f32⟩ : BufTy).Contents (Elt F) → (⟨S1024x128, .f32⟩ : BufTy).Contents (Elt F)),
   nullary main_while0b_cst_26 (constant S_ .f32 0x3F800000#32),
   unary main_while0b_cst_26 main_while0b_v88 (broadcastInDim S1024x128 ![] bcast_S_S1024x128 : (⟨S_, .f32⟩ : BufTy).Contents (Elt F) → (⟨S1024x128, .f32⟩ : BufTy).Contents (Elt F)),
   binary main_while0b_v88 main_while0b_v87 main_while0b_v89 (addf : (⟨S1024x128, .f32⟩ : BufTy).Contents (Elt F) → (⟨S1024x128, .f32⟩ : BufTy).Contents (Elt F) → (⟨S1024x128, .f32⟩ : BufTy).Contents (Elt F)),
   nullary main_while0b_cst_27 (constant S_ .f32 0x3F800000#32),
   unary main_while0b_cst_27 main_while0b_v90 (broadcastInDim S1024x128 ![] bcast_S_S1024x128 : (⟨S_, .f32⟩ : BufTy).Contents (Elt F) → (⟨S1024x128, .f32⟩ : BufTy).Contents (Elt F)),
   binary main_while0b_v90 main_while0b_v89 main_while0b_v91 (Host.divf : (⟨S1024x128, .f32⟩ : BufTy).Contents (Elt F) → (⟨S1024x128, .f32⟩ : BufTy).Contents (Elt F) → (⟨S1024x128, .f32⟩ : BufTy).Contents (Elt F)),
   unary main_while0b_v78 main_while0b_v92 (Host.tanh : (⟨S1024x128, .f32⟩ : BufTy).Contents (Elt F) → (⟨S1024x128, .f32⟩ : BufTy).Contents (Elt F)),
   unary main_while0b_v79 main_while0b_v93 (Host.negf : (⟨S1024x128, .f32⟩ : BufTy).Contents (Elt F) → (⟨S1024x128, .f32⟩ : BufTy).Contents (Elt F)),
   unary main_while0b_v93 main_while0b_v94 (Host.exp : (⟨S1024x128, .f32⟩ : BufTy).Contents (Elt F) → (⟨S1024x128, .f32⟩ : BufTy).Contents (Elt F)),
   nullary main_while0b_cst_28 (constant S_ .f32 0x3F800000#32),
   unary main_while0b_cst_28 main_while0b_v95 (broadcastInDim S1024x128 ![] bcast_S_S1024x128 : (⟨S_, .f32⟩ : BufTy).Contents (Elt F) → (⟨S1024x128, .f32⟩ : BufTy).Contents (Elt F)),
   binary main_while0b_v95 main_while0b_v94 main_while0b_v96 (addf : (⟨S1024x128, .f32⟩ : BufTy).Contents (Elt F) → (⟨S1024x128, .f32⟩ : BufTy).Contents (Elt F) → (⟨S1024x128, .f32⟩ : BufTy).Contents (Elt F)),
   nullary main_while0b_cst_29 (constant S_ .f32 0x3F800000#32),
   unary main_while0b_cst_29 main_while0b_v97 (broadcastInDim S1024x128 ![] bcast_S_S1024x128 : (⟨S_, .f32⟩ : BufTy).Contents (Elt F) → (⟨S1024x128, .f32⟩ : BufTy).Contents (Elt F)),
   binary main_while0b_v97 main_while0b_v96 main_while0b_v98 (Host.divf : (⟨S1024x128, .f32⟩ : BufTy).Contents (Elt F) → (⟨S1024x128, .f32⟩ : BufTy).Contents (Elt F) → (⟨S1024x128, .f32⟩ : BufTy).Contents (Elt F)),
   binary main_while0b_v91 main_v25_6 main_while0b_v99 (mulf : (⟨S1024x128, .f32⟩ : BufTy).Contents (Elt F) → (⟨S1024x128, .f32⟩ : BufTy).Contents (Elt F) → (⟨S1024x128, .f32⟩ : BufTy).Contents (Elt F)),
   binary main_while0b_v85 main_while0b_v92 main_while0b_v100 (mulf : (⟨S1024x128, .f32⟩ : BufTy).Contents (Elt F) → (⟨S1024x128, .f32⟩ : BufTy).Contents (Elt F) → (⟨S1024x128, .f32⟩ : BufTy).Contents (Elt F)),
   binary main_while0b_v99 main_while0b_v100 main_while0b_v101 (addf : (⟨S1024x128, .f32⟩ : BufTy).Contents (Elt F) → (⟨S1024x128, .f32⟩ : BufTy).Contents (Elt F) → (⟨S1024x128, .f32⟩ : BufTy).Contents (Elt F)),
   unary main_while0b_v101 main_while0b_v102 (Host.tanh : (⟨S1024x128, .f32⟩ : BufTy).Contents (Elt F) → (⟨S1024x128, .f32⟩ : BufTy).Contents (Elt F)),
   binary main_while0b_v98 main_while0b_v102 main_while0b_v103 (mulf : (⟨S1024x128, .f32⟩ : BufTy).Contents (Elt F) → (⟨S1024x128, .f32⟩ : BufTy).Contents (Elt F) → (⟨S1024x128, .f32⟩ : BufTy).Contents (Elt F)),
   TRef.unary (.of main_while0b_v103 : TRef sig ⟨S1024x128, .f32⟩) main_while0b_call4.v0 (broadcastInDim S1x1024x128 ![1, 2] bcast_S1024x128_S1x1024x128_1_2),
   TRef.nullary main_while0b_call4.c (constantI S_ 32 0#32),
   TRef.nullary main_while0b_call4.c_0 (constantI S_ 32 0#32),
   TRef.binaryIndexed (.of main_v25_7 : TRef sig ⟨S50x1024x128, .f32⟩) main_while0b_call4.v0 ![(.of main_v25_4 : TRef sig ⟨S_, .i32⟩), main_while0b_call4.c, main_while0b_call4.c_0] main_while0b_call4.v1 (fun x u i => Host.dynamicUpdateSlice x u (fun k => (i k (Shape.Idx.first h_S_)).toInt) updateFits_S50x1024x128_S1x1024x128),
   nullary main_while0b_c_30 (constantI S_ 32 1#32),
   binary main_v25_4 main_while0b_c_30 main_while0b_v105 (addi : (⟨S_, .i32⟩ : BufTy).Contents (Elt F) → (⟨S_, .i32⟩ : BufTy).Contents (Elt F) → (⟨S_, .i32⟩ : BufTy).Contents (Elt F)),
   unary main_while0b_v105 main_v25_4 id,
   unary main_while0b_v103 main_v25_5 id,
   unary main_while0b_v101 main_v25_6 id,
   unary main_while0b_v104 main_v25_7 id]

/-- The recurrence backwards: what its loop starts from. -/
abbrev opsM : List (HloOp τ sig (Elt F)) :=
  [unary main_v25_7 main_v26 ((transpose S1024x50x128 [1, 0, 2] · transposes_S50x1024x128_S1024x50x128_1_0_2) : (⟨S50x1024x128, .f32⟩ : BufTy).Contents (Elt F) → (⟨S1024x50x128, .f32⟩ : BufTy).Contents (Elt F)),
   unary main_v20 main_v27 ((transpose S50x1024x160 [1, 0, 2] · transposes_S1024x50x160_S50x1024x160_1_0_2) : (⟨S1024x50x160, .f32⟩ : BufTy).Contents (Elt F) → (⟨S50x1024x160, .f32⟩ : BufTy).Contents (Elt F)),
   nullary main_cst_6 (constant S_ .f32 0x00000000#32),
   unary main_cst_6 main_v28 (broadcastInDim S1024x128 ![] bcast_S_S1024x128 : (⟨S_, .f32⟩ : BufTy).Contents (Elt F) → (⟨S1024x128, .f32⟩ : BufTy).Contents (Elt F)),
   nullary main_cst_7 (constant S_ .f32 0x00000000#32),
   unary main_cst_7 main_v29 (broadcastInDim S1024x128 ![] bcast_S_S1024x128 : (⟨S_, .f32⟩ : BufTy).Contents (Elt F) → (⟨S1024x128, .f32⟩ : BufTy).Contents (Elt F)),
   nullary main_cst_8 (constant S_ .f32 0x00000000#32),
   unary main_cst_8 main_v30 (broadcastInDim S50x1024x128 ![] bcast_S_S50x1024x128 : (⟨S_, .f32⟩ : BufTy).Contents (Elt F) → (⟨S50x1024x128, .f32⟩ : BufTy).Contents (Elt F)),
   nullary main_c_9 (constantI S_ 32 0#32),
   unary main_v27 main_v31_0 id,
   unary main_arg11 main_v31_1 id,
   unary main_arg12 main_v31_2 id,
   unary main_arg13 main_v31_3 id,
   unary main_c_9 main_v31_4 id,
   unary main_v28 main_v31_5 id,
   unary main_v29 main_v31_6 id,
   unary main_v30 main_v31_7 id]

/-- The test of the second loop. -/
abbrev opsC1 : List (HloOp τ sig (Elt F)) :=
  [nullary main_while1c_c_24 (constantI S_ 32 50#32),
   binary main_v31_4 main_while1c_c_24 main_while1c_v69 (cmpi .slt : (⟨S_, .i32⟩ : BufTy).Contents (Elt F) → (⟨S_, .i32⟩ : BufTy).Contents (Elt F) → (⟨S_, .i1⟩ : BufTy).Contents (Elt F))]

/-- One step backwards. -/
abbrev opsB1 : List (HloOp τ sig (Elt F)) :=
  [nullary main_while1b_c_24 (constantI S_ 32 50#32),
   binary main_while1b_c_24 main_v31_4 main_while1b_v69 (subi : (⟨S_, .i32⟩ : BufTy).Contents (Elt F) → (⟨S_, .i32⟩ : BufTy).Contents (Elt F) → (⟨S_, .i32⟩ : BufTy).Contents (Elt F)),
   nullary main_while1b_c_25 (constantI S_ 32 1#32),
   binary main_while1b_v69 main_while1b_c_25 main_while1b_v70 (subi : (⟨S_, .i32⟩ : BufTy).Contents (Elt F) → (⟨S_, .i32⟩ : BufTy).Contents (Elt F) → (⟨S_, .i32⟩ : BufTy).Contents (Elt F)),
   TRef.nullary main_while1b_call5.c (constantI S_ 32 0#32),
   TRef.nullary main_while1b_call5.c_0 (constantI S_ 32 0#32),
   TRef.unaryIndexed (.of main_v31_0 : TRef sig ⟨S50x1024x160, .f32⟩) ![(.of main_while1b_v70 : TRef sig ⟨S_, .i32⟩), main_while1b_call5.c, main_while1b_call5.c_0] main_while1b_call5.v0 (fun x i => Host.dynamicSlice S1x1024x160 x (fun k => (i k (Shape.Idx.first h_S_)).toInt) sliceFits_S50x1024x160_S1x1024x160),
   TRef.reshape main_while1b_call5.v0 main_while1b_call5.v1 (rfl : (.f32 : EltTy) = .f32) shapeCasts_S1x1024x160_S1024x160,
   binary main_while1b_v71 main_v31_1 main_while1b_v72 ((fun l r => Host.dotGeneral dot_S1024x160_S160x512_S1024x512_1_0_0_1_n_n none l r) : (⟨S1024x160, .f32⟩ : BufTy).Contents (Elt F) → (⟨S160x512, .f32⟩ : BufTy).Contents (Elt F) → (⟨S1024x512, .f32⟩ : BufTy).Contents (Elt F)),
   binary main_v31_5 main_v31_2 main_while1b_v73 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
   binary main_while1b_v72 main_while1b_v73 main_while1b_v74 (addf : (⟨S1024x512, .f32⟩ : BufTy).Contents (Elt F) → (⟨S1024x512, .f32⟩ : BufTy).Contents (Elt F) → (⟨S1024x512, .f32⟩ : BufTy).Contents (Elt F)),
   unary main_v31_3 main_while1b_v75 (broadcastInDim S1x512 ![1] bcast_S512_S1x512_1 : (⟨S512, .f32⟩ : BufTy).Contents (Elt F) → (⟨S1x512, .f32⟩ : BufTy).Contents (Elt F)),
   unary main_while1b_v75 main_while1b_v76 (broadcastInDim S1024x512 ![0, 1] bcast_S1x512_S1024x512_0_1 : (⟨S1x512, .f32⟩ : BufTy).Contents (Elt F) → (⟨S1024x512, .f32⟩ : BufTy).Contents (Elt F)),
   binary main_while1b_v74 main_while1b_v76 main_while1b_v77 (addf : (⟨S1024x512, .f32⟩ : BufTy).Contents (Elt F) → (⟨S1024x512, .f32⟩ : BufTy).Contents (Elt F) → (⟨S1024x512, .f32⟩ : BufTy).Contents (Elt F)),
   unary main_while1b_v77 main_while1b_v78 ((extractStridedSlice S1024x128 ![0, 0] · slices_S1024x512_S1024x128_0_0) : (⟨S1024x512, .f32⟩ : BufTy).Contents (Elt F) → (⟨S1024x128, .f32⟩ : BufTy).Contents (Elt F)),
   unary main_while1b_v77 main_while1b_v79 ((extractStridedSlice S1024x128 ![0, 128] · slices_S1024x512_S1024x128_0_128) : (⟨S1024x512, .f32⟩ : BufTy).Contents (Elt F) → (⟨S1024x128, .f32⟩ : BufTy).Contents (Elt F)),
   unary main_while1b_v77 main_while1b_v80 ((extractStridedSlice S1024x128 ![0, 256] · slices_S1024x512_S1024x128_0_256) : (⟨S1024x512, .f32⟩ : BufTy).Contents (Elt F) → (⟨S1024x128, .f32⟩ : BufTy).Contents (Elt F)),
   unary main_while1b_v77 main_while1b_v81 ((extractStridedSlice S1024x128 ![0, 384] · slices_S1024x512_S1024x128_0_384) : (⟨S1024x512, .f32⟩ : BufTy).Contents (Elt F) → (⟨S1024x128, .f32⟩ : BufTy).Contents (Elt F)),
   unary main_while1b_v78 main_while1b_v82 (Host.negf : (⟨S1024x128, .f32⟩ : BufTy).Contents (Elt F) → (⟨S1024x128, .f32⟩ : BufTy).Contents (Elt F)),
   unary main_while1b_v82 main_while1b_v83 (Host.exp : (⟨S1024x128, .f32⟩ : BufTy).Contents (Elt F) → (⟨S1024x128, .f32⟩ : BufTy).Contents (Elt F)),
   nullary main_while1b_cst_26 (constant S_ .f32 0x3F800000#32),
   unary main_while1b_cst_26 main_while1b_v84 (broadcastInDim S1024x128 ![] bcast_S_S1024x128 : (⟨S_, .f32⟩ : BufTy).Contents (Elt F) → (⟨S1024x128, .f32⟩ : BufTy).Contents (Elt F)),
   binary main_while1b_v84 main_while1b_v83 main_while1b_v85 (addf : (⟨S1024x128, .f32⟩ : BufTy).Contents (Elt F) → (⟨S1024x128, .f32⟩ : BufTy).Contents (Elt F) → (⟨S1024x128, .f32⟩ : BufTy).Contents (Elt F)),
   nullary main_while1b_cst_27 (constant S_ .f32 0x3F800000#32),
   unary main_while1b_cst_27 main_while1b_v86 (broadcastInDim S1024x128 ![] bcast_S_S1024x128 : (⟨S_, .f32⟩ : BufTy).Contents (Elt F) → (⟨S1024x128, .f32⟩ : BufTy).Contents (Elt F)),
   binary main_while1b_v86 main_while1b_v85 main_while1b_v87 (Host.divf : (⟨S1024x128, .f32⟩ : BufTy).Contents (Elt F) → (⟨S1024x128, .f32⟩ : BufTy).Contents (Elt F) → (⟨S1024x128, .f32⟩ : BufTy).Contents (Elt F)),
   unary main_while1b_v79 main_while1b_v88 (Host.negf : (⟨S1024x128, .f32⟩ : BufTy).Contents (Elt F) → (⟨S1024x128, .f32⟩ : BufTy).Contents (Elt F)),
   unary main_while1b_v88 main_while1b_v89 (Host.exp : (⟨S1024x128, .f32⟩ : BufTy).Contents (Elt F) → (⟨S1024x128, .f32⟩ : BufTy).Contents (Elt F)),
   nullary main_while1b_cst_28 (constant S_ .f32 0x3F800000#32),
   unary main_while1b_cst_28 main_while1b_v90 (broadcastInDim S1024x128 ![] bcast_S_S1024x128 : (⟨S_, .f32⟩ : BufTy).Contents (Elt F) → (⟨S1024x128, .f32⟩ : BufTy).Contents (Elt F)),
   binary main_while1b_v90 main_while1b_v89 main_while1b_v91 (addf : (⟨S1024x128, .f32⟩ : BufTy).Contents (Elt F) → (⟨S1024x128, .f32⟩ : BufTy).Contents (Elt F) → (⟨S1024x128, .f32⟩ : BufTy).Contents (Elt F)),
   nullary main_while1b_cst_29 (constant S_ .f32 0x3F800000#32),
   unary main_while1b_cst_29 main_while1b_v92 (broadcastInDim S1024x128 ![] bcast_S_S1024x128 : (⟨S_, .f32⟩ : BufTy).Contents (Elt F) → (⟨S1024x128, .f32⟩ : BufTy).Contents (Elt F)),
   binary main_while1b_v92 main_while1b_v91 main_while1b_v93 (Host.divf : (⟨S1024x128, .f32⟩ : BufTy).Contents (Elt F) → (⟨S1024x128, .f32⟩ : BufTy).Contents (Elt F) → (⟨S1024x128, .f32⟩ : BufTy).Contents (Elt F)),
   unary main_while1b_v80 main_while1b_v94 (Host.tanh : (⟨S1024x128, .f32⟩ : BufTy).Contents (Elt F) → (⟨S1024x128, .f32⟩ : BufTy).Contents (Elt F)),
   unary main_while1b_v81 main_while1b_v95 (Host.negf : (⟨S1024x128, .f32⟩ : BufTy).Contents (Elt F) → (⟨S1024x128, .f32⟩ : BufTy).Contents (Elt F)),
   unary main_while1b_v95 main_while1b_v96 (Host.exp : (⟨S1024x128, .f32⟩ : BufTy).Contents (Elt F) → (⟨S1024x128, .f32⟩ : BufTy).Contents (Elt F)),
   nullary main_while1b_cst_30 (constant S_ .f32 0x3F800000#32),
   unary main_while1b_cst_30 main_while1b_v97 (broadcastInDim S1024x128 ![] bcast_S_S1024x128 : (⟨S_, .f32⟩ : BufTy).Contents (Elt F) → (⟨S1024x128, .f32⟩ : BufTy).Contents (Elt F)),
   binary main_while1b_v97 main_while1b_v96 main_while1b_v98 (addf : (⟨S1024x128, .f32⟩ : BufTy).Contents (Elt F) → (⟨S1024x128, .f32⟩ : BufTy).Contents (Elt F) → (⟨S1024x128, .f32⟩ : BufTy).Contents (Elt F)),
   nullary main_while1b_cst_31 (constant S_ .f32 0x3F800000#32),
   unary main_while1b_cst_31 main_while1b_v99 (broadcastInDim S1024x128 ![] bcast_S_S1024x128 : (⟨S_, .f32⟩ : BufTy).Contents (Elt F) → (⟨S1024x128, .f32⟩ : BufTy).Contents (Elt F)),
   binary main_while1b_v99 main_while1b_v98 main_while1b_v100 (Host.divf : (⟨S1024x128, .f32⟩ : BufTy).Contents (Elt F) → (⟨S1024x128, .f32⟩ : BufTy).Contents (Elt F) → (⟨S1024x128, .f32⟩ : BufTy).Contents (Elt F)),
   binary main_while1b_v93 main_v31_6 main_while1b_v101 (mulf : (⟨S1024x128, .f32⟩ : BufTy).Contents (Elt F) → (⟨S1024x128, .f32⟩ : BufTy).Contents (Elt F) → (⟨S1024x128, .f32⟩ : BufTy).Contents (Elt F)),
   binary main_while1b_v87 main_while1b_v94 main_while1b_v102 (mulf : (⟨S1024x128, .f32⟩ : BufTy).Contents (Elt F) → (⟨S1024x128, .f32⟩ : BufTy).Contents (Elt F) → (⟨S1024x128, .f32⟩ : BufTy).Contents (Elt F)),
   binary main_while1b_v101 main_while1b_v102 main_while1b_v103 (addf : (⟨S1024x128, .f32⟩ : BufTy).Contents (Elt F) → (⟨S1024x128, .f32⟩ : BufTy).Contents (Elt F) → (⟨S1024x128, .f32⟩ : BufTy).Contents (Elt F)),
   unary main_while1b_v103 main_while1b_v104 (Host.tanh : (⟨S1024x128, .f32⟩ : BufTy).Contents (Elt F) → (⟨S1024x128, .f32⟩ : BufTy).Contents (Elt F)),
   binary main_while1b_v100 main_while1b_v104 main_while1b_v105 (mulf : (⟨S1024x128, .f32⟩ : BufTy).Contents (Elt F) → (⟨S1024x128, .f32⟩ : BufTy).Contents (Elt F) → (⟨S1024x128, .f32⟩ : BufTy).Contents (Elt F)),
   TRef.unary (.of main_while1b_v105 : TRef sig ⟨S1024x128, .f32⟩) main_while1b_call6.v0 (broadcastInDim S1x1024x128 ![1, 2] bcast_S1024x128_S1x1024x128_1_2),
   TRef.nullary main_while1b_call6.c (constantI S_ 32 0#32),
   TRef.nullary main_while1b_call6.c_0 (constantI S_ 32 0#32),
   TRef.binaryIndexed (.of main_v31_7 : TRef sig ⟨S50x1024x128, .f32⟩) main_while1b_call6.v0 ![(.of main_while1b_v70 : TRef sig ⟨S_, .i32⟩), main_while1b_call6.c, main_while1b_call6.c_0] main_while1b_call6.v1 (fun x u i => Host.dynamicUpdateSlice x u (fun k => (i k (Shape.Idx.first h_S_)).toInt) updateFits_S50x1024x128_S1x1024x128),
   nullary main_while1b_c_32 (constantI S_ 32 1#32),
   binary main_v31_4 main_while1b_c_32 main_while1b_v107 (addi : (⟨S_, .i32⟩ : BufTy).Contents (Elt F) → (⟨S_, .i32⟩ : BufTy).Contents (Elt F) → (⟨S_, .i32⟩ : BufTy).Contents (Elt F)),
   unary main_while1b_v107 main_v31_4 id,
   unary main_while1b_v105 main_v31_5 id,
   unary main_while1b_v103 main_v31_6 id,
   unary main_while1b_v106 main_v31_7 id]

/-- The two directions side by side. -/
abbrev opsQ1 : List (HloOp τ sig (Elt F)) :=
  [unary main_v31_7 main_v32 ((transpose S1024x50x128 [1, 0, 2] · transposes_S50x1024x128_S1024x50x128_1_0_2) : (⟨S50x1024x128, .f32⟩ : BufTy).Contents (Elt F) → (⟨S1024x50x128, .f32⟩ : BufTy).Contents (Elt F)),
   binary main_v26 main_v32 main_v33 ((fun a b => concatenate S1024x50x256 2 [⟨S1024x50x128, a⟩, ⟨S1024x50x128, b⟩] concatenates_S1024x50x128_S1024x50x128_S1024x50x256_d2) : (⟨S1024x50x128, .f32⟩ : BufTy).Contents (Elt F) → (⟨S1024x50x128, .f32⟩ : BufTy).Contents (Elt F) → (⟨S1024x50x256, .f32⟩ : BufTy).Contents (Elt F))]

/-- The two layers of the head. -/
abbrev opsQ2 : List (HloOp τ sig (Elt F)) :=
  [StableHlo.reshape main_v33 main_v34 (rfl : (.f32 : EltTy) = .f32) shapeCasts_S1024x50x256_S51200x256,
   binary main_v34 main_arg14 main_v35 ((fun l r => Host.dotGeneral dot_S51200x256_S256x128_S51200x128_1_0_0_1_n_n none l r) : (⟨S51200x256, .f32⟩ : BufTy).Contents (Elt F) → (⟨S256x128, .f32⟩ : BufTy).Contents (Elt F) → (⟨S51200x128, .f32⟩ : BufTy).Contents (Elt F)),
   unary main_arg15 main_v36 (broadcastInDim S1x128 ![1] bcast_S128_S1x128_1 : (⟨S128, .f32⟩ : BufTy).Contents (Elt F) → (⟨S1x128, .f32⟩ : BufTy).Contents (Elt F)),
   unary main_v36 main_v37 (broadcastInDim S51200x128 ![0, 1] bcast_S1x128_S51200x128_0_1 : (⟨S1x128, .f32⟩ : BufTy).Contents (Elt F) → (⟨S51200x128, .f32⟩ : BufTy).Contents (Elt F)),
   binary main_v35 main_v37 main_v38 (addf : (⟨S51200x128, .f32⟩ : BufTy).Contents (Elt F) → (⟨S51200x128, .f32⟩ : BufTy).Contents (Elt F) → (⟨S51200x128, .f32⟩ : BufTy).Contents (Elt F)),
   nullary main_cst_10 (constant S_ .f32 0x00000000#32),
   unary main_cst_10 main_v39 (broadcastInDim S51200x128 ![] bcast_S_S51200x128 : (⟨S_, .f32⟩ : BufTy).Contents (Elt F) → (⟨S51200x128, .f32⟩ : BufTy).Contents (Elt F)),
   binary main_v38 main_v39 main_v40 (cmpf .ogt : (⟨S51200x128, .f32⟩ : BufTy).Contents (Elt F) → (⟨S51200x128, .f32⟩ : BufTy).Contents (Elt F) → (⟨S51200x128, .i1⟩ : BufTy).Contents (Elt F)),
   nullary main_cst_11 (constant S_ .f32 0x3DCCCCCD#32),
   unary main_cst_11 main_v41 (broadcastInDim S51200x128 ![] bcast_S_S51200x128 : (⟨S_, .f32⟩ : BufTy).Contents (Elt F) → (⟨S51200x128, .f32⟩ : BufTy).Contents (Elt F)),
   binary main_v41 main_v38 main_v42 (mulf : (⟨S51200x128, .f32⟩ : BufTy).Contents (Elt F) → (⟨S51200x128, .f32⟩ : BufTy).Contents (Elt F) → (⟨S51200x128, .f32⟩ : BufTy).Contents (Elt F)),
   TRef.ternary (.of main_v40 : TRef sig ⟨S51200x128, .i1⟩) (.of main_v38 : TRef sig ⟨S51200x128, .f32⟩) (.of main_v42 : TRef sig ⟨S51200x128, .f32⟩) main_call7.v0 select,
   binary main_v43 main_arg16 main_v44 ((fun l r => Host.dotGeneral dot_S51200x128_S128x48_S51200x48_1_0_0_1_n_n none l r) : (⟨S51200x128, .f32⟩ : BufTy).Contents (Elt F) → (⟨S128x48, .f32⟩ : BufTy).Contents (Elt F) → (⟨S51200x48, .f32⟩ : BufTy).Contents (Elt F)),
   unary main_arg17 main_v45 (broadcastInDim S1x48 ![1] bcast_S48_S1x48_1 : (⟨S48, .f32⟩ : BufTy).Contents (Elt F) → (⟨S1x48, .f32⟩ : BufTy).Contents (Elt F)),
   unary main_v45 main_v46 (broadcastInDim S51200x48 ![0, 1] bcast_S1x48_S51200x48_0_1 : (⟨S1x48, .f32⟩ : BufTy).Contents (Elt F) → (⟨S51200x48, .f32⟩ : BufTy).Contents (Elt F)),
   binary main_v44 main_v46 main_v47 (addf : (⟨S51200x48, .f32⟩ : BufTy).Contents (Elt F) → (⟨S51200x48, .f32⟩ : BufTy).Contents (Elt F) → (⟨S51200x48, .f32⟩ : BufTy).Contents (Elt F)),
   StableHlo.reshape main_v47 main_v48 (rfl : (.f32 : EltTy) = .f32) shapeCasts_S51200x48_S1024x50x48]

/-- The mask and the logarithms of the probabilities. -/
abbrev opsQ3 : List (HloOp τ sig (Elt F)) :=
  [nullary main_c_12 (constantI S_ 32 0#32),
   unary main_c_12 main_v49 (broadcastInDim S1024x50 ![] bcast_S_S1024x50 : (⟨S_, .i32⟩ : BufTy).Contents (Elt F) → (⟨S1024x50, .i32⟩ : BufTy).Contents (Elt F)),
   binary main_arg0 main_v49 main_v50 (cmpi .sgt : (⟨S1024x50, .i32⟩ : BufTy).Contents (Elt F) → (⟨S1024x50, .i32⟩ : BufTy).Contents (Elt F) → (⟨S1024x50, .i1⟩ : BufTy).Contents (Elt F)),
   StableHlo.reshape main_v50 main_v51 (rfl : (.i1 : EltTy) = .i1) shapeCasts_S1024x50_S51200,
   TRef.nullary main_call8.cst (constant S_ .f32 0xFF800000#32),
   TRef.binary (.of main_v47 : TRef sig ⟨S51200x48, .f32⟩) main_call8.cst main_call8.v0 (fun x v => Host.reduce FloatOps.maximumf x v reducesTo_S51200x48_S51200_d1 h_S_),
   TRef.nullary main_call8.cst_0 (constant S_ .f32 0xFF800000#32),
   TRef.unary main_call8.cst_0 main_call8.v1 (broadcastInDim S51200 ![] bcast_S_S51200),
   TRef.binary main_call8.v1 main_call8.v0 main_call8.v2 maximumf,
   TRef.unary main_call8.v2 main_call8.v3 (broadcastInDim S51200x1 ![0] bcast_S51200_S51200x1_0),
   TRef.unary main_call8.v3 main_call8.v4 (broadcastInDim S51200x48 ![0, 1] bcast_S51200x1_S51200x48_0_1),
   TRef.binary (.of main_v47 : TRef sig ⟨S51200x48, .f32⟩) main_call8.v4 main_call8.v5 subf,
   TRef.unary main_call8.v5 main_call8.v6 Host.exp,
   TRef.nullary main_call8.cst_1 (constant S_ .f32 0x00000000#32),
   TRef.binary main_call8.v6 main_call8.cst_1 main_call8.v7 (fun x v => Host.reduceAdd x v reducesTo_S51200x48_S51200_d1 h_S_),
   TRef.unary main_call8.v7 main_call8.v8 (broadcastInDim S51200x1 ![0] bcast_S51200_S51200x1_0),
   TRef.unary main_call8.v8 main_call8.v9 Host.log,
   TRef.unary main_call8.v9 main_call8.v10 (broadcastInDim S51200x48 ![0, 1] bcast_S51200x1_S51200x48_0_1),
   TRef.binary main_call8.v5 main_call8.v10 main_call8.v11 subf]

/-- The loss. -/
abbrev opsQ4 : List (HloOp τ sig (Elt F)) :=
  [StableHlo.reshape main_arg2 main_v53 (rfl : (.i32 : EltTy) = .i32) shapeCasts_S1024x50_S51200,
   unary main_v53 main_v54 (broadcastInDim S51200x1 ![0] bcast_S51200_S51200x1_0 : (⟨S51200, .i32⟩ : BufTy).Contents (Elt F) → (⟨S51200x1, .i32⟩ : BufTy).Contents (Elt F)),
   TRef.nullary main_call9.c (constantI S_ 32 0#32),
   TRef.unary main_call9.c main_call9.v0 (broadcastInDim S51200x1 ![] bcast_S_S51200x1),
   TRef.binary (.of main_v54 : TRef sig ⟨S51200x1, .i32⟩) main_call9.v0 main_call9.v1 (cmpi .slt),
   TRef.nullary main_call9.c_0 (constantI S_ 32 48#32),
   TRef.unary main_call9.c_0 main_call9.v2 (broadcastInDim S51200x1 ![] bcast_S_S51200x1),
   TRef.binary (.of main_v54 : TRef sig ⟨S51200x1, .i32⟩) main_call9.v2 main_call9.v3 addi,
   TRef.ternary main_call9.v1 main_call9.v3 (.of main_v54 : TRef sig ⟨S51200x1, .i32⟩) main_call9.v4 select,
   TRef.reshape main_call9.v4 main_call9.v5 (rfl : (.i32 : EltTy) = .i32) shapeCasts_S51200x1_S51200x1x1,
   TRef.nullary main_call9.c_1 (constantI S1 32 47#32),
   TRef.nullary main_call9.c_2 (constantI S_ 32 0#32),
   TRef.unary main_call9.c_2 main_call9.v6 (broadcastInDim S51200x1x1 ![] bcast_S_S51200x1x1),
   TRef.binary main_call9.v5 main_call9.v6 main_call9.v7 (cmpi .sge),
   TRef.unary main_call9.c_1 main_call9.v8 (broadcastInDim S1x1x1 ![2] bcast_S1_S1x1x1_2),
   TRef.unary main_call9.v8 main_call9.v9 (broadcastInDim S51200x1x1 ![0, 1, 2] bcast_S1x1x1_S51200x1x1_0_1_2),
   TRef.binary main_call9.v5 main_call9.v9 main_call9.v10 (cmpi .sle),
   TRef.binary main_call9.v7 main_call9.v10 main_call9.v11 andi,
   TRef.nullary main_call9.c_3 (constantI S_ 1 1#1),
   TRef.binary main_call9.v11 main_call9.c_3 main_call9.v12 (fun x v => Host.reduce IntOp.andi x v reducesTo_S51200x1x1_S51200x1_d2 h_S_),
   TRef.binary (.of main_v52 : TRef sig ⟨S51200x48, .f32⟩) main_call9.v5 main_call9.v13 (fun x i => Host.gather gather_S51200x48_S51200x1x1_S51200x1_n_1_0_0_1_2_11 x i),
   TRef.nullary main_call9.cst (constant S_ .f32 0x7FC00000#32),
   TRef.unary main_call9.cst main_call9.v14 (broadcastInDim S51200x1 ![] bcast_S_S51200x1),
   TRef.ternary main_call9.v12 main_call9.v13 main_call9.v14 main_call9.v15 select,
   StableHlo.reshape main_v55 main_v56 (rfl : (.f32 : EltTy) = .f32) shapeCasts_S51200x1_S51200,
   unary main_v56 main_v57 (Host.negf : (⟨S51200, .f32⟩ : BufTy).Contents (Elt F) → (⟨S51200, .f32⟩ : BufTy).Contents (Elt F)),
   unary main_v51 main_v58 (uitofp .f32 : (⟨S51200, .i1⟩ : BufTy).Contents (Elt F) → (⟨S51200, .f32⟩ : BufTy).Contents (Elt F)),
   binary main_v57 main_v58 main_v59 (mulf : (⟨S51200, .f32⟩ : BufTy).Contents (Elt F) → (⟨S51200, .f32⟩ : BufTy).Contents (Elt F) → (⟨S51200, .f32⟩ : BufTy).Contents (Elt F)),
   nullary main_cst_13 (constant S_ .f32 0x00000000#32),
   binary main_v59 main_cst_13 main_v60 ((fun x v => Host.reduceAdd x v reducesTo_S51200_S_d0 h_S_) : (⟨S51200, .f32⟩ : BufTy).Contents (Elt F) → (⟨S_, .f32⟩ : BufTy).Contents (Elt F) → (⟨S_, .f32⟩ : BufTy).Contents (Elt F)),
   nullary main_cst_14 (constant S_ .f32 0x44800000#32),
   binary main_v60 main_cst_14 main_v61 (Host.divf : (⟨S_, .f32⟩ : BufTy).Contents (Elt F) → (⟨S_, .f32⟩ : BufTy).Contents (Elt F) → (⟨S_, .f32⟩ : BufTy).Contents (Elt F))]

/-- The labels of the largest outputs. -/
abbrev opsQ5 : List (HloOp τ sig (Elt F)) :=
  [TRef.nullary main_call10.v0 (iotaInDim S51200x48 32 1),
   TRef.nullary main_call10.cst (constant S_ .f32 0xFF800000#32),
   TRef.nullary main_call10.c (constantI S_ 32 0#32),
   TRef.quaternary (.of main_v47 : TRef sig ⟨S51200x48, .f32⟩) main_call10.v0 main_call10.cst main_call10.c main_call10.v1_0 (fun x y u v j => (Host.argReduce reducer_argmax_f32_i32 x y u v reducesTo_S51200x48_S51200_d1 h_S_ j).1),
   TRef.quaternary (.of main_v47 : TRef sig ⟨S51200x48, .f32⟩) main_call10.v0 main_call10.cst main_call10.c main_call10.v1_1 (fun x y u v j => (Host.argReduce reducer_argmax_f32_i32 x y u v reducesTo_S51200x48_S51200_d1 h_S_ j).2),
   StableHlo.reshape main_v62 main_v63 (rfl : (.i32 : EltTy) = .i32) shapeCasts_S51200_S1024x50]

/-- The count of the words. -/
abbrev opsQ6 : List (HloOp τ sig (Elt F)) :=
  [nullary main_c_15 (constantI S_ 32 0#32),
   binary main_arg3 main_c_15 main_v64 ((fun x v => Host.reduce IntOp.addi x v reducesTo_S1024_S_d0 h_S_) : (⟨S1024, .i32⟩ : BufTy).Contents (Elt F) → (⟨S_, .i32⟩ : BufTy).Contents (Elt F) → (⟨S_, .i32⟩ : BufTy).Contents (Elt F))]

/-- The count of the right labels. -/
abbrev opsQ7 : List (HloOp τ sig (Elt F)) :=
  [binary main_arg2 main_v63 main_v65 (cmpi .eq : (⟨S1024x50, .i32⟩ : BufTy).Contents (Elt F) → (⟨S1024x50, .i32⟩ : BufTy).Contents (Elt F) → (⟨S1024x50, .i1⟩ : BufTy).Contents (Elt F)),
   binary main_v50 main_v65 main_v66 (andi : (⟨S1024x50, .i1⟩ : BufTy).Contents (Elt F) → (⟨S1024x50, .i1⟩ : BufTy).Contents (Elt F) → (⟨S1024x50, .i1⟩ : BufTy).Contents (Elt F)),
   unary main_v66 main_v67 ((extui 32 · natLt_1_32) : (⟨S1024x50, .i1⟩ : BufTy).Contents (Elt F) → (⟨S1024x50, .i32⟩ : BufTy).Contents (Elt F)),
   nullary main_c_16 (constantI S_ 32 0#32),
   binary main_v67 main_c_16 main_v68 ((fun x v => Host.reduce IntOp.addi x v reducesTo_S1024x50_S_d0_1 h_S_) : (⟨S1024x50, .i32⟩ : BufTy).Contents (Elt F) → (⟨S_, .i32⟩ : BufTy).Contents (Elt F) → (⟨S_, .i32⟩ : BufTy).Contents (Elt F))]

/-- The first loop's body, as its line. -/
theorem body0_eq : main_while0_body (F := F) = Pipeline.chain ([opsB0].map fun ops => (seq ops : Prog _ PUnit)) := by
  simp only [main_while0_body, fn_argmax.body, fn_dynamic_index_in_dim.body, fn_dynamic_update_index_in_dim.body, fn_log_softmax.body, fn_take.body, fn_take_0.body, fn_take_along_axis.body, fn_var.body, fn_where.body, fn_where_1.body, fn_where_2.body, List.map, Pipeline.chain, seq, bind_assoc, pure_bind]

/-- The second loop's body, as its line. -/
theorem body1_eq : main_while1_body (F := F) = Pipeline.chain ([opsB1].map fun ops => (seq ops : Prog _ PUnit)) := by
  simp only [main_while1_body, fn_argmax.body, fn_dynamic_index_in_dim.body, fn_dynamic_update_index_in_dim.body, fn_log_softmax.body, fn_take.body, fn_take_0.body, fn_take_along_axis.body, fn_var.body, fn_where.body, fn_where_1.body, fn_where_2.body, List.map, Pipeline.chain, seq, bind_assoc, pure_bind]

/-- The reference, as its lines and its loops. -/
theorem main_eq (d : Dev nD) : main (F := F) d = Pipeline.chain (([opsP1, opsP2, opsP3].map fun ops => (seq ops : Prog _ PUnit))
    ++ HostLoop.enter 0 :: (([opsM].map fun ops => (seq ops : Prog _ PUnit)) ++ HostLoop.enter 1 :: [opsQ1, opsQ2, opsQ3, opsQ4, opsQ5, opsQ6, opsQ7].map fun ops => (seq ops : Prog _ PUnit))) := by
  simp only [main, main_part0, main_part1, fn_argmax.body, fn_dynamic_index_in_dim.body, fn_dynamic_update_index_in_dim.body, fn_log_softmax.body, fn_take.body, fn_take_0.body, fn_take_along_axis.body, fn_var.body, fn_where.body, fn_where_1.body, fn_where_2.body, List.map, List.cons_append, List.nil_append, Pipeline.chain, seq, bind_assoc, pure_bind]

end Cert.Proof.RI

end
-- ==== Proof.RI.Run.lean ====
/-
  The reference's run: each of its two loops runs fifty times, each line runs once, and the arguments' buffers are left alone.
-/
module

public import proofs.«01_k».proof.Proof.RI.Ops
public import Idealize.ShloMosaic.Lib.Pipeline.FrameTail
public import Idealize.ShloMosaic.Lib.Scf.ExitTest
public import Idealize.ShloMosaic.Lib.Scf.Counter

@[expose] public section

set_option maxRecDepth 16384

noncomputable section

namespace Cert.Proof.RI

open Cert.ReferenceIdeal Cert.ReferenceIdeal.Gen
open Idealize.ShloMosaic Idealize.ShloMosaic.TcCoe
open Idealize.ShloMosaic.StableHlo (tcRefs after after_unwritten held atTrip afterL seq Plain launchContents binaryIndexed_bufs_sub binary_bufs_sub nullary_bufs_sub quaternary_bufs_sub reshape_bufs_sub ternary_bufs_sub unaryIndexed_bufs_sub unary_bufs_sub)
open Idealize.ShloMosaic.Pipeline (CSeg ucRefs Ticket sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What each line writes -/

abbrev wrP1 : List (Ref sig .tc) := [(main_call0.c).ref, (main_call0.v0).ref, (main_call0.v1).ref, (main_call0.c_0).ref, (main_call0.v2).ref, (main_call0.v3).ref, (main_call0.call0.v0).ref, (main_call0.v5).ref, (main_call0.c_1).ref, (main_call0.c_2).ref, (main_call0.v6).ref, (main_call0.v7).ref, (main_call0.v8).ref, (main_call0.v9).ref, (main_call0.v10).ref, (main_call0.v11).ref, (main_call0.c_3).ref, (main_call0.v12).ref, (main_call0.v13).ref, (main_call0.v14).ref, (main_call0.cst).ref, (main_call0.v15).ref, (main_call0.v16).ref, (main_call1.c).ref, (main_call1.v0).ref, (main_call1.v1).ref, (main_call1.c_0).ref, (main_call1.v2).ref, (main_call1.v3).ref, (main_call1.call0.v0).ref, (main_call1.v5).ref, (main_call1.c_1).ref, (main_call1.c_2).ref, (main_call1.v6).ref, (main_call1.v7).ref, (main_call1.v8).ref, (main_call1.v9).ref, (main_call1.v10).ref, (main_call1.v11).ref, (main_call1.c_3).ref, (main_call1.v12).ref, (main_call1.v13).ref, (main_call1.v14).ref, (main_call1.cst).ref, (main_call1.v15).ref, (main_call1.v16).ref, main_v2]
theorem keepP1 (V : Valuation τ sig (Elt F)) {r : Ref sig .tc} (h : r ∉ wrP1) : after opsP1 V (Proc.devRef .tc r) = V (Proc.devRef .tc r) :=
  after_unwritten wrP1 rfl h V

abbrev wrP2 : List (Ref sig .tc) := [main_cst, main_v3, main_v4, main_cst_0, main_v5, main_v6, main_c, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.v12).ref, (main_call2.cst_3).ref, (main_call2.v13).ref, (main_call2.cst_4).ref, (main_call2.call0.v0).ref, (main_call2.call0.v1).ref, (main_call2.call0.v2).ref, main_v8, main_v9, main_cst_1, main_v10, main_v11, main_v12, main_v13, main_v14, main_v15, main_v16, main_v17, main_v18, main_v19, main_v20]
theorem keepP2 (V : Valuation τ sig (Elt F)) {r : Ref sig .tc} (h : r ∉ wrP2) : after opsP2 V (Proc.devRef .tc r) = V (Proc.devRef .tc r) :=
  after_unwritten wrP2 rfl h V

abbrev wrP3 : List (Ref sig .tc) := [main_v21, main_cst_2, main_v22, main_cst_3, main_v23, main_cst_4, main_v24, main_c_5, main_v25_0, main_v25_1, main_v25_2, main_v25_3, main_v25_4, main_v25_5, main_v25_6, main_v25_7]
theorem keepP3 (V : Valuation τ sig (Elt F)) {r : Ref sig .tc} (h : r ∉ wrP3) : after opsP3 V (Proc.devRef .tc r) = V (Proc.devRef .tc r) :=
  after_unwritten wrP3 rfl h V

abbrev wrC0 : List (Ref sig .tc) := [main_while0c_c_24, main_while0c_v69]
theorem keepC0 (V : Valuation τ sig (Elt F)) {r : Ref sig .tc} (h : r ∉ wrC0) : after opsC0 V (Proc.devRef .tc r) = V (Proc.devRef .tc r) :=
  after_unwritten wrC0 rfl h V

abbrev wrB0 : List (Ref sig .tc) := [(main_while0b_call3.c).ref, (main_while0b_call3.c_0).ref, (main_while0b_call3.v0).ref, (main_while0b_call3.v1).ref, main_while0b_v70, main_while0b_v71, main_while0b_v72, main_while0b_v73, main_while0b_v74, main_while0b_v75, main_while0b_v76, main_while0b_v77, main_while0b_v78, main_while0b_v79, main_while0b_v80, main_while0b_v81, main_while0b_cst_24, main_while0b_v82, main_while0b_v83, main_while0b_cst_25, main_while0b_v84, main_while0b_v85, main_while0b_v86, main_while0b_v87, main_while0b_cst_26, main_while0b_v88, main_while0b_v89, main_while0b_cst_27, main_while0b_v90, main_while0b_v91, main_while0b_v92, main_while0b_v93, main_while0b_v94, main_while0b_cst_28, main_while0b_v95, main_while0b_v96, main_while0b_cst_29, main_while0b_v97, main_while0b_v98, main_while0b_v99, main_while0b_v100, main_while0b_v101, main_while0b_v102, main_while0b_v103, (main_while0b_call4.v0).ref, (main_while0b_call4.c).ref, (main_while0b_call4.c_0).ref, (main_while0b_call4.v1).ref, main_while0b_c_30, main_while0b_v105, main_v25_4, main_v25_5, main_v25_6, main_v25_7]
theorem keepB0 (V : Valuation τ sig (Elt F)) {r : Ref sig .tc} (h : r ∉ wrB0) : after opsB0 V (Proc.devRef .tc r) = V (Proc.devRef .tc r) :=
  after_unwritten wrB0 rfl h V

abbrev wrM : List (Ref sig .tc) := [main_v26, main_v27, main_cst_6, main_v28, main_cst_7, main_v29, main_cst_8, main_v30, main_c_9, main_v31_0, main_v31_1, main_v31_2, main_v31_3, main_v31_4, main_v31_5, main_v31_6, main_v31_7]
theorem keepM (V : Valuation τ sig (Elt F)) {r : Ref sig .tc} (h : r ∉ wrM) : after opsM V (Proc.devRef .tc r) = V (Proc.devRef .tc r) :=
  after_unwritten wrM rfl h V

abbrev wrC1 : List (Ref sig .tc) := [main_while1c_c_24, main_while1c_v69]
theorem keepC1 (V : Valuation τ sig (Elt F)) {r : Ref sig .tc} (h : r ∉ wrC1) : after opsC1 V (Proc.devRef .tc r) = V (Proc.devRef .tc r) :=
  after_unwritten wrC1 rfl h V

abbrev wrB1 : List (Ref sig .tc) := [main_while1b_c_24, main_while1b_v69, main_while1b_c_25, main_while1b_v70, (main_while1b_call5.c).ref, (main_while1b_call5.c_0).ref, (main_while1b_call5.v0).ref, (main_while1b_call5.v1).ref, main_while1b_v72, main_while1b_v73, main_while1b_v74, main_while1b_v75, main_while1b_v76, main_while1b_v77, main_while1b_v78, main_while1b_v79, main_while1b_v80, main_while1b_v81, main_while1b_v82, main_while1b_v83, main_while1b_cst_26, main_while1b_v84, main_while1b_v85, main_while1b_cst_27, main_while1b_v86, main_while1b_v87, main_while1b_v88, main_while1b_v89, main_while1b_cst_28, main_while1b_v90, main_while1b_v91, main_while1b_cst_29, main_while1b_v92, main_while1b_v93, main_while1b_v94, main_while1b_v95, main_while1b_v96, main_while1b_cst_30, main_while1b_v97, main_while1b_v98, main_while1b_cst_31, main_while1b_v99, main_while1b_v100, main_while1b_v101, main_while1b_v102, main_while1b_v103, main_while1b_v104, main_while1b_v105, (main_while1b_call6.v0).ref, (main_while1b_call6.c).ref, (main_while1b_call6.c_0).ref, (main_while1b_call6.v1).ref, main_while1b_c_32, main_while1b_v107, main_v31_4, main_v31_5, main_v31_6, main_v31_7]
theorem keepB1 (V : Valuation τ sig (Elt F)) {r : Ref sig .tc} (h : r ∉ wrB1) : after opsB1 V (Proc.devRef .tc r) = V (Proc.devRef .tc r) :=
  after_unwritten wrB1 rfl h V

abbrev wrQ1 : List (Ref sig .tc) := [main_v32, main_v33]
theorem keepQ1 (V : Valuation τ sig (Elt F)) {r : Ref sig .tc} (h : r ∉ wrQ1) : after opsQ1 V (Proc.devRef .tc r) = V (Proc.devRef .tc r) :=
  after_unwritten wrQ1 rfl h V

abbrev wrQ2 : List (Ref sig .tc) := [main_v34, main_v35, main_v36, main_v37, main_v38, main_cst_10, main_v39, main_v40, main_cst_11, main_v41, main_v42, (main_call7.v0).ref, main_v44, main_v45, main_v46, main_v47, main_v48]
theorem keepQ2 (V : Valuation τ sig (Elt F)) {r : Ref sig .tc} (h : r ∉ wrQ2) : after opsQ2 V (Proc.devRef .tc r) = V (Proc.devRef .tc r) :=
  after_unwritten wrQ2 rfl h V

abbrev wrQ3 : List (Ref sig .tc) := [main_c_12, main_v49, main_v50, main_v51, (main_call8.cst).ref, (main_call8.v0).ref, (main_call8.cst_0).ref, (main_call8.v1).ref, (main_call8.v2).ref, (main_call8.v3).ref, (main_call8.v4).ref, (main_call8.v5).ref, (main_call8.v6).ref, (main_call8.cst_1).ref, (main_call8.v7).ref, (main_call8.v8).ref, (main_call8.v9).ref, (main_call8.v10).ref, (main_call8.v11).ref]
theorem keepQ3 (V : Valuation τ sig (Elt F)) {r : Ref sig .tc} (h : r ∉ wrQ3) : after opsQ3 V (Proc.devRef .tc r) = V (Proc.devRef .tc r) :=
  after_unwritten wrQ3 rfl h V

abbrev wrQ4 : List (Ref sig .tc) := [main_v53, main_v54, (main_call9.c).ref, (main_call9.v0).ref, (main_call9.v1).ref, (main_call9.c_0).ref, (main_call9.v2).ref, (main_call9.v3).ref, (main_call9.v4).ref, (main_call9.v5).ref, (main_call9.c_1).ref, (main_call9.c_2).ref, (main_call9.v6).ref, (main_call9.v7).ref, (main_call9.v8).ref, (main_call9.v9).ref, (main_call9.v10).ref, (main_call9.v11).ref, (main_call9.c_3).ref, (main_call9.v12).ref, (main_call9.v13).ref, (main_call9.cst).ref, (main_call9.v14).ref, (main_call9.v15).ref, main_v56, main_v57, main_v58, main_v59, main_cst_13, main_v60, main_cst_14, main_v61]
theorem keepQ4 (V : Valuation τ sig (Elt F)) {r : Ref sig .tc} (h : r ∉ wrQ4) : after opsQ4 V (Proc.devRef .tc r) = V (Proc.devRef .tc r) :=
  after_unwritten wrQ4 rfl h V

abbrev wrQ5 : List (Ref sig .tc) := [(main_call10.v0).ref, (main_call10.cst).ref, (main_call10.c).ref, (main_call10.v1_0).ref, (main_call10.v1_1).ref, main_v63]
theorem keepQ5 (V : Valuation τ sig (Elt F)) {r : Ref sig .tc} (h : r ∉ wrQ5) : after opsQ5 V (Proc.devRef .tc r) = V (Proc.devRef .tc r) :=
  after_unwritten wrQ5 rfl h V

abbrev wrQ6 : List (Ref sig .tc) := [main_c_15, main_v64]
theorem keepQ6 (V : Valuation τ sig (Elt F)) {r : Ref sig .tc} (h : r ∉ wrQ6) : after opsQ6 V (Proc.devRef .tc r) = V (Proc.devRef .tc r) :=
  after_unwritten wrQ6 rfl h V

abbrev wrQ7 : List (Ref sig .tc) := [main_v65, main_v66, main_v67, main_c_16, main_v68]
theorem keepQ7 (V : Valuation τ sig (Elt F)) {r : Ref sig .tc} (h : r ∉ wrQ7) : after opsQ7 V (Proc.devRef .tc r) = V (Proc.devRef .tc r) :=
  after_unwritten wrQ7 rfl h V

theorem subP1 : (opsP1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

theorem subP2 : (opsP2 (F := F)).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem subP3 : (opsP3 (F := F)).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩

theorem subB0 : (opsB0 (F := F)).Forall fun op => op.bufs ⊆ tcRefs τ sig :=
  ⟨nullary_bufs_sub .., nullary_bufs_sub .., unaryIndexed_bufs_sub .., reshape_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub .., unary_bufs_sub ..⟩

theorem subM : (opsM (F := F)).Forall fun op => op.bufs ⊆ tcRefs τ sig :=
  ⟨unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩

theorem subB1 : (opsB1 (F := F)).Forall fun op => op.bufs ⊆ tcRefs τ sig :=
  ⟨nullary_bufs_sub .., binary_bufs_sub .., nullary_bufs_sub .., binary_bufs_sub .., nullary_bufs_sub .., nullary_bufs_sub .., unaryIndexed_bufs_sub .., reshape_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub .., unary_bufs_sub ..⟩

theorem subQ1 : (opsQ1 (F := F)).Forall fun op => op.bufs ⊆ tcRefs τ sig :=
  ⟨unary_bufs_sub .., binary_bufs_sub ..⟩

theorem subQ2 : (opsQ2 (F := F)).Forall fun op => op.bufs ⊆ tcRefs τ sig :=
  ⟨reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., reshape_bufs_sub ..⟩

theorem subQ3 : (opsQ3 (F := F)).Forall fun op => op.bufs ⊆ tcRefs τ sig :=
  ⟨nullary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem subQ4 : (opsQ4 (F := F)).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., nullary_bufs_sub .., binary_bufs_sub ..⟩

theorem subQ5 : (opsQ5 (F := F)).Forall fun op => op.bufs ⊆ tcRefs τ sig :=
  ⟨nullary_bufs_sub .., nullary_bufs_sub .., nullary_bufs_sub .., quaternary_bufs_sub .., quaternary_bufs_sub .., reshape_bufs_sub ..⟩

theorem subQ6 : (opsQ6 (F := F)).Forall fun op => op.bufs ⊆ tcRefs τ sig :=
  ⟨nullary_bufs_sub .., binary_bufs_sub ..⟩

theorem subQ7 : (opsQ7 (F := F)).Forall fun op => op.bufs ⊆ tcRefs τ sig :=
  ⟨binary_bufs_sub .., binary_bufs_sub .., unary_bufs_sub .., nullary_bufs_sub .., binary_bufs_sub ..⟩

theorem plainP : Plain [opsP1 (F := F), opsP2, opsP3] := .cons subP1 (.cons subP2 (.cons subP3 .nil))
theorem plainB0 : Plain [opsB0 (F := F)] := .cons subB0 .nil
theorem plainM : Plain [opsM (F := F)] := .cons subM .nil
theorem plainB1 : Plain [opsB1 (F := F)] := .cons subB1 .nil
theorem plainQ : Plain [opsQ1 (F := F), opsQ2, opsQ3, opsQ4, opsQ5, opsQ6, opsQ7] :=
  .cons subQ1 (.cons subQ2 (.cons subQ3 (.cons subQ4 (.cons subQ5 (.cons subQ6 (.cons subQ7 .nil))))))

/-! ## The contents along the run -/

variable (m : (ℓ : Loc nD τ sig) → Buf (Elt F) ℓ) (ρ : Dev nD → PrngReg)

/-- Where the first loop starts. -/
def entry0 (c : Dev nD) : Valuation τ sig (Elt F) := after opsP3 (after opsP2 (after opsP1 (launchContents m c)))
/-- After so many steps of the first loop. -/
def trip0 (k : ℕ) (c : Dev nD) : Valuation τ sig (Elt F) := atTrip opsC0 [opsB0] (entry0 m) k c
/-- Where the second loop starts. -/
def entry1 (c : Dev nD) : Valuation τ sig (Elt F) := after opsM (after opsC0 (trip0 m 50 c))
/-- After so many steps of the second loop. -/
def trip1 (k : ℕ) (c : Dev nD) : Valuation τ sig (Elt F) := atTrip opsC1 [opsB1] (entry1 m) k c
/-- At the second loop's exit. -/
def exit1 (c : Dev nD) : Valuation τ sig (Elt F) := after opsC1 (trip1 m 50 c)
/-- At the end. -/
def final (c : Dev nD) : Valuation τ sig (Elt F) := after opsQ7 (after opsQ6 (after opsQ5 (after opsQ4 (after opsQ3 (after opsQ2 (after opsQ1 (exit1 m c)))))))

theorem trip0_succ (k : ℕ) (c : Dev nD) : trip0 m (k + 1) c = after opsB0 (after opsC0 (trip0 m k c)) := rfl
theorem trip1_succ (k : ℕ) (c : Dev nD) : trip1 m (k + 1) c = after opsB1 (after opsC1 (trip1 m k c)) := rfl

/-! ## The counters -/

theorem step0_ctr (V : Valuation τ sig (Elt F)) :
    after opsB0 (after opsC0 V) (Proc.devRef .tc main_v25_4) = (addi (V (Proc.devRef .tc main_v25_4)) (constantI S_ 32 1#32) : S_.Idx → BitVec 32) := by
  after_reads_simp
  rfl
theorem step1_ctr (V : Valuation τ sig (Elt F)) :
    after opsB1 (after opsC1 V) (Proc.devRef .tc main_v31_4) = (addi (V (Proc.devRef .tc main_v31_4)) (constantI S_ 32 1#32) : S_.Idx → BitVec 32) := by
  after_reads_simp
  rfl
theorem entry0_ctr (V : Valuation τ sig (Elt F)) : after opsP3 V (Proc.devRef .tc main_v25_4) = (constantI S_ 32 0#32 : S_.Idx → BitVec 32) := by
  after_reads_simp
  rfl
theorem entry1_ctr (V : Valuation τ sig (Elt F)) : after opsM V (Proc.devRef .tc main_v31_4) = (constantI S_ 32 0#32 : S_.Idx → BitVec 32) := by
  after_reads_simp
  rfl

theorem trip0_ctr (c : Dev nD) (k : ℕ) : trip0 m k c (Proc.devRef .tc main_v25_4) = (fun _ => BitVec.ofNat 32 k : S_.Idx → BitVec 32) := by
  induction k with
  | zero => exact (entry0_ctr (F := F) _)
  | succ k ih =>
    rw [trip0_succ]
    refine (step0_ctr (F := F) _).trans ?_
    rw [ih]; funext i
    exact (BitVec.ofNat_add k 1).symm
theorem trip1_ctr (c : Dev nD) (k : ℕ) : trip1 m k c (Proc.devRef .tc main_v31_4) = (fun _ => BitVec.ofNat 32 k : S_.Idx → BitVec 32) := by
  induction k with
  | zero => exact (entry1_ctr (F := F) _)
  | succ k ih =>
    rw [trip1_succ]
    refine (step1_ctr (F := F) _).trans ?_
    rw [ih]; funext i
    exact (BitVec.ofNat_add k 1).symm

theorem below_iff {k : ℕ} (hk : k ≤ 50) : IntOp.cmpi .slt (BitVec.ofNat 32 k) (50#32) = 1#1 ↔ k < 50 := by
  have h : ∀ k : Fin 51, IntOp.cmpi .slt (BitVec.ofNat 32 k.val) (50#32) = 1#1 ↔ k.val < 50 := by decide
  exact h ⟨k, by omega⟩

/-! ## The run -/

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Lx : GSem nD τ sig → Finset Unit := fun _ => ∅
abbrev lv : GSem nD τ sig → Unit → ℕ := fun _ _ => 0
theorem cell_inj : Function.Injective (Pipeline.cellOf (nD := nD) (τ := τ) (Pipeline.pin (pcfgs (F := F)) adm)) := fun k => k.1.elim0

/-- What a core owes, carried beside its buffers. -/
abbrev Rw (c : Dev nD) : sProp 𝕄 := iprop(∃ W, owes (c : Thread nD τ) (0 : CellTallies nD τ sig Unit) W)

theorem cond0 : StableHlo.LoopCond (Ix := Unit) (Name := ℕ) (U := Option PUnit) (Lvl := ℕ) (pcfgs (F := F)) defs₀ Variants.none loops Rw main_while0_cond opsC0 [opsB0] (entry0 m) 50 := by
  intro k hk c bd
  have hctr := trip0_ctr m c k
  simp only [main_while0_cond, bind_pure]
  rw [wp_bind]
  iintro ⟨Hb, Hh, HR⟩
  iapply (StableHlo.wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [wp_ret]; imodintro
  isplitr
  · ipureintro
    show Iff (IntOp.cmpi .slt (HloOp.result _ (trip0 m k c) main_v25_4 HostLoop.idx0)
        (HloOp.result _ (trip0 m k c) main_while0c_c_24 HostLoop.idx0) = 1#1) (k < 50)
    rw [StableHlo.nullary_result_ne _ _ _ _ (by decide), StableHlo.nullary_result, hctr]
    exact below_iff hk
  isplitl [Hb]; · iexact Hb
  isplitl [Hh]; · rw [StableHlo.after_cons, StableHlo.after_cons, StableHlo.after_nil]; iexact Hh
  iexact HR

theorem cond1 : StableHlo.LoopCond (Ix := Unit) (Name := ℕ) (U := Option PUnit) (Lvl := ℕ) (pcfgs (F := F)) defs₀ Variants.none loops Rw main_while1_cond opsC1 [opsB1] (entry1 m) 50 := by
  intro k hk c bd
  have hctr := trip1_ctr m c k
  simp only [main_while1_cond, bind_pure]
  rw [wp_bind]
  iintro ⟨Hb, Hh, HR⟩
  iapply (StableHlo.wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [wp_ret]; imodintro
  isplitr
  · ipureintro
    show Iff (IntOp.cmpi .slt (HloOp.result _ (trip1 m k c) main_v31_4 HostLoop.idx0)
        (HloOp.result _ (trip1 m k c) main_while1c_c_24 HostLoop.idx0) = 1#1) (k < 50)
    rw [StableHlo.nullary_result_ne _ _ _ _ (by decide), StableHlo.nullary_result, hctr]
    exact below_iff hk
  isplitl [Hb]; · iexact Hb
  isplitl [Hh]; · rw [StableHlo.after_cons, StableHlo.after_cons, StableHlo.after_nil]; iexact Hh
  iexact HR

/-- The first loop, as a segment. -/
def seg0 : CSeg (pcfgs (F := F)) adm defs₀ Variants.none Lx lv loops tk :=
  StableHlo.loopSeg _ _ _ _ _ _ _ _ 0 main_while0_cond main_while0_body rfl opsC0 [opsB0] plainB0 body0_eq 50 (entry0 m) Rw (cond0 m)
/-- The second loop, as a segment. -/
def seg1 : CSeg (pcfgs (F := F)) adm defs₀ Variants.none Lx lv loops tk :=
  StableHlo.loopSeg _ _ _ _ _ _ _ _ 1 main_while1_cond main_while1_body rfl opsC1 [opsB1] plainB1 body1_eq 50 (entry1 m) Rw (cond1 m)

/-- The segments of the whole. -/
def segs : List (CSeg (pcfgs (F := F)) adm defs₀ Variants.none Lx lv loops tk) :=
  StableHlo.segsOf _ _ _ _ _ _ _ _ Rw [opsP1, opsP2, opsP3] plainP (launchContents m)
    ++ seg0 m :: (StableHlo.segsOf _ _ _ _ _ _ _ _ Rw [opsM] plainM (fun c => after opsC0 (trip0 m 50 c))
      ++ seg1 m :: StableHlo.segsOf _ _ _ _ _ _ _ _ Rw [opsQ1, opsQ2, opsQ3, opsQ4, opsQ5, opsQ6, opsQ7] plainQ (exit1 m))

theorem segs_prog (c : Dev nD) : Pipeline.chain ((segs m).map CSeg.prog) = main c := by
  rw [main_eq]
  unfold segs
  rw [List.map_append, List.map_cons, List.map_append, List.map_cons, StableHlo.segsOf_prog, StableHlo.segsOf_prog, StableHlo.segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (final m c)) ∗ ∃ W, owes (c : Thread nD τ) (0 : CellTallies nD τ sig Unit) W)) := by
  unfold segs
  exact CSeg.Chains.append (StableHlo.segsOf_chains _ _ _ _ _ _ _ _ Rw _ plainP _)
    ⟨fun _ => .rfl, CSeg.Chains.append (StableHlo.segsOf_chains _ _ _ _ _ _ _ _ Rw _ plainM _) ⟨fun _ => .rfl, StableHlo.segsOf_chains _ _ _ _ _ _ _ _ Rw _ plainQ _⟩⟩

/-- The run's end: every buffer at its last contents. -/
def QR (r : PUnit × MemSt nD τ sig (Elt F)) : Prop := ∀ c, ∀ b ∈ ucRefs τ sig, r.2.mem ((c : Dev nD), b) = final m c b

theorem run_main [∀ e, Nonempty (Elt F e)] : θ_run (defs (F := F)) (onTc (τ := τ) main) ⟨m, fun _ => 0, ρ⟩ (QR m) :=
  Pipeline.θ_run_regions_loop_kit (Ix := Unit) (Name := ℕ) (U := Option PUnit) (Lvl := ℕ) (J := Fin 0) (P := Fin 0) (Val := Elt F)
    pcfgs adm cell_inj defs₀ Variants.none Lx lv loops tk m ρ main (segs m)
    (fun c Q => by rw [← segs_prog m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (final m c)))
    (hch := segs_chains m)
    (hinit := by
      refine Pipeline.initEach Lx lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c b hb)

/-! ## What the run leaves alone -/

/-- No line writes the buffer. -/
structure Off (r : Ref sig .tc) : Prop where
  p1 : r ∉ wrP1
  p2 : r ∉ wrP2
  p3 : r ∉ wrP3
  c0 : r ∉ wrC0
  b0 : r ∉ wrB0
  mm : r ∉ wrM
  c1 : r ∉ wrC1
  b1 : r ∉ wrB1
  q1 : r ∉ wrQ1
  q2 : r ∉ wrQ2
  q3 : r ∉ wrQ3
  q4 : r ∉ wrQ4
  q5 : r ∉ wrQ5
  q6 : r ∉ wrQ6
  q7 : r ∉ wrQ7

/-- A buffer the first loop does not write is, at each step, as it was where the loop started. -/
theorem trip0_keep {r : Ref sig .tc} (hc : r ∉ wrC0) (hb : r ∉ wrB0) (c : Dev nD) : ∀ k, trip0 m k c (Proc.devRef .tc r) = entry0 m c (Proc.devRef .tc r)
  | 0 => rfl
  | k + 1 => (keepB0 _ hb).trans ((keepC0 _ hc).trans (trip0_keep hc hb c k))
/-- A buffer the second loop does not write is, at each step, as it was where the loop started. -/
theorem trip1_keep {r : Ref sig .tc} (hc : r ∉ wrC1) (hb : r ∉ wrB1) (c : Dev nD) : ∀ k, trip1 m k c (Proc.devRef .tc r) = entry1 m c (Proc.devRef .tc r)
  | 0 => rfl
  | k + 1 => (keepB1 _ hb).trans ((keepC1 _ hc).trans (trip1_keep hc hb c k))

theorem entry0_keep {r : Ref sig .tc} (o : Off r) (c : Dev nD) : entry0 m c (Proc.devRef .tc r) = m (c, Proc.devRef .tc r) :=
  (keepP3 _ o.p3).trans ((keepP2 _ o.p2).trans (keepP1 _ o.p1))
theorem entry1_keep {r : Ref sig .tc} (o : Off r) (c : Dev nD) : entry1 m c (Proc.devRef .tc r) = m (c, Proc.devRef .tc r) :=
  (keepM _ o.mm).trans ((keepC0 _ o.c0).trans ((trip0_keep m o.c0 o.b0 c 50).trans (entry0_keep m o c)))
theorem exit1_keep {r : Ref sig .tc} (o : Off r) (c : Dev nD) : exit1 m c (Proc.devRef .tc r) = m (c, Proc.devRef .tc r) :=
  (keepC1 _ o.c1).trans ((trip1_keep m o.c1 o.b1 c 50).trans (entry1_keep m o c))
theorem final_keep {r : Ref sig .tc} (o : Off r) (c : Dev nD) : final m c (Proc.devRef .tc r) = m (c, Proc.devRef .tc r) :=
  (keepQ7 _ o.q7).trans ((keepQ6 _ o.q6).trans ((keepQ5 _ o.q5).trans ((keepQ4 _ o.q4).trans ((keepQ3 _ o.q3).trans ((keepQ2 _ o.q2).trans ((keepQ1 _ o.q1).trans (exit1_keep m o c)))))))

theorem off0 : Off main_arg0 := by constructor <;> decide +kernel
theorem off1 : Off main_arg1 := by constructor <;> decide +kernel
theorem off2 : Off main_arg2 := by constructor <;> decide +kernel
theorem off3 : Off main_arg3 := by constructor <;> decide +kernel
theorem off4 : Off main_arg4 := by constructor <;> decide +kernel
theorem off5 : Off main_arg5 := by constructor <;> decide +kernel
theorem off6 : Off main_arg6 := by constructor <;> decide +kernel
theorem off7 : Off main_arg7 := by constructor <;> decide +kernel
theorem off8 : Off main_arg8 := by constructor <;> decide +kernel
theorem off9 : Off main_arg9 := by constructor <;> decide +kernel
theorem off10 : Off main_arg10 := by constructor <;> decide +kernel
theorem off11 : Off main_arg11 := by constructor <;> decide +kernel
theorem off12 : Off main_arg12 := by constructor <;> decide +kernel
theorem off13 : Off main_arg13 := by constructor <;> decide +kernel
theorem off14 : Off main_arg14 := by constructor <;> decide +kernel
theorem off15 : Off main_arg15 := by constructor <;> decide +kernel
theorem off16 : Off main_arg16 := by constructor <;> decide +kernel
theorem off17 : Off main_arg17 := by constructor <;> decide +kernel

variable {m}
theorem QR_at {s : PUnit × MemSt nD τ sig (Elt F)} (h : QR m s) (c : Dev nD) (r : Ref sig .tc)
    (hr : (Proc.devRef .tc r : DevRef τ sig).isScoped = false) : s.2.mem ((c.tc : Thread nD τ).loc r) = final m c (Proc.devRef .tc r) :=
  h c _ (Pipeline.devRef_mem_ucRefs hr)
theorem QR_arg {s : PUnit × MemSt nD τ sig (Elt F)} (h : QR m s) (c : Dev nD) {r : Ref sig .tc} (o : Off r)
    (hr : (Proc.devRef .tc r : DevRef τ sig).isScoped = false) :
    s.2.mem ((c.tc : Thread nD τ).loc r) = m ((c.tc : Thread nD τ).loc r) := (QR_at h c r hr).trans (final_keep m o c)

/-- Every argument ends as it started. -/
theorem QR_args {s : PUnit × MemSt nD τ sig (Elt F)} (h : QR m s) (c : Dev nD) :
    s.2.mem ((c.tc : Thread nD τ).loc main_arg0) = m ((c.tc : Thread nD τ).loc main_arg0)
    ∧ s.2.mem ((c.tc : Thread nD τ).loc main_arg1) = m ((c.tc : Thread nD τ).loc main_arg1)
    ∧ s.2.mem ((c.tc : Thread nD τ).loc main_arg2) = m ((c.tc : Thread nD τ).loc main_arg2)
    ∧ s.2.mem ((c.tc : Thread nD τ).loc main_arg3) = m ((c.tc : Thread nD τ).loc main_arg3)
    ∧ s.2.mem ((c.tc : Thread nD τ).loc main_arg4) = m ((c.tc : Thread nD τ).loc main_arg4)
    ∧ s.2.mem ((c.tc : Thread nD τ).loc main_arg5) = m ((c.tc : Thread nD τ).loc main_arg5)
    ∧ s.2.mem ((c.tc : Thread nD τ).loc main_arg6) = m ((c.tc : Thread nD τ).loc main_arg6)
    ∧ s.2.mem ((c.tc : Thread nD τ).loc main_arg7) = m ((c.tc : Thread nD τ).loc main_arg7)
    ∧ s.2.mem ((c.tc : Thread nD τ).loc main_arg8) = m ((c.tc : Thread nD τ).loc main_arg8)
    ∧ s.2.mem ((c.tc : Thread nD τ).loc main_arg9) = m ((c.tc : Thread nD τ).loc main_arg9)
    ∧ s.2.mem ((c.tc : Thread nD τ).loc main_arg10) = m ((c.tc : Thread nD τ).loc main_arg10)
    ∧ s.2.mem ((c.tc : Thread nD τ).loc main_arg11) = m ((c.tc : Thread nD τ).loc main_arg11)
    ∧ s.2.mem ((c.tc : Thread nD τ).loc main_arg12) = m ((c.tc : Thread nD τ).loc main_arg12)
    ∧ s.2.mem ((c.tc : Thread nD τ).loc main_arg13) = m ((c.tc : Thread nD τ).loc main_arg13)
    ∧ s.2.mem ((c.tc : Thread nD τ).loc main_arg14) = m ((c.tc : Thread nD τ).loc main_arg14)
    ∧ s.2.mem ((c.tc : Thread nD τ).loc main_arg15) = m ((c.tc : Thread nD τ).loc main_arg15)
    ∧ s.2.mem ((c.tc : Thread nD τ).loc main_arg16) = m ((c.tc : Thread nD τ).loc main_arg16)
    ∧ s.2.mem ((c.tc : Thread nD τ).loc main_arg17) = m ((c.tc : Thread nD τ).loc main_arg17) :=
  ⟨QR_arg h c off0 (by decide), QR_arg h c off1 (by decide), QR_arg h c off2 (by decide), QR_arg h c off3 (by decide), QR_arg h c off4 (by decide), QR_arg h c off5 (by decide), QR_arg h c off6 (by decide), QR_arg h c off7 (by decide), QR_arg h c off8 (by decide), QR_arg h c off9 (by decide), QR_arg h c off10 (by decide), QR_arg h c off11 (by decide), QR_arg h c off12 (by decide), QR_arg h c off13 (by decide), QR_arg h c off14 (by decide), QR_arg h c off15 (by decide), QR_arg h c off16 (by decide), QR_arg h c off17 (by decide)⟩

end Cert.Proof.RI

end
-- ==== Proof.Frames.lean ====
/-
  The programs run, and leave their arguments alone.
-/
module

public import proofs.«01_k».proof.Defs
public import proofs.«01_k».proof.Proof.Pre
public import proofs.«01_k».proof.Proof.Args
public import proofs.«01_k».proof.Proof.KK.Args
public import proofs.«01_k».proof.Proof.RI.Run
public import Idealize.ShloMosaic.Lib.Quiescent

@[expose] public section

noncomputable section

namespace Cert.Proof

open Idealize.ShloMosaic Idealize.ShloMosaic.TcCoe Idealize.SL.Sem

theorem kernel_frame : Cert.quiescent_Kernel := by
  intro m g hpre
  exact θ_run_mono (KK.run_main m g (KK.list_ok m fun d i => (pre_range (hpre d)).1.1 i)) fun r h => ⟨fun c => KK.QC_args h c, h.2⟩

theorem kernelIdeal_frame : Cert.quiescent_KernelIdeal := by
  intro m g hpre
  exact θ_run_mono (KI.run_main m g (KI.list_ok m fun d i => (pre_range (hpre d)).1.1 i)) fun r h => ⟨fun c => KI.QC_args h c, h.2⟩

theorem kernelIdeal_frame_head : Cert.quiescent_KernelIdeal_pre_in_range_finite_head := by
  intro m g hpre
  exact θ_run_mono (KI.run_main m g (KI.list_ok m fun d i => (pre_head (hpre d)).1.1.1 i)) fun r h => ⟨fun c => KI.QC_args h c, h.2⟩

theorem reference_frame : Cert.quiescent_ReferenceIdeal := by
  intro m g _
  exact θ_run_mono (RI.run_main m g) fun r h => ⟨fun c => RI.QR_args h c, sem_eq_zero_of_no_sems (by decide) _⟩

theorem reference_frame_head : Cert.quiescent_ReferenceIdeal_pre_in_range_finite_head := fun m g _ => reference_frame m g trivial

theorem preserves : Cert.preserves_Kernel_KernelIdeal := IdealRules.bf16_pack.statement _

end Cert.Proof

end
-- ==== Proof.Val.Norm.lean ====
/-
  The normalization of one row of 160 numbers, as both programs compute it, over the extended reals: what it gives for a
  row that holds an infinity, and the lookup of a row of a table by a sum against a row of zeros and a one.
-/
module

public import Idealize.ShloMosaic.Lib.Pointwise

@[expose] public section

set_option maxRecDepth 16384

noncomputable section

namespace Cert.Proof.Val

open Idealize.ShloMosaic

/-- One feature of a normalized row. -/
def lnRow (x : Fin 160 → EReal) (f : Fin 160) : EReal :=
  Ideal.div (x f - Ideal.div (∑ j, x j) (Ideal.ofBits FTy.f32 1126170624#32))
    (Ideal.sqrt (Ideal.div (∑ j, (x j - Ideal.div (∑ j, x j) (Ideal.ofBits FTy.f32 1126170624#32))
      * (x j - Ideal.div (∑ j, x j) (Ideal.ofBits FTy.f32 1126170624#32))) (Ideal.ofBits FTy.f32 1126170624#32)
        + Ideal.ofBits FTy.f32 925353388#32))

theorem c160 : Ideal.ofBits FTy.f32 1126170624#32 = ((160 : ℝ) : EReal) := by
  simp [Ideal.ofBits, Ideal.ieee, -EReal.coe_mul]; norm_num

theorem ceps_ne_bot : Ideal.ofBits FTy.f32 925353388#32 ≠ ⊥ := by
  simp [Ideal.ofBits, Ideal.ieee, -EReal.coe_mul]

/-- An infinity, of either sign. -/
def Inf (x : EReal) : Prop := x = ⊥ ∨ x = ⊤

theorem inf_add {a b : EReal} (h : Inf a ∨ Inf b) : Inf (a + b) := by
  unfold Inf at *
  induction a <;> induction b <;> simp_all

theorem inf_sum {ι : Type} (s : Finset ι) (x : ι → EReal) (h : ∃ j ∈ s, Inf (x j)) : Inf (∑ j ∈ s, x j) := by
  classical
  induction s using Finset.induction_on with
  | empty => obtain ⟨j, hj, -⟩ := h; exact absurd hj (by simp)
  | insert a s ha ih =>
    rw [Finset.sum_insert ha]
    obtain ⟨j, hj, hx⟩ := h
    rcases Finset.mem_insert.1 hj with rfl | hj
    · exact inf_add (.inl hx)
    · exact inf_add (.inr (ih ⟨j, hj, hx⟩))

theorem inf_div_160 {a : EReal} (h : Inf a) : Inf (Ideal.div a ((160 : ℝ) : EReal)) := by
  rw [Ideal.div_coe (by norm_num)]
  rcases h with rfl | rfl
  · exact .inl (EReal.bot_mul_coe_of_pos (by norm_num))
  · exact .inr (EReal.top_mul_coe_of_pos (by norm_num))

theorem inf_sub {a b : EReal} (h : Inf b) : Inf (a - b) := by
  unfold Inf at *
  rcases h with rfl | rfl <;> induction a <;> simp_all

theorem inf_mul_self {a : EReal} (h : Inf a) : a * a = ⊤ := by
  rcases h with rfl | rfl <;> simp

theorem sum_top (n : ℕ) [NeZero n] : (∑ _j : Fin n, (⊤ : EReal)) = ⊤ := by
  refine (inf_sum Finset.univ (fun _ => ⊤) ⟨0, Finset.mem_univ _, .inr rfl⟩).resolve_left fun h => ?_
  have : (0 : EReal) ≤ ∑ _j : Fin n, (⊤ : EReal) := Finset.sum_nonneg fun _ _ => le_top
  rw [h] at this
  exact absurd this (by simp)

/-- A row that holds an infinity normalizes to zeros: the spread is infinite. -/
theorem lnRow_inf (x : Fin 160 → EReal) (f : Fin 160) (h : ∃ j, Inf (x j)) : lnRow x f = 0 := by
  obtain ⟨j, hj⟩ := h
  unfold lnRow
  rw [c160]
  have hm := inf_div_160 (inf_sum Finset.univ x ⟨j, Finset.mem_univ _, hj⟩)
  generalize Ideal.div (∑ j, x j) ((160 : ℝ) : EReal) = μ at hm
  rw [Finset.sum_congr rfl fun j _ => inf_mul_self (inf_sub (a := x j) hm), sum_top, Ideal.div_coe (by norm_num),
    EReal.top_mul_coe_of_pos (by norm_num), EReal.top_add_of_ne_bot ceps_ne_bot, Ideal.sqrt_top]
  simp [Ideal.div]

/-- Two rows that agree but where one holds the upper and the other the lower infinity normalize alike. -/
theorem lnRow_congr (x y : Fin 160 → EReal) (f : Fin 160) (h : ∀ j, y j = x j ∨ (x j = ⊤ ∧ y j = ⊥)) :
    lnRow y f = lnRow x f := by
  by_cases he : ∀ j, y j = x j
  · rw [funext he]
  · obtain ⟨j, hj⟩ := not_forall.1 he
    obtain ⟨hx, hy⟩ := (h j).resolve_left hj
    rw [lnRow_inf x f ⟨j, .inr hx⟩, lnRow_inf y f ⟨j, .inl hy⟩]

/-- A tag's row of zeros and a one, against a column. -/
theorem oneHot_sum (w : BitVec 32) (hw : w.toNat < 64) (g : Fin 64 → EReal) :
    (∑ k : Fin 64, FloatOps.sitofp (F := Ideal) FTy.f32 (BitVec.setWidth 32 (IntOp.cmpi CmpIPredicate.eq (BitVec.ofNat 32 ↑k) w)) * g k)
      = g ⟨w.toNat, hw⟩ := by
  have hk (k : Fin 64) : FloatOps.sitofp (F := Ideal) FTy.f32 (BitVec.setWidth 32 (IntOp.cmpi CmpIPredicate.eq (BitVec.ofNat 32 ↑k) w))
      = if k = ⟨w.toNat, hw⟩ then (1 : EReal) else 0 := by
    have e : (BitVec.ofNat 32 k.1 = w) ↔ k = ⟨w.toNat, hw⟩ := by
      constructor
      · intro h; have hh := congrArg BitVec.toNat h; simp only [BitVec.toNat_ofNat] at hh; apply Fin.ext; show k.1 = w.toNat; have := k.2; omega
      · intro h; rw [h]; simp
    by_cases h : k = ⟨w.toNat, hw⟩
    · rw [if_pos h]; have := e.2 h; simp [IntOp.cmpi, this, FloatOps.sitofp]
    · rw [if_neg h]; have hb : (BitVec.ofNat 32 k.1 == w) = false := beq_eq_false_iff_ne.2 fun hh => h (e.1 hh)
      simp [IntOp.cmpi, hb, FloatOps.sitofp]
  rw [Finset.sum_congr rfl fun k _ => by rw [hk k]]
  simp

/-- A number plus what its own differences leave. -/
theorem three_parts (w : EReal) : w + (w - w) + (w - w - (w - w)) = w ∨ (w = ⊤ ∧ w + (w - w) + (w - w - (w - w)) = ⊥) := by
  induction w with
  | bot => left; simp
  | top => right; simp
  | coe r => left; rw [← EReal.coe_sub, ← EReal.coe_add, ← EReal.coe_sub, ← EReal.coe_add]; simp

/-- The looked-up tag row of one position, as the kernel forms it: three products with a row of zeros and a one. -/
def tagK (tag : BitVec 32) (w : Fin 64 → EReal) : EReal :=
  (∑ k : Fin 64, FloatOps.sitofp (F := Ideal) FTy.f32 (BitVec.setWidth 32 (IntOp.cmpi CmpIPredicate.eq (BitVec.ofNat 32 ↑k) tag)) * w k)
  + (∑ k : Fin 64, FloatOps.sitofp (F := Ideal) FTy.f32 (BitVec.setWidth 32 (IntOp.cmpi CmpIPredicate.eq (BitVec.ofNat 32 ↑k) tag)) * (w k - w k))
  + (∑ k : Fin 64, FloatOps.sitofp (F := Ideal) FTy.f32 (BitVec.setWidth 32 (IntOp.cmpi CmpIPredicate.eq (BitVec.ofNat 32 ↑k) tag)) * (w k - w k - (w k - w k)))

/-- The features of one position: the word's row and, after it, the tag's. -/
def featRow (word : Fin 128 → EReal) (tag : Fin 32 → EReal) (j : Fin 160) : EReal :=
  if h : (j : ℕ) < 128 then word ⟨j, h⟩ else tag ⟨j - 128, by omega⟩

/-- The kernel's tag row is the table's, but for a positive infinity, which it makes a negative one. -/
theorem tagK_cases (tag : BitVec 32) (ht : tag.toNat < 64) (v : Fin 64 → EReal) :
    tagK tag v = v ⟨tag.toNat, ht⟩ ∨ (v ⟨tag.toNat, ht⟩ = ⊤ ∧ tagK tag v = ⊥) := by
  have e : tagK tag v = v ⟨tag.toNat, ht⟩ + (v ⟨tag.toNat, ht⟩ - v ⟨tag.toNat, ht⟩)
      + (v ⟨tag.toNat, ht⟩ - v ⟨tag.toNat, ht⟩ - (v ⟨tag.toNat, ht⟩ - v ⟨tag.toNat, ht⟩)) := by
    unfold tagK
    exact congrArg₂ (· + ·) (congrArg₂ (· + ·) (oneHot_sum tag ht v) (oneHot_sum tag ht fun k => v k - v k)) (oneHot_sum tag ht fun k => v k - v k - (v k - v k))
  rw [e]
  exact three_parts _

/-- The row normalised over the kernel's tag row is the row normalised over the table's: the two rows differ only where
    an entry of the table is infinite, and then both normalise to the same. -/
theorem lnRow_tagK (word : Fin 128 → EReal) (tag : BitVec 32) (ht : tag.toNat < 64) (w : Fin 64 → Fin 32 → EReal) (f : Fin 160) :
    lnRow (featRow word fun j => tagK tag fun k => w k j) f = lnRow (featRow word (w ⟨tag.toNat, ht⟩)) f := by
  refine lnRow_congr _ _ f fun j => ?_
  unfold featRow
  by_cases h : (j : ℕ) < 128
  · left; rw [dif_pos h, dif_pos h]
  · rw [dif_neg h, dif_neg h]
    exact tagK_cases tag ht _
-- ==== Proof.Val.EmbRow.lean ====
/-
  The embedding call's block, read at an index: the row of a position, normalised.
-/
module

public import proofs.«01_k».proof.Proof.Emb
public import proofs.«01_k».proof.Proof.Val.Norm

@[expose] public section
set_option maxRecDepth 16384
noncomputable section
namespace Cert.Proof.Val
open Cert.KernelIdeal Cert.KernelIdeal.Gen
open Idealize.ShloMosaic

theorem pay_apply (x0 : Vec Ideal S2048x128 .f32) (x1 : Vec Ideal S1x2048x1 .i32) (x2 : Vec Ideal S64x32 .f32) (x3 : Vec Ideal S1x160 .f32) (x4 : Vec Ideal S1x160 .f32) (r : Fin 2048) (f : Fin 160) :
    (k1_pay1 (k1_pay2 x1 x2 x0) x3 x4 (ix2 r f) : EReal)
      = lnRow (featRow (fun j => x0 (ix2 r j)) fun j => tagK (x1 (ix3 0 r 0)) fun k => x2 (ix2 k j)) f * x3 (ix2 0 f) + x4 (ix2 0 f) := by
  pointwise [k1_pay1, k1_pay2, lnRow, featRow, tagK]
  try rfl
-- ==== Proof.Val.EmbArr.lean ====
/-
  The embedding call's array, read at an index.
-/
module

public import proofs.«01_k».proof.Proof.Emb
public import proofs.«01_k».proof.Proof.Val.EmbRow
public import Idealize.ShloMosaic.Lib.Pipeline.ValueKit

@[expose] public section
set_option maxRecDepth 16384
noncomputable section
namespace Cert.Proof.Val
open Cert.KernelIdeal Cert.KernelIdeal.Gen
open Cert.Proof.KI.Emb
open Idealize.ShloMosaic Idealize.ShloMosaic.TcCoe Idealize.ShloMosaic.Pipeline

variable (V : Dev nD → Valuation τ sig (Elt Ideal)) (c : Dev nD)

theorem e1_0 : ∀ t : Fin cfg1.N, win1_0.index t = ![t.val, 0] := (by decide +kernel : ∀ t : Fin grid1.N, _)
theorem e1_1 : ∀ t : Fin cfg1.N, win1_1.index t = ![t.val, 0, 0] := (by decide +kernel : ∀ t : Fin grid1.N, _)
theorem e1_2 : ∀ t : Fin cfg1.N, win1_2.index t = ![0, 0] := (by decide +kernel : ∀ t : Fin grid1.N, _)
theorem e1_3 : ∀ t : Fin cfg1.N, win1_3.index t = ![0, 0] := (by decide +kernel : ∀ t : Fin grid1.N, _)
theorem e1_4 : ∀ t : Fin cfg1.N, win1_4.index t = ![0, 0] := (by decide +kernel : ∀ t : Fin grid1.N, _)
theorem e1_5 : ∀ t : Fin cfg1.N, win1_5.index t = ![t.val, 0] := (by decide +kernel : ∀ t : Fin grid1.N, _)

theorem iblk1_0 (t : Fin cfg1.N) (r : Fin 2048) (j : Fin 128) (n : Fin 51200) (hn : n.val = t.val * 2048 + r.val) :
    iblk V c 0 t (ix2 r j) = V c (Proc.devRef .tc main_v2) (ix2 n j) := by
  blk_simp [iblk]
  refine congrArg (V c (Proc.devRef .tc main_v2)) ?_
  blk_ext [e1_0]

theorem iblk1_1 (t : Fin cfg1.N) (r : Fin 2048) (t' : Fin 25) (ht : t'.val = t.val) :
    iblk V c 1 t (ix3 0 r 0) = V c (Proc.devRef .tc main_v4) (ix3 t' r 0) := by
  blk_simp [iblk]
  refine congrArg (V c (Proc.devRef .tc main_v4)) ?_
  blk_ext [e1_1]

theorem iblk1_2 (t : Fin cfg1.N) (k : Fin 64) (j : Fin 32) :
    iblk V c 2 t (ix2 k j) = V c (Proc.devRef .tc main_arg5) (ix2 k j) := by
  blk_simp [iblk]
  refine congrArg (V c (Proc.devRef .tc main_arg5)) ?_
  blk_ext [e1_2]

theorem iblk1_3 (t : Fin cfg1.N) (j : Fin 160) :
    iblk V c 3 t (ix2 0 j) = V c (Proc.devRef .tc main_v5) (ix2 0 j) := by
  blk_simp [iblk]
  refine congrArg (V c (Proc.devRef .tc main_v5)) ?_
  blk_ext [e1_3]

theorem iblk1_4 (t : Fin cfg1.N) (j : Fin 160) :
    iblk V c 4 t (ix2 0 j) = V c (Proc.devRef .tc main_v6) (ix2 0 j) := by
  blk_simp [iblk]
  refine congrArg (V c (Proc.devRef .tc main_v6)) ?_
  blk_ext [e1_4]

/-- What the call leaves at a row and a feature. -/
def embAt (n : Fin 51200) (f : Fin 160) : EReal :=
  lnRow (featRow (fun j => V c (Proc.devRef .tc main_v2) (ix2 n j)) fun j =>
      tagK (V c (Proc.devRef .tc main_v4) (ix3 (⟨n.val / 2048, by omega⟩ : Fin 25) (⟨n.val % 2048, by omega⟩ : Fin 2048) 0)) fun k => V c (Proc.devRef .tc main_arg5) (ix2 k j)) f
    * V c (Proc.devRef .tc main_v5) (ix2 0 f) + V c (Proc.devRef .tc main_v6) (ix2 0 f)

theorem emb_pt (t : Fin cfg1.N) (r : Fin 2048) (f : Fin 160) (n : Fin 51200) (hn : n.val = t.val * 2048 + r.val) :
    @Eq EReal ((dat V c).after 5 t (ix2 r f)) (embAt V c n f) := by
  have hN : t.val < 25 := t.isLt
  rw [after_5]; unfold out5; frame_out
  refine (pay_apply _ _ _ _ _ r f).trans ?_
  unfold embAt
  rw [iblk1_3, iblk1_4]
  simp only [iblk1_0 V c t r _ n hn, iblk1_2]
  have e1 : n.val / 2048 = t.val := by omega
  have e2 : n.val % 2048 = r.val := by omega
  rw [iblk1_1 V c t r ⟨n.val / 2048, by omega⟩ e1]
  simp only [e2]

theorem emb_arr (n : Fin 51200) (f : Fin 160) : @Eq EReal ((dat V c).arrAt 5 cfg1.N (ix2 n f)) (embAt V c n f) := by
  refine congrFun (g := fun i : S51200x160.Idx => embAt V c (i 0) (i 1)) ((dat V c).arrAt_eq_of_covers 5 _ (by decide +kernel) fun t hf y => ?_) (ix2 n f)
  blk_simp
  rw [eq_ix2 y]
  have hN : t.val < 25 := t.isLt
  have h0 : (y 0).val < 2048 := (y 0).isLt
  have h1 : (win1_5.blk t).view.emb (ix2 (y 0) (y 1)) = ix2 (⟨t.val * 2048 + (y 0).val, by omega⟩ : Fin 51200) (y 1) := by blk_ext [e1_5]
  rw [h1]
  exact emb_pt V c t (y 0) (y 1) _ rfl
-- ==== Proof.Val.Cell.lean ====
/-
  One step of the recurrence on one row, over the extended reals, and the states it goes through.
-/
module

public import proofs.«01_k».proof.Proof.Val.Norm
public import Idealize.ShloMosaic.Lib.Pointwise

@[expose] public section

set_option maxRecDepth 16384

noncomputable section

namespace Cert.Proof.Val

open Idealize.ShloMosaic

/-- What a step's four gates are taken of. -/
def gate (wx : Fin 160 → Fin 512 → EReal) (wh : Fin 128 → Fin 512 → EReal) (b : Fin 512 → EReal)
    (x : Fin 160 → EReal) (h : Fin 128 → EReal) (n : Fin 512) : EReal :=
  ∑ k, x k * wx k n + ∑ k, h k * wh k n + b n

/-- The cell after a step. -/
def cNew (wx : Fin 160 → Fin 512 → EReal) (wh : Fin 128 → Fin 512 → EReal) (b : Fin 512 → EReal)
    (x : Fin 160 → EReal) (h c : Fin 128 → EReal) (j : Fin 128) : EReal :=
  Ideal.logistic (gate wx wh b x h ⟨128 + j, by omega⟩) * c j
    + Ideal.logistic (gate wx wh b x h ⟨j, by omega⟩) * Ideal.tanh (gate wx wh b x h ⟨256 + j, by omega⟩)

/-- The output of a step. -/
def hNew (wx : Fin 160 → Fin 512 → EReal) (wh : Fin 128 → Fin 512 → EReal) (b : Fin 512 → EReal)
    (x : Fin 160 → EReal) (h c : Fin 128 → EReal) (j : Fin 128) : EReal :=
  Ideal.logistic (gate wx wh b x h ⟨384 + j, by omega⟩) * Ideal.tanh (cNew wx wh b x h c j)

/-- Output and cell after the first `k` steps, from zero. -/
def states (wx : Fin 160 → Fin 512 → EReal) (wh : Fin 128 → Fin 512 → EReal) (b : Fin 512 → EReal)
    (x : ℕ → Fin 160 → EReal) : ℕ → (Fin 128 → EReal) × (Fin 128 → EReal)
  | 0 => (fun _ => 0, fun _ => 0)
  | k + 1 => (hNew wx wh b (x k) (states wx wh b x k).1 (states wx wh b x k).2,
      cNew wx wh b (x k) (states wx wh b x k).1 (states wx wh b x k).2)

/-- The states depend on the rows the steps read alone. -/
theorem states_congr (wx : Fin 160 → Fin 512 → EReal) (wh : Fin 128 → Fin 512 → EReal) (b : Fin 512 → EReal)
    (x y : ℕ → Fin 160 → EReal) (n : ℕ) (h : ∀ k, k < n → x k = y k) : ∀ k, k ≤ n → states wx wh b x k = states wx wh b y k
  | 0, _ => rfl
  | k + 1, hk => by
    rw [states, states, states_congr wx wh b x y n h k (by omega), h k (by omega)]

/-- Equal weights and equal rows give equal states. -/
theorem states_eq {wx wx' : Fin 160 → Fin 512 → EReal} {wh wh' : Fin 128 → Fin 512 → EReal} {b b' : Fin 512 → EReal}
    {x y : ℕ → Fin 160 → EReal} (n : ℕ) (hx : ∀ k j, wx k j = wx' k j) (hh : ∀ k j, wh k j = wh' k j) (hb : ∀ j, b j = b' j)
    (h : ∀ k, k < n → ∀ f, x k f = y k f) : states wx wh b x n = states wx' wh' b' y n := by
  rw [show wx = wx' from funext fun k => funext (hx k), show wh = wh' from funext fun k => funext (hh k), show b = b' from funext hb]
  exact states_congr _ _ _ _ _ n (fun k hk => funext (h k hk)) n le_rfl

/-- The rows of one sequence, at any step (nothing past the last). -/
def seqOf (x : Fin 50 → Fin 160 → EReal) (s : ℕ) : Fin 160 → EReal := if h : s < 50 then x ⟨s, h⟩ else fun _ => 0

theorem seqOf_lt (x : Fin 50 → Fin 160 → EReal) {s : ℕ} (h : s < 50) : seqOf x s = x ⟨s, h⟩ := dif_pos h

/-- Equal rows are equal at any step. -/
theorem seqOf_eq {x y : Fin 50 → Fin 160 → EReal} (h : ∀ s f, x s f = y s f) (s : ℕ) (f : Fin 160) : seqOf x s f = seqOf y s f := by
  rw [show x = y from funext fun s => funext (h s)]

/-- The two directions of one position, side by side. -/
def sides (f b : Fin 128 → EReal) (j : Fin 256) : EReal :=
  if h : (j : ℕ) < 128 then f ⟨j, h⟩ else b ⟨j - 128, by omega⟩

/-- One output of the head, on the row of one position. -/
def headRow (ctx : Fin 256 → EReal) (w1 : Fin 256 → Fin 128 → EReal) (b1 : Fin 128 → EReal) (w2 : Fin 128 → Fin 48 → EReal)
    (b2 : Fin 48 → EReal) (l : Fin 48) : EReal :=
  ∑ k, (if 0 < ∑ i, ctx i * w1 i k + b1 k then ∑ i, ctx i * w1 i k + b1 k
      else Ideal.ofBits FTy.f32 1036831949#32 * (∑ i, ctx i * w1 i k + b1 k)) * w2 k l + b2 l

/-- The normalised features of a position, from the word and the tag at it. -/
def feats (word : Fin 1024 → Fin 50 → Fin 100000) (tag : Fin 1024 → Fin 50 → Fin 64) (wtab : Fin 100000 → Fin 128 → EReal)
    (ttab : Fin 64 → Fin 32 → EReal) (scale shift : Fin 160 → EReal) (r : Fin 1024) (t : Fin 50) (f : Fin 160) : EReal :=
  lnRow (featRow (wtab (word r t)) (ttab (tag r t))) f * scale f + shift f

/-- The recurrence's two outputs at a position, side by side: forward from the first position, backward from the last. -/
def ctxOf (x : Fin 1024 → Fin 50 → Fin 160 → EReal)
    (wxf : Fin 160 → Fin 512 → EReal) (whf : Fin 128 → Fin 512 → EReal) (bf : Fin 512 → EReal)
    (wxb : Fin 160 → Fin 512 → EReal) (whb : Fin 128 → Fin 512 → EReal) (bb : Fin 512 → EReal)
    (r : Fin 1024) (t : Fin 50) (j : Fin 256) : EReal :=
  sides (fun j => (states wxf whf bf (seqOf (x r)) (t.val + 1)).1 j)
    (fun j => (states wxb whb bb (fun s => seqOf (x r) (49 - s)) (49 - t.val + 1)).1 j) j
-- ==== Proof.Val.LstmStep.lean ====
/-
  The recurrence call's blocks, read at an index: one step of the recurrence on one row of the batch.
-/
module

public import proofs.«01_k».proof.Proof.Lstm
public import proofs.«01_k».proof.Proof.Val.Cell

@[expose] public section
set_option maxRecDepth 16384
noncomputable section
namespace Cert.Proof.Val
open Cert.KernelIdeal Cert.KernelIdeal.Gen
open Idealize.ShloMosaic

theorem pay7_apply (x0 : Vec Ideal S1x1024x160 .f32) (x1 : Vec Ideal S1x160x512 .f32) (h : Vec Ideal S1024x128 .f32)
    (x2 : Vec Ideal S1x128x512 .f32) (x3 : Vec Ideal S1x1x512 .f32) (c : Vec Ideal S1024x128 .f32) (r : Fin 1024) (j : Fin 128) :
    @Eq EReal (k2_pay7 x0 x1 h x2 x3 c (ix2 r j))
      (cNew (fun k n => x1 (ix3 0 k n)) (fun k n => x2 (ix3 0 k n)) (fun n => x3 (ix3 0 0 n)) (fun k => x0 (ix3 0 r k))
        (fun k => h (ix2 r k)) (fun k => c (ix2 r k)) j) := by
  pointwise [k2_pay7, k2_pay6, cNew, gate]
  try rfl

theorem pay8_apply (x0 : Vec Ideal S1x1024x160 .f32) (x1 : Vec Ideal S1x160x512 .f32) (h : Vec Ideal S1024x128 .f32)
    (x2 : Vec Ideal S1x128x512 .f32) (x3 : Vec Ideal S1x1x512 .f32) (c : Vec Ideal S1024x128 .f32) (r : Fin 1024) (j : Fin 128) :
    @Eq EReal (k2_pay8 x0 x1 h x2 x3 c (ix2 r j))
      (hNew (fun k n => x1 (ix3 0 k n)) (fun k n => x2 (ix3 0 k n)) (fun n => x3 (ix3 0 0 n)) (fun k => x0 (ix3 0 r k))
        (fun k => h (ix2 r k)) (fun k => c (ix2 r k)) j) := by
  pointwise [k2_pay8, k2_pay7, k2_pay6, hNew, cNew, gate]
  try rfl

theorem pay4_apply (r : Fin 1024) (j : Fin 128) : @Eq EReal (k2_pay4 (F := Ideal) (ix2 r j)) 0 := by
  pointwise [k2_pay4]
theorem pay5_apply (r : Fin 1024) (j : Fin 128) : @Eq EReal (k2_pay5 (F := Ideal) (ix2 r j)) 0 := by
  pointwise [k2_pay5]
theorem pay3_apply (v : FVec Ideal S1024x128 .f32) (r : Fin 1024) (j : Fin 128) : @Eq EReal (k2_pay3 v (ix3 0 r j)) (v (ix2 r j)) := by
  pointwise [k2_pay3]
theorem pay1_eq (v : FVec Ideal S1024x128 .f32) (r : Fin 1024) (j : Fin 128) : @Eq EReal (k2_pay1 v (ix2 r j)) (v (ix2 r j)) := by
  pointwise [k2_pay1]
theorem pay2_eq (v : FVec Ideal S1024x128 .f32) (r : Fin 1024) (j : Fin 128) : @Eq EReal (k2_pay2 v (ix2 r j)) (v (ix2 r j)) := by
  pointwise [k2_pay2]
-- ==== Proof.Val.LstmArr.lean ====
/-
  The recurrence's array, read at an index: the states of the two directions on one row of the batch.
-/
module

public import proofs.«01_k».proof.Proof.Lstm
public import proofs.«01_k».proof.Proof.Val.LstmStep
public import Idealize.ShloMosaic.Lib.Pipeline.ValueKit

@[expose] public section
set_option maxRecDepth 16384
noncomputable section
namespace Cert.Proof.Val
open Cert.KernelIdeal Cert.KernelIdeal.Gen
open Cert.Proof.KI.Lstm
open Idealize.ShloMosaic Idealize.ShloMosaic.TcCoe Idealize.ShloMosaic.Pipeline

variable (V : Dev nD → Valuation τ sig (Elt Ideal)) (c : Dev nD)

/-- The position a point of the grid works at: forward in the first half of the points, backward in the second. -/
abbrev pos (t : ℕ) : ℕ := if t < 50 then t else 99 - t

theorem e2_0 : ∀ t : Fin cfg2.N, win2_0.index t = ![pos t.val, 0, 0] := (by decide +kernel : ∀ t : Fin grid2.N, _)
theorem e2_1 : ∀ t : Fin cfg2.N, win2_1.index t = ![t.val / 50, 0, 0] := (by decide +kernel : ∀ t : Fin grid2.N, _)
theorem e2_2 : ∀ t : Fin cfg2.N, win2_2.index t = ![t.val / 50, 0, 0] := (by decide +kernel : ∀ t : Fin grid2.N, _)
theorem e2_3 : ∀ t : Fin cfg2.N, win2_3.index t = ![t.val / 50, 0, 0] := (by decide +kernel : ∀ t : Fin grid2.N, _)
theorem e2_4 : ∀ t : Fin cfg2.N, win2_4.index t = ![pos t.val, 0, t.val / 50] := (by decide +kernel : ∀ t : Fin grid2.N, _)

theorem iblk2_0 (t : Fin cfg2.N) (r : Fin 1024) (f : Fin 160) (n : Fin 50) (hn : n.val = pos t.val) :
    iblk V c 0 t (ix3 0 r f) = V c (Proc.devRef .tc main_v8) (ix3 n r f) := by
  blk_simp [iblk]
  refine congrArg (V c (Proc.devRef .tc main_v8)) ?_
  blk_ext [e2_0]

theorem iblk2_1 (t : Fin cfg2.N) (k : Fin 160) (n : Fin 512) (d : Fin 2) (hd : d.val = t.val / 50) :
    iblk V c 1 t (ix3 0 k n) = V c (Proc.devRef .tc main_v11) (ix3 d k n) := by
  blk_simp [iblk]
  refine congrArg (V c (Proc.devRef .tc main_v11)) ?_
  blk_ext [e2_1]

theorem iblk2_2 (t : Fin cfg2.N) (k : Fin 128) (n : Fin 512) (d : Fin 2) (hd : d.val = t.val / 50) :
    iblk V c 2 t (ix3 0 k n) = V c (Proc.devRef .tc main_v14) (ix3 d k n) := by
  blk_simp [iblk]
  refine congrArg (V c (Proc.devRef .tc main_v14)) ?_
  blk_ext [e2_2]

theorem iblk2_3 (t : Fin cfg2.N) (n : Fin 512) (d : Fin 2) (hd : d.val = t.val / 50) :
    iblk V c 3 t (ix3 0 0 n) = V c (Proc.devRef .tc main_v18) (ix3 d 0 n) := by
  blk_simp [iblk]
  refine congrArg (V c (Proc.devRef .tc main_v18)) ?_
  blk_ext [e2_3]

/-- The states of direction `d` on row `r`. -/
abbrev stK (d : Fin 2) (r : Fin 1024) : ℕ → (Fin 128 → EReal) × (Fin 128 → EReal) :=
  states (fun k n => V c (Proc.devRef .tc main_v11) (ix3 d k n)) (fun k n => V c (Proc.devRef .tc main_v14) (ix3 d k n))
    (fun n => V c (Proc.devRef .tc main_v18) (ix3 d 0 n)) (fun s => seqOf (fun s f => V c (Proc.devRef .tc main_v8) (ix3 s r f)) (pos (d.val * 50 + s)))

/-- A point's step, from a state that is the direction's after `k` steps. -/
theorem cell_pt (d : Fin 2) (k : ℕ) (hk : k < 50) (t : Fin cfg2.N) (ht : t.val = d.val * 50 + k)
    (s : Vec Ideal S1024x128 .f32 × Vec Ideal S1024x128 .f32) (r : Fin 1024)
    (h1 : ∀ j, s.1 (ix2 r j) = (stK V c d r k).1 j) (h2 : ∀ j, s.2 (ix2 r j) = (stK V c d r k).2 j) (j : Fin 128) :
    @Eq EReal (k2_pay8 (iblk V c 0 t) (iblk V c 1 t) s.1 (iblk V c 2 t) (iblk V c 3 t) s.2 (ix2 r j)) ((stK V c d r (k + 1)).1 j)
    ∧ @Eq EReal (k2_pay7 (iblk V c 0 t) (iblk V c 1 t) s.1 (iblk V c 2 t) (iblk V c 3 t) s.2 (ix2 r j)) ((stK V c d r (k + 1)).2 j) := by
  have hd : d.val = t.val / 50 := by omega
  have hp : pos (d.val * 50 + k) < 50 := by unfold pos; split <;> omega
  have e0 : ∀ f, iblk V c 0 t (ix3 0 r f) = V c (Proc.devRef .tc main_v8) (ix3 (⟨pos (d.val * 50 + k), hp⟩ : Fin 50) r f) :=
    fun f => iblk2_0 V c t r f _ (congrArg pos ht.symm)
  refine ⟨(pay8_apply _ _ _ _ _ _ r j).trans ?_, (pay7_apply _ _ _ _ _ _ r j).trans ?_⟩
  · simp only [iblk2_1 V c t _ _ d hd, iblk2_2 V c t _ _ d hd, iblk2_3 V c t _ d hd, h1, h2, e0, states, seqOf_lt _ hp]
  · simp only [iblk2_1 V c t _ _ d hd, iblk2_2 V c t _ _ d hd, iblk2_3 V c t _ d hd, h1, h2, e0, states, seqOf_lt _ hp]

/-- The state a point starts from. -/
theorem start_pt (d : Fin 2) (r : Fin 1024) : ∀ k, k < 50 →
    (∀ j, @Eq EReal ((start (d.val * 50 + k) (st V c (d.val * 50 + k))).1 (ix2 r j)) ((stK V c d r k).1 j))
    ∧ ∀ j, @Eq EReal ((start (d.val * 50 + k) (st V c (d.val * 50 + k))).2 (ix2 r j)) ((stK V c d r k).2 j)
  | 0, _ => by
    have e : start (d.val * 50 + 0) (st V c (d.val * 50 + 0)) = cell0 := if_pos (by omega)
    rw [e]
    exact ⟨fun j => pay4_apply r j, fun j => pay5_apply r j⟩
  | k + 1, hk => by
    obtain ⟨i1, i2⟩ := start_pt d r k (by omega)
    have hN : d.val * 50 + k < cfg2.N := by rw [show cfg2.N = 100 from N_2]; omega
    have e : start (d.val * 50 + (k + 1)) (st V c (d.val * 50 + (k + 1))) = st V c (d.val * 50 + k + 1) := if_neg (by omega)
    rw [e]
    have es := st_succ V c ⟨d.val * 50 + k, hN⟩
    dsimp only at es
    rw [es]
    unfold cell
    refine ⟨fun j => ?_, fun j => ?_⟩
    · exact (pay1_eq _ r j).trans (cell_pt V c d k (by omega) ⟨d.val * 50 + k, hN⟩ rfl _ r i1 i2 j).1
    · exact (pay2_eq (k2_pay7 _ _ _ _ _ _) r j).trans (cell_pt V c d k (by omega) ⟨d.val * 50 + k, hN⟩ rfl _ r i1 i2 j).2

/-- What the call leaves at a position, a row and an output. -/
def lstmAt (t : Fin 50) (r : Fin 1024) (j : Fin 256) : EReal :=
  sides (fun j => (stK V c 0 r (t.val + 1)).1 j) (fun j => (stK V c 1 r (49 - t.val + 1)).1 j) j

theorem lstm_pt (t : Fin cfg2.N) (r : Fin 1024) (j : Fin 128) (n : Fin 50) (hn : n.val = pos t.val) (l : Fin 256) (hl : l.val = t.val / 50 * 128 + j.val) :
    @Eq EReal ((dat V c).after 4 t (ix3 0 r j)) (lstmAt V c n r l) := by
  have hN : t.val < 100 := t.isLt
  have hj := j.isLt
  have ht : t.val = (⟨t.val / 50, by omega⟩ : Fin 2).val * 50 + t.val % 50 := by show t.val = t.val / 50 * 50 + t.val % 50; omega
  rw [after_4]
  unfold cellOut
  refine (pay3_apply _ r j).trans ?_
  obtain ⟨i1, i2⟩ := start_pt V c ⟨t.val / 50, by omega⟩ r (t.val % 50) (by omega)
  rw [← ht] at i1 i2
  refine (cell_pt V c ⟨t.val / 50, by omega⟩ (t.val % 50) (by omega) t ht _ r i1 i2 j).1.trans ?_
  unfold lstmAt sides
  unfold pos at hn
  by_cases h : t.val < 50
  · rw [if_pos h] at hn
    rw [dif_pos (show l.val < 128 by omega)]
    have e1 : (⟨t.val / 50, by omega⟩ : Fin 2) = 0 := Fin.ext (by show t.val / 50 = 0; omega)
    have e2 : (⟨l.val, by omega⟩ : Fin 128) = j := Fin.ext (by show l.val = j.val; omega)
    rw [e1, show t.val % 50 = n.val by omega]
    show _ = (stK V c 0 r (n.val + 1)).1 ⟨l.val, _⟩
    rw [e2]
  · rw [if_neg h] at hn
    rw [dif_neg (show ¬ l.val < 128 by omega)]
    have e1 : (⟨t.val / 50, by omega⟩ : Fin 2) = 1 := Fin.ext (by show t.val / 50 = 1; omega)
    have e2 : (⟨l.val - 128, by omega⟩ : Fin 128) = j := Fin.ext (by show l.val - 128 = j.val; omega)
    rw [e1, show t.val % 50 = 49 - n.val by omega]
    show _ = (stK V c 1 r (49 - n.val + 1)).1 ⟨l.val - 128, _⟩
    rw [e2]

theorem lstm_arr (t : Fin 50) (r : Fin 1024) (j : Fin 256) : @Eq EReal ((dat V c).arrAt 4 cfg2.N (ix3 t r j)) (lstmAt V c t r j) := by
  refine congrFun (g := fun i : S50x1024x256.Idx => lstmAt V c (i 0) (i 1) (i 2)) ((dat V c).arrAt_eq_of_covers 4 _ (by decide +kernel) fun t hf y => ?_) (ix3 t r j)
  blk_simp
  have hN : t.val < 100 := t.isLt
  have hp : pos t.val < 50 := by unfold pos; split <;> omega
  have key : ∀ y : S1x1024x128.Idx, @Eq EReal ((dat V c).after 4 t y) (lstmAt V c ((win2_4.blk t).view.emb y 0) ((win2_4.blk t).view.emb y 1) ((win2_4.blk t).view.emb y 2)) := by
    intro y
    have h0 : (y 0).val < 1 := (y 0).isLt
    have h2 : (y 2).val < 128 := (y 2).isLt
    have h1 : (win2_4.blk t).view.emb y = ix3 (⟨pos t.val, hp⟩ : Fin 50) (y 1) (⟨t.val / 50 * 128 + (y 2).val, by omega⟩ : Fin 256) := by blk_ext [e2_4]
    have hy : y = ix3 0 (y 1) (y 2) := (eq_ix3 y).trans (by rw [show y 0 = (0 : Fin 1) from Fin.ext (by show (y 0).val = 0; omega)]; rfl)
    rw [h1]
    refine Eq.trans (congrArg ((dat V c).after 4 t) hy) ?_
    exact lstm_pt V c t (y 1) (y 2) _ rfl _ rfl
  exact key y

end Cert.Proof.Val
-- ==== Proof.Val.HeadArr.lean ====
/-
  The head's arrays, read at an index: the outputs of each position, and the sum of the lengths.
-/
module

public import proofs.«01_k».proof.Proof.Head
public import proofs.«01_k».proof.Proof.Val.Cell
public import Idealize.ShloMosaic.Lib.Pipeline.ValueKit

@[expose] public section
set_option maxRecDepth 16384
noncomputable section
namespace Cert.Proof.Val
open Cert.KernelIdeal Cert.KernelIdeal.Gen
open Cert.Proof.KI.Head
open Idealize.ShloMosaic Idealize.ShloMosaic.TcCoe Idealize.ShloMosaic.Pipeline

theorem k3_logits (x0 : Vec Ideal S2048x256 .f32) (x1 : Vec Ideal S256x128 .f32) (x2 : Vec Ideal S1x128 .f32) (x3 : Vec Ideal S128x48 .f32) (x4 : Vec Ideal S1x48 .f32) (r : Fin 2048) (l : Fin 48) :
    @Eq EReal (k3_pay6 x0 x1 x2 x3 x4 (ix2 r l))
      (headRow (fun i => x0 (ix2 r i)) (fun i k => x1 (ix2 i k)) (fun k => x2 (ix2 0 k)) (fun k l => x3 (ix2 k l)) (fun l => x4 (ix2 0 l)) l) := by
  pointwise [k3_pay6, headRow]

theorem k3_total (x : Vec Ideal S1x1024 .i32) :
    @Eq (BitVec 32) (k3_pay3 x (ix2 0 0)) (Finset.fold IntOp.addi (0#32) (fun k : Fin 1024 => (x (ix2 0 k) : BitVec 32)) Finset.univ) := by
  pointwise [k3_pay3]
  have e : (Finset.univ : Finset (Fin 1 × Fin 1024)) = Finset.univ.map ⟨fun k : Fin 1024 => ((0 : Fin 1), k), fun a b h => (Prod.mk.inj h).2⟩ := by
    ext ⟨a, b⟩
    exact ⟨fun _ => Finset.mem_map.2 ⟨b, Finset.mem_univ _, Prod.ext (Subsingleton.elim _ _) rfl⟩, fun _ => Finset.mem_univ _⟩
  rw [e, Finset.fold_map]
  rfl

variable (V : Dev nD → Valuation τ sig (Elt Ideal)) (c : Dev nD)

theorem e3_0 : ∀ t : Fin cfg3.N, win3_0.index t = ![t.val, 0] := (by decide +kernel : ∀ t : Fin grid3.N, _)
theorem e3_1 : ∀ t : Fin cfg3.N, win3_1.index t = ![0, 0] := (by decide +kernel : ∀ t : Fin grid3.N, _)
theorem e3_2 : ∀ t : Fin cfg3.N, win3_2.index t = ![0, 0] := (by decide +kernel : ∀ t : Fin grid3.N, _)
theorem e3_3 : ∀ t : Fin cfg3.N, win3_3.index t = ![0, 0] := (by decide +kernel : ∀ t : Fin grid3.N, _)
theorem e3_4 : ∀ t : Fin cfg3.N, win3_4.index t = ![0, 0] := (by decide +kernel : ∀ t : Fin grid3.N, _)
theorem e3_7 : ∀ t : Fin cfg3.N, win3_7.index t = ![0, 0] := (by decide +kernel : ∀ t : Fin grid3.N, _)
theorem e3_8 : ∀ t : Fin cfg3.N, win3_8.index t = ![t.val, 0] := (by decide +kernel : ∀ t : Fin grid3.N, _)

theorem iblk3_0 (t : Fin cfg3.N) (r : Fin 2048) (j : Fin 256) (n : Fin 51200) (hn : n.val = t.val * 2048 + r.val) :
    iblk V c 0 t (ix2 r j) = V c (Proc.devRef .tc main_v23) (ix2 n j) := by
  blk_simp [iblk]
  refine congrArg (V c (Proc.devRef .tc main_v23)) ?_
  blk_ext [e3_0]
theorem iblk3_1 (t : Fin cfg3.N) (i : Fin 256) (j : Fin 128) : iblk V c 1 t (ix2 i j) = V c (Proc.devRef .tc main_arg14) (ix2 i j) := by
  blk_simp [iblk]
  refine congrArg (V c (Proc.devRef .tc main_arg14)) ?_
  blk_ext [e3_1]
theorem iblk3_2 (t : Fin cfg3.N) (j : Fin 128) : iblk V c 2 t (ix2 0 j) = V c (Proc.devRef .tc main_v24) (ix2 0 j) := by
  blk_simp [iblk]
  refine congrArg (V c (Proc.devRef .tc main_v24)) ?_
  blk_ext [e3_2]
theorem iblk3_3 (t : Fin cfg3.N) (i : Fin 128) (j : Fin 48) : iblk V c 3 t (ix2 i j) = V c (Proc.devRef .tc main_arg16) (ix2 i j) := by
  blk_simp [iblk]
  refine congrArg (V c (Proc.devRef .tc main_arg16)) ?_
  blk_ext [e3_3]
theorem iblk3_4 (t : Fin cfg3.N) (j : Fin 48) : iblk V c 4 t (ix2 0 j) = V c (Proc.devRef .tc main_v25) (ix2 0 j) := by
  blk_simp [iblk]
  refine congrArg (V c (Proc.devRef .tc main_v25)) ?_
  blk_ext [e3_4]
theorem iblk3_7 (t : Fin cfg3.N) (j : Fin 1024) : iblk V c 7 t (ix2 0 j) = V c (Proc.devRef .tc main_v26) (ix2 0 j) := by
  blk_simp [iblk]
  refine congrArg (V c (Proc.devRef .tc main_v26)) ?_
  blk_ext [e3_7]

/-- What the call leaves for a position and a label. -/
def headAt (n : Fin 51200) (l : Fin 48) : EReal :=
  headRow (fun i => V c (Proc.devRef .tc main_v23) (ix2 n i)) (fun i k => V c (Proc.devRef .tc main_arg14) (ix2 i k))
    (fun k => V c (Proc.devRef .tc main_v24) (ix2 0 k)) (fun k l => V c (Proc.devRef .tc main_arg16) (ix2 k l))
    (fun l => V c (Proc.devRef .tc main_v25) (ix2 0 l)) l

theorem head_pt (t : Fin cfg3.N) (r : Fin 2048) (l : Fin 48) (n : Fin 51200) (hn : n.val = t.val * 2048 + r.val) :
    @Eq EReal ((dat V c).after 8 t (ix2 r l)) (headAt V c n l) := by
  rw [after_8]; unfold logits
  refine (k3_logits _ _ _ _ _ r l).trans ?_
  unfold headAt
  simp only [iblk3_0 V c t r _ n hn, iblk3_1, iblk3_2, iblk3_3, iblk3_4]

theorem head_arr (n : Fin 51200) (l : Fin 48) : @Eq EReal ((dat V c).arrAt 8 cfg3.N (ix2 n l)) (headAt V c n l) := by
  refine congrFun (g := fun i : S51200x48.Idx => headAt V c (i 0) (i 1)) ((dat V c).arrAt_eq_of_covers 8 _ (by decide +kernel) fun t hf y => ?_) (ix2 n l)
  blk_simp
  rw [eq_ix2 y]
  have hN : t.val < 25 := t.isLt
  have h0 : (y 0).val < 2048 := (y 0).isLt
  have h1 : (win3_8.blk t).view.emb (ix2 (y 0) (y 1)) = ix2 (⟨t.val * 2048 + (y 0).val, by omega⟩ : Fin 51200) (y 1) := by blk_ext [e3_8]
  rw [h1]
  exact head_pt V c t (y 0) (y 1) _ rfl

theorem total_arr : @Eq (BitVec 32) ((dat V c).arrAt 11 cfg3.N (ix2 0 0))
    (Finset.fold IntOp.addi (0#32) (fun k : Fin 1024 => (V c (Proc.devRef .tc main_v26) (ix2 0 k) : BitVec 32)) Finset.univ) := by
  have e : @Eq (BitVec 32) (total V c (ix2 0 0)) (Finset.fold IntOp.addi (0#32) (fun k : Fin 1024 => (V c (Proc.devRef .tc main_v26) (ix2 0 k) : BitVec 32)) Finset.univ) := by
    unfold total words
    refine (k3_total _).trans ?_
    simp only [iblk3_7]
  have key : ∀ y : S1x1.Idx, @Eq (BitVec 32) (total V c y) (Finset.fold IntOp.addi (0#32) (fun k : Fin 1024 => (V c (Proc.devRef .tc main_v26) (ix2 0 k) : BitVec 32)) Finset.univ) := by
    intro y
    rw [show y = ix2 0 0 from (eq_ix2 y).trans (by rw [Subsingleton.elim (α := Fin 1) (y 0) 0, Subsingleton.elim (α := Fin 1) (y 1) 0])]
    exact e
  refine congrFun (g := fun _ : S1x1.Idx => Finset.fold IntOp.addi (0#32) (fun k : Fin 1024 => (V c (Proc.devRef .tc main_v26) (ix2 0 k) : BitVec 32)) Finset.univ)
    ((dat V c).arrAt_eq_of_covers 11 _ (by decide +kernel) fun t hf y => ?_) (ix2 0 0)
  blk_simp
  rw [after_11]
  exact key y

end Cert.Proof.Val
-- ==== Proof.Val.Sums.lean ====
/-
  Sums taken tile by tile and row by row, and the label of the largest of a position's outputs.
-/
module

public import Idealize.ShloMosaic.Lib.Pointwise
public import Mathlib.Data.BitVec

@[expose] public section

set_option maxRecDepth 16384

noncomputable section

namespace Cert.Proof.Val

open Idealize.ShloMosaic

section
variable {M : Type} [AddCommMonoid M]

/-- A sum taken in `a` runs of `b`. -/
theorem sum_runs (G : ℕ → M) (b : ℕ) : ∀ a : ℕ, ∑ i ∈ Finset.range a, ∑ j ∈ Finset.range b, G (i * b + j) = ∑ n ∈ Finset.range (a * b), G n
  | 0 => by simp
  | a + 1 => by rw [Finset.sum_range_succ, sum_runs G b a, Nat.succ_mul, Finset.sum_range_add]

/-- The same, over the indices of an array. -/
theorem sum_runs_fin (G : ℕ → M) (a b : ℕ) : ∑ i : Fin a, ∑ j : Fin b, G (i.val * b + j.val) = ∑ n ∈ Finset.range (a * b), G n := by
  rw [← sum_runs G b a, Finset.sum_range]
  exact Finset.sum_congr rfl fun i _ => (Finset.sum_range fun j => G (i.val * b + j)).symm

/-- Position by position within a row, or row by row within a position: the sum is the same. -/
theorem sum_turn (G : Fin 1024 → Fin 50 → M) (H : ℕ → M) (h : ∀ r t, H (t.val * 1024 + r.val) = G r t) :
    ∑ n ∈ Finset.range 51200, H n = ∑ r, ∑ t, G r t := by
  rw [Finset.sum_comm, show (51200 : ℕ) = 50 * 1024 from rfl, ← sum_runs_fin]
  simp only [h]

theorem sum_flat (G : Fin 1024 → Fin 50 → M) (H : Fin 51200 → M) (h : ∀ n r t, n.val = r.val * 50 + t.val → H n = G r t) :
    ∑ n, H n = ∑ r, ∑ t, G r t := by
  have e : ∑ n, H n = ∑ n ∈ Finset.range (1024 * 50), if h : n < 51200 then H ⟨n, h⟩ else 0 := by
    rw [show 1024 * 50 = 51200 from rfl, Finset.sum_range]
    exact Finset.sum_congr rfl fun n _ => by rw [dif_pos n.isLt]
  rw [e, ← sum_runs_fin]
  refine Finset.sum_congr rfl fun r _ => Finset.sum_congr rfl fun t _ => ?_
  have hr := r.isLt
  have ht := t.isLt
  rw [dif_pos (by omega)]
  exact h _ r t rfl
end

/-- A fold of word additions is a sum. -/
theorem fold_addi {ι : Type} (s : Finset ι) (f : ι → BitVec 32) : Finset.fold IntOp.addi (0#32) f s = ∑ i ∈ s, f i := by
  classical
  induction s using Finset.induction_on with
  | empty => rfl
  | insert a s h ih => rw [Finset.fold_insert h, Finset.sum_insert h, ih]; rfl

/-- The label of the largest: the least label whose output is the greatest. -/
def pick (x : Fin 48 → EReal) : BitVec 32 :=
  Finset.fold IntOp.minsi 2147483647#32 (fun l : Fin 48 => if x l = Finset.univ.fold max ⊥ x then BitVec.ofNat 32 l.val else 48#32) Finset.univ

theorem minsi_toInt (x y : BitVec 32) : (IntOp.minsi x y).toInt = min x.toInt y.toInt := by
  unfold IntOp.minsi
  simp only [BitVec.slt_eq_decide, decide_eq_true_eq]
  split_ifs with h <;> omega

theorem fold_max_eq (x : Fin 48 → EReal) (k : Fin 48) (h : ∀ j, x j ≤ x k) : Finset.univ.fold max ⊥ x = x k :=
  le_antisymm (Finset.fold_max_le _ |>.2 ⟨bot_le, fun j _ => h j⟩) (Finset.le_fold_max _ |>.2 (Or.inr ⟨k, Finset.mem_univ _, le_rfl⟩))

/-- There is a least label whose output is the greatest. -/
theorem exists_pick (x : Fin 48 → EReal) : ∃ k, (∀ j, x j ≤ x k) ∧ ∀ j, j < k → x j < x k := by
  classical
  obtain ⟨m, -, hm⟩ := Finset.exists_max_image Finset.univ x ⟨0, Finset.mem_univ _⟩
  have hs : (Finset.univ.filter fun k => ∀ j, x j ≤ x k).Nonempty := ⟨m, Finset.mem_filter.2 ⟨Finset.mem_univ _, fun j => hm j (Finset.mem_univ _)⟩⟩
  refine ⟨(Finset.univ.filter fun k => ∀ j, x j ≤ x k).min' hs, ?_, fun j hj => ?_⟩
  · exact (Finset.mem_filter.1 (Finset.min'_mem _ hs)).2
  · have h := (Finset.mem_filter.1 (Finset.min'_mem _ hs)).2
    refine lt_of_le_of_ne (h j) fun e => ?_
    exact absurd (Finset.min'_le _ j (Finset.mem_filter.2 ⟨Finset.mem_univ _, fun i => e ▸ h i⟩)) (not_le.2 hj)

theorem ofNat_toInt (k : Fin 48) : (BitVec.ofNat 32 k.val).toInt = k.val := by
  have := k.isLt
  rw [BitVec.toInt_eq_toNat_cond, BitVec.toNat_ofNat]
  omega

theorem pick_eq (x : Fin 48 → EReal) (k : Fin 48) (h : ∀ j, x j ≤ x k) (h' : ∀ j, j < k → x j < x k) : pick x = BitVec.ofNat 32 k.val := by
  have hr : ∀ {a b c : BitVec 32}, a.toInt ≤ (IntOp.minsi b c).toInt ↔ a.toInt ≤ b.toInt ∧ a.toInt ≤ c.toInt := by
    intro a b c; rw [minsi_toInt]; exact le_min_iff
  have key := fun c => Finset.fold_op_rel_iff_and (op := IntOp.minsi (w := 32)) (r := fun a b => a.toInt ≤ b.toInt) hr (c := c) (b := 2147483647#32)
    (f := fun l : Fin 48 => if x l = Finset.univ.fold max ⊥ x then BitVec.ofNat 32 l.val else 48#32) (s := Finset.univ)
  have hm := fold_max_eq x k h
  have hk := k.isLt
  apply BitVec.eq_of_toInt_eq
  apply le_antisymm
  · have := ((key (pick x)).1 le_rfl).2 k (Finset.mem_univ _)
    rwa [if_pos hm.symm] at this
  · refine (key _).2 ⟨?_, fun l _ => ?_⟩
    · rw [ofNat_toInt, show (2147483647#32 : BitVec 32).toInt = 2147483647 by decide]; omega
    · rw [hm]
      split_ifs with e
      · rw [ofNat_toInt, ofNat_toInt]
        have : ¬ l < k := fun hl => absurd e (h' l hl).ne
        exact_mod_cast not_lt.1 this
      · rw [ofNat_toInt, show (48#32 : BitVec 32).toInt = 48 by decide]; omega

/-- One where the label is the label of the largest output and the word is not padding, else zero. -/
def right (x : Fin 48 → EReal) (label word : BitVec 32) : BitVec 32 :=
  BitVec.setWidth 32 (IntOp.andi (IntOp.cmpi .eq label (pick x)) (IntOp.cmpi .sgt word 0#32))

end Cert.Proof.Val
-- ==== Proof.Val.Loss.lean ====
/-
  What a position adds to the loss: the two ways to write it agree on real outputs.
-/
module

public import proofs.«01_k».proof.Proof.Val.Cell
public import proofs.«01_k».proof.Proof.Val.Sums

@[expose] public section

set_option maxRecDepth 16384

noncomputable section

namespace Cert.Proof.Val

open Idealize.ShloMosaic

/-- Neither end of the line. -/
def IsReal (x : EReal) : Prop := ∃ y : ℝ, x = (y : EReal)

theorem isReal_of_ne {x : EReal} (h : x ≠ ⊤ ∧ x ≠ ⊥) : IsReal x := ⟨x.toReal, (EReal.coe_toReal h.1 h.2).symm⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type} {s : Finset ι} {f : ι → EReal} (h : ∀ i, IsReal (f i)) : IsReal (∑ i ∈ s, f i) := by
  choose g hg using h
  exact ⟨∑ i ∈ s, g i, by simp only [hg, sum_coe]⟩

theorem isReal_tanh (x : EReal) : IsReal (Ideal.tanh x) := by
  induction x using EReal.rec with
  | bot => exact ⟨-1, by simp⟩
  | coe r => exact ⟨Real.tanh r, rfl⟩
  | top => exact ⟨1, by simp⟩

theorem isReal_logistic (x : EReal) : IsReal (Ideal.logistic x) := by
  unfold Ideal.logistic
  induction x using EReal.rec with
  | bot => exact ⟨0, by simp [Ideal.div, show (1 + ⊤ : EReal) = ⊤ from rfl]⟩
  | coe r =>
    have e : (1 + Ideal.exp (-(r : EReal)) : EReal) = ((1 + Real.exp (-r) : ℝ) : EReal) := by
      rw [← EReal.coe_neg, Ideal.exp_coe, EReal.coe_add, EReal.coe_one]
    rw [e, Ideal.div_coe (by positivity), one_mul]
    exact ⟨_, rfl⟩
  | top => exact ⟨1, by simp [Ideal.div]⟩

theorem isReal_slope : IsReal (Ideal.ofBits FTy.f32 1036831949#32) := by
  simp only [Ideal.ofBits, Ideal.ieee]
  simp [-EReal.coe_mul]
  exact ⟨_, rfl⟩

/-- A step's output is real, whatever the features and the weights. -/
theorem isReal_states (wx : Fin 160 → Fin 512 → EReal) (wh : Fin 128 → Fin 512 → EReal) (b : Fin 512 → EReal)
    (x : ℕ → Fin 160 → EReal) (k : ℕ) (j : Fin 128) : IsReal ((states wx wh b x (k + 1)).1 j) :=
  (isReal_logistic _).mul (isReal_tanh _)

theorem isReal_ctxOf (x : Fin 1024 → Fin 50 → Fin 160 → EReal)
    (wxf : Fin 160 → Fin 512 → EReal) (whf : Fin 128 → Fin 512 → EReal) (bf : Fin 512 → EReal)
    (wxb : Fin 160 → Fin 512 → EReal) (whb : Fin 128 → Fin 512 → EReal) (bb : Fin 512 → EReal)
    (r : Fin 1024) (t : Fin 50) (j : Fin 256) : IsReal (ctxOf x wxf whf bf wxb whb bb r t j) := by
  unfold ctxOf sides
  split_ifs
  · exact isReal_states _ _ _ _ _ _
  · exact isReal_states _ _ _ _ _ _

/-- The head's outputs are real where its inputs and its weights are. -/
theorem isReal_headRow {ctx : Fin 256 → EReal} {w1 : Fin 256 → Fin 128 → EReal} {b1 : Fin 128 → EReal} {w2 : Fin 128 → Fin 48 → EReal}
    {b2 : Fin 48 → EReal} (hc : ∀ i, IsReal (ctx i)) (h1 : ∀ i k, IsReal (w1 i k)) (hb1 : ∀ k, IsReal (b1 k)) (h2 : ∀ k l, IsReal (w2 k l))
    (hb2 : ∀ l, IsReal (b2 l)) (l : Fin 48) : IsReal (headRow ctx w1 b1 w2 b2 l) := by
  unfold headRow
  have hx : ∀ k, IsReal (∑ i, ctx i * w1 i k + b1 k) := fun k => (IsReal.sum fun i => (hc i).mul (h1 i k)).add (hb1 k)
  refine IsReal.add (IsReal.sum fun k => IsReal.mul ?_ (h2 k l)) (hb2 l)
  split_ifs
  · exact hx k
  · exact isReal_slope.mul (hx k)

theorem low_eq : Ideal.ofBits FTy.f32 4286578688#32 = ⊥ := by simp [Ideal.ofBits, Ideal.ieee]
theorem kilo_eq : Ideal.ofBits FTy.f32 1149239296#32 = ((1024 : ℝ) : EReal) := by
  simp [Ideal.ofBits, Ideal.ieee, -EReal.coe_mul]; norm_num

/-- The greatest output of a position. -/
abbrev peak (x : Fin 48 → EReal) : EReal := Finset.univ.fold max ⊥ x

/-- The logarithm of the label's share, found by summing over the labels, and counted where the word is not padding. -/
def nll (x : Fin 48 → EReal) (label word : BitVec 32) : EReal :=
  (0 - ∑ l : Fin 48, Scalar.select (IntOp.cmpi .eq (BitVec.ofNat 32 l.val) label) (x l - (Ideal.log (∑ j, Ideal.exp (x j - peak x)) + peak x)) 0)
    * FloatOps.sitofp (F := Ideal) FTy.f32 (BitVec.setWidth 32 (IntOp.cmpi .sgt word 0#32))

/-- The same, found at the label. -/
def nllAt (x : Fin 48 → EReal) (l : Fin 48) (word : BitVec 32) : EReal :=
  -(x l - max ⊥ (peak x) - Ideal.log (∑ j, Ideal.exp (x j - max ⊥ (peak x)))) * FloatOps.uitofp (F := Ideal) FTy.f32 (IntOp.cmpi .sgt word 0#32)

theorem mask_real (b : BitVec 1) : ∃ v : ℝ, @Eq EReal (FloatOps.sitofp (F := Ideal) FTy.f32 (BitVec.setWidth 32 b)) v ∧ @Eq EReal (FloatOps.uitofp (F := Ideal) FTy.f32 b) v := by
  have h : ((BitVec.setWidth 32 b).toInt : ℤ) = (b.toNat : ℤ) := by revert b; decide
  refine ⟨((b.toNat : ℕ) : ℝ), ?_, rfl⟩
  show ((((BitVec.setWidth 32 b).toInt : ℤ) : ℝ) : EReal) = _
  rw [h]; simp

theorem select_label (l k : Fin 48) (a : EReal) :
    Scalar.select (IntOp.cmpi .eq (BitVec.ofNat 32 l.val) (BitVec.ofNat 32 k.val)) a 0 = if l = k then a else 0 := by
  have h : IntOp.cmpi .eq (BitVec.ofNat 32 l.val) (BitVec.ofNat 32 k.val) = if l = k then 1#1 else 0#1 := by revert l k; decide
  rw [h]
  split_ifs <;> rfl

/-- The two agree, and are real, on real outputs. -/
theorem nll_real (x : Fin 48 → EReal) (hx : ∀ l, IsReal (x l)) (l : Fin 48) (word : BitVec 32) :
    ∃ v : ℝ, nll x (BitVec.ofNat 32 l.val) word = v ∧ nllAt x l word = v := by
  choose y hy using hx
  obtain ⟨k, hk, -⟩ := exists_pick x
  obtain ⟨w, hw, hw'⟩ := mask_real (IntOp.cmpi .sgt word 0#32)
  have hm : peak x = (y k : EReal) := (fold_max_eq x k hk).trans (hy k)
  have he : ∑ j, Ideal.exp (x j - (y k : EReal)) = ((∑ j, Real.exp (y j - y k) : ℝ) : EReal) := by
    rw [← sum_coe]
    refine Finset.sum_congr rfl fun j _ => ?_
    rw [hy j, ← EReal.coe_sub, Ideal.exp_coe]
  have hp : 0 < ∑ j, Real.exp (y j - y k) := Finset.sum_pos (fun j _ => Real.exp_pos _) ⟨k, Finset.mem_univ _⟩
  have hl : Ideal.log (((∑ j, Real.exp (y j - y k) : ℝ)) : EReal) = ((Real.log (∑ j, Real.exp (y j - y k)) : ℝ) : EReal) := by
    rw [Ideal.log_coe, if_neg (not_le.2 hp)]
  refine ⟨-(y l - y k - Real.log (∑ j, Real.exp (y j - y k))) * w, ?_, ?_⟩
  · unfold nll
    rw [hw, hm, he, hl]
    simp only [select_label]
    rw [Finset.sum_ite_eq' Finset.univ l, if_pos (Finset.mem_univ _), hy l, ← EReal.coe_add, ← EReal.coe_sub, ← EReal.coe_zero, ← EReal.coe_sub, ← EReal.coe_mul]
    congr 1; ring
  · unfold nllAt
    rw [hw', hm, max_eq_right bot_le, he, hl, hy l, ← EReal.coe_sub, ← EReal.coe_sub, ← EReal.coe_neg, ← EReal.coe_mul]

/-- A label below the number of labels is the word of its number. -/
theorem label_word {w : BitVec 32} (h : w.toNat < 48) : BitVec.ofNat 32 (⟨w.toNat, h⟩ : Fin 48).val = w := by simp

theorem nll_isReal (x : Fin 48 → EReal) (hx : ∀ l, IsReal (x l)) (label word : BitVec 32) (h : label.toNat < 48) : IsReal (nll x label word) := by
  obtain ⟨v, hv, -⟩ := nll_real x hx ⟨label.toNat, h⟩ word
  rw [label_word h] at hv
  exact ⟨v, hv⟩

theorem nllAt_eq (x : Fin 48 → EReal) (hx : ∀ l, IsReal (x l)) (label word : BitVec 32) (h : label.toNat < 48) :
    nllAt x ⟨label.toNat, h⟩ word = nll x label word := by
  obtain ⟨v, hv, hv'⟩ := nll_real x hx ⟨label.toNat, h⟩ word
  rw [label_word h] at hv
  rw [hv, hv']

/-- The loss of a batch. -/
def lossOf (x : Fin 1024 → Fin 50 → Fin 48 → EReal) (label word : Fin 1024 → Fin 50 → BitVec 32) : EReal :=
  Ideal.div (∑ r, ∑ t, nll (x r t) (label r t) (word r t)) (Ideal.ofBits FTy.f32 1149239296#32)

/-- Real numbers divided run by run, or all at once. -/
theorem div_runs (a b : ℕ) (f : ℕ → EReal) (hf : ∀ n, IsReal (f n)) :
    ∑ t ∈ Finset.range a, Ideal.div (∑ r ∈ Finset.range b, f (t * b + r)) (Ideal.ofBits FTy.f32 1149239296#32)
      = Ideal.div (∑ n ∈ Finset.range (a * b), f n) (Ideal.ofBits FTy.f32 1149239296#32) := by
  choose g hg using hf
  rw [kilo_eq, ← sum_runs]
  simp only [hg, sum_coe, Ideal.div_coe (show (1024 : ℝ) ≠ 0 by norm_num), ← EReal.coe_mul]
  rw [Finset.sum_mul]

end Cert.Proof.Val
-- ==== Proof.Val.HeadSums.lean ====
/-
  The head's other arrays, read at an index: the labels of the largest outputs, the loss and the count of the right labels.
-/
module

public import proofs.«01_k».proof.Proof.Val.HeadArr
public import proofs.«01_k».proof.Proof.Val.Loss

@[expose] public section
set_option maxRecDepth 16384
noncomputable section
namespace Cert.Proof.Val
open Cert.KernelIdeal Cert.KernelIdeal.Gen
open Cert.Proof.KI.Head
open Idealize.ShloMosaic Idealize.ShloMosaic.TcCoe Idealize.ShloMosaic.Pipeline

theorem k3_pick (x : FVec Ideal S2048x48 .f32) (r : Fin 2048) : @Eq (BitVec 32) (k3_pay11 x (ix2 r 0)) (pick fun l => x (ix2 r l)) := by
  pointwise [k3_pay11]
  simp only [low_eq]
  rfl
theorem k3_pick3 (x : FVec Ideal S2048x48 .f32) (r : Fin 2048) : @Eq (BitVec 32) (k3_pay12 x (ix3 0 r 0)) (k3_pay11 x (ix2 r 0)) := by
  pointwise [k3_pay12]
theorem k3_label (x : Vec Ideal S1x2048x1 .i32) (r : Fin 2048) : @Eq (BitVec 32) (k3_pay8 x (ix2 r 0)) (x (ix3 0 r 0)) := by
  pointwise [k3_pay8]

theorem k3_share (x0 : Vec Ideal S2048x256 .f32) (x1 : Vec Ideal S256x128 .f32) (x2 : Vec Ideal S1x128 .f32) (x3 : Vec Ideal S128x48 .f32) (x4 : Vec Ideal S1x48 .f32) (r : Fin 2048) (l : Fin 48) :
    @Eq EReal (k3_pay7 x0 x1 x2 x3 x4 (ix2 r l))
      (k3_pay6 x0 x1 x2 x3 x4 (ix2 r l) - (Ideal.log (∑ j, Ideal.exp (k3_pay6 x0 x1 x2 x3 x4 (ix2 r j) - peak fun l => k3_pay6 x0 x1 x2 x3 x4 (ix2 r l)))
        + peak fun l => k3_pay6 x0 x1 x2 x3 x4 (ix2 r l))) := by
  unfold k3_pay7
  generalize k3_pay6 x0 x1 x2 x3 x4 = x
  pointwise
  simp only [low_eq]

theorem k3_right (x : FVec Ideal S2048x48 .f32) (v : IVec S2048x1 32) (w : Vec Ideal S1x2048x1 .i32) :
    @Eq (BitVec 32) (k3_pay13 x v w (ix2 0 0)) (∑ r : Fin 2048, right (fun l => x (ix2 r l)) (v (ix2 r 0)) (w (ix3 0 r 0))) := by
  pointwise [k3_pay13, k3_pay9]
  rw [fold_addi, Fintype.sum_prod_type]
  refine Finset.sum_congr rfl fun r _ => ?_
  rw [Fintype.sum_unique, k3_pick]
  rfl

theorem k3_nll (x : FVec Ideal S2048x48 .f32) (v : IVec S2048x1 32) (w : Vec Ideal S1x2048x1 .i32) :
    @Eq EReal (k3_pay10 x v w (ix2 0 0))
      (Ideal.div (∑ r : Fin 2048, (0 - ∑ l : Fin 48, Scalar.select (IntOp.cmpi .eq (BitVec.ofNat 32 l.val) (v (ix2 r 0))) (x (ix2 r l)) 0)
        * FloatOps.sitofp (F := Ideal) FTy.f32 (BitVec.setWidth 32 (IntOp.cmpi .sgt (w (ix3 0 r 0) : BitVec 32) 0#32))) (Ideal.ofBits FTy.f32 1149239296#32)) := by
  pointwise [k3_pay10, k3_pay9]
  refine congrArg (fun s => Ideal.div s _) (Finset.sum_congr rfl fun r _ => ?_)
  exact Fintype.sum_unique _

theorem k3_add (x y : FVec Ideal S1x1 .f32) : @Eq EReal (k3_pay4 x y (ix2 0 0)) (y (ix2 0 0) + x (ix2 0 0)) := by
  pointwise [k3_pay4]
theorem k3_addi (x y : IVec S1x1 32) : @Eq (BitVec 32) (k3_pay5 (F := Ideal) x y (ix2 0 0)) (y (ix2 0 0) + x (ix2 0 0)) := by
  pointwise [k3_pay5]
  rfl
theorem k3_zero : @Eq EReal (k3_pay1 (F := Ideal) (ix2 0 0)) 0 := by
  pointwise [k3_pay1]
theorem k3_zeroi : @Eq (BitVec 32) (k3_pay2 (ix2 0 0)) 0#32 := by
  pointwise [k3_pay2]

variable (V : Dev nD → Valuation τ sig (Elt Ideal)) (c : Dev nD)

theorem e3_5 : ∀ t : Fin cfg3.N, win3_5.index t = ![t.val, 0, 0] := (by decide +kernel : ∀ t : Fin grid3.N, _)
theorem e3_6 : ∀ t : Fin cfg3.N, win3_6.index t = ![t.val, 0, 0] := (by decide +kernel : ∀ t : Fin grid3.N, _)
theorem e3_9 : ∀ t : Fin cfg3.N, win3_9.index t = ![t.val, 0, 0] := (by decide +kernel : ∀ t : Fin grid3.N, _)

theorem iblk3_5 (t : Fin cfg3.N) (r : Fin 2048) (a : Fin 25) (ha : a.val = t.val) : iblk V c 5 t (ix3 0 r 0) = V c (Proc.devRef .tc main_v21) (ix3 a r 0) := by
  blk_simp [iblk]
  refine congrArg (V c (Proc.devRef .tc main_v21)) ?_
  blk_ext [e3_5]
theorem iblk3_6 (t : Fin cfg3.N) (r : Fin 2048) (a : Fin 25) (ha : a.val = t.val) : iblk V c 6 t (ix3 0 r 0) = V c (Proc.devRef .tc main_v22) (ix3 a r 0) := by
  blk_simp [iblk]
  refine congrArg (V c (Proc.devRef .tc main_v22)) ?_
  blk_ext [e3_6]

/-- The label and the word at a position of the list. -/
abbrev labelAt (n : Fin 51200) : BitVec 32 := V c (Proc.devRef .tc main_v21) (ix3 (⟨n.val / 2048, by omega⟩ : Fin 25) (⟨n.val % 2048, by omega⟩ : Fin 2048) 0)
abbrev wordAt (n : Fin 51200) : BitVec 32 := V c (Proc.devRef .tc main_v22) (ix3 (⟨n.val / 2048, by omega⟩ : Fin 25) (⟨n.val % 2048, by omega⟩ : Fin 2048) 0)

theorem tile_logits (t : Fin cfg3.N) (r : Fin 2048) (l : Fin 48) (n : Fin 51200) (hn : n.val = t.val * 2048 + r.val) :
    @Eq EReal (k3_pay6 (iblk V c 0 t) (iblk V c 1 t) (iblk V c 2 t) (iblk V c 3 t) (iblk V c 4 t) (ix2 r l)) (headAt V c n l) := by
  have h := head_pt V c t r l n hn
  rw [after_8] at h
  exact h
theorem tile_label (t : Fin cfg3.N) (r : Fin 2048) (n : Fin 51200) (hn : n.val = t.val * 2048 + r.val) :
    @Eq (BitVec 32) (iblk V c 5 t (ix3 0 r 0)) (labelAt V c n) := by
  refine (iblk3_5 V c t r ⟨n.val / 2048, by omega⟩ (by show n.val / 2048 = _; omega)).trans ?_
  exact congrArg (fun k => V c (Proc.devRef .tc main_v21) (ix3 _ k 0)) (Fin.ext (by show r.val = n.val % 2048; omega))
theorem tile_word (t : Fin cfg3.N) (r : Fin 2048) (n : Fin 51200) (hn : n.val = t.val * 2048 + r.val) :
    @Eq (BitVec 32) (iblk V c 6 t (ix3 0 r 0)) (wordAt V c n) := by
  refine (iblk3_6 V c t r ⟨n.val / 2048, by omega⟩ (by show n.val / 2048 = _; omega)).trans ?_
  exact congrArg (fun k => V c (Proc.devRef .tc main_v22) (ix3 _ k 0)) (Fin.ext (by show r.val = n.val % 2048; omega))

theorem pred_pt (t : Fin cfg3.N) (r : Fin 2048) (n : Fin 51200) (hn : n.val = t.val * 2048 + r.val) :
    @Eq (BitVec 32) ((dat V c).after 9 t (ix3 0 r 0)) (pick (headAt V c n)) := by
  rw [after_9]
  exact (k3_pick3 _ _).trans ((k3_pick _ _).trans (congrArg pick (funext fun l => tile_logits V c t r l n hn)))

/-- The labels of the largest outputs, of every tile. -/
def predAt (i : S25x2048x1.Idx) : BitVec 32 :=
  pick (headAt V c ⟨(i 0).val * 2048 + (i 1).val, by have h1 : (i 0).val < 25 := (i 0).isLt; have h2 : (i 1).val < 2048 := (i 1).isLt; omega⟩)

theorem row_idx (y : S1x2048x1.Idx) : y = ix3 0 (y 1) 0 := funext fun a => match a with
  | ⟨0, _⟩ => Subsingleton.elim (α := Fin 1) _ _
  | ⟨1, _⟩ => rfl
  | ⟨2, _⟩ => Subsingleton.elim (α := Fin 1) _ _

/-- The labels of the largest outputs. -/
theorem pred_arr (a : Fin 25) (r : Fin 2048) (n : Fin 51200) (hn : n.val = a.val * 2048 + r.val) :
    @Eq (BitVec 32) ((dat V c).arrAt 9 cfg3.N (ix3 a r 0)) (pick (headAt V c n)) := by
  have hA : (dat V c).arrAt 9 cfg3.N = predAt V c := by
    refine (dat V c).arrAt_eq_of_covers 9 _ (by decide +kernel) fun t hf y => ?_
    blk_simp
    obtain ⟨r, rfl⟩ : ∃ r : Fin 2048, y = ix3 0 r 0 := ⟨y 1, row_idx y⟩
    have ht : t.val < 25 := t.isLt
    have hr := r.isLt
    have h1 : (win3_9.blk t).view.emb (ix3 0 r 0) = ix3 (⟨t.val, ht⟩ : Fin 25) r 0 := by blk_ext [e3_9]
    rw [h1]
    exact pred_pt V c t r _ rfl
  rw [hA]
  exact congrArg (fun n => pick (headAt V c n)) (Fin.ext hn.symm)

/-- What a position adds to the count and to the loss. -/
def rightAt (n : ℕ) : BitVec 32 := if h : n < 51200 then right (headAt V c ⟨n, h⟩) (labelAt V c ⟨n, h⟩) (wordAt V c ⟨n, h⟩) else 0
def lossAt (n : ℕ) : EReal := if h : n < 51200 then nll (headAt V c ⟨n, h⟩) (labelAt V c ⟨n, h⟩) (wordAt V c ⟨n, h⟩) else 0

theorem corr_tile (t : Fin cfg3.N) : @Eq (BitVec 32) (corrPart (iblk V c 0 t) (iblk V c 1 t) (iblk V c 2 t) (iblk V c 3 t) (iblk V c 4 t) (iblk V c 5 t) (iblk V c 6 t) (iblk V c 7 t) (ix2 0 0))
    (∑ r ∈ Finset.range 2048, rightAt V c (t.val * 2048 + r)) := by
  unfold corrPart
  refine (k3_right _ _ _).trans ?_
  rw [Finset.sum_range]
  refine Finset.sum_congr rfl fun r _ => ?_
  have ht : t.val < 25 := t.isLt
  have hr := r.isLt
  have hlt : t.val * 2048 + r.val < 51200 := by omega
  rw [rightAt, dif_pos hlt, k3_label]
  have e0 := funext fun l => tile_logits V c t r l ⟨_, hlt⟩ rfl
  have e1 := tile_label V c t r ⟨_, hlt⟩ rfl
  have e2 := tile_word V c t r ⟨_, hlt⟩ rfl
  exact (congrArg (fun x => right x _ _) e0).trans (congrArg₂ (right _) e1 e2)

theorem loss_tile (t : Fin cfg3.N) : @Eq EReal (lossPart (iblk V c 0 t) (iblk V c 1 t) (iblk V c 2 t) (iblk V c 3 t) (iblk V c 4 t) (iblk V c 5 t) (iblk V c 6 t) (iblk V c 7 t) (ix2 0 0))
    (Ideal.div (∑ r ∈ Finset.range 2048, lossAt V c (t.val * 2048 + r)) (Ideal.ofBits FTy.f32 1149239296#32)) := by
  unfold lossPart
  refine (k3_nll _ _ _).trans ?_
  rw [Finset.sum_range]
  refine congrArg (fun s => Ideal.div s _) (Finset.sum_congr rfl fun r _ => ?_)
  have ht : t.val < 25 := t.isLt
  have hr := r.isLt
  have hlt : t.val * 2048 + r.val < 51200 := by omega
  rw [lossAt, dif_pos hlt, k3_label]
  have e0 := funext fun l => tile_logits V c t r l ⟨_, hlt⟩ rfl
  have e1 := tile_label V c t r ⟨_, hlt⟩ rfl
  have e2 := tile_word V c t r ⟨_, hlt⟩ rfl
  refine Eq.trans ?_ ((congrArg (fun x => nll x _ _) e0).trans (congrArg₂ (nll _) e1 e2))
  unfold nll
  simp only [k3_share]

theorem corr_sum : ∀ n, n ≤ 25 → @Eq (BitVec 32) (corr V c n (ix2 0 0)) (∑ t ∈ Finset.range n, ∑ r ∈ Finset.range 2048, rightAt V c (t * 2048 + r))
  | 0, _ => k3_zeroi
  | n + 1, h => by
    rw [Finset.sum_range_succ, ← corr_sum n (by omega)]
    rw [show corr V c (n + 1) = _ from corr_succ V c ⟨n, h⟩]
    refine (k3_addi _ _).trans ?_
    exact congrArg (fun x : BitVec 32 => corr V c n (ix2 0 0) + x) (corr_tile V c ⟨n, h⟩)

theorem loss_sum : ∀ n, n ≤ 25 → @Eq EReal (loss V c n (ix2 0 0))
    (∑ t ∈ Finset.range n, Ideal.div (∑ r ∈ Finset.range 2048, lossAt V c (t * 2048 + r)) (Ideal.ofBits FTy.f32 1149239296#32))
  | 0, _ => k3_zero
  | n + 1, h => by
    rw [Finset.sum_range_succ, ← loss_sum n (by omega)]
    rw [show loss V c (n + 1) = _ from loss_succ V c ⟨n, h⟩]
    refine (k3_add _ _).trans ?_
    exact congrArg (fun x : EReal => loss V c n (ix2 0 0) + x) (loss_tile V c ⟨n, h⟩)

theorem one_idx (y : S1x1.Idx) : y = ix2 0 0 :=
  (eq_ix2 y).trans (by rw [Subsingleton.elim (α := Fin 1) (y 0) 0, Subsingleton.elim (α := Fin 1) (y 1) 0])

/-- The count of the right labels. -/
theorem corr_arr : @Eq (BitVec 32) ((dat V c).arrAt 12 cfg3.N (ix2 0 0)) (∑ n ∈ Finset.range 51200, rightAt V c n) := by
  have key : ∀ y : S1x1.Idx, @Eq (BitVec 32) (corr V c 25 y) (∑ n ∈ Finset.range 51200, rightAt V c n) := by
    intro y
    rw [one_idx y, corr_sum V c 25 le_rfl, sum_runs]
  refine congrFun (g := fun _ : S1x1.Idx => ∑ n ∈ Finset.range 51200, rightAt V c n)
    ((dat V c).arrAt_eq_of_covers 12 _ (by decide +kernel) fun t hf y => ?_) (ix2 0 0)
  blk_simp
  have ht : t.val = 24 := (by decide +kernel : ∀ t : Fin cfg3.N, (cfg3.win 12).flush t = true → t.val = 24) t hf
  rw [after_12, ht]
  exact key y

/-- The loss. -/
theorem loss_arr (hr : ∀ n, IsReal (lossAt V c n)) : @Eq EReal ((dat V c).arrAt 10 cfg3.N (ix2 0 0))
    (Ideal.div (∑ n ∈ Finset.range 51200, lossAt V c n) (Ideal.ofBits FTy.f32 1149239296#32)) := by
  have key : ∀ y : S1x1.Idx, @Eq EReal (loss V c 25 y) (Ideal.div (∑ n ∈ Finset.range 51200, lossAt V c n) (Ideal.ofBits FTy.f32 1149239296#32)) := by
    intro y
    rw [one_idx y, loss_sum V c 25 le_rfl]
    exact div_runs 25 2048 _ hr
  refine congrFun (g := fun _ : S1x1.Idx => Ideal.div (∑ n ∈ Finset.range 51200, lossAt V c n) (Ideal.ofBits FTy.f32 1149239296#32))
    ((dat V c).arrAt_eq_of_covers 10 _ (by decide +kernel) fun t hf y => ?_) (ix2 0 0)
  blk_simp
  have ht : t.val = 24 := (by decide +kernel : ∀ t : Fin cfg3.N, (cfg3.win 10).flush t = true → t.val = 24) t hf
  rw [after_10, ht]
  exact key y

end Cert.Proof.Val
-- ==== Proof.Val.KLines.lean ====
/-
  The kernel's host lines, read at an index.
-/
module

public import proofs.«01_k».proof.Proof.Main
public import Idealize.ShloMosaic.Lib.Pointwise
public import Idealize.ShloMosaic.Lib.StableHlo.RunRead

@[expose] public section
set_option maxRecDepth 16384
noncomputable section
namespace Cert.Proof.Val
open Cert.KernelIdeal Cert.KernelIdeal.Gen
open Cert.Proof.KI
open Idealize.ShloMosaic Idealize.ShloMosaic.TcCoe Idealize.ShloMosaic.StableHlo

variable (V : Valuation τ sig (Elt Ideal))

theorem b_v4 (a : Fin 25) (r : Fin 2048) (b : Fin 1024) (t : Fin 50) (h : a.val * 2048 + r.val = t.val * 1024 + b.val) :
    @Eq (BitVec 32) (after opsB V (Proc.devRef .tc main_v4) (ix3 a r 0)) (V (Proc.devRef .tc main_arg1) (ix2 b t)) := by
  after_reads_simp; pointwise [id_eq]
  refine congrArg₂ (fun x y => V (Proc.devRef .tc main_arg1) (ix2 x y)) (Fin.ext ?_) (Fin.ext ?_) <;> dsimp only <;> omega
theorem b_v5 (f : Fin 160) : @Eq EReal (after opsB V (Proc.devRef .tc main_v5) (ix2 0 f)) (V (Proc.devRef .tc main_arg6) (ix1 f)) := by
  after_reads_simp; pointwise [id_eq]
theorem b_v6 (f : Fin 160) : @Eq EReal (after opsB V (Proc.devRef .tc main_v6) (ix2 0 f)) (V (Proc.devRef .tc main_arg7) (ix1 f)) := by
  after_reads_simp; pointwise [id_eq]

theorem c_v8 (t : Fin 50) (r : Fin 1024) (f : Fin 160) (n : Fin 51200) (hn : n.val = t.val * 1024 + r.val) :
    @Eq EReal (after opsC V (Proc.devRef .tc main_v8) (ix3 t r f)) (V (Proc.devRef .tc main_v7) (ix2 n f)) := by
  after_reads_simp; pointwise [id_eq]
  exact congrArg (fun x => V (Proc.devRef .tc main_v7) (ix2 x f)) (Fin.ext hn.symm)
theorem c_v11_0 (k : Fin 160) (n : Fin 512) : @Eq EReal (after opsC V (Proc.devRef .tc main_v11) (ix3 0 k n)) (V (Proc.devRef .tc main_arg8) (ix2 k n)) := by
  after_reads_simp; pointwise [id_eq]
theorem c_v11_1 (k : Fin 160) (n : Fin 512) : @Eq EReal (after opsC V (Proc.devRef .tc main_v11) (ix3 1 k n)) (V (Proc.devRef .tc main_arg11) (ix2 k n)) := by
  after_reads_simp; pointwise [id_eq]
theorem c_v14_0 (k : Fin 128) (n : Fin 512) : @Eq EReal (after opsC V (Proc.devRef .tc main_v14) (ix3 0 k n)) (V (Proc.devRef .tc main_arg9) (ix2 k n)) := by
  after_reads_simp; pointwise [id_eq]
theorem c_v14_1 (k : Fin 128) (n : Fin 512) : @Eq EReal (after opsC V (Proc.devRef .tc main_v14) (ix3 1 k n)) (V (Proc.devRef .tc main_arg12) (ix2 k n)) := by
  after_reads_simp; pointwise [id_eq]
theorem c_v18_0 (n : Fin 512) : @Eq EReal (after opsC V (Proc.devRef .tc main_v18) (ix3 0 0 n)) (V (Proc.devRef .tc main_arg10) (ix1 n)) := by
  after_reads_simp; pointwise [id_eq]
  after_reads_simp; pointwise [id_eq]
theorem c_v18_1 (n : Fin 512) : @Eq EReal (after opsC V (Proc.devRef .tc main_v18) (ix3 1 0 n)) (V (Proc.devRef .tc main_arg13) (ix1 n)) := by
  after_reads_simp; pointwise [id_eq]
  after_reads_simp; pointwise [id_eq]

theorem d_v23 (n : Fin 51200) (j : Fin 256) (t : Fin 50) (r : Fin 1024) (hn : n.val = t.val * 1024 + r.val) :
    @Eq EReal (after opsD V (Proc.devRef .tc main_v23) (ix2 n j)) (V (Proc.devRef .tc main_v19) (ix3 t r j)) := by
  after_reads_simp; pointwise [id_eq]
  refine congrArg₂ (fun x y => V (Proc.devRef .tc main_v19) (ix3 x y j)) (Fin.ext ?_) (Fin.ext ?_) <;> dsimp only <;> omega
theorem d_v24 (k : Fin 128) : @Eq EReal (after opsD V (Proc.devRef .tc main_v24) (ix2 0 k)) (V (Proc.devRef .tc main_arg15) (ix1 k)) := by
  after_reads_simp; pointwise [id_eq]
theorem d_v25 (k : Fin 48) : @Eq EReal (after opsD V (Proc.devRef .tc main_v25) (ix2 0 k)) (V (Proc.devRef .tc main_arg17) (ix1 k)) := by
  after_reads_simp; pointwise [id_eq]
theorem d_v26 (k : Fin 1024) : @Eq (BitVec 32) (after opsD V (Proc.devRef .tc main_v26) (ix2 0 k)) (V (Proc.devRef .tc main_arg3) (ix1 k)) := by
  after_reads_simp; pointwise [id_eq]

theorem d_v21 (a : Fin 25) (r : Fin 2048) (b : Fin 1024) (t : Fin 50) (h : a.val * 2048 + r.val = t.val * 1024 + b.val) :
    @Eq (BitVec 32) (after opsD V (Proc.devRef .tc main_v21) (ix3 a r 0)) (V (Proc.devRef .tc main_arg2) (ix2 b t)) := by
  after_reads_simp; pointwise [id_eq]
  refine congrArg₂ (fun x y => V (Proc.devRef .tc main_arg2) (ix2 x y)) (Fin.ext ?_) (Fin.ext ?_) <;> dsimp only <;> omega
theorem d_v22 (a : Fin 25) (r : Fin 2048) (n : Fin 51200) (h : n.val = a.val * 2048 + r.val) :
    @Eq (BitVec 32) (after opsD V (Proc.devRef .tc main_v22) (ix3 a r 0)) (V (Proc.devRef .tc main_v1) (ix1 n)) := by
  after_reads_simp; pointwise [id_eq]
  exact congrArg (fun x => V (Proc.devRef .tc main_v1) (ix1 x)) (Fin.ext h.symm)

theorem e_v28 (r : Fin 1024) (t : Fin 50) (j : Fin 256) : @Eq EReal (after opsE V (Proc.devRef .tc main_v28) (ix3 r t j)) (V (Proc.devRef .tc main_v19) (ix3 t r j)) := by
  after_reads_simp; pointwise [id_eq]
theorem e_v32 (r : Fin 1024) (t : Fin 50) (l : Fin 48) (n : Fin 51200) (hn : n.val = t.val * 1024 + r.val) :
    @Eq EReal (after opsE V (Proc.devRef .tc main_v32) (ix3 r t l)) (V (Proc.devRef .tc main_v27_0) (ix2 n l)) := by
  after_reads_simp; pointwise [id_eq]
  exact congrArg (fun x => V (Proc.devRef .tc main_v27_0) (ix2 x l)) (Fin.ext hn.symm)
theorem e_v34 (i : S_.Idx) : @Eq (BitVec 32) (after opsE V (Proc.devRef .tc main_v34) i) (V (Proc.devRef .tc main_v27_3) (ix2 0 0)) := by
  after_reads_simp; pointwise [id_eq]
theorem e_v30 (r : Fin 1024) (t : Fin 50) (a : Fin 25) (b : Fin 2048) (h : a.val * 2048 + b.val = t.val * 1024 + r.val) :
    @Eq (BitVec 32) (after opsE V (Proc.devRef .tc main_v30) (ix2 r t)) (V (Proc.devRef .tc main_v27_1) (ix3 a b 0)) := by
  after_reads_simp; pointwise [id_eq]
  refine congrArg₂ (fun x y => V (Proc.devRef .tc main_v27_1) (ix3 x y 0)) (Fin.ext ?_) (Fin.ext ?_) <;> dsimp only <;> omega
theorem e_v33 (i : S_.Idx) : @Eq EReal (after opsE V (Proc.devRef .tc main_v33) i) (V (Proc.devRef .tc main_v27_2) (ix2 0 0)) := by
  after_reads_simp; pointwise [id_eq]
theorem e_v35 (i : S_.Idx) : @Eq (BitVec 32) (after opsE V (Proc.devRef .tc main_v35) i) (V (Proc.devRef .tc main_v27_4) (ix2 0 0)) := by
  after_reads_simp; pointwise [id_eq]

end Cert.Proof.Val
-- ==== Proof.Val.KVal.lean ====
/-
  The kernel's results, read at an index, over the arguments.
-/
module

public import proofs.«01_k».proof.Proof.Args
public import proofs.«01_k».proof.Proof.Val.EmbArr
public import proofs.«01_k».proof.Proof.Val.LstmArr
public import proofs.«01_k».proof.Proof.Val.HeadArr
public import proofs.«01_k».proof.Proof.Val.HeadSums
public import proofs.«01_k».proof.Proof.Val.KLines

@[expose] public section
set_option maxRecDepth 16384
noncomputable section
namespace Cert.Proof.Val.K
open Cert.KernelIdeal Cert.KernelIdeal.Gen
open Cert.Proof.KI Cert.Proof
open Idealize.ShloMosaic Idealize.ShloMosaic.TcCoe Idealize.ShloMosaic.StableHlo

variable (m : (ℓ : Loc nD τ sig) → Buf (Elt Ideal) ℓ) (c : Dev nD)
  (hw : ∀ i, (m (c, Proc.devRef .tc main_arg0) i : BitVec 32).toNat < 100000) (ht : ∀ i, (m (c, Proc.devRef .tc main_arg1) i : BitVec 32).toNat < 64)

/-- The normalised features, over the arguments. -/
abbrev X : Fin 1024 → Fin 50 → Fin 160 → EReal :=
  feats (fun r t => ⟨(m (c, Proc.devRef .tc main_arg0) (ix2 r t) : BitVec 32).toNat, hw _⟩)
    (fun r t => ⟨(m (c, Proc.devRef .tc main_arg1) (ix2 r t) : BitVec 32).toNat, ht _⟩)
    (fun n k => m (c, Proc.devRef .tc main_arg4) (ix2 n k)) (fun n k => m (c, Proc.devRef .tc main_arg5) (ix2 n k))
    (fun f => m (c, Proc.devRef .tc main_arg6) (ix1 f)) (fun f => m (c, Proc.devRef .tc main_arg7) (ix1 f))

/-- The recurrence's outputs, over the arguments. -/
abbrev C : Fin 1024 → Fin 50 → Fin 256 → EReal :=
  ctxOf (X m c hw ht) (fun k n => m (c, Proc.devRef .tc main_arg8) (ix2 k n)) (fun k n => m (c, Proc.devRef .tc main_arg9) (ix2 k n))
    (fun n => m (c, Proc.devRef .tc main_arg10) (ix1 n)) (fun k n => m (c, Proc.devRef .tc main_arg11) (ix2 k n))
    (fun k n => m (c, Proc.devRef .tc main_arg12) (ix2 k n)) (fun n => m (c, Proc.devRef .tc main_arg13) (ix1 n))

/-- The head's outputs, over the arguments. -/
abbrev L (r : Fin 1024) (t : Fin 50) (l : Fin 48) : EReal :=
  headRow (fun i => C m c hw ht r t i) (fun i k => m (c, Proc.devRef .tc main_arg14) (ix2 i k))
    (fun k => m (c, Proc.devRef .tc main_arg15) (ix1 k)) (fun k l => m (c, Proc.devRef .tc main_arg16) (ix2 k l))
    (fun l => m (c, Proc.devRef .tc main_arg17) (ix1 l)) l

/-- The sum of the lengths. -/
abbrev S : BitVec 32 := Finset.fold IntOp.addi (0#32) (fun k : Fin 1024 => (m (c, Proc.devRef .tc main_arg3) (ix1 k) : BitVec 32)) Finset.univ

/-- The list's word at a row and a position. -/
theorem lst_apply (n : Fin 51200) (r : Fin 1024) (t : Fin 50) (hn : n.val = t.val * 1024 + r.val) :
    @Eq (BitVec 32) (lstOf m c (ix1 n)) (m (c, Proc.devRef .tc main_arg0) (ix2 r t)) := by
  rw [lst_eq]
  pointwise
  refine congrArg₂ (fun x y => m (c, Proc.devRef .tc main_arg0) (ix2 x y)) (Fin.ext ?_) (Fin.ext ?_) <;> dsimp only <;> omega

/-- The gathered row of a row and a position. -/
theorem word_row (n : Fin 51200) (r : Fin 1024) (t : Fin 50) (hn : n.val = t.val * 1024 + r.val) (k : Fin 128) :
    @Eq EReal (E0 m c (Proc.devRef .tc main_v2) (ix2 n k))
      (m (c, Proc.devRef .tc main_arg4) (ix2 (⟨(m (c, Proc.devRef .tc main_arg0) (ix2 r t) : BitVec 32).toNat, hw _⟩ : Fin 100000) k)) := by
  have e : E0 m c (Proc.devRef .tc main_v2) = gathered (tabOf m c) (lstOf m c) := (keepB _ _ (by decide)).trans (WB_out m c)
  rw [e]
  have e1 : lstIx n = ix1 n := by funext a; match a with | ⟨0, _⟩ => rfl
  show tabOf m c (tabIx (lstOf m c (lstIx n)).toNat k) = _
  rw [e1, show tabOf m c = m (c, Proc.devRef .tc main_arg4) from WA_keep m off4 c, lst_apply m c n r t hn]
  refine congrArg (m (c, Proc.devRef .tc main_arg4)) (funext fun a => Fin.ext ?_)
  match a with
  | ⟨0, _⟩ => exact (tabIx_zero _ _).trans (Nat.mod_eq_of_lt (hw _))
  | ⟨1, _⟩ => exact tabIx_one _ _

/-- What the embedding call leaves. -/
theorem emb_eq (n : Fin 51200) (r : Fin 1024) (t : Fin 50) (hn : n.val = t.val * 1024 + r.val) (f : Fin 160) :
    @Eq EReal (R0 m c (Proc.devRef .tc main_v7) (ix2 n f)) (X m c hw ht r t f) := by
  have e : R0 m c (Proc.devRef .tc main_v7) = (Emb.dat (E0 m) c).arrAt 5 cfg1.N := by
    unfold R0; exact Pipeline.afterRegion_arr (Emb.dat (E0 m) c) (E0 m c) launch1.win.arr_inj 5
  rw [e]
  refine (emb_arr (E0 m) c n f).trans ?_
  unfold embAt X feats
  have e4 : @Eq (BitVec 32) (E0 m c (Proc.devRef .tc main_v4) (ix3 (⟨n.val / 2048, by omega⟩ : Fin 25) (⟨n.val % 2048, by omega⟩ : Fin 2048) 0))
      (m (c, Proc.devRef .tc main_arg1) (ix2 r t)) :=
    (b_v4 (WB m c) _ _ r t (by show n.val / 2048 * 2048 + n.val % 2048 = _; omega)).trans (congrFun (WB_keep m off1 c) _)
  have e5 : @Eq EReal (E0 m c (Proc.devRef .tc main_v5) (ix2 0 f)) (m (c, Proc.devRef .tc main_arg6) (ix1 f)) := (b_v5 (WB m c) f).trans (congrFun (WB_keep m off6 c) _)
  have e6 : @Eq EReal (E0 m c (Proc.devRef .tc main_v6) (ix2 0 f)) (m (c, Proc.devRef .tc main_arg7) (ix1 f)) := (b_v6 (WB m c) f).trans (congrFun (WB_keep m off7 c) _)
  rw [e4, e5, e6, show E0 m c (Proc.devRef .tc main_arg5) = _ from E0_keep m off5 c]
  simp only [word_row m c hw n r t hn]
  rw [lnRow_tagK _ _ (ht _) (fun k j => m (c, Proc.devRef .tc main_arg5) (ix2 k j))]

/-- What the recurrence finds. -/
theorem x_eq (t : Fin 50) (r : Fin 1024) (f : Fin 160) : @Eq EReal (E1 m c (Proc.devRef .tc main_v8) (ix3 t r f)) (X m c hw ht r t f) :=
  (c_v8 (R0 m c) t r f ⟨t.val * 1024 + r.val, by omega⟩ rfl).trans (emb_eq m c hw ht _ r t rfl f)
theorem wx0 (k : Fin 160) (n : Fin 512) : @Eq EReal (E1 m c (Proc.devRef .tc main_v11) (ix3 0 k n)) (m (c, Proc.devRef .tc main_arg8) (ix2 k n)) :=
  (c_v11_0 _ k n).trans (congrFun (R0_keep m off8 c) _)
theorem wx1 (k : Fin 160) (n : Fin 512) : @Eq EReal (E1 m c (Proc.devRef .tc main_v11) (ix3 1 k n)) (m (c, Proc.devRef .tc main_arg11) (ix2 k n)) :=
  (c_v11_1 _ k n).trans (congrFun (R0_keep m off11 c) _)
theorem wh0 (k : Fin 128) (n : Fin 512) : @Eq EReal (E1 m c (Proc.devRef .tc main_v14) (ix3 0 k n)) (m (c, Proc.devRef .tc main_arg9) (ix2 k n)) :=
  (c_v14_0 _ k n).trans (congrFun (R0_keep m off9 c) _)
theorem wh1 (k : Fin 128) (n : Fin 512) : @Eq EReal (E1 m c (Proc.devRef .tc main_v14) (ix3 1 k n)) (m (c, Proc.devRef .tc main_arg12) (ix2 k n)) :=
  (c_v14_1 _ k n).trans (congrFun (R0_keep m off12 c) _)
theorem bb0 (n : Fin 512) : @Eq EReal (E1 m c (Proc.devRef .tc main_v18) (ix3 0 0 n)) (m (c, Proc.devRef .tc main_arg10) (ix1 n)) :=
  (c_v18_0 _ n).trans (congrFun (R0_keep m off10 c) _)
theorem bb1 (n : Fin 512) : @Eq EReal (E1 m c (Proc.devRef .tc main_v18) (ix3 1 0 n)) (m (c, Proc.devRef .tc main_arg13) (ix1 n)) :=
  (c_v18_1 _ n).trans (congrFun (R0_keep m off13 c) _)

/-- What the recurrence leaves. -/
theorem lstm_eq (t : Fin 50) (r : Fin 1024) (j : Fin 256) : @Eq EReal (R1 m c (Proc.devRef .tc main_v19) (ix3 t r j)) (C m c hw ht r t j) := by
  have e : R1 m c (Proc.devRef .tc main_v19) = (Lstm.dat (E1 m) c).arrAt 4 cfg2.N := by
    unfold R1; exact Pipeline.afterRegion_arr (Lstm.dat (E1 m) c) (E1 m c) launch2.win.arr_inj 4
  rw [e]
  refine (lstm_arr (E1 m) c t r j).trans ?_
  have ht' := t.isLt
  unfold lstmAt C ctxOf
  have e0 : stK (E1 m) c 0 r (t.val + 1) = states (fun k n => m (c, Proc.devRef .tc main_arg8) (ix2 k n)) (fun k n => m (c, Proc.devRef .tc main_arg9) (ix2 k n))
      (fun n => m (c, Proc.devRef .tc main_arg10) (ix1 n)) (seqOf (X m c hw ht r)) (t.val + 1) := by
    refine states_eq _ (wx0 m c) (wh0 m c) (bb0 m c) fun k hk f => ?_
    show seqOf _ (pos ((0 : Fin 2).val * 50 + k)) f = _
    rw [show pos ((0 : Fin 2).val * 50 + k) = k by unfold pos; rw [if_pos (by simp; omega)]; simp]
    exact seqOf_eq (fun s f => x_eq m c hw ht s r f) _ f
  have e1 : stK (E1 m) c 1 r (49 - t.val + 1) = states (fun k n => m (c, Proc.devRef .tc main_arg11) (ix2 k n)) (fun k n => m (c, Proc.devRef .tc main_arg12) (ix2 k n))
      (fun n => m (c, Proc.devRef .tc main_arg13) (ix1 n)) (fun s => seqOf (X m c hw ht r) (49 - s)) (49 - t.val + 1) := by
    refine states_eq _ (wx1 m c) (wh1 m c) (bb1 m c) fun k hk f => ?_
    show seqOf _ (pos ((1 : Fin 2).val * 50 + k)) f = _
    rw [show pos ((1 : Fin 2).val * 50 + k) = 49 - k by unfold pos; rw [if_neg (by simp)]; simp; omega]
    exact seqOf_eq (fun s f => x_eq m c hw ht s r f) _ f
  rw [e0, e1]

theorem R2_v19 : R2 m c (Proc.devRef .tc main_v19) = R1 m c (Proc.devRef .tc main_v19) :=
  (keepR2 m c main_v19 (by decide)).trans (keepD _ _ (by decide))

theorem ctx_eq (r : Fin 1024) (t : Fin 50) (j : Fin 256) : @Eq EReal (WE m c (Proc.devRef .tc main_v28) (ix3 r t j)) (C m c hw ht r t j) := by
  refine (e_v28 (R2 m c) r t j).trans ?_
  rw [R2_v19]
  exact lstm_eq m c hw ht t r j

/-- What the head finds, and makes of it. -/
theorem head_eq (n : Fin 51200) (r : Fin 1024) (t : Fin 50) (hn : n.val = t.val * 1024 + r.val) : headAt (E2 m) c n = L m c hw ht r t := by
  funext l
  unfold headAt L
  have e0 : ∀ i, @Eq EReal (E2 m c (Proc.devRef .tc main_v23) (ix2 n i)) (C m c hw ht r t i) :=
    fun i => (d_v23 (R1 m c) _ i t r hn).trans (lstm_eq m c hw ht t r i)
  have e1 : ∀ k, @Eq EReal (E2 m c (Proc.devRef .tc main_v24) (ix2 0 k)) (m (c, Proc.devRef .tc main_arg15) (ix1 k)) :=
    fun k => (d_v24 (R1 m c) k).trans (congrFun (R1_keep m off15 c) _)
  have e2 : ∀ k, @Eq EReal (E2 m c (Proc.devRef .tc main_v25) (ix2 0 k)) (m (c, Proc.devRef .tc main_arg17) (ix1 k)) :=
    fun k => (d_v25 (R1 m c) k).trans (congrFun (R1_keep m off17 c) _)
  rw [show E2 m c (Proc.devRef .tc main_arg14) = _ from E2_keep m off14 c, show E2 m c (Proc.devRef .tc main_arg16) = _ from E2_keep m off16 c]
  simp only [e0, e1, e2]

theorem logits_eq (r : Fin 1024) (t : Fin 50) (l : Fin 48) : @Eq EReal (WE m c (Proc.devRef .tc main_v32) (ix3 r t l)) (L m c hw ht r t l) := by
  refine (e_v32 (R2 m c) r t l ⟨t.val * 1024 + r.val, by omega⟩ rfl).trans ?_
  have e : R2 m c (Proc.devRef .tc main_v27_0) = (Head.dat (E2 m) c).arrAt 8 cfg3.N := by
    unfold R2; exact Pipeline.afterRegion_arr (Head.dat (E2 m) c) (E2 m c) launch3.win.arr_inj 8
  rw [e]
  exact (head_arr (E2 m) c _ l).trans (congrFun (head_eq m c hw ht _ r t rfl) l)

/-- The label and the word that the head finds at a position. -/
theorem label_eq (n : Fin 51200) (r : Fin 1024) (t : Fin 50) (hn : n.val = t.val * 1024 + r.val) :
    labelAt (E2 m) c n = m (c, Proc.devRef .tc main_arg2) (ix2 r t) :=
  (d_v21 (R1 m c) _ _ r t (by show n.val / 2048 * 2048 + n.val % 2048 = _; omega)).trans (congrFun (R1_keep m off2 c) _)

theorem lst_keep : R1 m c (Proc.devRef .tc main_v1) = lstOf m c :=
  (keepR1 m c main_v1 (by decide)).trans ((keepC _ _ (by decide)).trans ((keepR0 m c main_v1 (by decide)).trans
    ((keepB _ _ (by decide)).trans (WB_off m c _ (by decide)))))

theorem word_eq (n : Fin 51200) (r : Fin 1024) (t : Fin 50) (hn : n.val = t.val * 1024 + r.val) :
    wordAt (E2 m) c n = m (c, Proc.devRef .tc main_arg0) (ix2 r t) :=
  (d_v22 (R1 m c) _ _ n (by show n.val = n.val / 2048 * 2048 + n.val % 2048; omega)).trans
    ((congrFun (lst_keep m c) (ix1 n)).trans (lst_apply m c n r t hn))

theorem pred_eq (r : Fin 1024) (t : Fin 50) : @Eq (BitVec 32) (WE m c (Proc.devRef .tc main_v30) (ix2 r t)) (pick (L m c hw ht r t)) := by
  have hr := r.isLt
  have ht' := t.isLt
  refine (e_v30 (R2 m c) r t ⟨(t.val * 1024 + r.val) / 2048, by omega⟩ ⟨(t.val * 1024 + r.val) % 2048, by omega⟩
    (by show (t.val * 1024 + r.val) / 2048 * 2048 + (t.val * 1024 + r.val) % 2048 = _; omega)).trans ?_
  have e : R2 m c (Proc.devRef .tc main_v27_1) = (Head.dat (E2 m) c).arrAt 9 cfg3.N := by
    unfold R2; exact Pipeline.afterRegion_arr (Head.dat (E2 m) c) (E2 m c) launch3.win.arr_inj 9
  rw [e]
  refine (pred_arr (E2 m) c _ _ ⟨t.val * 1024 + r.val, by omega⟩ (by show t.val * 1024 + r.val = (t.val * 1024 + r.val) / 2048 * 2048 + (t.val * 1024 + r.val) % 2048; omega)).trans ?_
  rw [head_eq m c hw ht _ r t rfl]

theorem correct_eq (i : S_.Idx) : @Eq (BitVec 32) (WE m c (Proc.devRef .tc main_v35) i)
    (∑ r, ∑ t, right (L m c hw ht r t) (m (c, Proc.devRef .tc main_arg2) (ix2 r t)) (m (c, Proc.devRef .tc main_arg0) (ix2 r t))) := by
  refine (e_v35 (R2 m c) i).trans ?_
  have e : R2 m c (Proc.devRef .tc main_v27_4) = (Head.dat (E2 m) c).arrAt 12 cfg3.N := by
    unfold R2; exact Pipeline.afterRegion_arr (Head.dat (E2 m) c) (E2 m c) launch3.win.arr_inj 12
  rw [e]
  refine (corr_arr (E2 m) c).trans (sum_turn _ _ fun r t => ?_)
  have hr := r.isLt
  have ht' := t.isLt
  unfold rightAt
  rw [dif_pos (by omega), head_eq m c hw ht _ r t rfl, label_eq m c _ r t rfl, word_eq m c _ r t rfl]

/-- The loss, where the head's outputs are real and the labels are labels. -/
theorem loss_eq (hL : ∀ r t l, IsReal (L m c hw ht r t l)) (hl : ∀ i, (m (c, Proc.devRef .tc main_arg2) i : BitVec 32).toNat < 48) (i : S_.Idx) :
    @Eq EReal (WE m c (Proc.devRef .tc main_v33) i)
      (lossOf (L m c hw ht) (fun r t => m (c, Proc.devRef .tc main_arg2) (ix2 r t)) (fun r t => m (c, Proc.devRef .tc main_arg0) (ix2 r t))) := by
  have hn : ∀ n, (h : n < 51200) → lossAt (E2 m) c n = nll (L m c hw ht ⟨n % 1024, by omega⟩ ⟨n / 1024, by omega⟩)
      (m (c, Proc.devRef .tc main_arg2) (ix2 (⟨n % 1024, by omega⟩ : Fin 1024) (⟨n / 1024, by omega⟩ : Fin 50)))
      (m (c, Proc.devRef .tc main_arg0) (ix2 (⟨n % 1024, by omega⟩ : Fin 1024) (⟨n / 1024, by omega⟩ : Fin 50))) := by
    intro n h
    have hd : n = n / 1024 * 1024 + n % 1024 := by omega
    unfold lossAt
    rw [dif_pos h, head_eq m c hw ht ⟨n, h⟩ ⟨n % 1024, by omega⟩ ⟨n / 1024, by omega⟩ hd, label_eq m c ⟨n, h⟩ ⟨n % 1024, by omega⟩ ⟨n / 1024, by omega⟩ hd,
      word_eq m c ⟨n, h⟩ ⟨n % 1024, by omega⟩ ⟨n / 1024, by omega⟩ hd]
  have hreal : ∀ n, IsReal (lossAt (E2 m) c n) := by
    intro n
    by_cases h : n < 51200
    · rw [hn n h]
      exact nll_isReal _ (hL _ _) _ _ (hl _)
    · unfold lossAt
      rw [dif_neg h]
      exact ⟨0, rfl⟩
  refine (e_v33 (R2 m c) i).trans ?_
  have e : R2 m c (Proc.devRef .tc main_v27_2) = (Head.dat (E2 m) c).arrAt 10 cfg3.N := by
    unfold R2; exact Pipeline.afterRegion_arr (Head.dat (E2 m) c) (E2 m c) launch3.win.arr_inj 10
  rw [e]
  refine (loss_arr (E2 m) c hreal).trans ?_
  unfold lossOf
  refine congrArg (fun s => Ideal.div s (Ideal.ofBits FTy.f32 1149239296#32)) (sum_turn _ _ fun r t => ?_)
  have hr := r.isLt
  have ht' := t.isLt
  unfold lossAt
  rw [dif_pos (by omega), head_eq m c hw ht _ r t rfl, label_eq m c _ r t rfl, word_eq m c _ r t rfl]

theorem total_eq (i : S_.Idx) : @Eq (BitVec 32) (WE m c (Proc.devRef .tc main_v34) i) (S m c) := by
  refine (e_v34 (R2 m c) i).trans ?_
  have e : R2 m c (Proc.devRef .tc main_v27_3) = (Head.dat (E2 m) c).arrAt 11 cfg3.N := by
    unfold R2; exact Pipeline.afterRegion_arr (Head.dat (E2 m) c) (E2 m c) launch3.win.arr_inj 11
  rw [e]
  refine (total_arr (E2 m) c).trans ?_
  have e0 : ∀ k, @Eq (BitVec 32) (E2 m c (Proc.devRef .tc main_v26) (ix2 0 k)) (m (c, Proc.devRef .tc main_arg3) (ix1 k)) :=
    fun k => (d_v26 (R1 m c) k).trans (congrFun (R1_keep m off3 c) _)
  simp only [e0]

end Cert.Proof.Val.K
-- ==== Proof.Val.RefStep.lean ====
/-
  One step of each of the reference's two loops, read at an index: the state and the rows it leaves, as the step of one
  row of the batch gives them.
-/
module

public import proofs.«01_k».proof.Proof.RI.Ops
public import proofs.«01_k».proof.Proof.Val.Cell
public import Idealize.ShloMosaic.Lib.DynamicIndex

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

variable (V : Valuation τ sig (Elt Ideal))

theorem dite_iff {α : Type} {p q : Prop} [Decidable p] [Decidable q] (e : p ↔ q) {x : p → α} {y : ¬ p → α} {x' y' : α}
    (hx : ∀ h, x h = x') (hy : ∀ h, y h = y') : (if h : p then x h else y h) = if q then x' else y' := by
  by_cases h : p
  · rw [dif_pos h, if_pos (e.1 h), hx]
  · rw [dif_neg h, if_neg fun hq => h (e.2 hq), hy]

theorem clampIn (w z z' : IVec S_ 32) (n : ℕ) (hn : n < 50) (hw : ∀ i, w i = BitVec.ofNat 32 n) (hr) :
    Host.clampedStart S50x1024x160 S1x1024x160 hr (fun a => BitVec.toInt ((![w, z, z'] : Fin 3 → IVec S_ 32) a (Shape.Idx.first h_S_))) (0 : Fin 3) = n := by
  show (min (max (BitVec.toInt (w (Shape.Idx.first h_S_))) 0) ((50 - 1 : ℕ) : ℤ)).toNat = n
  rw [hw, toInt_ofNat_of_lt (by omega)]; omega
theorem clampIn1 (w z : IVec S_ 32) (hr) :
    Host.clampedStart S50x1024x160 S1x1024x160 hr (fun a => BitVec.toInt ((![w, constantI S_ 32 0#32, z] : Fin 3 → IVec S_ 32) a (Shape.Idx.first h_S_))) (1 : Fin 3) = 0 := rfl
theorem clampIn2 (w z : IVec S_ 32) (hr) :
    Host.clampedStart S50x1024x160 S1x1024x160 hr (fun a => BitVec.toInt ((![w, z, constantI S_ 32 0#32] : Fin 3 → IVec S_ 32) a (Shape.Idx.first h_S_))) (2 : Fin 3) = 0 := rfl
theorem clampOut (w z z' : IVec S_ 32) (n : ℕ) (hn : n < 50) (hw : ∀ i, w i = BitVec.ofNat 32 n) (hr) :
    Host.clampedStart S50x1024x128 S1x1024x128 hr (fun a => BitVec.toInt ((![w, z, z'] : Fin 3 → IVec S_ 32) a (Shape.Idx.first h_S_))) (0 : Fin 3) = n := by
  show (min (max (BitVec.toInt (w (Shape.Idx.first h_S_))) 0) ((50 - 1 : ℕ) : ℤ)).toNat = n
  rw [hw, toInt_ofNat_of_lt (by omega)]; omega
theorem clampOut1 (w z : IVec S_ 32) (hr) :
    Host.clampedStart S50x1024x128 S1x1024x128 hr (fun a => BitVec.toInt ((![w, constantI S_ 32 0#32, z] : Fin 3 → IVec S_ 32) a (Shape.Idx.first h_S_))) (1 : Fin 3) = 0 := rfl
theorem clampOut2 (w z : IVec S_ 32) (hr) :
    Host.clampedStart S50x1024x128 S1x1024x128 hr (fun a => BitVec.toInt ((![w, z, constantI S_ 32 0#32] : Fin 3 → IVec S_ 32) a (Shape.Idx.first h_S_))) (2 : Fin 3) = 0 := rfl

/-! ## Forwards -/

theorem b0_h (k : ℕ) (hk : k < 50) (hc : V (Proc.devRef .tc main_v25_4) = (fun _ => BitVec.ofNat 32 k : S_.Idx → BitVec 32)) (r : Fin 1024) (j : Fin 128) :
    @Eq EReal (after opsB0 V (Proc.devRef .tc main_v25_5) (ix2 r j))
      (hNew (fun k n => V (Proc.devRef .tc main_v25_1) (ix2 k n)) (fun k n => V (Proc.devRef .tc main_v25_2) (ix2 k n))
        (fun n => V (Proc.devRef .tc main_v25_3) (ix1 n)) (fun f => V (Proc.devRef .tc main_v25_0) (ix3 ⟨k, hk⟩ r f))
        (fun k => V (Proc.devRef .tc main_v25_5) (ix2 r k)) (fun k => V (Proc.devRef .tc main_v25_6) (ix2 r k)) j) := by
  after_reads_simp [unaryIndexed_result_read, indexContents_tref_cons, indexContents_tref_empty]
  pointwise [TRef.ofBuf, TRef.toBuf, cast_eq, id_eq, hNew, cNew, gate, Ideal.logistic, hc]
  simp only [clampIn _ _ _ k hk (fun _ => rfl), clampIn1, clampIn2, Nat.zero_add, Fin.eta]

theorem b0_c (k : ℕ) (hk : k < 50) (hc : V (Proc.devRef .tc main_v25_4) = (fun _ => BitVec.ofNat 32 k : S_.Idx → BitVec 32)) (r : Fin 1024) (j : Fin 128) :
    @Eq EReal (after opsB0 V (Proc.devRef .tc main_v25_6) (ix2 r j))
      (cNew (fun k n => V (Proc.devRef .tc main_v25_1) (ix2 k n)) (fun k n => V (Proc.devRef .tc main_v25_2) (ix2 k n))
        (fun n => V (Proc.devRef .tc main_v25_3) (ix1 n)) (fun f => V (Proc.devRef .tc main_v25_0) (ix3 ⟨k, hk⟩ r f))
        (fun k => V (Proc.devRef .tc main_v25_5) (ix2 r k)) (fun k => V (Proc.devRef .tc main_v25_6) (ix2 r k)) j) := by
  after_reads_simp [unaryIndexed_result_read, indexContents_tref_cons, indexContents_tref_empty]
  pointwise [TRef.ofBuf, TRef.toBuf, cast_eq, id_eq, cNew, gate, Ideal.logistic, hc]
  simp only [clampIn _ _ _ k hk (fun _ => rfl), clampIn1, clampIn2, Nat.zero_add, Fin.eta]

theorem b0_y (k : ℕ) (hk : k < 50) (hc : V (Proc.devRef .tc main_v25_4) = (fun _ => BitVec.ofNat 32 k : S_.Idx → BitVec 32)) (t : Fin 50) (r : Fin 1024) (j : Fin 128) :
    @Eq EReal (after opsB0 V (Proc.devRef .tc main_v25_7) (ix3 t r j))
      (if t.val = k then hNew (fun k n => V (Proc.devRef .tc main_v25_1) (ix2 k n)) (fun k n => V (Proc.devRef .tc main_v25_2) (ix2 k n))
        (fun n => V (Proc.devRef .tc main_v25_3) (ix1 n)) (fun f => V (Proc.devRef .tc main_v25_0) (ix3 ⟨k, hk⟩ r f))
        (fun k => V (Proc.devRef .tc main_v25_5) (ix2 r k)) (fun k => V (Proc.devRef .tc main_v25_6) (ix2 r k)) j
       else V (Proc.devRef .tc main_v25_7) (ix3 t r j)) := by
  after_reads_simp [unaryIndexed_result_read, binaryIndexed_result_read, indexContents_tref_cons, indexContents_tref_empty]
  pointwise [TRef.ofBuf, TRef.toBuf, cast_eq, id_eq, hNew, cNew, gate, Ideal.logistic, hc]
  simp only [clampIn _ _ _ k hk (fun _ => rfl), clampIn1, clampIn2, clampOut _ _ _ k hk (fun _ => rfl), clampOut1, clampOut2, Nat.zero_add, Fin.eta, Nat.sub_zero, Nat.zero_le, Fin.is_lt, and_true, true_and]
  exact dite_iff (p := k ≤ t.val ∧ t.val < k + 1) (q := t.val = k) ⟨fun h => by omega, fun h => by omega⟩ (fun _ => rfl) fun _ => rfl

/-! ## Backwards -/

/-- The position a backward step works at. -/
theorem back (k : ℕ) (hk : k < 50) (i : S_.Idx) :
    subi (subi (constantI S_ 32 50#32) (fun _ => BitVec.ofNat 32 k)) (constantI S_ 32 1#32) i = BitVec.ofNat 32 (49 - k) := by
  apply BitVec.eq_of_toNat_eq
  simp only [subi, constantI, IntOp.subi, BitVec.toNat_sub, BitVec.toNat_ofNat]
  omega

theorem b1_h (k : ℕ) (hk : k < 50) (hc : V (Proc.devRef .tc main_v31_4) = (fun _ => BitVec.ofNat 32 k : S_.Idx → BitVec 32)) (r : Fin 1024) (j : Fin 128) :
    @Eq EReal (after opsB1 V (Proc.devRef .tc main_v31_5) (ix2 r j))
      (hNew (fun k n => V (Proc.devRef .tc main_v31_1) (ix2 k n)) (fun k n => V (Proc.devRef .tc main_v31_2) (ix2 k n))
        (fun n => V (Proc.devRef .tc main_v31_3) (ix1 n)) (fun f => V (Proc.devRef .tc main_v31_0) (ix3 ⟨49 - k, by omega⟩ r f))
        (fun k => V (Proc.devRef .tc main_v31_5) (ix2 r k)) (fun k => V (Proc.devRef .tc main_v31_6) (ix2 r k)) j) := by
  after_reads_simp [unaryIndexed_result_read, indexContents_tref_cons, indexContents_tref_empty]
  pointwise [TRef.ofBuf, TRef.toBuf, cast_eq, id_eq, hNew, cNew, gate, Ideal.logistic, hc]
  simp only [clampIn _ _ _ (49 - k) (by omega) (back k hk), clampIn1, clampIn2, Nat.zero_add, Fin.eta]

theorem b1_c (k : ℕ) (hk : k < 50) (hc : V (Proc.devRef .tc main_v31_4) = (fun _ => BitVec.ofNat 32 k : S_.Idx → BitVec 32)) (r : Fin 1024) (j : Fin 128) :
    @Eq EReal (after opsB1 V (Proc.devRef .tc main_v31_6) (ix2 r j))
      (cNew (fun k n => V (Proc.devRef .tc main_v31_1) (ix2 k n)) (fun k n => V (Proc.devRef .tc main_v31_2) (ix2 k n))
        (fun n => V (Proc.devRef .tc main_v31_3) (ix1 n)) (fun f => V (Proc.devRef .tc main_v31_0) (ix3 ⟨49 - k, by omega⟩ r f))
        (fun k => V (Proc.devRef .tc main_v31_5) (ix2 r k)) (fun k => V (Proc.devRef .tc main_v31_6) (ix2 r k)) j) := by
  after_reads_simp [unaryIndexed_result_read, indexContents_tref_cons, indexContents_tref_empty]
  pointwise [TRef.ofBuf, TRef.toBuf, cast_eq, id_eq, cNew, gate, Ideal.logistic, hc]
  simp only [clampIn _ _ _ (49 - k) (by omega) (back k hk), clampIn1, clampIn2, Nat.zero_add, Fin.eta]

theorem b1_y (k : ℕ) (hk : k < 50) (hc : V (Proc.devRef .tc main_v31_4) = (fun _ => BitVec.ofNat 32 k : S_.Idx → BitVec 32)) (t : Fin 50) (r : Fin 1024) (j : Fin 128) :
    @Eq EReal (after opsB1 V (Proc.devRef .tc main_v31_7) (ix3 t r j))
      (if t.val = 49 - k then hNew (fun k n => V (Proc.devRef .tc main_v31_1) (ix2 k n)) (fun k n => V (Proc.devRef .tc main_v31_2) (ix2 k n))
        (fun n => V (Proc.devRef .tc main_v31_3) (ix1 n)) (fun f => V (Proc.devRef .tc main_v31_0) (ix3 ⟨49 - k, by omega⟩ r f))
        (fun k => V (Proc.devRef .tc main_v31_5) (ix2 r k)) (fun k => V (Proc.devRef .tc main_v31_6) (ix2 r k)) j
       else V (Proc.devRef .tc main_v31_7) (ix3 t r j)) := by
  after_reads_simp [unaryIndexed_result_read, binaryIndexed_result_read, indexContents_tref_cons, indexContents_tref_empty]
  pointwise [TRef.ofBuf, TRef.toBuf, cast_eq, id_eq, hNew, cNew, gate, Ideal.logistic, hc]
  simp only [clampIn _ _ _ (49 - k) (by omega) (back k hk), clampIn1, clampIn2, clampOut _ _ _ (49 - k) (by omega) (back k hk), clampOut1, clampOut2, Nat.zero_add, Fin.eta, Nat.sub_zero, Nat.zero_le, Fin.is_lt, and_true, true_and]
  exact dite_iff (p := 49 - k ≤ t.val ∧ t.val < 49 - k + 1) (q := t.val = 49 - k) ⟨fun h => by omega, fun h => by omega⟩ (fun _ => rfl) fun _ => rfl

end Cert.Proof.Val

end
-- ==== Proof.Val.RefLines.lean ====
/-
  The reference's host lines around the loops and the head, read at an index.
-/
module

public import proofs.«01_k».proof.Proof.RI.Ops
public import proofs.«01_k».proof.Proof.Val.Cell
public import proofs.«01_k».proof.Proof.Val.Norm

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

variable (V : Valuation τ sig (Elt Ideal))

theorem p3_x (t : Fin 50) (r : Fin 1024) (f : Fin 160) : @Eq EReal (after opsP3 V (Proc.devRef .tc main_v25_0) (ix3 t r f)) (V (Proc.devRef .tc main_v20) (ix3 r t f)) := by
  after_reads_simp; pointwise [id_eq]
theorem p3_wx (k : Fin 160) (n : Fin 512) : @Eq EReal (after opsP3 V (Proc.devRef .tc main_v25_1) (ix2 k n)) (V (Proc.devRef .tc main_arg8) (ix2 k n)) := by
  after_reads_simp; pointwise [id_eq]
theorem p3_wh (k : Fin 128) (n : Fin 512) : @Eq EReal (after opsP3 V (Proc.devRef .tc main_v25_2) (ix2 k n)) (V (Proc.devRef .tc main_arg9) (ix2 k n)) := by
  after_reads_simp; pointwise [id_eq]
theorem p3_b (n : Fin 512) : @Eq EReal (after opsP3 V (Proc.devRef .tc main_v25_3) (ix1 n)) (V (Proc.devRef .tc main_arg10) (ix1 n)) := by
  after_reads_simp; pointwise [id_eq]
theorem p3_h (r : Fin 1024) (j : Fin 128) : @Eq EReal (after opsP3 V (Proc.devRef .tc main_v25_5) (ix2 r j)) 0 := by
  after_reads_simp; pointwise [id_eq]
theorem p3_c (r : Fin 1024) (j : Fin 128) : @Eq EReal (after opsP3 V (Proc.devRef .tc main_v25_6) (ix2 r j)) 0 := by
  after_reads_simp; pointwise [id_eq]

theorem m_f (r : Fin 1024) (t : Fin 50) (j : Fin 128) : @Eq EReal (after opsM V (Proc.devRef .tc main_v26) (ix3 r t j)) (V (Proc.devRef .tc main_v25_7) (ix3 t r j)) := by
  after_reads_simp; pointwise [id_eq]
theorem m_x (t : Fin 50) (r : Fin 1024) (f : Fin 160) : @Eq EReal (after opsM V (Proc.devRef .tc main_v31_0) (ix3 t r f)) (V (Proc.devRef .tc main_v20) (ix3 r t f)) := by
  after_reads_simp; pointwise [id_eq]
theorem m_wx (k : Fin 160) (n : Fin 512) : @Eq EReal (after opsM V (Proc.devRef .tc main_v31_1) (ix2 k n)) (V (Proc.devRef .tc main_arg11) (ix2 k n)) := by
  after_reads_simp; pointwise [id_eq]
theorem m_wh (k : Fin 128) (n : Fin 512) : @Eq EReal (after opsM V (Proc.devRef .tc main_v31_2) (ix2 k n)) (V (Proc.devRef .tc main_arg12) (ix2 k n)) := by
  after_reads_simp; pointwise [id_eq]
theorem m_b (n : Fin 512) : @Eq EReal (after opsM V (Proc.devRef .tc main_v31_3) (ix1 n)) (V (Proc.devRef .tc main_arg13) (ix1 n)) := by
  after_reads_simp; pointwise [id_eq]
theorem m_h (r : Fin 1024) (j : Fin 128) : @Eq EReal (after opsM V (Proc.devRef .tc main_v31_5) (ix2 r j)) 0 := by
  after_reads_simp; pointwise [id_eq]
theorem m_c (r : Fin 1024) (j : Fin 128) : @Eq EReal (after opsM V (Proc.devRef .tc main_v31_6) (ix2 r j)) 0 := by
  after_reads_simp; pointwise [id_eq]

theorem q1_ctx (r : Fin 1024) (t : Fin 50) (j : Fin 256) :
    @Eq EReal (after opsQ1 V (Proc.devRef .tc main_v33) (ix3 r t j))
      (sides (fun j => V (Proc.devRef .tc main_v26) (ix3 r t j)) (fun j => V (Proc.devRef .tc main_v31_7) (ix3 t r j)) j) := by
  after_reads_simp; pointwise [id_eq, sides]; try rfl

theorem split50 (r : Fin 1024) (t : Fin 50) (h h') :
    (ix3 (⟨(r.val * 50 + t.val) / 50, h⟩ : Fin 1024) (⟨(r.val * 50 + t.val) % 50, h'⟩ : Fin 50) : Fin 256 → S1024x50x256.Idx) = ix3 r t := by
  have e1 : (⟨(r.val * 50 + t.val) / 50, h⟩ : Fin 1024) = r := by apply Fin.ext; show (r.val * 50 + t.val) / 50 = r.val; omega
  have e2 : (⟨(r.val * 50 + t.val) % 50, h'⟩ : Fin 50) = t := by apply Fin.ext; show (r.val * 50 + t.val) % 50 = t.val; omega
  rw [e1, e2]

theorem q2_logits (r : Fin 1024) (t : Fin 50) (l : Fin 48) :
    @Eq EReal (after opsQ2 V (Proc.devRef .tc main_v48) (ix3 r t l))
      (headRow (fun i => V (Proc.devRef .tc main_v33) (ix3 r t i)) (fun i k => V (Proc.devRef .tc main_arg14) (ix2 i k))
        (fun k => V (Proc.devRef .tc main_arg15) (ix1 k)) (fun k l => V (Proc.devRef .tc main_arg16) (ix2 k l))
        (fun l => V (Proc.devRef .tc main_arg17) (ix1 l)) l) := by
  after_reads_simp; pointwise [TRef.ofBuf, TRef.toBuf, cast_eq, id_eq, headRow]
  simp only [split50]

theorem q6_total (i : S_.Idx) :
    @Eq (BitVec 32) (after opsQ6 V (Proc.devRef .tc main_v64) i)
      (Finset.fold IntOp.addi (0#32) (fun k : Fin 1024 => (V (Proc.devRef .tc main_arg3) (ix1 k) : BitVec 32)) Finset.univ) := by
  after_reads_simp; pointwise [TRef.ofBuf, TRef.toBuf, cast_eq, id_eq]
-- ==== Proof.Val.RefLoop.lean ====
/-
  The reference's two loops, run: the state after `k` steps, and the rows written so far, on one row of the batch.
-/
module

public import proofs.«01_k».proof.Proof.RI.Run
public import proofs.«01_k».proof.Proof.Val.RefStep
public import proofs.«01_k».proof.Proof.Val.RefLines

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

section Loops

variable (m : (ℓ : Loc nD τ sig) → Buf (Elt Ideal) ℓ) (c : Dev nD)

/-- The first loop's states on row `r`. -/
abbrev st0 (r : Fin 1024) : ℕ → (Fin 128 → EReal) × (Fin 128 → EReal) :=
  states (fun k n => entry0 m c (Proc.devRef .tc main_v25_1) (ix2 k n)) (fun k n => entry0 m c (Proc.devRef .tc main_v25_2) (ix2 k n))
    (fun n => entry0 m c (Proc.devRef .tc main_v25_3) (ix1 n)) (seqOf fun s f => entry0 m c (Proc.devRef .tc main_v25_0) (ix3 s r f))

theorem loop0 (r : Fin 1024) : ∀ k, k ≤ 50 →
    (∀ j : Fin 128, @Eq EReal (trip0 m k c (Proc.devRef .tc main_v25_5) (ix2 r j)) ((st0 m c r k).1 j))
    ∧ (∀ j : Fin 128, @Eq EReal (trip0 m k c (Proc.devRef .tc main_v25_6) (ix2 r j)) ((st0 m c r k).2 j))
    ∧ ∀ t : Fin 50, t.val < k → ∀ j : Fin 128, @Eq EReal (trip0 m k c (Proc.devRef .tc main_v25_7) (ix3 t r j)) ((st0 m c r (t.val + 1)).1 j)
  | 0, _ => ⟨fun j => p3_h _ r j, fun j => p3_c _ r j, fun t ht => absurd ht (Nat.not_lt_zero _)⟩
  | k + 1, hk => by
    obtain ⟨ih5, ih6, ih7⟩ := loop0 r k (by omega)
    rw [trip0_succ]
    have hc : after opsC0 (trip0 m k c) (Proc.devRef .tc main_v25_4) = (fun _ => BitVec.ofNat 32 k : S_.Idx → BitVec 32) :=
      (keepC0 _ (by decide +kernel)).trans (trip0_ctr m c k)
    have k0 : after opsC0 (trip0 m k c) (Proc.devRef .tc main_v25_0) = entry0 m c (Proc.devRef .tc main_v25_0) :=
      (keepC0 _ (by decide +kernel)).trans (trip0_keep m (by decide +kernel) (by decide +kernel) c k)
    have k1 : after opsC0 (trip0 m k c) (Proc.devRef .tc main_v25_1) = entry0 m c (Proc.devRef .tc main_v25_1) :=
      (keepC0 _ (by decide +kernel)).trans (trip0_keep m (by decide +kernel) (by decide +kernel) c k)
    have k2 : after opsC0 (trip0 m k c) (Proc.devRef .tc main_v25_2) = entry0 m c (Proc.devRef .tc main_v25_2) :=
      (keepC0 _ (by decide +kernel)).trans (trip0_keep m (by decide +kernel) (by decide +kernel) c k)
    have k3 : after opsC0 (trip0 m k c) (Proc.devRef .tc main_v25_3) = entry0 m c (Proc.devRef .tc main_v25_3) :=
      (keepC0 _ (by decide +kernel)).trans (trip0_keep m (by decide +kernel) (by decide +kernel) c k)
    have k5 : after opsC0 (trip0 m k c) (Proc.devRef .tc main_v25_5) = trip0 m k c (Proc.devRef .tc main_v25_5) := keepC0 _ (by decide +kernel)
    have k6 : after opsC0 (trip0 m k c) (Proc.devRef .tc main_v25_6) = trip0 m k c (Proc.devRef .tc main_v25_6) := keepC0 _ (by decide +kernel)
    have k7 : after opsC0 (trip0 m k c) (Proc.devRef .tc main_v25_7) = trip0 m k c (Proc.devRef .tc main_v25_7) := keepC0 _ (by decide +kernel)
    generalize after opsC0 (trip0 m k c) = V at hc k0 k1 k2 k3 k5 k6 k7
    have hh : ∀ j, @Eq EReal (after opsB0 V (Proc.devRef .tc main_v25_5) (ix2 r j)) ((st0 m c r (k + 1)).1 j) := by
      intro j
      refine (b0_h V k hk hc r j).trans ?_
      rw [k0, k1, k2, k3, k5, k6]
      simp only [ih5, ih6, states, seqOf_lt _ (show k < 50 from hk)]
    refine ⟨hh, fun j => ?_, fun t ht j => ?_⟩
    · refine (b0_c V k hk hc r j).trans ?_
      rw [k0, k1, k2, k3, k5, k6]
      simp only [ih5, ih6, states, seqOf_lt _ (show k < 50 from hk)]
    · refine (b0_y V k hk hc t r j).trans ?_
      by_cases h : t.val = k
      · rw [if_pos h, h]
        exact (b0_h V k hk hc r j).symm.trans (hh j)
      · rw [if_neg h, k7]
        exact ih7 t (by omega) j

/-- The second loop's states on row `r`: the sequence from its end. -/
abbrev st1 (r : Fin 1024) : ℕ → (Fin 128 → EReal) × (Fin 128 → EReal) :=
  states (fun k n => entry1 m c (Proc.devRef .tc main_v31_1) (ix2 k n)) (fun k n => entry1 m c (Proc.devRef .tc main_v31_2) (ix2 k n))
    (fun n => entry1 m c (Proc.devRef .tc main_v31_3) (ix1 n)) (fun s => seqOf (fun s f => entry1 m c (Proc.devRef .tc main_v31_0) (ix3 s r f)) (49 - s))

theorem loop1 (r : Fin 1024) : ∀ k, k ≤ 50 →
    (∀ j : Fin 128, @Eq EReal (trip1 m k c (Proc.devRef .tc main_v31_5) (ix2 r j)) ((st1 m c r k).1 j))
    ∧ (∀ j : Fin 128, @Eq EReal (trip1 m k c (Proc.devRef .tc main_v31_6) (ix2 r j)) ((st1 m c r k).2 j))
    ∧ ∀ t : Fin 50, 49 - t.val < k → ∀ j : Fin 128, @Eq EReal (trip1 m k c (Proc.devRef .tc main_v31_7) (ix3 t r j)) ((st1 m c r (49 - t.val + 1)).1 j)
  | 0, _ => ⟨fun j => m_h _ r j, fun j => m_c _ r j, fun t ht => absurd ht (Nat.not_lt_zero _)⟩
  | k + 1, hk => by
    obtain ⟨ih5, ih6, ih7⟩ := loop1 r k (by omega)
    rw [trip1_succ]
    have hc : after opsC1 (trip1 m k c) (Proc.devRef .tc main_v31_4) = (fun _ => BitVec.ofNat 32 k : S_.Idx → BitVec 32) :=
      (keepC1 _ (by decide +kernel)).trans (trip1_ctr m c k)
    have k0 : after opsC1 (trip1 m k c) (Proc.devRef .tc main_v31_0) = entry1 m c (Proc.devRef .tc main_v31_0) :=
      (keepC1 _ (by decide +kernel)).trans (trip1_keep m (by decide +kernel) (by decide +kernel) c k)
    have k1 : after opsC1 (trip1 m k c) (Proc.devRef .tc main_v31_1) = entry1 m c (Proc.devRef .tc main_v31_1) :=
      (keepC1 _ (by decide +kernel)).trans (trip1_keep m (by decide +kernel) (by decide +kernel) c k)
    have k2 : after opsC1 (trip1 m k c) (Proc.devRef .tc main_v31_2) = entry1 m c (Proc.devRef .tc main_v31_2) :=
      (keepC1 _ (by decide +kernel)).trans (trip1_keep m (by decide +kernel) (by decide +kernel) c k)
    have k3 : after opsC1 (trip1 m k c) (Proc.devRef .tc main_v31_3) = entry1 m c (Proc.devRef .tc main_v31_3) :=
      (keepC1 _ (by decide +kernel)).trans (trip1_keep m (by decide +kernel) (by decide +kernel) c k)
    have k5 : after opsC1 (trip1 m k c) (Proc.devRef .tc main_v31_5) = trip1 m k c (Proc.devRef .tc main_v31_5) := keepC1 _ (by decide +kernel)
    have k6 : after opsC1 (trip1 m k c) (Proc.devRef .tc main_v31_6) = trip1 m k c (Proc.devRef .tc main_v31_6) := keepC1 _ (by decide +kernel)
    have k7 : after opsC1 (trip1 m k c) (Proc.devRef .tc main_v31_7) = trip1 m k c (Proc.devRef .tc main_v31_7) := keepC1 _ (by decide +kernel)
    generalize after opsC1 (trip1 m k c) = V at hc k0 k1 k2 k3 k5 k6 k7
    have hh : ∀ j, @Eq EReal (after opsB1 V (Proc.devRef .tc main_v31_5) (ix2 r j)) ((st1 m c r (k + 1)).1 j) := by
      intro j
      refine (b1_h V k hk hc r j).trans ?_
      rw [k0, k1, k2, k3, k5, k6]
      simp only [ih5, ih6, states, seqOf_lt _ (show 49 - k < 50 by omega)]
    refine ⟨hh, fun j => ?_, fun t ht j => ?_⟩
    · refine (b1_c V k hk hc r j).trans ?_
      rw [k0, k1, k2, k3, k5, k6]
      simp only [ih5, ih6, states, seqOf_lt _ (show 49 - k < 50 by omega)]
    · refine (b1_y V k hk hc t r j).trans ?_
      have htl := t.isLt
      by_cases h : t.val = 49 - k
      · rw [if_pos h, show 49 - t.val + 1 = k + 1 by omega]
        exact (b1_h V k hk hc r j).symm.trans (hh j)
      · rw [if_neg h, k7]
        exact ih7 t (by omega) j

end Loops

end Cert.Proof.Val
-- ==== Proof.RowGather.lean ====
/-
  The host's lookup of rows, read at an element: `take` along the first axis of a rank-2 table, at a rank-2 array of
  row numbers.
-/
module

public import Idealize.ShloMosaic.Lib.ValueIdxCore
public import Idealize.ShloMosaic.Lib.ValueLayout
public import Idealize.ShloMosaic.Lib.ReduceAll
public import Idealize.ShloMosaic.Lib.Pipeline.Value
public import Idealize.ShloMosaic.Lib.StableHlo.Predicate

@[expose] public section

noncomputable section

namespace Cert.Proof.RowGather

open Idealize.ShloMosaic Idealize.ShloMosaic.ValueIdx

variable {α : Type}

/-- The lookup's dimension numbers: one row number for each element of an `[R, C]` array, a whole row of `D` for each. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The lookup at `(r, c, k)`: lane `k` of the row that the array names at `(r, c)`, when it names one. -/
theorem gather_rows_apply {N D R C : Nat}
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (c : Fin C) (k : Fin D)
    (n : Fin N) (hn : (idx (ix3 r c (0 : Fin 1))).toNat = n.val) (hN : N < 2 ^ 31) :
    Host.gather (rowDims N D R C wf) x idx (ix3 r c k) = x (ix2 n k) := by
  unfold Host.gather
  congr 1
  funext a
  refine Fin.ext ?_
  show (rowDims N D R C wf).start (ix3 r c k) idx a + (rowDims N D R C wf).batchCoord (ix3 r c k) a
      + (rowDims N D R C wf).offCoord (ix3 r c k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N D R C wf).startIndexMap from List.mem_singleton.mpr rfl)]
    have hsi : (rowDims N D R C wf).siIdx (ix3 r c k) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    have hlt := n.isLt
    have e : (idx (ix3 r c (0 : Fin 1))).toInt.toNat = n.val := by
      rw [BitVec.toInt_eq_toNat_cond, hn, if_pos (by omega)]; rfl
    have e2 : min (idx (ix3 r c (0 : Fin 1))).toInt.toNat (N - 1) = n.val := by rw [e]; omega
    exact (congrArg (fun z => min (idx z).toInt.toNat (N - 1)) hsi).trans e2
  · unfold GatherDims.start
    rw [dif_neg (by simp)]
    unfold GatherDims.offCoord
    rw [dif_pos ((GatherDims.mem_sKept _ _).mpr ⟨by simp, List.not_mem_nil⟩), Nat.zero_add]
    rfl

section Take

variable {N D R C : Nat}
  (wf : GatherDims.WF ⟨2, ![N, D]⟩ ⟨3, ![R, C, 1]⟩ ⟨3, ![R, C, D]⟩ [2] [0] [] [0] [] 2 ![1, D])
  (hbS : (⟨0, ![]⟩ : Shape).BroadcastsInDim ⟨2, ![R, C]⟩ ![]) (hb1 : (⟨2, ![R, C]⟩ : Shape).BroadcastsInDim ⟨3, ![R, C, 1]⟩ ![0, 1])
  (hbS1 : (⟨0, ![]⟩ : Shape).BroadcastsInDim ⟨3, ![R, C, 1]⟩ ![]) (hb11 : (⟨1, ![1]⟩ : Shape).BroadcastsInDim ⟨3, ![1, 1, 1]⟩ ![2])
  (hb111 : (⟨3, ![1, 1, 1]⟩ : Shape).BroadcastsInDim ⟨3, ![R, C, 1]⟩ ![0, 1, 2])
  (hr : (⟨3, ![R, C, 1]⟩ : Shape).ReducesTo [2] ⟨2, ![R, C]⟩) (h0 : 0 < (⟨0, ![]⟩ : Shape).numel)
  (hbm : (⟨2, ![R, C]⟩ : Shape).BroadcastsInDim ⟨3, ![R, C, D]⟩ ![0, 1])

/-- The row numbers, a negative one counted from the end. -/
def wrapped (words : IVec ⟨2, ![R, C]⟩ 32) (n : BitVec 32) : IVec ⟨3, ![R, C, 1]⟩ 32 :=
  broadcastInDim ⟨3, ![R, C, 1]⟩ ![0, 1] hb1
    (select (cmpi .slt words (broadcastInDim ⟨2, ![R, C]⟩ ![] hbS (constantI ⟨0, ![]⟩ 32 0#32)))
      (addi words (broadcastInDim ⟨2, ![R, C]⟩ ![] hbS (constantI ⟨0, ![]⟩ 32 n))) words)

/-- Which row numbers are in range: at least 0 and at most `n`. -/
def inside (x : IVec ⟨3, ![R, C, 1]⟩ 32) (n : BitVec 32) : IVec ⟨2, ![R, C]⟩ 1 :=
  Host.reduce IntOp.andi
    (andi (cmpi .sge x (broadcastInDim ⟨3, ![R, C, 1]⟩ ![] hbS1 (constantI ⟨0, ![]⟩ 32 0#32)))
      (cmpi .sle x (broadcastInDim ⟨3, ![R, C, 1]⟩ ![0, 1, 2] hb111
        (broadcastInDim ⟨3, ![1, 1, 1]⟩ ![2] hb11 (constantI ⟨1, ![1]⟩ 32 n)))))
    (constantI ⟨0, ![]⟩ 1 1#1) hr h0

/-- `take` along the first axis as the host computes it — a negative row number counted from the end, the lookup, and
    the rows whose number is out of range filled. -/
def take (tab : (⟨2, ![N, D]⟩ : Shape).Idx → α) (words : IVec ⟨2, ![R, C]⟩ 32) (fill : (⟨3, ![R, C, D]⟩ : Shape).Idx → α) (n n' : BitVec 32) :
    (⟨3, ![R, C, D]⟩ : Shape).Idx → α :=
  select (broadcastInDim ⟨3, ![R, C, D]⟩ ![0, 1] hbm (inside hbS1 hb11 hb111 hr h0 (wrapped hbS hb1 words n) n'))
    (Host.gather (rowDims N D R C wf) tab (wrapped hbS hb1 words n)) fill

/-- It reads, at `(r, c, k)`, lane `k` of the row named at `(r, c)` when every row number is in range. -/
theorem take_apply (hN : N < 2 ^ 31) (tab : (⟨2, ![N, D]⟩ : Shape).Idx → α) (words : IVec ⟨2, ![R, C]⟩ 32) (fill : (⟨3, ![R, C, D]⟩ : Shape).Idx → α)
    (hw : ∀ i, (words i).toNat < N) (r : Fin R) (c : Fin C) (k : Fin D) :
    take wf hbS hb1 hbS1 hb11 hb111 hr h0 hbm tab words fill (BitVec.ofNat 32 N) (BitVec.ofNat 32 (N - 1)) (ix3 r c k)
      = tab (ix2 ⟨(words (ix2 r c)).toNat, hw _⟩ k) := by
  have hwr : ∀ i : (⟨3, ![R, C, 1]⟩ : Shape).Idx, wrapped hbS hb1 words (BitVec.ofNat 32 N) i = words (ix2 (i 0) (i 1)) := by
    intro i
    have e : wrapped hbS hb1 words (BitVec.ofNat 32 N) i = (select (cmpi .slt words (broadcastInDim ⟨2, ![R, C]⟩ ![] hbS (constantI ⟨0, ![]⟩ 32 0#32)))
        (addi words (broadcastInDim ⟨2, ![R, C]⟩ ![] hbS (constantI ⟨0, ![]⟩ 32 (BitVec.ofNat 32 N)))) words) (ix2 (i 0) (i 1)) := by
      refine broadcastInDim_apply _ hb1 _ i (ix2 (i 0) (i 1)) fun a => ?_
      match a with
      | ⟨0, _⟩ =>
        by_cases h1 : R = 1
        · subst h1; exact (Nat.lt_one_iff.mp (i 0).isLt).trans (if_pos rfl).symm
        · exact (if_neg h1).symm
      | ⟨1, _⟩ =>
        by_cases h1 : C = 1
        · subst h1; exact (Nat.lt_one_iff.mp (i 1).isLt).trans (if_pos rfl).symm
        · exact (if_neg h1).symm
    rw [e]
    have hlt := hw (ix2 (i 0) (i 1))
    have hc : cmpi .slt words (broadcastInDim ⟨2, ![R, C]⟩ ![] hbS (constantI ⟨0, ![]⟩ 32 0#32)) (ix2 (i 0) (i 1)) = 0#1 := by
      show BitVec.ofBool ((words (ix2 (i 0) (i 1))).slt 0#32) = 0#1
      rw [BitVec.slt_eq_decide, BitVec.toInt_eq_toNat_cond, if_pos (by omega), decide_eq_false (by simp)]
      rfl
    show (if cmpi .slt words (broadcastInDim ⟨2, ![R, C]⟩ ![] hbS (constantI ⟨0, ![]⟩ 32 0#32)) (ix2 (i 0) (i 1)) = 1#1 then _ else _) = _
    rw [hc, if_neg (by decide)]
  have hm : ∀ j, inside hbS1 hb11 hb111 hr h0 (wrapped hbS hb1 words (BitVec.ofNat 32 N)) (BitVec.ofNat 32 (N - 1)) j = 1#1 := by
    intro j
    refine Host.reduce_andi_one _ _ hr h0 j rfl fun i => ?_
    have hlt := hw (ix2 (i 0) (i 1))
    show IntOp.andi (BitVec.ofBool ((0#32).sle (wrapped hbS hb1 words (BitVec.ofNat 32 N) i)))
      (BitVec.ofBool ((wrapped hbS hb1 words (BitVec.ofNat 32 N) i).sle (BitVec.ofNat 32 (N - 1)))) = 1#1
    rw [hwr, BitVec.sle_eq_decide, BitVec.sle_eq_decide, BitVec.toInt_eq_toNat_cond (words _), if_pos (by omega),
      StableHlo.Predicate.toInt_ofNat_small (N - 1) (by omega), decide_eq_true (by simp), decide_eq_true (by omega)]
    rfl
  have hb : broadcastInDim ⟨3, ![R, C, D]⟩ ![0, 1] hbm (inside hbS1 hb11 hb111 hr h0 (wrapped hbS hb1 words (BitVec.ofNat 32 N)) (BitVec.ofNat 32 (N - 1)))
      (ix3 r c k) = 1#1 := hm _
  exact (if_pos hb).trans (gather_rows_apply wf tab _ r c k ⟨_, hw (ix2 r c)⟩ (congrArg BitVec.toNat (hwr _)) hN)

end Take

end Cert.Proof.RowGather

end
-- ==== Proof.Val.RefRows.lean ====
/-
  The reference's lookups, read at an index: the word's row and, after it, the tag's.
-/
module

public import proofs.«01_k».proof.Proof.RI.Ops
public import proofs.«01_k».proof.Proof.RowGather
public import proofs.«01_k».proof.Proof.Val.Norm
public import Idealize.ShloMosaic.Lib.Pointwise.IndexBridge
public import Idealize.ShloMosaic.Lib.Pointwise

@[expose] public section
set_option maxRecDepth 100000
noncomputable section
namespace Cert.Proof.Val
open Cert.ReferenceIdeal Cert.ReferenceIdeal.Gen
open Cert.Proof.RI Cert.Proof
open Idealize.ShloMosaic Idealize.ShloMosaic.TcCoe Idealize.ShloMosaic.StableHlo

variable (V : Valuation τ sig (Elt Ideal))

/-- The word rows as the reference looks them up. -/
abbrev wordRows : FVec Ideal S1024x50x128 .f32 :=
  RowGather.take (N := 100000) (D := 128) (R := 1024) (C := 50) gather_S100000x128_S1024x50x1_S1024x50x128_2_0_n_n_0_2_1128_wf
        bcast_S_S1024x50 bcast_S1024x50_S1024x50x1_0_1 bcast_S_S1024x50x1 bcast_S1_S1x1x1_2 bcast_S1x1x1_S1024x50x1_0_1_2
        reducesTo_S1024x50x1_S1024x50_d2 h_S_ bcast_S1024x50_S1024x50x128_0_1 (V (Proc.devRef .tc main_arg4)) (V (Proc.devRef .tc main_arg0))
        (broadcastInDim S1024x50x128 ![] bcast_S_S1024x50x128 (constant S_ .f32 0x7FC00000#32)) 100000#32 99999#32
abbrev tagRows : FVec Ideal S1024x50x32 .f32 :=
  RowGather.take (N := 64) (D := 32) (R := 1024) (C := 50) gather_S64x32_S1024x50x1_S1024x50x32_2_0_n_n_0_2_132_wf
        bcast_S_S1024x50 bcast_S1024x50_S1024x50x1_0_1 bcast_S_S1024x50x1 bcast_S1_S1x1x1_2 bcast_S1x1x1_S1024x50x1_0_1_2
        reducesTo_S1024x50x1_S1024x50_d2 h_S_ bcast_S1024x50_S1024x50x32_0_1 (V (Proc.devRef .tc main_arg5)) (V (Proc.devRef .tc main_arg1))
        (broadcastInDim S1024x50x32 ![] bcast_S_S1024x50x32 (constant S_ .f32 0x7FC00000#32)) 64#32 63#32

set_option maxHeartbeats 4000000 in
theorem p1_eq : after opsP1 V (Proc.devRef .tc main_v2)
    = concatenate S1024x50x160 2 [⟨S1024x50x128, wordRows V⟩, ⟨S1024x50x32, tagRows V⟩] concatenates_S1024x50x128_S1024x50x32_S1024x50x160_d2 := by
  after_reads_simp
  unfold wordRows tagRows RowGather.take RowGather.inside RowGather.wrapped
  simp only [TRef.ofBuf_toBuf]
  rfl

theorem p1_apply (hw : ∀ i, (V (Proc.devRef .tc main_arg0) i : BitVec 32).toNat < 100000) (ht : ∀ i, (V (Proc.devRef .tc main_arg1) i : BitVec 32).toNat < 64)
    (b : Fin 1024) (t : Fin 50) (j : Fin 160) :
    @Eq EReal (after opsP1 V (Proc.devRef .tc main_v2) (ix3 b t j))
      (featRow (fun k => V (Proc.devRef .tc main_arg4) (ix2 (⟨(V (Proc.devRef .tc main_arg0) (ix2 b t) : BitVec 32).toNat, hw _⟩ : Fin 100000) k))
        (fun k => V (Proc.devRef .tc main_arg5) (ix2 (⟨(V (Proc.devRef .tc main_arg1) (ix2 b t) : BitVec 32).toNat, ht _⟩ : Fin 64) k)) j) := by
  rw [p1_eq]
  have hW : ∀ k : Fin 128, wordRows V (ix3 b t k) = V (Proc.devRef .tc main_arg4) (ix2 (⟨(V (Proc.devRef .tc main_arg0) (ix2 b t) : BitVec 32).toNat, hw _⟩ : Fin 100000) k) := by
    intro k
    simp only [ix3_eq_valueIdx, ix2_eq_valueIdx]
    exact RowGather.take_apply (N := 100000) (D := 128) (R := 1024) (C := 50) gather_S100000x128_S1024x50x1_S1024x50x128_2_0_n_n_0_2_1128_wf
        bcast_S_S1024x50 bcast_S1024x50_S1024x50x1_0_1 bcast_S_S1024x50x1 bcast_S1_S1x1x1_2 bcast_S1x1x1_S1024x50x1_0_1_2
        reducesTo_S1024x50x1_S1024x50_d2 h_S_ bcast_S1024x50_S1024x50x128_0_1 (by decide) (V (Proc.devRef .tc main_arg4)) (V (Proc.devRef .tc main_arg0)) _ hw _ _ _
  have hT : ∀ k : Fin 32, tagRows V (ix3 b t k) = V (Proc.devRef .tc main_arg5) (ix2 (⟨(V (Proc.devRef .tc main_arg1) (ix2 b t) : BitVec 32).toNat, ht _⟩ : Fin 64) k) := by
    intro k
    simp only [ix3_eq_valueIdx, ix2_eq_valueIdx]
    exact RowGather.take_apply (N := 64) (D := 32) (R := 1024) (C := 50) gather_S64x32_S1024x50x1_S1024x50x32_2_0_n_n_0_2_132_wf
        bcast_S_S1024x50 bcast_S1024x50_S1024x50x1_0_1 bcast_S_S1024x50x1 bcast_S1_S1x1x1_2 bcast_S1x1x1_S1024x50x1_0_1_2
        reducesTo_S1024x50x1_S1024x50_d2 h_S_ bcast_S1024x50_S1024x50x32_0_1 (by decide) (V (Proc.devRef .tc main_arg5)) (V (Proc.devRef .tc main_arg1)) _ ht _ _ _
  generalize wordRows V = W at hW ⊢
  generalize tagRows V = T at hT ⊢
  pointwise [featRow]
  simp only [hW, hT]
-- ==== Proof.Val.RefNorm.lean ====
/-
  The reference's normalization, read at an index.
-/
module

public import proofs.«01_k».proof.Proof.RI.Ops
public import proofs.«01_k».proof.Proof.Val.Norm

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

theorem divisor : Ideal.ofBits FTy.f32 1126170624#32 - FloatOps.sitofp (F := Ideal) FTy.f32 0#32 = Ideal.ofBits FTy.f32 1126170624#32 := by
  rw [c160]; simp [FloatOps.sitofp]

theorem v20_apply (V : Valuation τ sig (Elt Ideal)) (b : Fin 1024) (t : Fin 50) (f : Fin 160) :
    @Eq EReal (after opsP2 V (Proc.devRef .tc main_v20) (ix3 b t f))
      (lnRow (fun j => V (Proc.devRef .tc main_v2) (ix3 b t j)) f * V (Proc.devRef .tc main_arg6) (ix1 f)
        + V (Proc.devRef .tc main_arg7) (ix1 f)) := by
  after_reads_simp
  pointwise [TRef.ofBuf, TRef.toBuf, cast_eq, id_eq, lnRow]
  rw [divisor, if_pos (by rw [c160]; exact_mod_cast (by norm_num : (0 : ℝ) < 160))]
-- ==== Proof.Val.RefLoss.lean ====
/-
  The reference's loss, read at an index.
-/
module

public import proofs.«01_k».proof.Proof.RI.Ops
public import proofs.«01_k».proof.Proof.Val.Loss

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

/-- The lookup at a position: the output of the label that the position names. -/
theorem gather_label (x : FVec Ideal S51200x48 .f32) (idx : IVec S51200x1x1 32) (n : Fin 51200) (l : Fin 48)
    (hl : (idx (ix3 n 0 0)).toNat = l.val) :
    Host.gather gather_S51200x48_S51200x1x1_S51200x1_n_1_0_0_1_2_11 x idx (ix2 n 0) = x (ix2 n l) := by
  unfold Host.gather
  congr 1
  funext a
  refine Fin.ext ?_
  show gather_S51200x48_S51200x1x1_S51200x1_n_1_0_0_1_2_11.start (ix2 n 0) idx a + gather_S51200x48_S51200x1x1_S51200x1_n_1_0_0_1_2_11.batchCoord (ix2 n 0) a
      + gather_S51200x48_S51200x1x1_S51200x1_n_1_0_0_1_2_11.offCoord (ix2 n 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S51200x48_S51200x1x1_S51200x1_n_1_0_0_1_2_11.operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ gather_S51200x48_S51200x1x1_S51200x1_n_1_0_0_1_2_11.startIndexMap from List.mem_singleton.mpr rfl)]
    have hsi : gather_S51200x48_S51200x1x1_S51200x1_n_1_0_0_1_2_11.siIdx (ix2 n 0)
        ⟨List.idxOf (1 : Fin 2) gather_S51200x48_S51200x1x1_S51200x1_n_1_0_0_1_2_11.startIndexMap, List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    have hlt := l.isLt
    have e : (idx (ix3 n 0 0)).toInt.toNat = l.val := by
      rw [BitVec.toInt_eq_toNat_cond, hl, if_pos (by omega)]; rfl
    have e2 : min (idx (ix3 n 0 0)).toInt.toNat (48 - 1) = l.val := by rw [e]; omega
    exact (congrArg (fun z => min (idx z).toInt.toNat (48 - 1)) hsi).trans e2

theorem not_slt (w : BitVec 32) (h : w.toNat < 48) : IntOp.cmpi .slt w 0#32 = 0#1 := by
  show BitVec.ofBool (w.slt 0#32) = 0#1
  rw [BitVec.slt_eq_decide, BitVec.toInt_eq_toNat_cond, if_pos (by omega), decide_eq_false (by simp)]; rfl
theorem sge_zero (w : BitVec 32) (h : w.toNat < 48) : IntOp.cmpi .sge w 0#32 = 1#1 := by
  show BitVec.ofBool ((0#32).sle w) = 1#1
  rw [BitVec.sle_eq_decide, BitVec.toInt_eq_toNat_cond w, if_pos (by omega), decide_eq_true (by simp)]; rfl
theorem sle_last (w : BitVec 32) (h : w.toNat < 48) : IntOp.cmpi .sle w 47#32 = 1#1 := by
  show BitVec.ofBool (w.sle 47#32) = 1#1
  rw [BitVec.sle_eq_decide, BitVec.toInt_eq_toNat_cond w, if_pos (by omega), show (47#32 : BitVec 32).toInt = 47 by decide, decide_eq_true (by omega)]; rfl

variable (V : Valuation τ sig (Elt Ideal))

theorem fold_one {ι : Type} (s : Finset ι) : Finset.fold IntOp.andi (1#1) (fun _ : ι => 1#1) s = 1#1 := by
  classical
  induction s using Finset.induction_on with
  | empty => rfl
  | insert a s h ih => rw [Finset.fold_insert h, ih]; rfl

theorem andi_one_one : IntOp.andi 1#1 1#1 = 1#1 := rfl
theorem select_one {α : Type} (x y : α) : Scalar.select 1#1 x y = x := rfl
theorem select_zero {α : Type} (x y : α) : Scalar.select 0#1 x y = y := rfl

theorem div_congr (f g : Fin 51200 → EReal) (c : EReal) (h : ∀ n, f n = g n) : Ideal.div (∑ n, f n) c = Ideal.div (∑ n, g n) c := by
  rw [funext h]
theorem neg_mul_congr {a b m : EReal} (h : a = b) : -a * m = -b * m := by rw [h]

/-- The label at a place of the flat list. -/
abbrev labelFlat (n : Fin 51200) : BitVec 32 := V (Proc.devRef .tc main_arg2) (ix2 (⟨n.val / 50, by omega⟩ : Fin 1024) (⟨n.val % 50, by omega⟩ : Fin 50))

theorem q4_v61 (hl : ∀ i, (V (Proc.devRef .tc main_arg2) i : BitVec 32).toNat < 48) (i : S_.Idx) :
    @Eq EReal (after opsQ4 V (Proc.devRef .tc main_v61) i)
      (Ideal.div (∑ n : Fin 51200, -@id EReal (V (Proc.devRef .tc main_v52) (ix2 n (⟨(labelFlat V n).toNat, hl _⟩ : Fin 48)))
          * FloatOps.uitofp (F := Ideal) FTy.f32 (V (Proc.devRef .tc main_v51) (ix1 n) : BitVec 1)) (Ideal.ofBits FTy.f32 1149239296#32)) := by
  have h1 : ∀ (r : Fin 1024) (t : Fin 50), IntOp.cmpi .slt (V (Proc.devRef .tc main_arg2) (ix2 r t) : BitVec 32) 0#32 = 0#1 := fun r t => not_slt _ (hl _)
  have h2 : ∀ (r : Fin 1024) (t : Fin 50), IntOp.cmpi .sge (V (Proc.devRef .tc main_arg2) (ix2 r t) : BitVec 32) 0#32 = 1#1 := fun r t => sge_zero _ (hl _)
  have h3 : ∀ (r : Fin 1024) (t : Fin 50), IntOp.cmpi .sle (V (Proc.devRef .tc main_arg2) (ix2 r t) : BitVec 32) 47#32 = 1#1 := fun r t => sle_last _ (hl _)
  after_reads_simp; pointwise [TRef.ofBuf, TRef.toBuf, cast_eq, id_eq]
  simp only [h1, select_zero, h2, h3, andi_one_one, fold_one, select_one]
  refine div_congr _ _ _ fun n => ?_
  refine neg_mul_congr ?_
  exact gather_label _ _ n ⟨(labelFlat V n).toNat, hl _⟩ rfl

end Cert.Proof.Val
-- ==== Proof.Val.RefArgmax.lean ====
/-
  The reference's reduction to the label of the largest output.
-/
module

public import proofs.«01_k».proof.Proof.RI.Ops
public import proofs.«01_k».proof.Proof.Val.Loss

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

/-- The larger of two outputs with its label, the smaller label where they are equal. -/
theorem red_eq (a b : Ideal .f32 × BitVec 32) : reducer_argmax_f32_i32 a b
    = ((if (b.1 : EReal) < a.1 then a.1 else b.1), (if (b.1 : EReal) < a.1 ∨ (a.1 = b.1 ∧ a.2.toInt < b.2.toInt) then a.2 else b.2)) := by
  obtain ⟨a1, a2⟩ := a
  obtain ⟨b1, b2⟩ := b
  have h1 : FloatOps.cmpf (F := Ideal) (φ := .f32) .ogt a1 b1 = BitVec.ofBool (decide ((b1 : EReal) < a1)) := by simp [Ideal.cmpf_def, Ideal.cmp]
  have h2 : FloatOps.cmpf (F := Ideal) (φ := .f32) .une a1 a1 = 0#1 := by simp [Ideal.cmpf_def, Ideal.cmp]
  have h3 : FloatOps.cmpf (F := Ideal) (φ := .f32) .oeq a1 b1 = BitVec.ofBool (decide ((a1 : EReal) = b1)) := by simp [Ideal.cmpf_def, Ideal.cmp]
  have h4 : IntOp.cmpi .slt a2 b2 = BitVec.ofBool (decide (a2.toInt < b2.toInt)) := by
    show BitVec.ofBool (a2.slt b2) = _
    rw [BitVec.slt_eq_decide]
  have h5 : ∀ (p : Bool) (x y : EReal), Scalar.select (IntOp.ori (BitVec.ofBool p) 0#1) x y = if p = true then x else y := by
    intro p x y; cases p <;> rfl
  have h6 : ∀ (p q r : Bool) (x y : BitVec 32), Scalar.select (IntOp.ori (IntOp.ori (BitVec.ofBool p) 0#1) (IntOp.andi (BitVec.ofBool q) (BitVec.ofBool r))) x y
      = if p = true ∨ q = true ∧ r = true then x else y := by
    intro p q r x y; cases p <;> cases q <;> cases r <;> rfl
  unfold reducer_argmax_f32_i32
  simp only [h1, h2, h3, h4]
  refine Prod.ext ((h5 _ _ _).trans ?_) ((h6 _ _ _ _ _).trans ?_) <;> simp only [decide_eq_true_eq]

/-- A pair that the reduction never prefers, before or after it. -/
def Best (T p : Ideal .f32 × BitVec 32) : Prop := p = T ∨ (reducer_argmax_f32_i32 p T = T ∧ reducer_argmax_f32_i32 T p = T)

theorem red_mem (a b : Ideal .f32 × BitVec 32) : reducer_argmax_f32_i32 a b = a ∨ reducer_argmax_f32_i32 a b = b := by
  rw [red_eq]
  obtain ⟨a1, a2⟩ := a
  obtain ⟨b1, b2⟩ := b
  dsimp only
  by_cases c1 : (b1 : EReal) < a1
  · left; rw [if_pos c1, if_pos (Or.inl c1)]
  · rw [if_neg c1]
    by_cases c2 : (a1 : EReal) = b1 ∧ a2.toInt < b2.toInt
    · left; rw [if_pos (Or.inr c2), c2.1]
    · right; rw [if_neg (not_or.2 ⟨c1, c2⟩)]

theorem red_self (T : Ideal .f32 × BitVec 32) : reducer_argmax_f32_i32 T T = T := (red_mem T T).elim id id

theorem foldl_best (T : Ideal .f32 × BitVec 32) : ∀ (l : List (Ideal .f32 × BitVec 32)) (a : Ideal .f32 × BitVec 32),
    Best T a → (∀ p ∈ l, Best T p) → (a = T ∨ T ∈ l) → l.foldl reducer_argmax_f32_i32 a = T
  | [], a, _, _, h => h.elim id (fun h => absurd h List.not_mem_nil)
  | b :: l, a, ha, hl, h => by
    have hb := hl b List.mem_cons_self
    refine foldl_best T l _ ?_ (fun p hp => hl p (List.mem_cons_of_mem _ hp)) ?_
    · rcases red_mem a b with e | e <;> rw [e]
      · exact ha
      · exact hb
    · rcases h with rfl | h
      · left
        rcases hb with rfl | hb
        · exact red_self _
        · exact hb.2
      · rcases List.mem_cons.1 h with rfl | h
        · left
          rcases ha with rfl | ha
          · exact red_self _
          · exact ha.1
        · exact Or.inr h

theorem best_of_lt {a b : EReal} {v w : BitVec 32} (h : b < a) : Best ((a, v) : Ideal .f32 × BitVec 32) (b, w) := by
  refine Or.inr ⟨?_, ?_⟩ <;> rw [red_eq] <;> dsimp only
  · rw [if_neg (not_lt.2 h.le), if_neg (not_or.2 ⟨not_lt.2 h.le, fun e => h.ne e.1⟩)]
  · rw [if_pos h, if_pos (Or.inl h)]

theorem best_of_eq {a : EReal} {v w : BitVec 32} (h : v.toInt < w.toInt) : Best ((a, v) : Ideal .f32 × BitVec 32) (a, w) := by
  refine Or.inr ⟨?_, ?_⟩ <;> rw [red_eq] <;> dsimp only
  · rw [if_neg (lt_irrefl a), if_neg (not_or.2 ⟨lt_irrefl a, fun e => absurd e.2 (not_lt.2 h.le)⟩)]
  · rw [if_neg (lt_irrefl a), if_pos (Or.inr ⟨rfl, h⟩)]

theorem drop_row (i : S51200x48.Idx) : reducesTo_S51200x48_S51200_d1.drop i = ix1 (i 0) := by
  funext b
  match b with
  | ⟨0, _⟩ => rfl

/-- The reference's reduction finds the label of the largest output. -/
theorem argmax_eq (x : FVec Ideal S51200x48 .f32) (n : Fin 51200) :
    (Host.argReduce reducer_argmax_f32_i32 x (iotaInDim S51200x48 32 1) (constant S_ .f32 4286578688#32) (constantI S_ 32 0#32)
      reducesTo_S51200x48_S51200_d1 h_S_ (ix1 n)).2 = pick fun l => x (ix2 n l) := by
  obtain ⟨k, hk, hk'⟩ := exists_pick fun l => x (ix2 n l)
  rw [pick_eq _ k hk hk', Ideal.argReduce_eq_reduce2, Host.reduce2_eq_foldl_fiber]
  have hpt : ∀ l : Fin 48, Best ((x (ix2 n k), BitVec.ofNat 32 k.val) : Ideal .f32 × BitVec 32) (x (ix2 n l), BitVec.ofNat 32 l.val) := by
    intro l
    rcases lt_trichotomy l k with h | rfl | h
    · exact best_of_lt (hk' l h)
    · exact Or.inl rfl
    · rcases lt_or_eq_of_le (hk l) with h' | h'
      · exact best_of_lt h'
      · rw [show x (ix2 n l) = x (ix2 n k) from h']
        refine best_of_eq ?_
        rw [ofNat_toInt, ofNat_toInt]
        exact_mod_cast h
  rw [foldl_best (x (ix2 n k), BitVec.ofNat 32 k.val)]
  · show Best _ ((Ideal.ofBits FTy.f32 4286578688#32 : EReal), 0#32)
    rw [low_eq]
    rcases eq_or_lt_of_le (bot_le (a := (x (ix2 n k) : EReal))) with h | h
    · have h0 : k = 0 := by
        by_contra h0
        have := hk' 0 (Fin.pos_of_ne_zero h0)
        rw [← h] at this
        exact not_lt_bot this
      left
      rw [h0]
      rw [h0] at h
      exact Prod.ext h rfl
    · exact best_of_lt h
  · intro p hp
    obtain ⟨q, hq, rfl⟩ := List.mem_map.1 hp
    have hd := of_decide_eq_true (List.mem_filter.1 hq).2
    rw [drop_row] at hd
    have e0 : S51200x48.rowMajor.symm q 0 = n := congrFun hd 0
    have ei : S51200x48.rowMajor.symm q = ix2 n (S51200x48.rowMajor.symm q 1) := by
      rw [← e0]; exact eq_ix2 _
    rw [ei]
    exact hpt _
  · right
    refine List.mem_map.2 ⟨S51200x48.rowMajor (ix2 n k), List.mem_filter.2 ⟨List.mem_finRange _, ?_⟩, ?_⟩
    · exact decide_eq_true (by rw [Equiv.symm_apply_apply, drop_row]; rfl)
    · rw [Equiv.symm_apply_apply]; rfl

end Cert.Proof.Val
-- ==== Proof.Val.RefShare.lean ====
/-
  The reference's masks and the logarithms of the labels' shares, read at an index.
-/
module

public import proofs.«01_k».proof.Proof.RI.Ops
public import proofs.«01_k».proof.Proof.Val.Loss
public import proofs.«01_k».proof.Proof.Val.RefArgmax

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

variable (V : Valuation τ sig (Elt Ideal))

theorem q3_v50 (r : Fin 1024) (t : Fin 50) :
    @Eq (BitVec 1) (after opsQ3 V (Proc.devRef .tc main_v50) (ix2 r t)) (IntOp.cmpi .sgt (V (Proc.devRef .tc main_arg0) (ix2 r t) : BitVec 32) 0#32) := by
  after_reads_simp; pointwise [TRef.ofBuf, TRef.toBuf, cast_eq, id_eq]
theorem q3_v51 (n : Fin 51200) :
    @Eq (BitVec 1) (after opsQ3 V (Proc.devRef .tc main_v51) (ix1 n))
      (IntOp.cmpi .sgt (V (Proc.devRef .tc main_arg0) (ix2 (⟨n.val / 50, by omega⟩ : Fin 1024) (⟨n.val % 50, by omega⟩ : Fin 50)) : BitVec 32) 0#32) := by
  after_reads_simp; pointwise [TRef.ofBuf, TRef.toBuf, cast_eq, id_eq]
/-- The head's outputs at a place of the flat list. -/
abbrev flatRow (n : Fin 51200) (l : Fin 48) : EReal := V (Proc.devRef .tc main_v47) (ix2 n l)

/-- The greatest output of each place. -/
def tops (x : FVec Ideal S51200x48 .f32) : FVec Ideal S51200 .f32 :=
  Host.reduce FloatOps.maximumf x (constant S_ .f32 0xFF800000#32) reducesTo_S51200x48_S51200_d1 h_S_

theorem tops_apply (x : FVec Ideal S51200x48 .f32) (n : Fin 51200) : @Eq EReal (tops x (ix1 n)) (peak fun l => x (ix2 n l)) := by
  obtain ⟨k, hk, -⟩ := exists_pick fun l => x (ix2 n l)
  rw [show peak (fun l => x (ix2 n l)) = x (ix2 n k) from fold_max_eq _ k hk]
  have e : FloatOps.maximumf (F := Ideal) (φ := .f32) = (fun a b : EReal => max a b) := rfl
  unfold tops
  rw [e, Host.reduce_eq_fold (fun a b : EReal => max a b)]
  refine le_antisymm ((Finset.fold_max_le _).2 ⟨?_, fun i hi => ?_⟩) ((Finset.le_fold_max _).2 (Or.inr ⟨ix2 n k, Finset.mem_filter.2 ⟨Finset.mem_univ _, ?_⟩, le_rfl⟩))
  · show Ideal.ofBits FTy.f32 4286578688#32 ≤ _
    rw [low_eq]
    exact bot_le
  · have hd := (Finset.mem_filter.1 hi).2
    rw [drop_row] at hd
    have e0 : i 0 = n := congrFun hd 0
    have ei : i = ix2 n (i 1) := by rw [← e0]; exact eq_ix2 _
    rw [ei]
    exact hk _
  · rw [drop_row]; rfl

/-- Each output less the greatest of its place, given those. -/
def lessTop (x : FVec Ideal S51200x48 .f32) (m : FVec Ideal S51200 .f32) : FVec Ideal S51200x48 .f32 :=
  subf x (broadcastInDim S51200x48 ![0, 1] bcast_S51200x1_S51200x48_0_1 (broadcastInDim S51200x1 ![0] bcast_S51200_S51200x1_0
    (maximumf (broadcastInDim S51200 ![] bcast_S_S51200 (constant S_ .f32 0xFF800000#32)) m)))

/-- Each less the logarithm of the sum of their exponentials. -/
def shares (y : FVec Ideal S51200x48 .f32) : FVec Ideal S51200x48 .f32 :=
  subf y (broadcastInDim S51200x48 ![0, 1] bcast_S51200x1_S51200x48_0_1 (Host.log (broadcastInDim S51200x1 ![0] bcast_S51200_S51200x1_0
    (Host.reduceAdd (Host.exp y) (constant S_ .f32 0x00000000#32) reducesTo_S51200x48_S51200_d1 h_S_))))

theorem lessTop_apply (x : FVec Ideal S51200x48 .f32) (m : FVec Ideal S51200 .f32) (n : Fin 51200) (l : Fin 48) :
    @Eq EReal (lessTop x m (ix2 n l)) (x (ix2 n l) - max (Ideal.ofBits FTy.f32 4286578688#32) (m (ix1 n))) := by
  pointwise [lessTop]

theorem shares_apply (y : FVec Ideal S51200x48 .f32) (n : Fin 51200) (l : Fin 48) :
    @Eq EReal (shares y (ix2 n l)) (y (ix2 n l) - Ideal.log (∑ j : Fin 48, Ideal.exp (y (ix2 n j)))) := by
  pointwise [shares]

set_option maxRecDepth 100000 in
set_option maxHeartbeats 4000000 in
theorem q3_shares : after opsQ3 V (Proc.devRef .tc main_v52) = shares (lessTop (V (Proc.devRef .tc main_v47)) (tops (V (Proc.devRef .tc main_v47)))) := by
  after_reads_simp
  simp only [TRef.ofBuf_toBuf]
  rfl

theorem q3_v52 (n : Fin 51200) (l : Fin 48) :
    @Eq EReal (after opsQ3 V (Proc.devRef .tc main_v52) (ix2 n l))
      (flatRow V n l - max ⊥ (peak (flatRow V n)) - Ideal.log (∑ j : Fin 48, Ideal.exp (flatRow V n j - max ⊥ (peak (flatRow V n))))) := by
  have h : ∀ j : Fin 48, @Eq EReal (lessTop (V (Proc.devRef .tc main_v47)) (tops (V (Proc.devRef .tc main_v47))) (ix2 n j)) (flatRow V n j - max ⊥ (peak (flatRow V n))) := by
    intro j
    refine (lessTop_apply _ _ n j).trans ?_
    rw [low_eq, tops_apply]
  rw [q3_shares]
  refine (shares_apply _ n l).trans ?_
  simp only [h]

end Cert.Proof.Val
-- ==== Proof.Val.RefLabel.lean ====
/-
  The reference's labels of the largest outputs, read at an index.
-/
module

public import proofs.«01_k».proof.Proof.RI.Ops
public import proofs.«01_k».proof.Proof.Val.Loss
public import proofs.«01_k».proof.Proof.Val.RefArgmax

@[expose] public section
set_option maxRecDepth 16384
noncomputable section
namespace Cert.Proof.Val
open Cert.ReferenceIdeal Cert.ReferenceIdeal.Gen
open Cert.Proof.RI
open Idealize.ShloMosaic Idealize.ShloMosaic.TcCoe Idealize.ShloMosaic.StableHlo

variable (V : Valuation τ sig (Elt Ideal))

theorem flat50 (n : Fin 51200) (r : Fin 1024) (t : Fin 50) (hn : n.val = r.val * 50 + t.val) (h h') :
    (⟨n.val / 50, h⟩ : Fin 1024) = r ∧ (⟨n.val % 50, h'⟩ : Fin 50) = t :=
  ⟨Fin.ext (by show n.val / 50 = r.val; omega), Fin.ext (by show n.val % 50 = t.val; omega)⟩

theorem q2_flat' (n : Fin 51200) (l : Fin 48) :
    @Eq EReal (after opsQ2 V (Proc.devRef .tc main_v47) (ix2 n l))
      (headRow (fun i => V (Proc.devRef .tc main_v33) (ix3 (⟨n.val / 50, by omega⟩ : Fin 1024) (⟨n.val % 50, by omega⟩ : Fin 50) i)) (fun i k => V (Proc.devRef .tc main_arg14) (ix2 i k))
        (fun k => V (Proc.devRef .tc main_arg15) (ix1 k)) (fun k l => V (Proc.devRef .tc main_arg16) (ix2 k l))
        (fun l => V (Proc.devRef .tc main_arg17) (ix1 l)) l) := by
  after_reads_simp; pointwise [TRef.ofBuf, TRef.toBuf, cast_eq, id_eq, headRow]

theorem q2_flat (n : Fin 51200) (r : Fin 1024) (t : Fin 50) (hn : n.val = r.val * 50 + t.val) (l : Fin 48) :
    @Eq EReal (after opsQ2 V (Proc.devRef .tc main_v47) (ix2 n l))
      (headRow (fun i => V (Proc.devRef .tc main_v33) (ix3 r t i)) (fun i k => V (Proc.devRef .tc main_arg14) (ix2 i k))
        (fun k => V (Proc.devRef .tc main_arg15) (ix1 k)) (fun k l => V (Proc.devRef .tc main_arg16) (ix2 k l))
        (fun l => V (Proc.devRef .tc main_arg17) (ix1 l)) l) := by
  refine (q2_flat' V n l).trans ?_
  have e := flat50 n r t hn (by omega) (by omega)
  rw [e.1, e.2]

/-- The lines of the labels, for any way of finding them. -/
theorem q5_lines (x0 : IVec S51200x48 32) (x1 : FVec Ideal S_ .f32) (x2 : IVec S_ 32)
    (f : FVec Ideal S51200x48 .f32 → IVec S51200x48 32 → FVec Ideal S_ .f32 → IVec S_ 32 → FVec Ideal S51200 .f32)
    (g : FVec Ideal S51200x48 .f32 → IVec S51200x48 32 → FVec Ideal S_ .f32 → IVec S_ 32 → IVec S51200 32) (r : Fin 1024) (t : Fin 50) :
    @Eq (BitVec 32) (after ([StableHlo.TRef.nullary main_call10.v0 x0, StableHlo.TRef.nullary main_call10.cst x1, StableHlo.TRef.nullary main_call10.c x2,
        StableHlo.TRef.quaternary (.of main_v47 : StableHlo.TRef sig ⟨S51200x48, .f32⟩) main_call10.v0 main_call10.cst main_call10.c main_call10.v1_0 f,
        StableHlo.TRef.quaternary (.of main_v47 : StableHlo.TRef sig ⟨S51200x48, .f32⟩) main_call10.v0 main_call10.cst main_call10.c main_call10.v1_1 g,
        StableHlo.reshape main_v62 main_v63 (rfl : (.i32 : EltTy) = .i32) shapeCasts_S51200_S1024x50] : List (HloOp τ sig (Elt Ideal))) V (Proc.devRef .tc main_v63) (ix2 r t))
      (g (V (Proc.devRef .tc main_v47)) x0 x1 x2 (ix1 (⟨r.val * 50 + t.val, by omega⟩ : Fin 51200))) := by
  after_reads_simp; pointwise [TRef.ofBuf, TRef.toBuf, cast_eq, id_eq]

theorem q5_v63 (n : Fin 51200) (r : Fin 1024) (t : Fin 50) (hn : n.val = r.val * 50 + t.val) :
    @Eq (BitVec 32) (after opsQ5 V (Proc.devRef .tc main_v63) (ix2 r t)) (pick fun l => V (Proc.devRef .tc main_v47) (ix2 n l)) := by
  obtain ⟨n, hlt⟩ := n
  obtain rfl : n = r.val * 50 + t.val := hn
  refine (q5_lines V (iotaInDim S51200x48 32 1) (constant (F := Ideal) S_ .f32 0xFF800000#32) (constantI S_ 32 0#32)
    (fun x y u v j => (Host.argReduce reducer_argmax_f32_i32 x y u v reducesTo_S51200x48_S51200_d1 h_S_ j).1)
    (fun x y u v j => (Host.argReduce reducer_argmax_f32_i32 x y u v reducesTo_S51200x48_S51200_d1 h_S_ j).2) r t).trans ?_
  beta_reduce
  exact argmax_eq (V (Proc.devRef .tc main_v47)) _

theorem q7_v68' (i : S_.Idx) :
    @Eq (BitVec 32) (after opsQ7 V (Proc.devRef .tc main_v68) i)
      (Finset.fold IntOp.addi 0#32 (fun k : Fin 1024 × Fin 50 => BitVec.setWidth 32 (IntOp.andi (V (Proc.devRef .tc main_v50) (ix2 k.1 k.2))
        (IntOp.cmpi .eq (V (Proc.devRef .tc main_arg2) (ix2 k.1 k.2) : BitVec 32) (V (Proc.devRef .tc main_v63) (ix2 k.1 k.2))))) Finset.univ) := by
  after_reads_simp; pointwise [TRef.ofBuf, TRef.toBuf, cast_eq, id_eq]

theorem q7_v68 (i : S_.Idx) :
    @Eq (BitVec 32) (after opsQ7 V (Proc.devRef .tc main_v68) i)
      (∑ r : Fin 1024, ∑ t : Fin 50, BitVec.setWidth 32 (IntOp.andi (V (Proc.devRef .tc main_v50) (ix2 r t))
        (IntOp.cmpi .eq (V (Proc.devRef .tc main_arg2) (ix2 r t) : BitVec 32) (V (Proc.devRef .tc main_v63) (ix2 r t))))) := by
  refine (q7_v68' V i).trans ?_
  rw [fold_addi, Fintype.sum_prod_type]

end Cert.Proof.Val
-- ==== Proof.Val.RefVal.lean ====
/-
  The reference's results, read at an index, over the arguments.
-/
module

public import proofs.«01_k».proof.Proof.Val.RefLoop
public import proofs.«01_k».proof.Proof.Val.RefRows
public import proofs.«01_k».proof.Proof.Val.RefNorm
public import proofs.«01_k».proof.Proof.Val.RefLoss
public import proofs.«01_k».proof.Proof.Val.RefShare
public import proofs.«01_k».proof.Proof.Val.RefLabel

@[expose] public section
set_option maxRecDepth 16384
noncomputable section
namespace Cert.Proof.Val.R
open Cert.ReferenceIdeal Cert.ReferenceIdeal.Gen
open Cert.Proof.RI Cert.Proof
open Idealize.ShloMosaic Idealize.ShloMosaic.TcCoe Idealize.ShloMosaic.StableHlo

variable (m : (ℓ : Loc nD τ sig) → Buf (Elt Ideal) ℓ) (c : Dev nD)
  (hw : ∀ i, (m (c, Proc.devRef .tc main_arg0) i : BitVec 32).toNat < 100000) (ht : ∀ i, (m (c, Proc.devRef .tc main_arg1) i : BitVec 32).toNat < 64)

/-- The normalised features, over the arguments. -/
abbrev X : Fin 1024 → Fin 50 → Fin 160 → EReal :=
  feats (fun r t => ⟨(m (c, Proc.devRef .tc main_arg0) (ix2 r t) : BitVec 32).toNat, hw _⟩)
    (fun r t => ⟨(m (c, Proc.devRef .tc main_arg1) (ix2 r t) : BitVec 32).toNat, ht _⟩)
    (fun n k => m (c, Proc.devRef .tc main_arg4) (ix2 n k)) (fun n k => m (c, Proc.devRef .tc main_arg5) (ix2 n k))
    (fun f => m (c, Proc.devRef .tc main_arg6) (ix1 f)) (fun f => m (c, Proc.devRef .tc main_arg7) (ix1 f))

/-- The recurrence's outputs, over the arguments. -/
abbrev C : Fin 1024 → Fin 50 → Fin 256 → EReal :=
  ctxOf (X m c hw ht) (fun k n => m (c, Proc.devRef .tc main_arg8) (ix2 k n)) (fun k n => m (c, Proc.devRef .tc main_arg9) (ix2 k n))
    (fun n => m (c, Proc.devRef .tc main_arg10) (ix1 n)) (fun k n => m (c, Proc.devRef .tc main_arg11) (ix2 k n))
    (fun k n => m (c, Proc.devRef .tc main_arg12) (ix2 k n)) (fun n => m (c, Proc.devRef .tc main_arg13) (ix1 n))

/-- The head's outputs, over the arguments. -/
abbrev L (r : Fin 1024) (t : Fin 50) (l : Fin 48) : EReal :=
  headRow (fun i => C m c hw ht r t i) (fun i k => m (c, Proc.devRef .tc main_arg14) (ix2 i k))
    (fun k => m (c, Proc.devRef .tc main_arg15) (ix1 k)) (fun k l => m (c, Proc.devRef .tc main_arg16) (ix2 k l))
    (fun l => m (c, Proc.devRef .tc main_arg17) (ix1 l)) l

/-- The sum of the lengths. -/
abbrev S : BitVec 32 := Finset.fold IntOp.addi (0#32) (fun k : Fin 1024 => (m (c, Proc.devRef .tc main_arg3) (ix1 k) : BitVec 32)) Finset.univ

/-- What the first two lines leave in a buffer that they do not write. -/
abbrev P2 : Valuation τ sig (Elt Ideal) := after opsP2 (after opsP1 (launchContents m c))
theorem P2_keep {r : Ref sig .tc} (o : Off r) : P2 m c (Proc.devRef .tc r) = m (c, Proc.devRef .tc r) :=
  (keepP2 _ o.p2).trans (keepP1 _ o.p1)
theorem P1_keep {r : Ref sig .tc} (o : Off r) : after opsP1 (launchContents m c) (Proc.devRef .tc r) = m (c, Proc.devRef .tc r) := keepP1 _ o.p1

theorem x_eq (r : Fin 1024) (t : Fin 50) (f : Fin 160) : @Eq EReal (P2 m c (Proc.devRef .tc main_v20) (ix3 r t f)) (X m c hw ht r t f) := by
  refine (v20_apply _ r t f).trans ?_
  unfold X feats
  refine congrArg₂ (· + ·) (congrArg₂ (· * ·) (congrArg (fun g => lnRow g f) (funext fun j => ?_)) ?_) ?_
  · exact p1_apply (launchContents m c) hw ht r t j
  · exact congrFun (P1_keep m c off6) _
  · exact congrFun (P1_keep m c off7) _

/-- What the loops find of the features: the same, turned time-major. -/
theorem x0_eq (s : Fin 50) (r : Fin 1024) (f : Fin 160) : @Eq EReal (entry0 m c (Proc.devRef .tc main_v25_0) (ix3 s r f)) (X m c hw ht r s f) :=
  (p3_x _ s r f).trans (x_eq m c hw ht r s f)

/-- What the second loop starts from. -/
abbrev M1 : Valuation τ sig (Elt Ideal) := after opsC0 (trip0 m 50 c)
theorem M1_keep {r : Ref sig .tc} (o : Off r) : M1 m c (Proc.devRef .tc r) = m (c, Proc.devRef .tc r) :=
  (keepC0 _ o.c0).trans ((trip0_keep m o.c0 o.b0 c 50).trans (entry0_keep m o c))
theorem M1_v20 : M1 m c (Proc.devRef .tc main_v20) = P2 m c (Proc.devRef .tc main_v20) :=
  (keepC0 _ (by decide +kernel)).trans ((trip0_keep m (by decide +kernel) (by decide +kernel) c 50).trans (keepP3 _ (by decide +kernel)))

theorem x1_eq (s : Fin 50) (r : Fin 1024) (f : Fin 160) : @Eq EReal (entry1 m c (Proc.devRef .tc main_v31_0) (ix3 s r f)) (X m c hw ht r s f) := by
  refine (m_x _ s r f).trans ?_
  rw [show after opsC0 (trip0 m 50 c) (Proc.devRef .tc main_v20) = _ from M1_v20 m c]
  exact x_eq m c hw ht r s f

theorem wx0 (k : Fin 160) (n : Fin 512) : @Eq EReal (entry0 m c (Proc.devRef .tc main_v25_1) (ix2 k n)) (m (c, Proc.devRef .tc main_arg8) (ix2 k n)) :=
  (p3_wx _ k n).trans (congrFun (P2_keep m c off8) _)
theorem wh0 (k : Fin 128) (n : Fin 512) : @Eq EReal (entry0 m c (Proc.devRef .tc main_v25_2) (ix2 k n)) (m (c, Proc.devRef .tc main_arg9) (ix2 k n)) :=
  (p3_wh _ k n).trans (congrFun (P2_keep m c off9) _)
theorem bb0 (n : Fin 512) : @Eq EReal (entry0 m c (Proc.devRef .tc main_v25_3) (ix1 n)) (m (c, Proc.devRef .tc main_arg10) (ix1 n)) :=
  (p3_b _ n).trans (congrFun (P2_keep m c off10) _)
theorem wx1 (k : Fin 160) (n : Fin 512) : @Eq EReal (entry1 m c (Proc.devRef .tc main_v31_1) (ix2 k n)) (m (c, Proc.devRef .tc main_arg11) (ix2 k n)) :=
  (m_wx _ k n).trans (congrFun (M1_keep m c off11) _)
theorem wh1 (k : Fin 128) (n : Fin 512) : @Eq EReal (entry1 m c (Proc.devRef .tc main_v31_2) (ix2 k n)) (m (c, Proc.devRef .tc main_arg12) (ix2 k n)) :=
  (m_wh _ k n).trans (congrFun (M1_keep m c off12) _)
theorem bb1 (n : Fin 512) : @Eq EReal (entry1 m c (Proc.devRef .tc main_v31_3) (ix1 n)) (m (c, Proc.devRef .tc main_arg13) (ix1 n)) :=
  (m_b _ n).trans (congrFun (M1_keep m c off13) _)

/-- The first loop's rows at the end. -/
theorem fwd (r : Fin 1024) (t : Fin 50) (j : Fin 128) :
    @Eq EReal (exit1 m c (Proc.devRef .tc main_v26) (ix3 r t j)) ((st0 m c r (t.val + 1)).1 j) := by
  have e : exit1 m c (Proc.devRef .tc main_v26) = entry1 m c (Proc.devRef .tc main_v26) :=
    (keepC1 _ (by decide +kernel)).trans (trip1_keep m (by decide +kernel) (by decide +kernel) c 50)
  rw [e]
  refine (m_f _ r t j).trans ?_
  rw [show after opsC0 (trip0 m 50 c) (Proc.devRef .tc main_v25_7) = trip0 m 50 c (Proc.devRef .tc main_v25_7) from keepC0 _ (by decide +kernel)]
  exact (loop0 m c r 50 le_rfl).2.2 t t.isLt j

/-- The second loop's rows at the end. -/
theorem bwd (r : Fin 1024) (t : Fin 50) (j : Fin 128) :
    @Eq EReal (exit1 m c (Proc.devRef .tc main_v31_7) (ix3 t r j)) ((st1 m c r (49 - t.val + 1)).1 j) := by
  have e : exit1 m c (Proc.devRef .tc main_v31_7) = trip1 m 50 c (Proc.devRef .tc main_v31_7) := keepC1 _ (by decide +kernel)
  rw [e]
  exact (loop1 m c r 50 le_rfl).2.2 t (by omega) j

theorem ctx_q1 (r : Fin 1024) (t : Fin 50) (j : Fin 256) :
    @Eq EReal (after opsQ1 (exit1 m c) (Proc.devRef .tc main_v33) (ix3 r t j)) (C m c hw ht r t j) := by
  refine (q1_ctx _ r t j).trans ?_
  have e0 : st0 m c r (t.val + 1) = states _ _ _ (seqOf (X m c hw ht r)) (t.val + 1) :=
    states_eq _ (wx0 m c) (wh0 m c) (bb0 m c) fun k _ f => seqOf_eq (fun s f => x0_eq m c hw ht s r f) k f
  have e1 : st1 m c r (49 - t.val + 1) = states _ _ _ (fun s => seqOf (X m c hw ht r) (49 - s)) (49 - t.val + 1) :=
    states_eq _ (wx1 m c) (wh1 m c) (bb1 m c) fun k _ f => seqOf_eq (fun s f => x1_eq m c hw ht s r f) (49 - k) f
  unfold C ctxOf
  refine congrArg₂ (fun f b => sides f b j) (funext fun j => ?_) (funext fun j => ?_)
  · exact (fwd m c r t j).trans (congrArg (fun p => p.1 j) e0)
  · exact (bwd m c r t j).trans (congrArg (fun p => p.1 j) e1)

/-- What each of the last lines leaves. -/
abbrev Q1 : Valuation τ sig (Elt Ideal) := after opsQ1 (exit1 m c)
abbrev Q2 : Valuation τ sig (Elt Ideal) := after opsQ2 (Q1 m c)
abbrev Q3 : Valuation τ sig (Elt Ideal) := after opsQ3 (Q2 m c)
abbrev Q4 : Valuation τ sig (Elt Ideal) := after opsQ4 (Q3 m c)
abbrev Q5 : Valuation τ sig (Elt Ideal) := after opsQ5 (Q4 m c)
abbrev Q6 : Valuation τ sig (Elt Ideal) := after opsQ6 (Q5 m c)

theorem Q1_keep {r : Ref sig .tc} (o : Off r) : Q1 m c (Proc.devRef .tc r) = m (c, Proc.devRef .tc r) :=
  (keepQ1 _ o.q1).trans (exit1_keep m o c)
theorem Q2_keep {r : Ref sig .tc} (o : Off r) : Q2 m c (Proc.devRef .tc r) = m (c, Proc.devRef .tc r) := (keepQ2 _ o.q2).trans (Q1_keep m c o)
theorem Q3_keep {r : Ref sig .tc} (o : Off r) : Q3 m c (Proc.devRef .tc r) = m (c, Proc.devRef .tc r) := (keepQ3 _ o.q3).trans (Q2_keep m c o)
theorem Q6_keep {r : Ref sig .tc} (o : Off r) : Q6 m c (Proc.devRef .tc r) = m (c, Proc.devRef .tc r) :=
  (keepQ6 _ o.q6).trans ((keepQ5 _ o.q5).trans ((keepQ4 _ o.q4).trans (Q3_keep m c o)))
/-- What the lines before leave, where the later ones do not write. -/
theorem final_Q4 {r : Ref sig .tc} (h5 : r ∉ wrQ5) (h6 : r ∉ wrQ6) (h7 : r ∉ wrQ7) : final m c (Proc.devRef .tc r) = Q4 m c (Proc.devRef .tc r) :=
  (keepQ7 _ h7).trans ((keepQ6 _ h6).trans (keepQ5 _ h5))
theorem final_Q2 {r : Ref sig .tc} (h3 : r ∉ wrQ3) (h4 : r ∉ wrQ4) (h5 : r ∉ wrQ5) (h6 : r ∉ wrQ6) (h7 : r ∉ wrQ7) :
    final m c (Proc.devRef .tc r) = Q2 m c (Proc.devRef .tc r) :=
  (final_Q4 m c h5 h6 h7).trans ((keepQ4 _ h4).trans (keepQ3 _ h3))

theorem ctx_eq (r : Fin 1024) (t : Fin 50) (j : Fin 256) :
    @Eq EReal (final m c (Proc.devRef .tc main_v33) (ix3 r t j)) (C m c hw ht r t j) := by
  have e : final m c (Proc.devRef .tc main_v33) = after opsQ1 (exit1 m c) (Proc.devRef .tc main_v33) :=
    (final_Q2 m c (by decide +kernel) (by decide +kernel) (by decide +kernel) (by decide +kernel) (by decide +kernel)).trans (keepQ2 _ (by decide +kernel))
  rw [e]
  exact ctx_q1 m c hw ht r t j

theorem logits_eq (r : Fin 1024) (t : Fin 50) (l : Fin 48) :
    @Eq EReal (final m c (Proc.devRef .tc main_v48) (ix3 r t l)) (L m c hw ht r t l) := by
  have e : final m c (Proc.devRef .tc main_v48) = Q2 m c (Proc.devRef .tc main_v48) :=
    final_Q2 m c (by decide +kernel) (by decide +kernel) (by decide +kernel) (by decide +kernel) (by decide +kernel)
  rw [e]
  refine (q2_logits _ r t l).trans ?_
  rw [Q1_keep m c off14, Q1_keep m c off15, Q1_keep m c off16, Q1_keep m c off17]
  simp only [ctx_q1 m c hw ht, L]

theorem total_eq (i : S_.Idx) : @Eq (BitVec 32) (final m c (Proc.devRef .tc main_v64) i) (S m c) := by
  have e : final m c (Proc.devRef .tc main_v64) = Q6 m c (Proc.devRef .tc main_v64) := keepQ7 _ (by decide +kernel)
  rw [e]
  refine (q6_total _ i).trans ?_
  rw [show Q5 m c (Proc.devRef .tc main_arg3) = m (c, Proc.devRef .tc main_arg3) from
    (keepQ5 _ off3.q5).trans ((keepQ4 _ off3.q4).trans (Q3_keep m c off3))]

/-- The head's outputs in the flat list. -/
theorem flat_eq (n : Fin 51200) (r : Fin 1024) (t : Fin 50) (hn : n.val = r.val * 50 + t.val) : flatRow (Q2 m c) n = L m c hw ht r t := by
  funext l
  refine (q2_flat (Q1 m c) n r t hn l).trans ?_
  rw [Q1_keep m c off14, Q1_keep m c off15, Q1_keep m c off16, Q1_keep m c off17]
  simp only [ctx_q1 m c hw ht, L]

theorem flat_Q4 : Q4 m c (Proc.devRef .tc main_v47) = Q2 m c (Proc.devRef .tc main_v47) := (keepQ4 _ (by decide +kernel)).trans (keepQ3 _ (by decide +kernel))

theorem pred_Q5 (r : Fin 1024) (t : Fin 50) : @Eq (BitVec 32) (Q5 m c (Proc.devRef .tc main_v63) (ix2 r t)) (pick (L m c hw ht r t)) := by
  refine (q5_v63 (Q4 m c) ⟨r.val * 50 + t.val, by omega⟩ r t rfl).trans ?_
  rw [flat_Q4]
  exact congrArg pick (flat_eq m c hw ht _ r t rfl)

theorem pred_eq (r : Fin 1024) (t : Fin 50) : @Eq (BitVec 32) (final m c (Proc.devRef .tc main_v63) (ix2 r t)) (pick (L m c hw ht r t)) := by
  have e : final m c (Proc.devRef .tc main_v63) = Q5 m c (Proc.devRef .tc main_v63) := (keepQ7 _ (by decide +kernel)).trans (keepQ6 _ (by decide +kernel))
  rw [e]
  exact pred_Q5 m c hw ht r t

theorem andi_comm (a b : BitVec 1) : IntOp.andi a b = IntOp.andi b a := by revert a b; decide

theorem correct_eq (i : S_.Idx) : @Eq (BitVec 32) (final m c (Proc.devRef .tc main_v68) i)
    (∑ r, ∑ t, right (L m c hw ht r t) (m (c, Proc.devRef .tc main_arg2) (ix2 r t)) (m (c, Proc.devRef .tc main_arg0) (ix2 r t))) := by
  refine (q7_v68 (Q6 m c) i).trans ?_
  refine Finset.sum_congr rfl fun r _ => Finset.sum_congr rfl fun t _ => ?_
  have e1 : @Eq (BitVec 1) (Q6 m c (Proc.devRef .tc main_v50) (ix2 r t)) (IntOp.cmpi .sgt (m (c, Proc.devRef .tc main_arg0) (ix2 r t) : BitVec 32) 0#32) := by
    have e : Q6 m c (Proc.devRef .tc main_v50) = Q3 m c (Proc.devRef .tc main_v50) :=
      (keepQ6 _ (by decide +kernel)).trans ((keepQ5 _ (by decide +kernel)).trans (keepQ4 _ (by decide +kernel)))
    rw [e]
    refine (q3_v50 (Q2 m c) r t).trans ?_
    rw [Q2_keep m c off0]
  have e2 : @Eq (BitVec 32) (Q6 m c (Proc.devRef .tc main_v63) (ix2 r t)) (pick (L m c hw ht r t)) :=
    (congrFun (show Q6 m c (Proc.devRef .tc main_v63) = Q5 m c (Proc.devRef .tc main_v63) from keepQ6 _ (by decide +kernel)) _).trans (pred_Q5 m c hw ht r t)
  rw [e1, e2, Q6_keep m c off2, andi_comm]
  rfl

/-- A position's term of the loss. -/
theorem term_eq (hL : ∀ r t l, IsReal (L m c hw ht r t l)) (hl : ∀ i, (m (c, Proc.devRef .tc main_arg2) i : BitVec 32).toNat < 48)
    (n : Fin 51200) (r : Fin 1024) (t : Fin 50) (hn : n.val = r.val * 50 + t.val) (k : Fin 48)
    (hk : k.val = (m (c, Proc.devRef .tc main_arg2) (ix2 r t) : BitVec 32).toNat) :
    -@id EReal (Q3 m c (Proc.devRef .tc main_v52) (ix2 n k)) * FloatOps.uitofp (F := Ideal) FTy.f32 (Q3 m c (Proc.devRef .tc main_v51) (ix1 n) : BitVec 1)
      = nll (L m c hw ht r t) (m (c, Proc.devRef .tc main_arg2) (ix2 r t)) (m (c, Proc.devRef .tc main_arg0) (ix2 r t)) := by
  have e1 : @Eq EReal (Q3 m c (Proc.devRef .tc main_v52) (ix2 n k)) _ := q3_v52 (Q2 m c) n k
  rw [flat_eq m c hw ht n r t hn] at e1
  have e2 : @Eq (BitVec 1) (Q3 m c (Proc.devRef .tc main_v51) (ix1 n)) (IntOp.cmpi .sgt (m (c, Proc.devRef .tc main_arg0) (ix2 r t) : BitVec 32) 0#32) := by
    refine (q3_v51 (Q2 m c) n).trans ?_
    have e := flat50 n r t hn (by omega) (by omega)
    rw [e.1, e.2, Q2_keep m c off0]
  rw [e1, e2, ← nllAt_eq _ (hL r t) _ _ (hl _)]
  obtain rfl : k = ⟨_, hl (ix2 r t)⟩ := Fin.ext hk
  rfl

/-- A quotient of a sum over the flat list is the quotient of the sum over the rows and the positions. -/
theorem div_flat (H : Fin 51200 → EReal) (G : Fin 1024 → Fin 50 → EReal) (d : EReal) (h : ∀ n r t, n.val = r.val * 50 + t.val → H n = G r t) :
    Ideal.div (∑ n, H n) d = Ideal.div (∑ r, ∑ t, G r t) d := by rw [sum_flat G H h]

/-- The loss, where the head's outputs are real and the labels are labels. -/
theorem loss_eq (hL : ∀ r t l, IsReal (L m c hw ht r t l)) (hl : ∀ i, (m (c, Proc.devRef .tc main_arg2) i : BitVec 32).toNat < 48) (i : S_.Idx) :
    @Eq EReal (final m c (Proc.devRef .tc main_v61) i)
      (lossOf (L m c hw ht) (fun r t => m (c, Proc.devRef .tc main_arg2) (ix2 r t)) (fun r t => m (c, Proc.devRef .tc main_arg0) (ix2 r t))) := by
  have e : final m c (Proc.devRef .tc main_v61) = Q4 m c (Proc.devRef .tc main_v61) := final_Q4 m c (by decide +kernel) (by decide +kernel) (by decide +kernel)
  have h2 : Q3 m c (Proc.devRef .tc main_arg2) = m (c, Proc.devRef .tc main_arg2) := Q3_keep m c off2
  have hl3 : ∀ i, (Q3 m c (Proc.devRef .tc main_arg2) i : BitVec 32).toNat < 48 := fun i => (congrArg BitVec.toNat (congrFun h2 i)).trans_lt (hl i)
  rw [e]
  refine (q4_v61 (Q3 m c) hl3 i).trans ?_
  unfold lossOf
  refine div_flat _ _ _ fun n r t hn => ?_
  refine term_eq m c hw ht hL hl n r t hn _ ?_
  have e' := flat50 n r t hn (by omega) (by omega)
  have e3 : labelFlat (Q3 m c) n = m (c, Proc.devRef .tc main_arg2) (ix2 r t) := by
    unfold labelFlat
    rw [e'.1, e'.2]
    exact congrFun h2 _
  rw [← e3]

end Cert.Proof.Val.R
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Val.KVal
public import proofs.«01_k».proof.Proof.Val.RefVal

@[expose] public section

noncomputable section

namespace Cert.Proof

open Idealize.ShloMosaic Idealize.ShloMosaic.TcCoe Idealize.ShloMosaic.ValueIdx Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hw : ∀ i, (m (c, Proc.devRef .tc Cert.KernelIdeal.main_arg0) i : BitVec 32).toNat < 100000)
  (ht : ∀ i, (m (c, Proc.devRef .tc Cert.KernelIdeal.main_arg1) i : BitVec 32).toNat < 64)
  (hw' : ∀ i, (m' (c, Proc.devRef .tc Cert.ReferenceIdeal.main_arg0) i : BitVec 32).toNat < 100000)
  (ht' : ∀ i, (m' (c, Proc.devRef .tc Cert.ReferenceIdeal.main_arg1) i : BitVec 32).toNat < 64)

/-- Equal arguments give equal features. -/
theorem features_eq (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5))
    (h6 : m' (c, Proc.devRef .tc Cert.ReferenceIdeal.main_arg6) = m (c, Proc.devRef .tc Cert.KernelIdeal.main_arg6))
    (h7 : m' (c, Proc.devRef .tc Cert.ReferenceIdeal.main_arg7) = m (c, Proc.devRef .tc Cert.KernelIdeal.main_arg7)) :
    Val.R.X m' c hw' ht' = Val.K.X m c hw ht := by
  simp only [Val.R.X, Val.K.X, h0, h1, h4, h5, h6, h7]

/-- Equal features and weights give equal outputs of the recurrence. -/
theorem outputs_eq (hX : Val.R.X m' c hw' ht' = Val.K.X m c hw ht) (h8 : m' (c, Proc.devRef .tc Cert.ReferenceIdeal.main_arg8) = m (c, Proc.devRef .tc Cert.KernelIdeal.main_arg8))
    (h9 : m' (c, Proc.devRef .tc Cert.ReferenceIdeal.main_arg9) = m (c, Proc.devRef .tc Cert.KernelIdeal.main_arg9))
    (h10 : m' (c, Proc.devRef .tc Cert.ReferenceIdeal.main_arg10) = m (c, Proc.devRef .tc Cert.KernelIdeal.main_arg10))
    (h11 : m' (c, Proc.devRef .tc Cert.ReferenceIdeal.main_arg11) = m (c, Proc.devRef .tc Cert.KernelIdeal.main_arg11))
    (h12 : m' (c, Proc.devRef .tc Cert.ReferenceIdeal.main_arg12) = m (c, Proc.devRef .tc Cert.KernelIdeal.main_arg12))
    (h13 : m' (c, Proc.devRef .tc Cert.ReferenceIdeal.main_arg13) = m (c, Proc.devRef .tc Cert.KernelIdeal.main_arg13)) :
    Val.R.C m' c hw' ht' = Val.K.C m c hw ht := by
  simp only [Val.R.C, Val.K.C, hX, h8, h9, h10, h11, h12, h13]

/-- Equal outputs and weights give equal outputs of the head. -/
theorem heads_eq (hC : Val.R.C m' c hw' ht' = Val.K.C m c hw ht) (h14 : m' (c, Proc.devRef .tc Cert.ReferenceIdeal.main_arg14) = m (c, Proc.devRef .tc Cert.KernelIdeal.main_arg14))
    (h15 : m' (c, Proc.devRef .tc Cert.ReferenceIdeal.main_arg15) = m (c, Proc.devRef .tc Cert.KernelIdeal.main_arg15))
    (h16 : m' (c, Proc.devRef .tc Cert.ReferenceIdeal.main_arg16) = m (c, Proc.devRef .tc Cert.KernelIdeal.main_arg16))
    (h17 : m' (c, Proc.devRef .tc Cert.ReferenceIdeal.main_arg17) = m (c, Proc.devRef .tc Cert.KernelIdeal.main_arg17)) :
    Val.R.L m' c hw' ht' = Val.K.L m c hw ht := by
  funext r t l
  simp only [Val.R.L, Val.K.L, hC, h14, h15, h16, h17]

/-- Equal lengths give equal sums. -/
theorem sums_eq (h3 : m' (c, Proc.devRef .tc Cert.ReferenceIdeal.main_arg3) = m (c, Proc.devRef .tc Cert.KernelIdeal.main_arg3)) : Val.R.S m' c = Val.K.S m c := by
  simp only [Val.R.S, Val.K.S, h3]

/-- The head's outputs are real where its weights are. -/
theorem outputs_real (h14 : ∀ i, Val.IsReal (m (c, Proc.devRef .tc Cert.KernelIdeal.main_arg14) i)) (h15 : ∀ i, Val.IsReal (m (c, Proc.devRef .tc Cert.KernelIdeal.main_arg15) i))
    (h16 : ∀ i, Val.IsReal (m (c, Proc.devRef .tc Cert.KernelIdeal.main_arg16) i)) (h17 : ∀ i, Val.IsReal (m (c, Proc.devRef .tc Cert.KernelIdeal.main_arg17) i))
    (r : Fin 1024) (t : Fin 50) (l : Fin 48) : Val.IsReal (Val.K.L m c hw ht r t l) :=
  Val.isReal_headRow (fun i => Val.isReal_ctxOf _ _ _ _ _ _ _ r t i) (fun _ _ => h14 _) (fun _ => h15 _) (fun _ _ => h16 _) (fun _ => h17 _) l
end

/-- The kernel and the reference leave the same six results, from the same arguments. -/
theorem algebraic : Cert.algebraic_KernelIdeal_ReferenceIdeal_pre_in_range_finite_head := by
  intro m g m' g' hpre hagree
  have hw := fun d i => (pre_head (hpre d)).1.1.1 i
  have ht := fun d i => (pre_head (hpre d)).1.1.2 i
  have hl := fun d i => (pre_head (hpre d)).1.2 i
  refine ⟨fun c => KI.WE m c (Proc.devRef .tc Cert.KernelIdeal.main_v30), fun c => KI.WE m c (Proc.devRef .tc Cert.KernelIdeal.main_v28),
    fun c => KI.WE m c (Proc.devRef .tc Cert.KernelIdeal.main_v33), fun c => KI.WE m c (Proc.devRef .tc Cert.KernelIdeal.main_v32),
    fun c => KI.WE m c (Proc.devRef .tc Cert.KernelIdeal.main_v34), fun c => KI.WE m c (Proc.devRef .tc Cert.KernelIdeal.main_v35), ?_, ?_⟩
  · refine θ_run_mono (KI.run_main m g (KI.list_ok m fun d i => (pre_head (hpre d)).1.1.1 i)) fun r h c => ?_
    exact ⟨h.1 c _ (KI.uc _ (by decide)), h.1 c _ (KI.uc _ (by decide)), h.1 c _ (KI.uc _ (by decide)), h.1 c _ (KI.uc _ (by decide)),
      h.1 c _ (KI.uc _ (by decide)), h.1 c _ (KI.uc _ (by decide)), KI.QC_args h c⟩
  · refine θ_run_mono (RI.run_main m' g') fun r h c => ?_
    obtain ⟨h0, h1, h2, h3, h4, h5, h6, h7, h8, h9, h10, h11, h12, h13, h14, h15, h16, h17⟩ := hagree c
    obtain ⟨-, ⟨f14, f15⟩, f16, f17⟩ := pre_head (hpre c)
    have hw' : ∀ i, (m' (c, Proc.devRef .tc Cert.ReferenceIdeal.main_arg0) i : BitVec 32).toNat < 100000 :=
      fun i => (congrArg BitVec.toNat (congrFun h0 i)).trans_lt (hw c i)
    have ht' : ∀ i, (m' (c, Proc.devRef .tc Cert.ReferenceIdeal.main_arg1) i : BitVec 32).toNat < 64 :=
      fun i => (congrArg BitVec.toNat (congrFun h1 i)).trans_lt (ht c i)
    have hl' : ∀ i, (m' (c, Proc.devRef .tc Cert.ReferenceIdeal.main_arg2) i : BitVec 32).toNat < 48 :=
      fun i => (congrArg BitVec.toNat (congrFun h2 i)).trans_lt (hl c i)
    have hX := features_eq m m' c (hw c) (ht c) hw' ht' h0 h1 h4 h5 h6 h7
    have hC := outputs_eq m m' c (hw c) (ht c) hw' ht' hX h8 h9 h10 h11 h12 h13
    have hL := heads_eq m m' c (hw c) (ht c) hw' ht' hC h14 h15 h16 h17
    have hS := sums_eq m m' c h3
    have hr := outputs_real m c (hw c) (ht c) (fun i => Val.isReal_of_ne (f14 i)) (fun i => Val.isReal_of_ne (f15 i)) (fun i => Val.isReal_of_ne (f16 i)) (fun i => Val.isReal_of_ne (f17 i))
    have hr' : ∀ r t l, Val.IsReal (Val.R.L m' c hw' ht' r t l) := by rw [hL]; exact hr
    have e0 : ∀ i : Cert.KernelIdeal.S1024x50.Idx, @Eq (BitVec 32) (RI.final m' c (Proc.devRef .tc Cert.ReferenceIdeal.main_v63) i)
        (KI.WE m c (Proc.devRef .tc Cert.KernelIdeal.main_v30) i) := by
      intro i
      obtain ⟨r, t, rfl⟩ : ∃ r t, i = Idealize.ShloMosaic.ix2 r t := ⟨i 0, i 1, funext fun a => match a with | ⟨0, _⟩ => rfl | ⟨1, _⟩ => rfl⟩
      exact (Val.R.pred_eq m' c hw' ht' r t).trans ((congrArg Val.pick (congrFun (congrFun hL r) t)).trans (Val.K.pred_eq m c (hw c) (ht c) r t).symm)
    have e1 : ∀ i : Cert.KernelIdeal.S1024x50x256.Idx, @Eq EReal (RI.final m' c (Proc.devRef .tc Cert.ReferenceIdeal.main_v33) i)
        (KI.WE m c (Proc.devRef .tc Cert.KernelIdeal.main_v28) i) := by
      intro i
      obtain ⟨r, t, j, rfl⟩ : ∃ r t j, i = Idealize.ShloMosaic.ix3 r t j := ⟨i 0, i 1, i 2, funext fun a => match a with | ⟨0, _⟩ => rfl | ⟨1, _⟩ => rfl | ⟨2, _⟩ => rfl⟩
      exact (Val.R.ctx_eq m' c hw' ht' r t j).trans ((congrFun (congrFun (congrFun hC r) t) j).trans (Val.K.ctx_eq m c (hw c) (ht c) r t j).symm)
    have e2 : ∀ i : Cert.KernelIdeal.S_.Idx, @Eq EReal (RI.final m' c (Proc.devRef .tc Cert.ReferenceIdeal.main_v61) i)
        (KI.WE m c (Proc.devRef .tc Cert.KernelIdeal.main_v33) i) := by
      intro i
      refine (Val.R.loss_eq m' c hw' ht' hr' hl' i).trans (Eq.trans ?_ (Val.K.loss_eq m c (hw c) (ht c) hr (hl c) i).symm)
      rw [hL]
      simp only [h0, h2]
    have e3 : ∀ i : Cert.KernelIdeal.S1024x50x48.Idx, @Eq EReal (RI.final m' c (Proc.devRef .tc Cert.ReferenceIdeal.main_v48) i)
        (KI.WE m c (Proc.devRef .tc Cert.KernelIdeal.main_v32) i) := by
      intro i
      obtain ⟨r, t, l, rfl⟩ : ∃ r t l, i = Idealize.ShloMosaic.ix3 r t l := ⟨i 0, i 1, i 2, funext fun a => match a with | ⟨0, _⟩ => rfl | ⟨1, _⟩ => rfl | ⟨2, _⟩ => rfl⟩
      exact (Val.R.logits_eq m' c hw' ht' r t l).trans ((congrFun (congrFun (congrFun hL r) t) l).trans (Val.K.logits_eq m c (hw c) (ht c) r t l).symm)
    have e4 : ∀ i : Cert.KernelIdeal.S_.Idx, @Eq (BitVec 32) (RI.final m' c (Proc.devRef .tc Cert.ReferenceIdeal.main_v64) i)
        (KI.WE m c (Proc.devRef .tc Cert.KernelIdeal.main_v34) i) :=
      fun i => (Val.R.total_eq m' c i).trans (hS.trans (Val.K.total_eq m c i).symm)
    have e5 : ∀ i : Cert.KernelIdeal.S_.Idx, @Eq (BitVec 32) (RI.final m' c (Proc.devRef .tc Cert.ReferenceIdeal.main_v68) i)
        (KI.WE m c (Proc.devRef .tc Cert.KernelIdeal.main_v35) i) := by
      intro i
      refine (Val.R.correct_eq m' c hw' ht' i).trans (Eq.trans ?_ (Val.K.correct_eq m c (hw c) (ht c) i).symm)
      rw [hL]
      simp only [h0, h2]
    exact ⟨(RI.QR_at h c _ (by decide)).trans (funext e0), (RI.QR_at h c _ (by decide)).trans (funext e1),
      (RI.QR_at h c _ (by decide)).trans (funext e2), (RI.QR_at h c _ (by decide)).trans (funext e3),
      (RI.QR_at h c _ (by decide)).trans (funext e4), (RI.QR_at h c _ (by decide)).trans (funext e5), RI.QR_args h c⟩

theorem claim : Cert.Claim :=
  ⟨Cert.Kernel.Gen.facts, Cert.KernelIdeal.Gen.facts, Cert.ReferenceIdeal.Gen.facts, Cert.Pre_in_range.Gen.facts, headFacts,
    kernel_frame, kernelIdeal_frame, kernelIdeal_frame_head, reference_frame, reference_frame_head, preserves, algebraic⟩

end Cert.Proof

end
